-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v31_0)) (v1 : (c : Dev Cert.Kernel4Ideal.nD) → Buf (Elt Ideal) ((c.tc : Thread Cert.Kernel4Ideal.nD Cert.Kernel4Ideal.τ).loc Cert.Kernel4Ideal.main_v31_1)) (v2 : (c : Dev Cert.Kernel4Ideal.nD) → Buf (Elt Ideal) ((c.tc : Thread Cert.Kernel4Ideal.nD Cert.Kernel4Ideal.τ).loc Cert.Kernel4Ideal.main_v31_2)) (v3 : (c : Dev Cert.Kernel4Ideal.nD) → Buf (Elt Ideal) ((c.tc : Thread Cert.Kernel4Ideal.nD Cert.Kernel4Ideal.τ).loc Cert.Kernel4Ideal.main_v31_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_v31_1) = v1 c
          ∧ r.2.mem ((c.tc : Thread Cert.Kernel4Ideal.nD Cert.Kernel4Ideal.τ).loc Cert.Kernel4Ideal.main_v31_2) = v2 c
          ∧ r.2.mem ((c.tc : Thread Cert.Kernel4Ideal.nD Cert.Kernel4Ideal.τ).loc Cert.Kernel4Ideal.main_v31_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v151) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_v55) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S152 : Shape := ⟨1, ![152]⟩
abbrev S77824x1024 : Shape := ⟨2, ![77824, 1024]⟩
abbrev S8x1024x3072 : Shape := ⟨3, ![8, 1024, 3072]⟩
abbrev S8x3072x1024 : Shape := ⟨3, ![8, 3072, 1024]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel

variable [Facts]

def fn {F : FTy → Type} [FloatOps F] (main_arg0 : IVec S152 32) (main_arg1 : IVec S152 32) (main_arg2 : FVec F S77824x1024 .bf16) (main_arg3 : FVec F S8x1024x3072 .bf16) (main_arg4 : FVec F S8x1024x3072 .bf16) (main_arg5 : FVec F S8x3072x1024 .bf16) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 8#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 32 := constantI S_ 32 0#32
  let main_v5 : IVec S152 32 := broadcastInDim S152 ![] bcast_S_S152 main_c_1
  let main_v6 : IVec S152 1 := cmpi .sge main_arg1 main_v5
  let main_v7 : IVec S152 1 := andi main_v4 main_v6
  let main_c_2 : IVec S_ 32 := constantI S_ 32 1#32
  let main_v8 : IVec S152 32 := broadcastInDim S152 ![] bcast_S_S152 main_c_2
  let main_v9 : IVec S152 1 := cmpi .sle main_arg1 main_v8
  let main_v10 : IVec S152 1 := andi main_v7 main_v9
  let main_c_3 : IVec S_ 1 := constantI S_ 1 1#1
  let main_v11 : IVec S_ 1 := (fun x v => Host.reduce IntOp.andi x v reducesTo_S152_S_d0 h_S_) main_v10 main_c_3
  main_v11
-- ==== Kernel.lean ====
abbrev S152 : Shape := ⟨1, ![152]⟩
abbrev S77824x1024 : Shape := ⟨2, ![77824, 1024]⟩
abbrev S8x1024x3072 : Shape := ⟨3, ![8, 1024, 3072]⟩
abbrev S8x3072x1024 : Shape := ⟨3, ![8, 3072, 1024]⟩
abbrev S512x1024 : Shape := ⟨2, ![512, 1024]⟩
abbrev S1x1024x1536 : Shape := ⟨3, ![1, 1024, 1536]⟩
abbrev S1 : Shape := ⟨1, ![1]⟩
abbrev S1x1536x1024 : Shape := ⟨3, ![1, 1536, 1024]⟩
abbrev S1024x1536 : Shape := ⟨2, ![1024, 1536]⟩
abbrev S512x1536 : Shape := ⟨2, ![512, 1536]⟩
abbrev S1536x1024 : Shape := ⟨2, ![1536, 1024]⟩

abbrev nBuf : Space → Nat
  | .hbm => 5
  | .vmem => 11
  | .smem => 2
  | _ => 0

abbrev bufTy : (tb : Table) → Fin (tcTables nBuf tb) → BufTy
  | .hbm, ⟨0, _⟩ => ⟨S77824x1024, .bf16⟩
  | .hbm, ⟨1, _⟩ => ⟨S8x1024x3072, .bf16⟩
  | .hbm, ⟨2, _⟩ => ⟨S8x1024x3072, .bf16⟩
  | .hbm, ⟨3, _⟩ => ⟨S8x3072x1024, .bf16⟩
  | .hbm, ⟨4, _⟩ => ⟨S77824x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1x1536x1024, .bf16⟩
  | .local _ .vmem, ⟨7, _⟩ => ⟨S1x1536x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S152, .i32⟩
  | .local _ .smem, ⟨1, _⟩ => ⟨S152, .i32⟩
  | _, _ => ⟨S77824x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![152, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def k0_cond4 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S152) ![v0.toNat] S1.size (k0_off1_inb i)) numel1_S1
  let v2 : Index := Scalar.indexCast arg0
  let v3 : BitVec 32 := pf.at 1 (Rect.unit (s := S152) ![v2.toNat] S1.size (k0_off1_inb i)) numel1_S1
  let v4 : BitVec 32 := Scalar.muli arg1 v3
  let v5 : Index := Scalar.indexCast arg0
  let v6 : BitVec 32 := pf.at 1 (Rect.unit (s := S152) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, c0_i32.toNat, v9.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S152) ![v0.toNat] S1.size (k0_off1_inb i)) numel1_S1
  let v2 : Index := Scalar.indexCast arg0
  let v3 : BitVec 32 := pf.at 1 (Rect.unit (s := S152) ![v2.toNat] S1.size (k0_off1_inb i)) numel1_S1
  let v4 : BitVec 32 := Scalar.muli arg1 v3
  let v5 : Index := Scalar.indexCast arg0
  let v6 : BitVec 32 := pf.at 1 (Rect.unit (s := S152) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, c0_i32.toNat, v9.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S152) ![v0.toNat] S1.size (k0_off1_inb i)) numel1_S1
  let v2 : Index := Scalar.indexCast arg0
  let v3 : BitVec 32 := pf.at 1 (Rect.unit (s := S152) ![v2.toNat] S1.size (k0_off1_inb i)) numel1_S1
  let v4 : BitVec 32 := Scalar.muli arg1 v3
  let v5 : Index := Scalar.indexCast arg0
  let v6 : BitVec 32 := pf.at 1 (Rect.unit (s := S152) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, v9.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S152 : Shape := ⟨1, ![152]⟩
abbrev S77824x1024 : Shape := ⟨2, ![77824, 1024]⟩
abbrev S8x1024x3072 : Shape := ⟨3, ![8, 1024, 3072]⟩
abbrev S8x3072x1024 : Shape := ⟨3, ![8, 3072, 1024]⟩
abbrev S8x3072x77824 : Shape := ⟨3, ![8, 3072, 77824]⟩
abbrev S8x77824x3072 : Shape := ⟨3, ![8, 77824, 3072]⟩
abbrev S_ : Shape := ⟨0, ![]⟩
abbrev S8x77824x1024 : Shape := ⟨3, ![8, 77824, 1024]⟩
abbrev S152x512 : Shape := ⟨2, ![152, 512]⟩
abbrev S77824 : Shape := ⟨1, ![77824]⟩
abbrev S1x77824 : Shape := ⟨2, ![1, 77824]⟩
abbrev S8 : Shape := ⟨1, ![8]⟩
abbrev S8x1 : Shape := ⟨2, ![8, 1]⟩
abbrev S8x77824 : Shape := ⟨2, ![8, 77824]⟩
abbrev S8x77824x1 : Shape := ⟨3, ![8, 77824, 1]⟩

abbrev nBuf : Space → Nat
  | .hbm => 50
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S77824x1024, .bf16⟩
  | .hbm, ⟨3, _⟩ => ⟨S8x1024x3072, .bf16⟩
  | .hbm, ⟨4, _⟩ => ⟨S8x1024x3072, .bf16⟩
  | .hbm, ⟨5, _⟩ => ⟨S8x3072x1024, .bf16⟩
  | .hbm, ⟨6, _⟩ => ⟨S77824x1024, .f32⟩
  | .hbm, ⟨7, _⟩ => ⟨S8x1024x3072, .f32⟩
  | .hbm, ⟨8, _⟩ => ⟨S8x3072x77824, .f32⟩
  | .hbm, ⟨9, _⟩ => ⟨S8x77824x3072, .f32⟩
  | .hbm, ⟨10, _⟩ => ⟨S8x1024x3072, .f32⟩
  | .hbm, ⟨11, _⟩ => ⟨S8x3072x77824, .f32⟩
  | .hbm, ⟨12, _⟩ => ⟨S8x77824x3072, .f32⟩
  | .hbm, ⟨13, _⟩ => ⟨S8x77824x3072, .f32⟩
  | .hbm, ⟨14, _⟩ => ⟨S8x77824x3072, .f32⟩
  | .hbm, ⟨15, _⟩ => ⟨S_, .f32⟩
  | .hbm, ⟨16, _⟩ => ⟨S8x77824x3072, .f32⟩
  | .hbm, ⟨17, _⟩ => ⟨S8x77824x3072, .f32⟩
  | .hbm, ⟨18, _⟩ => ⟨S_, .f32⟩
  | .hbm, ⟨19, _⟩ => ⟨S8x77824x3072, .f32⟩
  | .hbm, ⟨20, _⟩ => ⟨S8x77824x3072, .f32⟩
  | .hbm, ⟨21, _⟩ => ⟨S8x77824x3072, .f32⟩
  | .hbm, ⟨22, _⟩ => ⟨S8x77824x3072, .f32⟩
  | .hbm, ⟨23, _⟩ => ⟨S8x3072x1024, .f32⟩
  | .hbm, ⟨24, _⟩ => ⟨S8x77824x1024, .f32⟩
  | .hbm, ⟨25, _⟩ => ⟨S152x512, .i32⟩
  | .hbm, ⟨26, _⟩ => ⟨S77824, .i32⟩
  | .hbm, ⟨27, _⟩ => ⟨S152x512, .i32⟩
  | .hbm, ⟨28, _⟩ => ⟨S77824, .i32⟩
  | .hbm, ⟨29, _⟩ => ⟨S1x77824, .i32⟩
  | .hbm, ⟨30, _⟩ => ⟨S8, .i32⟩
  | .hbm, ⟨31, _⟩ => ⟨S8x1, .i32⟩
  | .hbm, ⟨32, _⟩ => ⟨S8x77824, .i32⟩
  | .hbm, ⟨33, _⟩ => ⟨S8x77824, .i32⟩
  | .hbm, ⟨34, _⟩ => ⟨S8x77824, .i1⟩
  | .hbm, ⟨35, _⟩ => ⟨S1x77824, .i32⟩
  | .hbm, ⟨36, _⟩ => ⟨S_, .i32⟩
  | .hbm, ⟨37, _⟩ => ⟨S1x77824, .i32⟩
  | .hbm, ⟨38, _⟩ => ⟨S1x77824, .i1⟩
  | .hbm, ⟨39, _⟩ => ⟨S8x77824, .i1⟩
  | .hbm, ⟨40, _⟩ => ⟨S8x77824, .i1⟩
  | .hbm, ⟨41, _⟩ => ⟨S8x77824x1, .i1⟩
  | .hbm, ⟨42, _⟩ => ⟨S_, .f32⟩
  | .hbm, ⟨43, _⟩ => ⟨S_, .f32⟩
  | .hbm, ⟨44, _⟩ => ⟨S8x77824x1024, .i1⟩
  | .hbm, ⟨45, _⟩ => ⟨S8x77824x1024, .f32⟩
  | .hbm, ⟨46, _⟩ => ⟨S8x77824x1024, .f32⟩
  | .hbm, ⟨47, _⟩ => ⟨S_, .f32⟩
  | .hbm, ⟨48, _⟩ => ⟨S77824x1024, .f32⟩
  | .hbm, ⟨49, _⟩ => ⟨S77824x1024, .bf16⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v27 : Ref sig .tc := ⟨.hbm, 46, rfl⟩
abbrev main_cst_0 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel2.lean ====
abbrev S4x8192x512 : Shape := ⟨3, ![4, 8192, 512]⟩
abbrev S4x8192x1024 : Shape := ⟨3, ![4, 8192, 1024]⟩
abbrev S4x6x1x1024 : Shape := ⟨4, ![4, 6, 1, 1024]⟩
abbrev S1024 : Shape := ⟨1, ![1024]⟩
abbrev S1024x1024 : Shape := ⟨2, ![1024, 1024]⟩
abbrev S1024x3072 : Shape := ⟨2, ![1024, 3072]⟩
abbrev S3072x1024 : Shape := ⟨2, ![3072, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x1x1024 : Shape := ⟨4, ![1, 1, 1, 1024]⟩
abbrev S1024x1536 : Shape := ⟨2, ![1024, 1536]⟩
abbrev S1536x1024 : Shape := ⟨2, ![1536, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩

abbrev nBuf : Space → Nat
  | .hbm => 11
  | .vmem => 27
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x6x1x1024, .f32⟩
  | .hbm, ⟨4, _⟩ => ⟨S1024, .f32⟩
  | .hbm, ⟨5, _⟩ => ⟨S1024x1024, .bf16⟩
  | .hbm, ⟨6, _⟩ => ⟨S1024x3072, .bf16⟩
  | .hbm, ⟨7, _⟩ => ⟨S1024x3072, .bf16⟩
  | .hbm, ⟨8, _⟩ => ⟨S3072x1024, .bf16⟩
  | .hbm, ⟨9, _⟩ => ⟨S1x1024, .f32⟩
  | .hbm, ⟨10, _⟩ => ⟨S4x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1536, .bf16⟩
  | .local _ .vmem, ⟨15, _⟩ => ⟨S1024x1536, .bf16⟩
  | .local _ .vmem, ⟨16, _⟩ => ⟨S1024x1536, .bf16⟩
  | .local _ .vmem, ⟨17, _⟩ => ⟨S1024x1536, .bf16⟩
  | .local _ .vmem, ⟨18, _⟩ => ⟨S1536x1024, .bf16⟩
  | .local _ .vmem, ⟨19, _⟩ => ⟨S1536x1024, .bf16⟩
  | .local _ .vmem, ⟨20, _⟩ => ⟨S1x1x1x1024, .f32⟩
  | .local _ .vmem, ⟨21, _⟩ => ⟨S1x1x1x1024, .f32⟩
  | .local _ .vmem, ⟨22, _⟩ => ⟨S1x512x1024, .f32⟩
  | .local _ .vmem, ⟨23, _⟩ => ⟨S1x512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1536x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference2Ideal.lean ====
abbrev S4x8192x512 : Shape := ⟨3, ![4, 8192, 512]⟩
abbrev S4x8192x1024 : Shape := ⟨3, ![4, 8192, 1024]⟩
abbrev S4x6x1x1024 : Shape := ⟨4, ![4, 6, 1, 1024]⟩
abbrev S1024 : Shape := ⟨1, ![1024]⟩
abbrev S1024x1024 : Shape := ⟨2, ![1024, 1024]⟩
abbrev S1024x3072 : Shape := ⟨2, ![1024, 3072]⟩
abbrev S3072x1024 : Shape := ⟨2, ![3072, 1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x6x1x1024, .f32⟩
  | .hbm, ⟨4, _⟩ => ⟨S1024, .f32⟩
  | .hbm, ⟨5, _⟩ => ⟨S1024x1024, .bf16⟩
  | .hbm, ⟨6, _⟩ => ⟨S1024x3072, .bf16⟩
  | .hbm, ⟨7, _⟩ => ⟨S1024x3072, .bf16⟩
  | .hbm, ⟨8, _⟩ => ⟨S3072x1024, .bf16⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S4x1x1x1024, .f32⟩
  | .hbm, ⟨14, _⟩ => ⟨S4x1x1024, .f32⟩
  | .hbm, ⟨15, _⟩ => ⟨S4x1x1x1024, .f32⟩
  | .hbm, ⟨16, _⟩ => ⟨S4x1x1024, .f32⟩
  | .hbm, ⟨17, _⟩ => ⟨S4x8192x1024, .bf16⟩
  | .hbm, ⟨18, _⟩ => ⟨S4x8192x1024, .f32⟩
  | .hbm, ⟨19, _⟩ => ⟨S1024x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x8192x1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x1x1024, .f32⟩
  | .hbm, ⟨42, _⟩ => ⟨S4x1x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S1024x3072, .f32⟩
  | .hbm, ⟨48, _⟩ => ⟨S4x8192x3072, .f32⟩
  | .hbm, ⟨49, _⟩ => ⟨S1024x3072, .f32⟩
  | .hbm, ⟨50, _⟩ => ⟨S4x8192x3072, .f32⟩
  | .hbm, ⟨51, _⟩ => ⟨S4x8192x3072, .f32⟩
  | .hbm, ⟨52, _⟩ => ⟨S4x8192x3072, .f32⟩
  | .hbm, ⟨53, _⟩ => ⟨S_, .f32⟩
  | .hbm, ⟨54, _⟩ => ⟨S4x8192x3072, .f32⟩
  | .hbm, ⟨55, _⟩ => ⟨S4x8192x3072, .f32⟩
  | .hbm, ⟨56, _⟩ => ⟨S_, .f32⟩
  | .hbm, ⟨57, _⟩ => ⟨S4x8192x3072, .f32⟩
  | .hbm, ⟨58, _⟩ => ⟨S4x8192x3072, .f32⟩
  | .hbm, ⟨59, _⟩ => ⟨S4x8192x3072, .f32⟩
  | .hbm, ⟨60, _⟩ => ⟨S4x8192x3072, .f32⟩
  | .hbm, ⟨61, _⟩ => ⟨S3072x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel3.lean ====
abbrev S4x8192x512 : Shape := ⟨3, ![4, 8192, 512]⟩
abbrev S4x8192x1024 : Shape := ⟨3, ![4, 8192, 1024]⟩
abbrev S4x6x1x1024 : Shape := ⟨4, ![4, 6, 1, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S16x1024 : Shape := ⟨2, ![16, 1024]⟩
abbrev S8x1024 : Shape := ⟨2, ![8, 1024]⟩
abbrev S1 : Shape := ⟨1, ![1]⟩
abbrev S1x1024 : Shape := ⟨2, ![1, 1024]⟩
abbrev S64x8x512 : Shape := ⟨3, ![64, 8, 512]⟩
abbrev S1024x128 : Shape := ⟨2, ![1024, 128]⟩
abbrev S1x512x512 : Shape := ⟨3, ![1, 512, 512]⟩
abbrev S1x512x1024 : Shape := ⟨3, ![1, 512, 1024]⟩
abbrev S1x1x1x1024 : Shape := ⟨4, ![1, 1, 1, 1024]⟩
abbrev S1x8x512 : Shape := ⟨3, ![1, 8, 512]⟩
abbrev S16x128 : Shape := ⟨2, ![16, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S16 : Shape := ⟨1, ![16]⟩
abbrev S16x1 : Shape := ⟨2, ![16, 1]⟩
abbrev S1x1 : Shape := ⟨2, ![1, 1]⟩
abbrev S8x512 : Shape := ⟨2, ![8, 512]⟩

abbrev nBuf : Space → Nat
  | .hbm => 18
  | .vmem => 23
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x6x1x1024, .f32⟩
  | .hbm, ⟨4, _⟩ => ⟨S1024, .f32⟩
  | .hbm, ⟨5, _⟩ => ⟨S1024x1024, .bf16⟩
  | .hbm, ⟨6, _⟩ => ⟨S1024x8, .f32⟩
  | .hbm, ⟨7, _⟩ => ⟨S_, .f32⟩
  | .hbm, ⟨8, _⟩ => ⟨S16x1024, .f32⟩
  | .hbm, ⟨9, _⟩ => ⟨S8x1024, .f32⟩
  | .hbm, ⟨10, _⟩ => ⟨S_, .i32⟩
  | .hbm, ⟨11, _⟩ => ⟨S1, .i32⟩
  | .hbm, ⟨12, _⟩ => ⟨S16x1024, .f32⟩
  | .hbm, ⟨13, _⟩ => ⟨S1x1024, .f32⟩
  | .hbm, ⟨14, _⟩ => ⟨S4x8192x1024, .f32⟩
  | .hbm, ⟨15, _⟩ => ⟨S4x8192x1024, .bf16⟩
  | .hbm, ⟨16, _⟩ => ⟨S64x8x512, .f32⟩
  | .hbm, ⟨17, _⟩ => ⟨S1024x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1024, .f32⟩
  | .local _ .vmem, ⟨13, _⟩ => ⟨S1024x1024, .bf16⟩
  | .local _ .vmem, ⟨14, _⟩ => ⟨S16x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x8x512, .f32⟩
  | .local _ .vmem, ⟨20, _⟩ => ⟨S1x8x512, .f32⟩
  | .local _ .vmem, ⟨21, _⟩ => ⟨S16x128, .f32⟩
  | .local _ .vmem, ⟨22, _⟩ => ⟨S16x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x8192x512 : Shape := ⟨3, ![4, 8192, 512]⟩
abbrev S4x8192x1024 : Shape := ⟨3, ![4, 8192, 1024]⟩
abbrev S4x6x1x1024 : Shape := ⟨4, ![4, 6, 1, 1024]⟩
abbrev S1024 : Shape := ⟨1, ![1024]⟩
abbrev S1024x1024 : Shape := ⟨2, ![1024, 1024]⟩
abbrev S1024x8 : Shape := ⟨2, ![1024, 8]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x6x1x1024, .f32⟩
  | .hbm, ⟨4, _⟩ => ⟨S1024, .f32⟩
  | .hbm, ⟨5, _⟩ => ⟨S1024x1024, .bf16⟩
  | .hbm, ⟨6, _⟩ => ⟨S1024x8, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S4x8192x1024, .bf16⟩
  | .hbm, ⟨14, _⟩ => ⟨S4x8192x1024, .f32⟩
  | .hbm, ⟨15, _⟩ => ⟨S1024x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x6x1x1024 : Shape := ⟨4, ![4, 6, 1, 1024]⟩
abbrev S1024 : Shape := ⟨1, ![1024]⟩
abbrev S1024x2560 : Shape := ⟨2, ![1024, 2560]⟩
abbrev S32768x128 : Shape := ⟨2, ![32768, 128]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1x1024 : Shape := ⟨2, ![1, 1024]⟩
abbrev S1x512 : Shape := ⟨2, ![1, 512]⟩
abbrev S4x8192x512 : Shape := ⟨3, ![4, 8192, 512]⟩
abbrev S1x1024x1024 : Shape := ⟨3, ![1, 1024, 1024]⟩
abbrev S1x1x1x1024 : Shape := ⟨4, ![1, 1, 1, 1024]⟩
abbrev S1024x128 : Shape := ⟨2, ![1024, 128]⟩
abbrev S1x1024x512 : Shape := ⟨3, ![1, 1024, 512]⟩
abbrev S1032x512 : Shape := ⟨2, ![1032, 512]⟩
abbrev S8x512 : Shape := ⟨2, ![8, 512]⟩
abbrev S1024x1024 : Shape := ⟨2, ![1024, 1024]⟩
abbrev S1024x1 : Shape := ⟨2, ![1024, 1]⟩
abbrev S1024x512 : Shape := ⟨2, ![1024, 512]⟩
abbrev S128x8x512 : Shape := ⟨3, ![128, 8, 512]⟩
abbrev S1x8x512 : Shape := ⟨3, ![1, 8, 512]⟩

abbrev nBuf : Space → Nat
  | .hbm => 50
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S4x6x1x1024, .f32⟩
  | .hbm, ⟨2, _⟩ => ⟨S1024, .f32⟩
  | .hbm, ⟨3, _⟩ => ⟨S1024x2560, .bf16⟩
  | .hbm, ⟨4, _⟩ => ⟨S32768x128, .f32⟩
  | .hbm, ⟨5, _⟩ => ⟨S32768x128, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S8x64x64, .f32⟩
  | .hbm, ⟨11, _⟩ => ⟨S512, .f32⟩
  | .hbm, ⟨12, _⟩ => ⟨S512, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x64x1x64, .f32⟩
  | .hbm, ⟨21, _⟩ => ⟨S8x1x8x1, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x64x1x64, .f32⟩
  | .hbm, ⟨34, _⟩ => ⟨S8x1x8x1, .f32⟩
  | .hbm, ⟨35, _⟩ => ⟨S8x64x8x64, .f32⟩
  | .hbm, ⟨36, _⟩ => ⟨S8x64x8x64, .f32⟩
  | .hbm, ⟨37, _⟩ => ⟨S8x64x8x64, .f32⟩
  | .hbm, ⟨38, _⟩ => ⟨S512x512, .f32⟩
  | .hbm, ⟨39, _⟩ => ⟨S512x1024, .f32⟩
  | .hbm, ⟨40, _⟩ => ⟨S512x1024, .bf16⟩
  | .hbm, ⟨41, _⟩ => ⟨S1024, .f32⟩
  | .hbm, ⟨42, _⟩ => ⟨S1x1024, .f32⟩
  | .hbm, ⟨43, _⟩ => ⟨S1x1024, .f32⟩
  | .hbm, ⟨44, _⟩ => ⟨S1x512, .f32⟩
  | .hbm, ⟨45, _⟩ => ⟨S1x512, .f32⟩
  | .hbm, ⟨46, _⟩ => ⟨S4x8192x512, .bf16⟩
  | .hbm, ⟨47, _⟩ => ⟨S4x8192x512, .bf16⟩
  | .hbm, ⟨48, _⟩ => ⟨S4x8192x512, .bf16⟩
  | .hbm, ⟨49, _⟩ => ⟨S4x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x2560, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S4x512, .f32⟩
  | .local _ .vmem, ⟨13, _⟩ => ⟨S1x512, .f32⟩
  | .local _ .vmem, ⟨14, _⟩ => ⟨S512x1024, .bf16⟩
  | .local _ .vmem, ⟨15, _⟩ => ⟨S1x1024, .f32⟩
  | .local _ .vmem, ⟨16, _⟩ => ⟨S1x512, .f32⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1032x512, .f32⟩
  | .local _ .vmem, ⟨26, _⟩ => ⟨S1x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S4x8192x1024 : Shape := ⟨3, ![4, 8192, 1024]⟩
abbrev S4x6x1x1024 : Shape := ⟨4, ![4, 6, 1, 1024]⟩
abbrev S1024 : Shape := ⟨1, ![1024]⟩
abbrev S1024x2560 : Shape := ⟨2, ![1024, 2560]⟩
abbrev S32768x128 : Shape := ⟨2, ![32768, 128]⟩
abbrev S4x512 : Shape := ⟨2, ![4, 512]⟩
abbrev S512 : Shape := ⟨1, ![512]⟩
abbrev S8x64x64 : Shape := ⟨3, ![8, 64, 64]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x8192x1536 : Shape := ⟨3, ![4, 8192, 1536]⟩
abbrev S4x8192x1x2x64 : Shape := ⟨5, ![4, 8192, 1, 2, 64]⟩
abbrev S4x8192x512 : Shape := ⟨3, ![4, 8192, 512]⟩
abbrev S4x8192x4x2x64 : Shape := ⟨5, ![4, 8192, 4, 2, 64]⟩
abbrev S4x8192x4x2x32 : Shape := ⟨5, ![4, 8192, 4, 2, 32]⟩
abbrev S4x8195x512 : Shape := ⟨3, ![4, 8195, 512]⟩
abbrev S1x512 : Shape := ⟨2, ![1, 512]⟩
abbrev S1x1x512 : Shape := ⟨3, ![1, 1, 512]⟩
abbrev S4x8192x8x64 : Shape := ⟨4, ![4, 8192, 8, 64]⟩
abbrev S8x64x4x8192 : Shape := ⟨4, ![8, 64, 4, 8192]⟩
abbrev S8192x4x512 : Shape := ⟨3, ![8192, 4, 512]⟩
abbrev S1x4x512 : Shape := ⟨3, ![1, 4, 512]⟩

abbrev nBuf : Space → Nat
  | .hbm => 221
  | .vmem => 0
  | .smem => 0
  | _ => 0

abbrev hbmTy0_0 (i : Nat) : BufTy := match i % 128 with
  | 0 => ⟨S4x8192x1024, .f32⟩
  | 1 => ⟨S4x6x1x1024, .f32⟩
  | 2 => ⟨S1024, .f32⟩
  | 3 => ⟨S1024x2560, .bf16⟩
  | 4 => ⟨S32768x128, .f32⟩
  | 5 => ⟨S32768x128, .f32⟩
  | 6 => ⟨S4x512, .f32⟩
  | 7 => ⟨S512, .f32⟩
  | 8 => ⟨S8x64x64, .f32⟩
  | 9 => ⟨S512, .f32⟩
  | 10 => ⟨S8x64x64, .f32⟩
  | 11 => ⟨S512, .f32⟩
  | 12 => ⟨S512, .f32⟩
  | 13 => ⟨S4x1x1x1024, .f32⟩
  | 14 => ⟨S4x1x1024, .f32⟩
  | 15 => ⟨S4x1x1x1024, .f32⟩
  | 16 => ⟨S4x1x1024, .f32⟩
  | 17 => ⟨S4x8192x1024, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S_, .f32⟩
  | 25 => ⟨S4x8192x1, .f32⟩
  | 26 => ⟨S4x8192x1, .f32⟩
  | 27 => ⟨S4x8192x1, .f32⟩
  | 28 => ⟨S4x8192x1024, .f32⟩
  | 29 => ⟨S4x8192x1024, .f32⟩
  | 30 => ⟨S1x1x1024, .f32⟩
  | 31 => ⟨S4x8192x1024, .f32⟩
  | 32 => ⟨S4x8192x1024, .f32⟩
  | 33 => ⟨S_, .f32⟩
  | 34 => ⟨S4x1x1024, .f32⟩
  | 35 => ⟨S4x1x1024, .f32⟩
  | 36 => ⟨S4x8192x1024, .f32⟩
  | 37 => ⟨S4x8192x1024, .f32⟩
  | 38 => ⟨S4x8192x1024, .f32⟩
  | 39 => ⟨S4x8192x1024, .f32⟩
  | 40 => ⟨S1024x2560, .f32⟩
  | 41 => ⟨S4x8192x2560, .f32⟩
  | 42 => ⟨S4x8192x1536, .f32⟩
  | 43 => ⟨S4x8192x1x2x64, .f32⟩
  | 44 => ⟨S4x8192x1x2x64, .f32⟩
  | 45 => ⟨S4x8192x512, .f32⟩
  | 46 => ⟨S4x8192x4x2x64, .f32⟩
  | 47 => ⟨S4x8192x4x2x32, .f32⟩
  | 48 => ⟨S4x8192x4x2x32, .f32⟩
  | 49 => ⟨S4x8192x4x2x64, .f32⟩
  | 50 => ⟨S4x8192x4x2x64, .f32⟩
  | 51 => ⟨S4x8192x4x2x64, .f32⟩
  | 52 => ⟨S4x8192x4x2x64, .f32⟩
  | 53 => ⟨S4x8192x4x2x64, .f32⟩
  | 54 => ⟨S4x8192x4x2x64, .f32⟩
  | 55 => ⟨S4x8192x512, .f32⟩
  | 56 => ⟨S_, .f32⟩
  | 57 => ⟨S4x8192x512, .f32⟩
  | 58 => ⟨S4x8192x512, .f32⟩
  | 59 => ⟨S4x8192x512, .bf16⟩
  | 60 => ⟨S4x8192x512, .f32⟩
  | 61 => ⟨S4x8192x4x2x64, .f32⟩
  | 62 => ⟨S4x8192x4x2x32, .f32⟩
  | 63 => ⟨S4x8192x4x2x32, .f32⟩
  | 64 => ⟨S4x8192x4x2x64, .f32⟩
  | 65 => ⟨S4x8192x4x2x64, .f32⟩
  | 66 => ⟨S4x8192x4x2x64, .f32⟩
  | 67 => ⟨S4x8192x4x2x64, .f32⟩
  | 68 => ⟨S4x8192x4x2x64, .f32⟩
  | 69 => ⟨S4x8192x4x2x64, .f32⟩
  | 70 => ⟨S4x8192x512, .f32⟩
  | 71 => ⟨S4x8192x512, .bf16⟩
  | 72 => ⟨S4x8192x512, .f32⟩
  | 73 => ⟨S4x8192x512, .bf16⟩
  | 74 => ⟨S4x8192x512, .f32⟩
  | 75 => ⟨S4x8192x512, .f32⟩
  | 76 => ⟨S4x8192x512, .f32⟩
  | 77 => ⟨S_, .f32⟩
  | 78 => ⟨S4x8192x512, .f32⟩
  | 79 => ⟨S4x8192x512, .f32⟩
  | 80 => ⟨S4x8192x512, .f32⟩
  | 81 => ⟨S_, .f32⟩
  | 82 => ⟨S4x8192x512, .f32⟩
  | 83 => ⟨S4x8192x512, .f32⟩
  | 84 => ⟨S4x8192x512, .f32⟩
  | 85 => ⟨S_, .f32⟩
  | 86 => ⟨S4x8192x512, .f32⟩
  | 87 => ⟨S4x8192x512, .f32⟩
  | 88 => ⟨S_, .f32⟩
  | 89 => ⟨S4x8192x512, .f32⟩
  | 90 => ⟨S4x8192x512, .f32⟩
  | 91 => ⟨S4x8192x512, .f32⟩
  | 92 => ⟨S4x8192x512, .f32⟩
  | 93 => ⟨S_, .i32⟩
  | 94 => ⟨S_, .f32⟩
  | 95 => ⟨S4x8195x512, .f32⟩
  | 96 => ⟨S4x8192x512, .f32⟩
  | 97 => ⟨S1x512, .f32⟩
  | 98 => ⟨S512, .f32⟩
  | 99 => ⟨S1x1x512, .f32⟩
  | 100 => ⟨S4x8192x512, .f32⟩
  | 101 => ⟨S4x8192x512, .f32⟩
  | 102 => ⟨S_, .f32⟩
  | 103 => ⟨S4x8192x512, .f32⟩
  | 104 => ⟨S4x8192x512, .f32⟩
  | 105 => ⟨S4x8192x512, .f32⟩
  | 106 => ⟨S1x512, .f32⟩
  | 107 => ⟨S512, .f32⟩
  | 108 => ⟨S1x1x512, .f32⟩
  | 109 => ⟨S4x8192x512, .f32⟩
  | 110 => ⟨S4x8192x512, .f32⟩
  | 111 => ⟨S4x8192x512, .f32⟩
  | 112 => ⟨S4x8192x512, .f32⟩
  | 113 => ⟨S1x512, .f32⟩
  | 114 => ⟨S512, .f32⟩
  | 115 => ⟨S1x1x512, .f32⟩
  | 116 => ⟨S4x8192x512, .f32⟩
  | 117 => ⟨S4x8192x512, .f32⟩
  | 118 => ⟨S4x8192x512, .f32⟩
  | 119 => ⟨S4x8192x512, .f32⟩
  | 120 => ⟨S1x512, .f32⟩
  | 121 => ⟨S512, .f32⟩
  | 122 => ⟨S1x1x512, .f32⟩
  | 123 => ⟨S4x8192x512, .f32⟩
  | 124 => ⟨S4x8192x512, .f32⟩
  | 125 => ⟨S4x8192x512, .f32⟩
  | 126 => ⟨S1x1x512, .f32⟩
  | 127 => ⟨S4x8192x512, .f32⟩
  | _ => ⟨S4x8192x1024, .f32⟩

abbrev hbmTy0_1 (i : Nat) : BufTy := match i % 128 with
  | 0 => ⟨S4x8192x512, .f32⟩
  | 1 => ⟨S4x8192x8x64, .f32⟩
  | 2 => ⟨S8x64x4x8192, .f32⟩
  | 3 => ⟨S4x8192x8x64, .f32⟩
  | 4 => ⟨S4x8192x512, .f32⟩
  | 5 => ⟨S1x1x512, .f32⟩
  | 6 => ⟨S4x8192x512, .f32⟩
  | 7 => ⟨S4x8192x512, .f32⟩
  | 8 => ⟨S4x8192x512, .f32⟩
  | 9 => ⟨S4x8192x512, .f32⟩
  | 10 => ⟨S_, .f32⟩
  | 11 => ⟨S4x8192x512, .f32⟩
  | 12 => ⟨S4x8192x512, .f32⟩
  | 13 => ⟨S_, .f32⟩
  | 14 => ⟨S4x8192x512, .f32⟩
  | 15 => ⟨S4x8192x512, .f32⟩
  | 16 => ⟨S8x64x4x8192, .f32⟩
  | 17 => ⟨S4x8192x8x64, .f32⟩
  | 18 => ⟨S4x8192x512, .f32⟩
  | 19 => ⟨S1x1x512, .f32⟩
  | 20 => ⟨S4x8192x512, .f32⟩
  | 21 => ⟨S4x8192x512, .f32⟩
  | 22 => ⟨S4x8192x512, .f32⟩
  | 23 => ⟨S4x8192x512, .f32⟩
  | 24 => ⟨S_, .f32⟩
  | 25 => ⟨S4x8192x512, .f32⟩
  | 26 => ⟨S4x8192x512, .f32⟩
  | 27 => ⟨S_, .f32⟩
  | 28 => ⟨S4x8192x512, .f32⟩
  | 29 => ⟨S4x8192x512, .f32⟩
  | 30 => ⟨S_, .f32⟩
  | 31 => ⟨S4x8192x512, .f32⟩
  | 32 => ⟨S4x8192x512, .f32⟩
  | 33 => ⟨S512, .f32⟩
  | 34 => ⟨S_, .f32⟩
  | 35 => ⟨S512, .f32⟩
  | 36 => ⟨S512, .f32⟩
  | 37 => ⟨S512, .f32⟩
  | 38 => ⟨S512, .f32⟩
  | 39 => ⟨S512, .i1⟩
  | 40 => ⟨S512, .f32⟩
  | 41 => ⟨S512, .f32⟩
  | 42 => ⟨S512, .f32⟩
  | 43 => ⟨S512, .f32⟩
  | 44 => ⟨S512, .f32⟩
  | 45 => ⟨S512, .f32⟩
  | 46 => ⟨S512, .f32⟩
  | 47 => ⟨S512, .f32⟩
  | 48 => ⟨S1x1x512, .f32⟩
  | 49 => ⟨S4x8192x512, .f32⟩
  | 50 => ⟨S4x8192x512, .f32⟩
  | 51 => ⟨S4x8192x512, .f32⟩
  | 52 => ⟨S_, .f32⟩
  | 53 => ⟨S4x8192x512, .f32⟩
  | 54 => ⟨S4x8192x512, .f32⟩
  | 55 => ⟨S4x8192x512, .f32⟩
  | 56 => ⟨S4x8192x512, .f32⟩
  | 57 => ⟨S4x8192x512, .f32⟩
  | 58 => ⟨S4x8192x512, .f32⟩
  | 59 => ⟨S4x8192x512, .f32⟩
  | 60 => ⟨S_, .f32⟩
  | 61 => ⟨S4x512, .f32⟩
  | 62 => ⟨S8192x4x512, .f32⟩
  | 63 => ⟨S8192x4x512, .f32⟩
  | 64 => ⟨S_, .f32⟩
  | 65 => ⟨S8192x4x512, .f32⟩
  | 66 => ⟨S_, .i32⟩
  | 67 => ⟨S8192x4x512, .f32⟩
  | 68 => ⟨S8192x4x512, .f32⟩
  | 69 => ⟨S_, .i32⟩
  | 70 => ⟨S4x512, .f32⟩
  | 71 => ⟨S8192x4x512, .f32⟩
  | 72 => ⟨S_, .i32⟩
  | 73 => ⟨S_, .i1⟩
  | 74 => ⟨S_, .i32⟩
  | 75 => ⟨S_, .i32⟩
  | 76 => ⟨S1x4x512, .f32⟩
  | 77 => ⟨S4x512, .f32⟩
  | 78 => ⟨S_, .i32⟩
  | 79 => ⟨S_, .i32⟩
  | 80 => ⟨S1x4x512, .f32⟩
  | 81 => ⟨S4x512, .f32⟩
  | 82 => ⟨S4x512, .f32⟩
  | 83 => ⟨S4x512, .f32⟩
  | 84 => ⟨S1x4x512, .f32⟩
  | 85 => ⟨S_, .i32⟩
  | 86 => ⟨S_, .i32⟩
  | 87 => ⟨S8192x4x512, .f32⟩
  | 88 => ⟨S_, .i32⟩
  | 89 => ⟨S_, .i32⟩
  | 90 => ⟨S4x8192x512, .f32⟩
  | 91 => ⟨S4x8192x512, .f32⟩
  | 92 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_6 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c : Ref sig .tc := ⟨.hbm, 93, rfl⟩
abbrev main_call0_v0 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_8 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_9 : Ref sig .tc := ⟨.hbm, 138, rfl⟩
abbrev main_v113 : Ref sig .tc := ⟨.hbm, 139, rfl⟩
abbrev main_v114 : Ref sig .tc := ⟨.hbm, 140, rfl⟩
abbrev main_cst_10 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_11 : Ref sig .tc := ⟨.hbm, 152, rfl⟩
abbrev main_v125 : Ref sig .tc := ⟨.hbm, 153, rfl⟩
abbrev main_v126 : Ref sig .tc := ⟨.hbm, 154, rfl⟩
abbrev main_cst_12 : Ref sig .tc := ⟨.hbm, 155, rfl⟩
abbrev main_v127 : Ref sig .tc := ⟨.hbm, 156, rfl⟩
abbrev main_v128 : Ref sig .tc := ⟨.hbm, 157, rfl⟩
abbrev main_cst_13 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_call1_cst : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_call1_v3 : Ref sig .tc := ⟨.hbm, 166, rfl⟩
abbrev main_call1_v4 : Ref sig .tc := ⟨.hbm, 167, rfl⟩
abbrev main_call1_v5 : Ref sig .tc := ⟨.hbm, 168, rfl⟩
abbrev main_call1_v6 : Ref sig .tc := ⟨.hbm, 169, rfl⟩
abbrev main_call1_v7 : Ref sig .tc := ⟨.hbm, 170, rfl⟩
abbrev main_call1_v8 : Ref sig .tc := ⟨.hbm, 171, rfl⟩
abbrev main_call1_v9 : Ref sig .tc := ⟨.hbm, 172, rfl⟩
abbrev main_call1_v10 : Ref sig .tc := ⟨.hbm, 173, rfl⟩
abbrev main_call1_v11 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_14 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_15 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_16 : Ref sig .tc := ⟨.hbm, 192, rfl⟩
abbrev main_v147 : Ref sig .tc := ⟨.hbm, 193, rfl⟩
abbrev main_c_17 : Ref sig .tc := ⟨.hbm, 194, rfl⟩
abbrev main_v148_0 : Ref sig .tc := ⟨.hbm, 195, rfl⟩
abbrev main_v148_1 : Ref sig .tc := ⟨.hbm, 196, rfl⟩
abbrev main_v148_2 : Ref sig .tc := ⟨.hbm, 197, rfl⟩
abbrev main_v148_3 : Ref sig .tc := ⟨.hbm, 198, rfl⟩
abbrev main_v148_4 : Ref sig .tc := ⟨.hbm, 199, rfl⟩
abbrev main_while0c_c_22 : Ref sig .tc := ⟨.hbm, 200, rfl⟩
abbrev main_while0c_v152 : Ref sig .tc := ⟨.hbm, 201, rfl⟩
abbrev main_while0b_call2_c : Ref sig .tc := ⟨.hbm, 202, rfl⟩
abbrev main_while0b_call2_c_0 : Ref sig .tc := ⟨.hbm, 203, rfl⟩
abbrev main_while0b_call2_v0 : Ref sig .tc := ⟨.hbm, 204, rfl⟩
abbrev main_while0b_v152 : Ref sig .tc := ⟨.hbm, 205, rfl⟩
abbrev main_while0b_call3_c : Ref sig .tc := ⟨.hbm, 206, rfl⟩
abbrev main_while0b_call3_c_0 : Ref sig .tc := ⟨.hbm, 207, rfl⟩
abbrev main_while0b_call3_v0 : Ref sig .tc := ⟨.hbm, 208, rfl⟩
abbrev main_while0b_v153 : Ref sig .tc := ⟨.hbm, 209, rfl⟩
abbrev main_while0b_v154 : Ref sig .tc := ⟨.hbm, 210, rfl⟩
abbrev main_while0b_v155 : Ref sig .tc := ⟨.hbm, 211, rfl⟩
abbrev main_while0b_call4_v0 : Ref sig .tc := ⟨.hbm, 212, rfl⟩
abbrev main_while0b_call4_c : Ref sig .tc := ⟨.hbm, 213, rfl⟩
abbrev main_while0b_call4_c_0 : Ref sig .tc := ⟨.hbm, 214, rfl⟩
abbrev main_while0b_v156 : Ref sig .tc := ⟨.hbm, 215, rfl⟩
abbrev main_while0b_c_22 : Ref sig .tc := ⟨.hbm, 216, rfl⟩
abbrev main_while0b_v157 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩

abbrev nD : Nat := 1
abbrev τ : Topo := Topo.v7x

variable {F : FTy → Type} [FloatOps F]

abbrev main_while0_count : Scf.Loop 32 := ⟨0#32, 8192#32, 1#32⟩
-- ==== Proof.Inproj.Points.lean ====
/- What the attention's three result blocks of the input projection kernel hold after each point, as the body's own payloads
   over the point's blocks. -/
module

public import proofs.«01_k».proof.Proof.Gen.Kernel4Ideal.Frame
public import Idealize.ShloMosaic.Lib.Pipeline.ValueKit

@[expose] public section

set_option maxRecDepth 16384

noncomputable section

namespace Cert.Kernel4Ideal.Inproj

open Cert.Kernel4Ideal Cert.Kernel4Ideal.Gen
open Idealize.ShloMosaic Idealize.ShloMosaic.TcCoe Idealize.SL.Sem

variable {F : FTy → Type} [FloatOps F]
variable (m : (ℓ : Loc nD τ sig) → Buf (Elt F) ℓ)

/-- The blocks of point `t`, at their shapes. -/
def bX (c : Dev nD) (t : Fin cfg0.N) : Vec F S1x1024x1024 .f32 := iblk m c 0 t
def bScale (c : Dev nD) (t : Fin cfg0.N) : Vec F S1x1x1x1024 .f32 := iblk m c 1 t
def bShift (c : Dev nD) (t : Fin cfg0.N) : Vec F S1x1x1x1024 .f32 := iblk m c 2 t
def bNorm (c : Dev nD) (t : Fin cfg0.N) : Vec F S1x1024 .f32 := iblk m c 3 t
def bIn (c : Dev nD) (t : Fin cfg0.N) : Vec F S1024x2560 .bf16 := iblk m c 4 t
def bCos (c : Dev nD) (t : Fin cfg0.N) : Vec F S1024x128 .f32 := iblk m c 5 t
def bSin (c : Dev nD) (t : Fin cfg0.N) : Vec F S1024x128 .f32 := iblk m c 6 t

/-- The columns of the input projection of the queries, the keys and the values. -/
def qCols (w : Vec F S1024x2560 .bf16) : Vec F S1024x512 .bf16 := View.ld w (Rect.unit (s := S1024x2560) ![0, 1024] S1024x512.size inb_S1024x2560_S1024x512_0_1024)
def kCols (w : Vec F S1024x2560 .bf16) : Vec F S1024x512 .bf16 := View.ld w (Rect.unit (s := S1024x2560) ![0, 1536] S1024x512.size inb_S1024x2560_S1024x512_0_1536)
def vCols (w : Vec F S1024x2560 .bf16) : Vec F S1024x512 .bf16 := View.ld w (Rect.unit (s := S1024x2560) ![0, 2048] S1024x512.size inb_S1024x2560_S1024x512_0_2048)

/-- Point `t`'s rows normalized and modulated. -/
def hidden (c : Dev nD) (t : Fin cfg0.N) : Vec F S1024x1024 .bf16 := k0_pay4 (bX m c t) (bNorm m c t) (bScale m c t) (bShift m c t)

theorem after_q (c : Dev nD) (t : Fin cfg0.N) :
    (outsAt0 m c t.val t.isLt).2.1 = k0_pay10 (k0_pay9 (hidden m c t) (qCols (bIn m c t)) (bCos m c t) (bSin m c t)) := by
  by_cases h : t.val % 8 = 0
  · rw [outsAt0_A m c t h]
    frame_out
    rfl
  · rw [outsAt0_B m c t h]
    frame_out
    rfl

theorem after_k (c : Dev nD) (t : Fin cfg0.N) :
    (outsAt0 m c t.val t.isLt).2.2.1 = k0_pay11 (hidden m c t) (k0_pay6 (bCos m c t)) (k0_pay7 (bSin m c t)) k0_pay8 (kCols (bIn m c t)) := by
  by_cases h : t.val % 8 = 0
  · rw [outsAt0_A m c t h]
    frame_out
    rfl
  · rw [outsAt0_B m c t h]
    frame_out
    rfl

theorem after_v (c : Dev nD) (t : Fin cfg0.N) :
    (outsAt0 m c t.val t.isLt).2.2.2.1 = k0_pay12 (hidden m c t) (vCols (bIn m c t)) := by
  by_cases h : t.val % 8 = 0
  · rw [outsAt0_A m c t h]
    frame_out
    rfl
  · rw [outsAt0_B m c t h]
    frame_out
    rfl

end Cert.Kernel4Ideal.Inproj

end
-- ==== Proof.Inproj.Chain.lean ====
/- The rows of the recurrence in the input projection kernel: 128 groups of eight rows, each carried in from the last row of
   the group before. The names `d…` are the kernel's own values, `e…` says which group each is. -/
module

public import proofs.«01_k».proof.Proof.Inproj.Points

@[expose] public section
set_option maxRecDepth 65536
noncomputable section
namespace Cert.Kernel4Ideal.Inproj
open Cert.Kernel4Ideal Cert.Kernel4Ideal.Gen
open Idealize.ShloMosaic Idealize.ShloMosaic.TcCoe Idealize.SL.Sem
variable {F : FTy → Type} [FloatOps F]
variable (m : (ℓ : Loc nD τ sig) → Buf (Elt F) ℓ)

theorem slices_group (n : ℕ) (hn : n < 128) : S128x8x512.Slices ![n, 0, 0] S1x8x512 := by
  refine ⟨rfl, fun d => ?_⟩
  fin_cases d
  · show n + 1 ≤ 128
    omega
  · show 0 + 8 ≤ 8
    omega
  · show 0 + 512 ≤ 512
    omega

/-- The rows of group `n` of the scan: the group's decay times the row carried into it, and the group's own sum. -/
def group (a b : FVec F S128x8x512 .f32) (n : ℕ) (hn : n < 128) (carry : FVec F S1x512 .f32) : FVec F S8x512 .f32 :=
  addf (mulf (shapeCast S8x512 (extractStridedSlice S1x8x512 ![n, 0, 0] a (slices_group n hn)) shapeCasts_S1x8x512_S8x512)
      (broadcastTo S8x512 carry broadcasts_S1x512_S8x512))
    (shapeCast S8x512 (extractStridedSlice S1x8x512 ![n, 0, 0] b (slices_group n hn)) shapeCasts_S1x8x512_S8x512)

/-- The last row of a group. -/
def lastRow (x : FVec F S8x512 .f32) : FVec F S1x512 .f32 := extractStridedSlice S1x512 ![7, 0] x slices_S8x512_o7_0_S1x512

/-- The groups one after another, each carried in from the last row of the one before. -/
def groups (a b : FVec F S128x8x512 .f32) (h : FVec F S1x512 .f32) : (n : ℕ) → n < 128 → FVec F S8x512 .f32
  | 0, hn => group a b 0 hn h
  | n + 1, hn => group a b (n + 1) hn (lastRow (groups a b h n (by omega)))

theorem rows_concatenates {f : Fin 128 → FVec F S8x512 .f32} :
    Shape.Concatenates ((List.ofFn fun n : Fin 128 => (⟨S8x512, f n⟩ : (s : Shape) × (s.Idx → F .f32))).map (·.1)) S1024x512 0 := by
  have e : (List.ofFn fun n : Fin 128 => (⟨S8x512, f n⟩ : (s : Shape) × (s.Idx → F .f32))).map (·.1) = List.replicate 128 S8x512 := by
    rw [List.map_ofFn]
    exact List.ofFn_const _ _
  rw [e]
  decide +kernel

/-- The groups as one array of rows. -/
def rows (a b : FVec F S128x8x512 .f32) (h : FVec F S1x512 .f32) : FVec F S1024x512 .f32 :=
  concatenate S1024x512 0 (List.ofFn fun n : Fin 128 => (⟨S8x512, groups a b h n.val n.isLt⟩ : (s : Shape) × (s.Idx → F .f32)))
    rows_concatenates

/-- The gated branch's output projected: the recurrence's rows times the activated gate. -/
def gated (y : FVec F S1024x512 .f32) (h : FVec F S1024x512 .f32) : FVec F S1x1024x512 .bf16 := k0_pay1 y h (k0_pay198 y) (k0_pay199 y)

def d194 (v162 : IVec S128x8x512 32) (v183 v184 : FVec F S128x8x512 .f32) (v196 : FVec F S1x512 .f32) : FVec F S128x8x512 .f32 := k0_pay32 v162 v183 v184
def d195 (v162 : IVec S128x8x512 32) (v183 v184 : FVec F S128x8x512 .f32) (v196 : FVec F S1x512 .f32) : FVec F S128x8x512 .f32 := k0_pay33 v162 v184
def d203 (v162 : IVec S128x8x512 32) (v183 v184 : FVec F S128x8x512 .f32) (v196 : FVec F S1x512 .f32) : FVec F S8x512 .f32 := k0_pay34 v162 v183 v184 v196
def d211 (v162 : IVec S128x8x512 32) (v183 v184 : FVec F S128x8x512 .f32) (v196 : FVec F S1x512 .f32) : FVec F S8x512 .f32 := k0_pay35 v162 v183 v184 v196
def d219 (v162 : IVec S128x8x512 32) (v183 v184 : FVec F S128x8x512 .f32) (v196 : FVec F S1x512 .f32) : FVec F S8x512 .f32 := k0_pay36 v162 v183 v184 v196
def d227 (v162 : IVec S128x8x512 32) (v183 v184 : FVec F S128x8x512 .f32) (v196 : FVec F S1x512 .f32) : FVec F S8x512 .f32 := k0_pay37 v162 v183 v184 v196
def d235 (v162 : IVec S128x8x512 32) (v183 v184 : FVec F S128x8x512 .f32) (v196 : FVec F S1x512 .f32) : FVec F S8x512 .f32 := k0_pay38 v162 v183 v184 v196
def d236 (v162 : IVec S128x8x512 32) (v183 v184 : FVec F S128x8x512 .f32) (v196 : FVec F S1x512 .f32) : FVec F S1x512 .f32 := k0_pay39 v162 v183 v184 v196
def d237 (v162 : IVec S128x8x512 32) (v183 v184 : FVec F S128x8x512 .f32) (v196 : FVec F S1x512 .f32) : FVec F S1x8x512 .f32 := k0_pay40 v162 v184
def d243 (v162 : IVec S128x8x512 32) (v183 v184 : FVec F S128x8x512 .f32) (v196 : FVec F S1x512 .f32) : FVec F S8x512 .f32 := k0_pay41 (d194 v162 v183 v184 v196) (d236 v162 v183 v184 v196) (d237 v162 v183 v184 v196)
def d251 (v162 : IVec S128x8x512 32) (v183 v184 : FVec F S128x8x512 .f32) (v196 : FVec F S1x512 .f32) : FVec F S8x512 .f32 := k0_pay42 (d194 v162 v183 v184 v196) (d195 v162 v183 v184 v196) (d236 v162 v183 v184 v196) (d237 v162 v183 v184 v196)
def d259 (v162 : IVec S128x8x512 32) (v183 v184 : FVec F S128x8x512 .f32) (v196 : FVec F S1x512 .f32) : FVec F S8x512 .f32 := k0_pay43 (d194 v162 v183 v184 v196) (d195 v162 v183 v184 v196) (d236 v162 v183 v184 v196) (d237 v162 v183 v184 v196)
def d267 (v162 : IVec S128x8x512 32) (v183 v184 : FVec F S128x8x512 .f32) (v196 : FVec F S1x512 .f32) : FVec F S8x512 .f32 := k0_pay44 (d194 v162 v183 v184 v196) (d195 v162 v183 v184 v196) (d236 v162 v183 v184 v196) (d237 v162 v183 v184 v196)
def d275 (v162 : IVec S128x8x512 32) (v183 v184 : FVec F S128x8x512 .f32) (v196 : FVec F S1x512 .f32) : FVec F S8x512 .f32 := k0_pay45 (d194 v162 v183 v184 v196) (d195 v162 v183 v184 v196) (d236 v162 v183 v184 v196) (d237 v162 v183 v184 v196)
def d283 (v162 : IVec S128x8x512 32) (v183 v184 : FVec F S128x8x512 .f32) (v196 : FVec F S1x512 .f32) : FVec F S8x512 .f32 := k0_pay46 (d194 v162 v183 v184 v196) (d195 v162 v183 v184 v196) (d236 v162 v183 v184 v196) (d237 v162 v183 v184 v196)
def d291 (v162 : IVec S128x8x512 32) (v183 v184 : FVec F S128x8x512 .f32) (v196 : FVec F S1x512 .f32) : FVec F S8x512 .f32 := k0_pay47 (d194 v162 v183 v184 v196) (d195 v162 v183 v184 v196) (d236 v162 v183 v184 v196) (d237 v162 v183 v184 v196)
def d296 (v162 : IVec S128x8x512 32) (v183 v184 : FVec F S128x8x512 .f32) (v196 : FVec F S1x512 .f32) : FVec F S8x512 .f32 := k0_pay48 (d194 v162 v183 v184 v196) (d195 v162 v183 v184 v196) (d236 v162 v183 v184 v196) (d237 v162 v183 v184 v196)
def d297 (v162 : IVec S128x8x512 32) (v183 v184 : FVec F S128x8x512 .f32) (v196 : FVec F S1x512 .f32) : FVec F S1x8x512 .f32 := k0_pay49 (d194 v162 v183 v184 v196)
def d299 (v162 : IVec S128x8x512 32) (v183 v184 : FVec F S128x8x512 .f32) (v196 : FVec F S1x512 .f32) : FVec F S8x512 .f32 := k0_pay50 (d296 v162 v183 v184 v196) (d297 v162 v183 v184 v196)
def d307 (v162 : IVec S128x8x512 32) (v183 v184 : FVec F S128x8x512 .f32) (v196 : FVec F S1x512 .f32) : FVec F S8x512 .f32 := k0_pay51 (d194 v162 v183 v184 v196) (d195 v162 v183 v184 v196) (d296 v162 v183 v184 v196) (d297 v162 v183 v184 v196)
def d315 (v162 : IVec S128x8x512 32) (v183 v184 : FVec F S128x8x512 .f32) (v196 : FVec F S1x512 .f32) : FVec F S8x512 .f32 := k0_pay52 (d194 v162 v183 v184 v196) (d195 v162 v183 v184 v196) (d296 v162 v183 v184 v196) (d297 v162 v183 v184 v196)
def d323 (v162 : IVec S128x8x512 32) (v183 v184 : FVec F S128x8x512 .f32) (v196 : FVec F S1x512 .f32) : FVec F S8x512 .f32 := k0_pay53 (d194 v162 v183 v184 v196) (d195 v162 v183 v184 v196) (d296 v162 v183 v184 v196) (d297 v162 v183 v184 v196)
def d331 (v162 : IVec S128x8x512 32) (v183 v184 : FVec F S128x8x512 .f32) (v196 : FVec F S1x512 .f32) : FVec F S8x512 .f32 := k0_pay54 (d194 v162 v183 v184 v196) (d195 v162 v183 v184 v196) (d296 v162 v183 v184 v196) (d297 v162 v183 v184 v196)
def d339 (v162 : IVec S128x8x512 32) (v183 v184 : FVec F S128x8x512 .f32) (v196 : FVec F S1x512 .f32) : FVec F S8x512 .f32 := k0_pay55 (d194 v162 v183 v184 v196) (d195 v162 v183 v184 v196) (d296 v162 v183 v184 v196) (d297 v162 v183 v184 v196)
def d347 (v162 : IVec S128x8x512 32) (v183 v184 : FVec F S128x8x512 .f32) (v196 : FVec F S1x512 .f32) : FVec F S8x512 .f32 := k0_pay56 (d194 v162 v183 v184 v196) (d195 v162 v183 v184 v196) (d296 v162 v183 v184 v196) (d297 v162 v183 v184 v196)
def d355 (v162 : IVec S128x8x512 32) (v183 v184 : FVec F S128x8x512 .f32) (v196 : FVec F S1x512 .f32) : FVec F S8x512 .f32 := k0_pay57 (d194 v162 v183 v184 v196) (d195 v162 v183 v184 v196) (d296 v162 v183 v184 v196) (d297 v162 v183 v184 v196)
def d356 (v162 : IVec S128x8x512 32) (v183 v184 : FVec F S128x8x512 .f32) (v196 : FVec F S1x512 .f32) : FVec F S1x512 .f32 := k0_pay58 (d194 v162 v183 v184 v196) (d195 v162 v183 v184 v196) (d296 v162 v183 v184 v196) (d297 v162 v183 v184 v196)
def d357 (v162 : IVec S128x8x512 32) (v183 v184 : FVec F S128x8x512 .f32) (v196 : FVec F S1x512 .f32) : FVec F S1x8x512 .f32 := k0_pay59 (d195 v162 v183 v184 v196)
def d363 (v162 : IVec S128x8x512 32) (v183 v184 : FVec F S128x8x512 .f32) (v196 : FVec F S1x512 .f32) : FVec F S8x512 .f32 := k0_pay60 (d194 v162 v183 v184 v196) (d356 v162 v183 v184 v196) (d357 v162 v183 v184 v196)
def d371 (v162 : IVec S128x8x512 32) (v183 v184 : FVec F S128x8x512 .f32) (v196 : FVec F S1x512 .f32) : FVec F S8x512 .f32 := k0_pay61 (d194 v162 v183 v184 v196) (d195 v162 v183 v184 v196) (d356 v162 v183 v184 v196) (d357 v162 v183 v184 v196)
def d379 (v162 : IVec S128x8x512 32) (v183 v184 : FVec F S128x8x512 .f32) (v196 : FVec F S1x512 .f32) : FVec F S8x512 .f32 := k0_pay62 (d194 v162 v183 v184 v196) (d195 v162 v183 v184 v196) (d356 v162 v183 v184 v196) (d357 v162 v183 v184 v196)
def d387 (v162 : IVec S128x8x512 32) (v183 v184 : FVec F S128x8x512 .f32) (v196 : FVec F S1x512 .f32) : FVec F S8x512 .f32 := k0_pay63 (d194 v162 v183 v184 v196) (d195 v162 v183 v184 v196) (d356 v162 v183 v184 v196) (d357 v162 v183 v184 v196)
def d395 (v162 : IVec S128x8x512 32) (v183 v184 : FVec F S128x8x512 .f32) (v196 : FVec F S1x512 .f32) : FVec F S8x512 .f32 := k0_pay64 (d194 v162 v183 v184 v196) (d195 v162 v183 v184 v196) (d356 v162 v183 v184 v196) (d357 v162 v183 v184 v196)
def d403 (v162 : IVec S128x8x512 32) (v183 v184 : FVec F S128x8x512 .f32) (v196 : FVec F S1x512 .f32) : FVec F S8x512 .f32 := k0_pay65 (d194 v162 v183 v184 v196) (d195 v162 v183 v184 v196) (d356 v162 v183 v184 v196) (d357 v162 v183 v184 v196)
def d411 (v162 : IVec S128x8x512 32) (v183 v184 : FVec F S128x8x512 .f32) (v196 : FVec F S1x512 .f32) : FVec F S8x512 .f32 := k0_pay66 (d194 v162 v183 v184 v196) (d195 v162 v183 v184 v196) (d356 v162 v183 v184 v196) (d357 v162 v183 v184 v196)
def d416 (v162 : IVec S128x8x512 32) (v183 v184 : FVec F S128x8x512 .f32) (v196 : FVec F S1x512 .f32) : FVec F S8x512 .f32 := k0_pay67 (d194 v162 v183 v184 v196) (d195 v162 v183 v184 v196) (d356 v162 v183 v184 v196) (d357 v162 v183 v184 v196)
def d417 (v162 : IVec S128x8x512 32) (v183 v184 : FVec F S128x8x512 .f32) (v196 : FVec F S1x512 .f32) : FVec F S1x8x512 .f32 := k0_pay68 (d194 v162 v183 v184 v196)
def d419 (v162 : IVec S128x8x512 32) (v183 v184 : FVec F S128x8x512 .f32) (v196 : FVec F S1x512 .f32) : FVec F S8x512 .f32 := k0_pay69 (d416 v162 v183 v184 v196) (d417 v162 v183 v184 v196)
def d427 (v162 : IVec S128x8x512 32) (v183 v184 : FVec F S128x8x512 .f32) (v196 : FVec F S1x512 .f32) : FVec F S8x512 .f32 := k0_pay70 (d194 v162 v183 v184 v196) (d195 v162 v183 v184 v196) (d416 v162 v183 v184 v196) (d417 v162 v183 v184 v196)
def d435 (v162 : IVec S128x8x512 32) (v183 v184 : FVec F S128x8x512 .f32) (v196 : FVec F S1x512 .f32) : FVec F S8x512 .f32 := k0_pay71 (d194 v162 v183 v184 v196) (d195 v162 v183 v184 v196) (d416 v162 v183 v184 v196) (d417 v162 v183 v184 v196)
def d443 (v162 : IVec S128x8x512 32) (v183 v184 : FVec F S128x8x512 .f32) (v196 : FVec F S1x512 .f32) : FVec F S8x512 .f32 := k0_pay72 (d194 v162 v183 v184 v196) (d195 v162 v183 v184 v196) (d416 v162 v183 v184 v196) (d417 v162 v183 v184 v196)
def d451 (v162 : IVec S128x8x512 32) (v183 v184 : FVec F S128x8x512 .f32) (v196 : FVec F S1x512 .f32) : FVec F S8x512 .f32 := k0_pay73 (d194 v162 v183 v184 v196) (d195 v162 v183 v184 v196) (d416 v162 v183 v184 v196) (d417 v162 v183 v184 v196)
def d459 (v162 : IVec S128x8x512 32) (v183 v184 : FVec F S128x8x512 .f32) (v196 : FVec F S1x512 .f32) : FVec F S8x512 .f32 := k0_pay74 (d194 v162 v183 v184 v196) (d195 v162 v183 v184 v196) (d416 v162 v183 v184 v196) (d417 v162 v183 v184 v196)
def d467 (v162 : IVec S128x8x512 32) (v183 v184 : FVec F S128x8x512 .f32) (v196 : FVec F S1x512 .f32) : FVec F S8x512 .f32 := k0_pay75 (d194 v162 v183 v184 v196) (d195 v162 v183 v184 v196) (d416 v162 v183 v184 v196) (d417 v162 v183 v184 v196)
def d475 (v162 : IVec S128x8x512 32) (v183 v184 : FVec F S128x8x512 .f32) (v196 : FVec F S1x512 .f32) : FVec F S8x512 .f32 := k0_pay76 (d194 v162 v183 v184 v196) (d195 v162 v183 v184 v196) (d416 v162 v183 v184 v196) (d417 v162 v183 v184 v196)
def d476 (v162 : IVec S128x8x512 32) (v183 v184 : FVec F S128x8x512 .f32) (v196 : FVec F S1x512 .f32) : FVec F S1x512 .f32 := k0_pay77 (d194 v162 v183 v184 v196) (d195 v162 v183 v184 v196) (d416 v162 v183 v184 v196) (d417 v162 v183 v184 v196)
def d477 (v162 : IVec S128x8x512 32) (v183 v184 : FVec F S128x8x512 .f32) (v196 : FVec F S1x512 .f32) : FVec F S1x8x512 .f32 := k0_pay78 (d195 v162 v183 v184 v196)
def d483 (v162 : IVec S128x8x512 32) (v183 v184 : FVec F S128x8x512 .f32) (v196 : FVec F S1x512 .f32) : FVec F S8x512 .f32 := k0_pay79 (d194 v162 v183 v184 v196) (d476 v162 v183 v184 v196) (d477 v162 v183 v184 v196)
def d491 (v162 : IVec S128x8x512 32) (v183 v184 : FVec F S128x8x512 .f32) (v196 : FVec F S1x512 .f32) : FVec F S8x512 .f32 := k0_pay80 (d194 v162 v183 v184 v196) (d195 v162 v183 v184 v196) (d476 v162 v183 v184 v196) (d477 v162 v183 v184 v196)
def d499 (v162 : IVec S128x8x512 32) (v183 v184 : FVec F S128x8x512 .f32) (v196 : FVec F S1x512 .f32) : FVec F S8x512 .f32 := k0_pay81 (d194 v162 v183 v184 v196) (d195 v162 v183 v184 v196) (d476 v162 v183 v184 v196) (d477 v162 v183 v184 v196)
def d507 (v162 : IVec S128x8x512 32) (v183 v184 : FVec F S128x8x512 .f32) (v196 : FVec F S1x512 .f32) : FVec F S8x512 .f32 := k0_pay82 (d194 v162 v183 v184 v196) (d195 v162 v183 v184 v196) (d476 v162 v183 v184 v196) (d477 v162 v183 v184 v196)
def d515 (v162 : IVec S128x8x512 32) (v183 v184 : FVec F S128x8x512 .f32) (v196 : FVec F S1x512 .f32) : FVec F S8x512 .f32 := k0_pay83 (d194 v162 v183 v184 v196) (d195 v162 v183 v184 v196) (d476 v162 v183 v184 v196) (d477 v162 v183 v184 v196)
def d523 (v162 : IVec S128x8x512 32) (v183 v184 : FVec F S128x8x512 .f32) (v196 : FVec F S1x512 .f32) : FVec F S8x512 .f32 := k0_pay84 (d194 v162 v183 v184 v196) (d195 v162 v183 v184 v196) (d476 v162 v183 v184 v196) (d477 v162 v183 v184 v196)
def d531 (v162 : IVec S128x8x512 32) (v183 v184 : FVec F S128x8x512 .f32) (v196 : FVec F S1x512 .f32) : FVec F S8x512 .f32 := k0_pay85 (d194 v162 v183 v184 v196) (d195 v162 v183 v184 v196) (d476 v162 v183 v184 v196) (d477 v162 v183 v184 v196)
def d536 (v162 : IVec S128x8x512 32) (v183 v184 : FVec F S128x8x512 .f32) (v196 : FVec F S1x512 .f32) : FVec F S8x512 .f32 := k0_pay86 (d194 v162 v183 v184 v196) (d195 v162 v183 v184 v196) (d476 v162 v183 v184 v196) (d477 v162 v183 v184 v196)
def d537 (v162 : IVec S128x8x512 32) (v183 v184 : FVec F S128x8x512 .f32) (v196 : FVec F S1x512 .f32) : FVec F S1x8x512 .f32 := k0_pay87 (d194 v162 v183 v184 v196)
def d539 (v162 : IVec S128x8x512 32) (v183 v184 : FVec F S128x8x512 .f32) (v196 : FVec F S1x512 .f32) : FVec F S8x512 .f32 := k0_pay88 (d536 v162 v183 v184 v196) (d537 v162 v183 v184 v196)
def d547 (v162 : IVec S128x8x512 32) (v183 v184 : FVec F S128x8x512 .f32) (v196 : FVec F S1x512 .f32) : FVec F S8x512 .f32 := k0_pay89 (d194 v162 v183 v184 v196) (d195 v162 v183 v184 v196) (d536 v162 v183 v184 v196) (d537 v162 v183 v184 v196)
def d555 (v162 : IVec S128x8x512 32) (v183 v184 : FVec F S128x8x512 .f32) (v196 : FVec F S1x512 .f32) : FVec F S8x512 .f32 := k0_pay90 (d194 v162 v183 v184 v196) (d195 v162 v183 v184 v196) (d536 v162 v183 v184 v196) (d537 v162 v183 v184 v196)
def d563 (v162 : IVec S128x8x512 32) (v183 v184 : FVec F S128x8x512 .f32) (v196 : FVec F S1x512 .f32) : FVec F S8x512 .f32 := k0_pay91 (d194 v162 v183 v184 v196) (d195 v162 v183 v184 v196) (d536 v162 v183 v184 v196) (d537 v162 v183 v184 v196)
def d571 (v162 : IVec S128x8x512 32) (v183 v184 : FVec F S128x8x512 .f32) (v196 : FVec F S1x512 .f32) : FVec F S8x512 .f32 := k0_pay92 (d194 v162 v183 v184 v196) (d195 v162 v183 v184 v196) (d536 v162 v183 v184 v196) (d537 v162 v183 v184 v196)
def d579 (v162 : IVec S128x8x512 32) (v183 v184 : FVec F S128x8x512 .f32) (v196 : FVec F S1x512 .f32) : FVec F S8x512 .f32 := k0_pay93 (d194 v162 v183 v184 v196) (d195 v162 v183 v184 v196) (d536 v162 v183 v184 v196) (d537 v162 v183 v184 v196)
def d587 (v162 : IVec S128x8x512 32) (v183 v184 : FVec F S128x8x512 .f32) (v196 : FVec F S1x512 .f32) : FVec F S8x512 .f32 := k0_pay94 (d194 v162 v183 v184 v196) (d195 v162 v183 v184 v196) (d536 v162 v183 v184 v196) (d537 v162 v183 v184 v196)
def d595 (v162 : IVec S128x8x512 32) (v183 v184 : FVec F S128x8x512 .f32) (v196 : FVec F S1x512 .f32) : FVec F S8x512 .f32 := k0_pay95 (d194 v162 v183 v184 v196) (d195 v162 v183 v184 v196) (d536 v162 v183 v184 v196) (d537 v162 v183 v184 v196)
def d596 (v162 : IVec S128x8x512 32) (v183 v184 : FVec F S128x8x512 .f32) (v196 : FVec F S1x512 .f32) : FVec F S1x512 .f32 := k0_pay96 (d194 v162 v183 v184 v196) (d195 v162 v183 v184 v196) (d536 v162 v183 v184 v196) (d537 v162 v183 v184 v196)
def d597 (v162 : IVec S128x8x512 32) (v183 v184 : FVec F S128x8x512 .f32) (v196 : FVec F S1x512 .f32) : FVec F S1x8x512 .f32 := k0_pay97 (d195 v162 v183 v184 v196)
def d603 (v162 : IVec S128x8x512 32) (v183 v184 : FVec F S128x8x512 .f32) (v196 : FVec F S1x512 .f32) : FVec F S8x512 .f32 := k0_pay98 (d194 v162 v183 v184 v196) (d596 v162 v183 v184 v196) (d597 v162 v183 v184 v196)
def d611 (v162 : IVec S128x8x512 32) (v183 v184 : FVec F S128x8x512 .f32) (v196 : FVec F S1x512 .f32) : FVec F S8x512 .f32 := k0_pay99 (d194 v162 v183 v184 v196) (d195 v162 v183 v184 v196) (d596 v162 v183 v184 v196) (d597 v162 v183 v184 v196)
def d619 (v162 : IVec S128x8x512 32) (v183 v184 : FVec F S128x8x512 .f32) (v196 : FVec F S1x512 .f32) : FVec F S8x512 .f32 := k0_pay100 (d194 v162 v183 v184 v196) (d195 v162 v183 v184 v196) (d596 v162 v183 v184 v196) (d597 v162 v183 v184 v196)
def d627 (v162 : IVec S128x8x512 32) (v183 v184 : FVec F S128x8x512 .f32) (v196 : FVec F S1x512 .f32) : FVec F S8x512 .f32 := k0_pay101 (d194 v162 v183 v184 v196) (d195 v162 v183 v184 v196) (d596 v162 v183 v184 v196) (d597 v162 v183 v184 v196)
def d635 (v162 : IVec S128x8x512 32) (v183 v184 : FVec F S128x8x512 .f32) (v196 : FVec F S1x512 .f32) : FVec F S8x512 .f32 := k0_pay102 (d194 v162 v183 v184 v196) (d195 v162 v183 v184 v196) (d596 v162 v183 v184 v196) (d597 v162 v183 v184 v196)
def d643 (v162 : IVec S128x8x512 32) (v183 v184 : FVec F S128x8x512 .f32) (v196 : FVec F S1x512 .f32) : FVec F S8x512 .f32 := k0_pay103 (d194 v162 v183 v184 v196) (d195 v162 v183 v184 v196) (d596 v162 v183 v184 v196) (d597 v162 v183 v184 v196)
def d651 (v162 : IVec S128x8x512 32) (v183 v184 : FVec F S128x8x512 .f32) (v196 : FVec F S1x512 .f32) : FVec F S8x512 .f32 := k0_pay104 (d194 v162 v183 v184 v196) (d195 v162 v183 v184 v196) (d596 v162 v183 v184 v196) (d597 v162 v183 v184 v196)
def d656 (v162 : IVec S128x8x512 32) (v183 v184 : FVec F S128x8x512 .f32) (v196 : FVec F S1x512 .f32) : FVec F S8x512 .f32 := k0_pay105 (d194 v162 v183 v184 v196) (d195 v162 v183 v184 v196) (d596 v162 v183 v184 v196) (d597 v162 v183 v184 v196)
def d657 (v162 : IVec S128x8x512 32) (v183 v184 : FVec F S128x8x512 .f32) (v196 : FVec F S1x512 .f32) : FVec F S1x8x512 .f32 := k0_pay106 (d194 v162 v183 v184 v196)
def d659 (v162 : IVec S128x8x512 32) (v183 v184 : FVec F S128x8x512 .f32) (v196 : FVec F S1x512 .f32) : FVec F S8x512 .f32 := k0_pay107 (d656 v162 v183 v184 v196) (d657 v162 v183 v184 v196)
def d667 (v162 : IVec S128x8x512 32) (v183 v184 : FVec F S128x8x512 .f32) (v196 : FVec F S1x512 .f32) : FVec F S8x512 .f32 := k0_pay108 (d194 v162 v183 v184 v196) (d195 v162 v183 v184 v196) (d656 v162 v183 v184 v196) (d657 v162 v183 v184 v196)
def d675 (v162 : IVec S128x8x512 32) (v183 v184 : FVec F S128x8x512 .f32) (v196 : FVec F S1x512 .f32) : FVec F S8x512 .f32 := k0_pay109 (d194 v162 v183 v184 v196) (d195 v162 v183 v184 v196) (d656 v162 v183 v184 v196) (d657 v162 v183 v184 v196)
def d683 (v162 : IVec S128x8x512 32) (v183 v184 : FVec F S128x8x512 .f32) (v196 : FVec F S1x512 .f32) : FVec F S8x512 .f32 := k0_pay110 (d194 v162 v183 v184 v196) (d195 v162 v183 v184 v196) (d656 v162 v183 v184 v196) (d657 v162 v183 v184 v196)
def d691 (v162 : IVec S128x8x512 32) (v183 v184 : FVec F S128x8x512 .f32) (v196 : FVec F S1x512 .f32) : FVec F S8x512 .f32 := k0_pay111 (d194 v162 v183 v184 v196) (d195 v162 v183 v184 v196) (d656 v162 v183 v184 v196) (d657 v162 v183 v184 v196)
def d699 (v162 : IVec S128x8x512 32) (v183 v184 : FVec F S128x8x512 .f32) (v196 : FVec F S1x512 .f32) : FVec F S8x512 .f32 := k0_pay112 (d194 v162 v183 v184 v196) (d195 v162 v183 v184 v196) (d656 v162 v183 v184 v196) (d657 v162 v183 v184 v196)
def d707 (v162 : IVec S128x8x512 32) (v183 v184 : FVec F S128x8x512 .f32) (v196 : FVec F S1x512 .f32) : FVec F S8x512 .f32 := k0_pay113 (d194 v162 v183 v184 v196) (d195 v162 v183 v184 v196) (d656 v162 v183 v184 v196) (d657 v162 v183 v184 v196)
def d715 (v162 : IVec S128x8x512 32) (v183 v184 : FVec F S128x8x512 .f32) (v196 : FVec F S1x512 .f32) : FVec F S8x512 .f32 := k0_pay114 (d194 v162 v183 v184 v196) (d195 v162 v183 v184 v196) (d656 v162 v183 v184 v196) (d657 v162 v183 v184 v196)
def d716 (v162 : IVec S128x8x512 32) (v183 v184 : FVec F S128x8x512 .f32) (v196 : FVec F S1x512 .f32) : FVec F S1x512 .f32 := k0_pay115 (d194 v162 v183 v184 v196) (d195 v162 v183 v184 v196) (d656 v162 v183 v184 v196) (d657 v162 v183 v184 v196)
def d717 (v162 : IVec S128x8x512 32) (v183 v184 : FVec F S128x8x512 .f32) (v196 : FVec F S1x512 .f32) : FVec F S1x8x512 .f32 := k0_pay116 (d195 v162 v183 v184 v196)
def d723 (v162 : IVec S128x8x512 32) (v183 v184 : FVec F S128x8x512 .f32) (v196 : FVec F S1x512 .f32) : FVec F S8x512 .f32 := k0_pay117 (d194 v162 v183 v184 v196) (d716 v162 v183 v184 v196) (d717 v162 v183 v184 v196)
def d731 (v162 : IVec S128x8x512 32) (v183 v184 : FVec F S128x8x512 .f32) (v196 : FVec F S1x512 .f32) : FVec F S8x512 .f32 := k0_pay118 (d194 v162 v183 v184 v196) (d195 v162 v183 v184 v196) (d716 v162 v183 v184 v196) (d717 v162 v183 v184 v196)
def d739 (v162 : IVec S128x8x512 32) (v183 v184 : FVec F S128x8x512 .f32) (v196 : FVec F S1x512 .f32) : FVec F S8x512 .f32 := k0_pay119 (d194 v162 v183 v184 v196) (d195 v162 v183 v184 v196) (d716 v162 v183 v184 v196) (d717 v162 v183 v184 v196)
def d747 (v162 : IVec S128x8x512 32) (v183 v184 : FVec F S128x8x512 .f32) (v196 : FVec F S1x512 .f32) : FVec F S8x512 .f32 := k0_pay120 (d194 v162 v183 v184 v196) (d195 v162 v183 v184 v196) (d716 v162 v183 v184 v196) (d717 v162 v183 v184 v196)
def d755 (v162 : IVec S128x8x512 32) (v183 v184 : FVec F S128x8x512 .f32) (v196 : FVec F S1x512 .f32) : FVec F S8x512 .f32 := k0_pay121 (d194 v162 v183 v184 v196) (d195 v162 v183 v184 v196) (d716 v162 v183 v184 v196) (d717 v162 v183 v184 v196)
def d763 (v162 : IVec S128x8x512 32) (v183 v184 : FVec F S128x8x512 .f32) (v196 : FVec F S1x512 .f32) : FVec F S8x512 .f32 := k0_pay122 (d194 v162 v183 v184 v196) (d195 v162 v183 v184 v196) (d716 v162 v183 v184 v196) (d717 v162 v183 v184 v196)
def d771 (v162 : IVec S128x8x512 32) (v183 v184 : FVec F S128x8x512 .f32) (v196 : FVec F S1x512 .f32) : FVec F S8x512 .f32 := k0_pay123 (d194 v162 v183 v184 v196) (d195 v162 v183 v184 v196) (d716 v162 v183 v184 v196) (d717 v162 v183 v184 v196)
def d776 (v162 : IVec S128x8x512 32) (v183 v184 : FVec F S128x8x512 .f32) (v196 : FVec F S1x512 .f32) : FVec F S8x512 .f32 := k0_pay124 (d194 v162 v183 v184 v196) (d195 v162 v183 v184 v196) (d716 v162 v183 v184 v196) (d717 v162 v183 v184 v196)
def d777 (v162 : IVec S128x8x512 32) (v183 v184 : FVec F S128x8x512 .f32) (v196 : FVec F S1x512 .f32) : FVec F S1x8x512 .f32 := k0_pay125 (d194 v162 v183 v184 v196)
def d779 (v162 : IVec S128x8x512 32) (v183 v184 : FVec F S128x8x512 .f32) (v196 : FVec F S1x512 .f32) : FVec F S8x512 .f32 := k0_pay126 (d776 v162 v183 v184 v196) (d777 v162 v183 v184 v196)
def d787 (v162 : IVec S128x8x512 32) (v183 v184 : FVec F S128x8x512 .f32) (v196 : FVec F S1x512 .f32) : FVec F S8x512 .f32 := k0_pay127 (d194 v162 v183 v184 v196) (d195 v162 v183 v184 v196) (d776 v162 v183 v184 v196) (d777 v162 v183 v184 v196)
def d795 (v162 : IVec S128x8x512 32) (v183 v184 : FVec F S128x8x512 .f32) (v196 : FVec F S1x512 .f32) : FVec F S8x512 .f32 := k0_pay128 (d194 v162 v183 v184 v196) (d195 v162 v183 v184 v196) (d776 v162 v183 v184 v196) (d777 v162 v183 v184 v196)
def d803 (v162 : IVec S128x8x512 32) (v183 v184 : FVec F S128x8x512 .f32) (v196 : FVec F S1x512 .f32) : FVec F S8x512 .f32 := k0_pay129 (d194 v162 v183 v184 v196) (d195 v162 v183 v184 v196) (d776 v162 v183 v184 v196) (d777 v162 v183 v184 v196)
def d811 (v162 : IVec S128x8x512 32) (v183 v184 : FVec F S128x8x512 .f32) (v196 : FVec F S1x512 .f32) : FVec F S8x512 .f32 := k0_pay130 (d194 v162 v183 v184 v196) (d195 v162 v183 v184 v196) (d776 v162 v183 v184 v196) (d777 v162 v183 v184 v196)
def d819 (v162 : IVec S128x8x512 32) (v183 v184 : FVec F S128x8x512 .f32) (v196 : FVec F S1x512 .f32) : FVec F S8x512 .f32 := k0_pay131 (d194 v162 v183 v184 v196) (d195 v162 v183 v184 v196) (d776 v162 v183 v184 v196) (d777 v162 v183 v184 v196)
def d827 (v162 : IVec S128x8x512 32) (v183 v184 : FVec F S128x8x512 .f32) (v196 : FVec F S1x512 .f32) : FVec F S8x512 .f32 := k0_pay132 (d194 v162 v183 v184 v196) (d195 v162 v183 v184 v196) (d776 v162 v183 v184 v196) (d777 v162 v183 v184 v196)
def d835 (v162 : IVec S128x8x512 32) (v183 v184 : FVec F S128x8x512 .f32) (v196 : FVec F S1x512 .f32) : FVec F S8x512 .f32 := k0_pay133 (d194 v162 v183 v184 v196) (d195 v162 v183 v184 v196) (d776 v162 v183 v184 v196) (d777 v162 v183 v184 v196)
def d836 (v162 : IVec S128x8x512 32) (v183 v184 : FVec F S128x8x512 .f32) (v196 : FVec F S1x512 .f32) : FVec F S1x512 .f32 := k0_pay134 (d194 v162 v183 v184 v196) (d195 v162 v183 v184 v196) (d776 v162 v183 v184 v196) (d777 v162 v183 v184 v196)
def d837 (v162 : IVec S128x8x512 32) (v183 v184 : FVec F S128x8x512 .f32) (v196 : FVec F S1x512 .f32) : FVec F S1x8x512 .f32 := k0_pay135 (d195 v162 v183 v184 v196)
def d843 (v162 : IVec S128x8x512 32) (v183 v184 : FVec F S128x8x512 .f32) (v196 : FVec F S1x512 .f32) : FVec F S8x512 .f32 := k0_pay136 (d194 v162 v183 v184 v196) (d836 v162 v183 v184 v196) (d837 v162 v183 v184 v196)
def d851 (v162 : IVec S128x8x512 32) (v183 v184 : FVec F S128x8x512 .f32) (v196 : FVec F S1x512 .f32) : FVec F S8x512 .f32 := k0_pay137 (d194 v162 v183 v184 v196) (d195 v162 v183 v184 v196) (d836 v162 v183 v184 v196) (d837 v162 v183 v184 v196)
def d859 (v162 : IVec S128x8x512 32) (v183 v184 : FVec F S128x8x512 .f32) (v196 : FVec F S1x512 .f32) : FVec F S8x512 .f32 := k0_pay138 (d194 v162 v183 v184 v196) (d195 v162 v183 v184 v196) (d836 v162 v183 v184 v196) (d837 v162 v183 v184 v196)
def d867 (v162 : IVec S128x8x512 32) (v183 v184 : FVec F S128x8x512 .f32) (v196 : FVec F S1x512 .f32) : FVec F S8x512 .f32 := k0_pay139 (d194 v162 v183 v184 v196) (d195 v162 v183 v184 v196) (d836 v162 v183 v184 v196) (d837 v162 v183 v184 v196)
def d875 (v162 : IVec S128x8x512 32) (v183 v184 : FVec F S128x8x512 .f32) (v196 : FVec F S1x512 .f32) : FVec F S8x512 .f32 := k0_pay140 (d194 v162 v183 v184 v196) (d195 v162 v183 v184 v196) (d836 v162 v183 v184 v196) (d837 v162 v183 v184 v196)
def d883 (v162 : IVec S128x8x512 32) (v183 v184 : FVec F S128x8x512 .f32) (v196 : FVec F S1x512 .f32) : FVec F S8x512 .f32 := k0_pay141 (d194 v162 v183 v184 v196) (d195 v162 v183 v184 v196) (d836 v162 v183 v184 v196) (d837 v162 v183 v184 v196)
def d891 (v162 : IVec S128x8x512 32) (v183 v184 : FVec F S128x8x512 .f32) (v196 : FVec F S1x512 .f32) : FVec F S8x512 .f32 := k0_pay142 (d194 v162 v183 v184 v196) (d195 v162 v183 v184 v196) (d836 v162 v183 v184 v196) (d837 v162 v183 v184 v196)
def d896 (v162 : IVec S128x8x512 32) (v183 v184 : FVec F S128x8x512 .f32) (v196 : FVec F S1x512 .f32) : FVec F S8x512 .f32 := k0_pay143 (d194 v162 v183 v184 v196) (d195 v162 v183 v184 v196) (d836 v162 v183 v184 v196) (d837 v162 v183 v184 v196)
def d897 (v162 : IVec S128x8x512 32) (v183 v184 : FVec F S128x8x512 .f32) (v196 : FVec F S1x512 .f32) : FVec F S1x8x512 .f32 := k0_pay144 (d194 v162 v183 v184 v196)
def d899 (v162 : IVec S128x8x512 32) (v183 v184 : FVec F S128x8x512 .f32) (v196 : FVec F S1x512 .f32) : FVec F S8x512 .f32 := k0_pay145 (d896 v162 v183 v184 v196) (d897 v162 v183 v184 v196)
def d907 (v162 : IVec S128x8x512 32) (v183 v184 : FVec F S128x8x512 .f32) (v196 : FVec F S1x512 .f32) : FVec F S8x512 .f32 := k0_pay146 (d194 v162 v183 v184 v196) (d195 v162 v183 v184 v196) (d896 v162 v183 v184 v196) (d897 v162 v183 v184 v196)
def d915 (v162 : IVec S128x8x512 32) (v183 v184 : FVec F S128x8x512 .f32) (v196 : FVec F S1x512 .f32) : FVec F S8x512 .f32 := k0_pay147 (d194 v162 v183 v184 v196) (d195 v162 v183 v184 v196) (d896 v162 v183 v184 v196) (d897 v162 v183 v184 v196)
def d923 (v162 : IVec S128x8x512 32) (v183 v184 : FVec F S128x8x512 .f32) (v196 : FVec F S1x512 .f32) : FVec F S8x512 .f32 := k0_pay148 (d194 v162 v183 v184 v196) (d195 v162 v183 v184 v196) (d896 v162 v183 v184 v196) (d897 v162 v183 v184 v196)
def d931 (v162 : IVec S128x8x512 32) (v183 v184 : FVec F S128x8x512 .f32) (v196 : FVec F S1x512 .f32) : FVec F S8x512 .f32 := k0_pay149 (d194 v162 v183 v184 v196) (d195 v162 v183 v184 v196) (d896 v162 v183 v184 v196) (d897 v162 v183 v184 v196)
def d939 (v162 : IVec S128x8x512 32) (v183 v184 : FVec F S128x8x512 .f32) (v196 : FVec F S1x512 .f32) : FVec F S8x512 .f32 := k0_pay150 (d194 v162 v183 v184 v196) (d195 v162 v183 v184 v196) (d896 v162 v183 v184 v196) (d897 v162 v183 v184 v196)
def d947 (v162 : IVec S128x8x512 32) (v183 v184 : FVec F S128x8x512 .f32) (v196 : FVec F S1x512 .f32) : FVec F S8x512 .f32 := k0_pay151 (d194 v162 v183 v184 v196) (d195 v162 v183 v184 v196) (d896 v162 v183 v184 v196) (d897 v162 v183 v184 v196)
def d955 (v162 : IVec S128x8x512 32) (v183 v184 : FVec F S128x8x512 .f32) (v196 : FVec F S1x512 .f32) : FVec F S8x512 .f32 := k0_pay152 (d194 v162 v183 v184 v196) (d195 v162 v183 v184 v196) (d896 v162 v183 v184 v196) (d897 v162 v183 v184 v196)
def d956 (v162 : IVec S128x8x512 32) (v183 v184 : FVec F S128x8x512 .f32) (v196 : FVec F S1x512 .f32) : FVec F S1x512 .f32 := k0_pay153 (d194 v162 v183 v184 v196) (d195 v162 v183 v184 v196) (d896 v162 v183 v184 v196) (d897 v162 v183 v184 v196)
def d957 (v162 : IVec S128x8x512 32) (v183 v184 : FVec F S128x8x512 .f32) (v196 : FVec F S1x512 .f32) : FVec F S1x8x512 .f32 := k0_pay154 (d195 v162 v183 v184 v196)
def d963 (v162 : IVec S128x8x512 32) (v183 v184 : FVec F S128x8x512 .f32) (v196 : FVec F S1x512 .f32) : FVec F S8x512 .f32 := k0_pay155 (d194 v162 v183 v184 v196) (d956 v162 v183 v184 v196) (d957 v162 v183 v184 v196)
def d971 (v162 : IVec S128x8x512 32) (v183 v184 : FVec F S128x8x512 .f32) (v196 : FVec F S1x512 .f32) : FVec F S8x512 .f32 := k0_pay156 (d194 v162 v183 v184 v196) (d195 v162 v183 v184 v196) (d956 v162 v183 v184 v196) (d957 v162 v183 v184 v196)
def d979 (v162 : IVec S128x8x512 32) (v183 v184 : FVec F S128x8x512 .f32) (v196 : FVec F S1x512 .f32) : FVec F S8x512 .f32 := k0_pay157 (d194 v162 v183 v184 v196) (d195 v162 v183 v184 v196) (d956 v162 v183 v184 v196) (d957 v162 v183 v184 v196)
def d987 (v162 : IVec S128x8x512 32) (v183 v184 : FVec F S128x8x512 .f32) (v196 : FVec F S1x512 .f32) : FVec F S8x512 .f32 := k0_pay158 (d194 v162 v183 v184 v196) (d195 v162 v183 v184 v196) (d956 v162 v183 v184 v196) (d957 v162 v183 v184 v196)
def d995 (v162 : IVec S128x8x512 32) (v183 v184 : FVec F S128x8x512 .f32) (v196 : FVec F S1x512 .f32) : FVec F S8x512 .f32 := k0_pay159 (d194 v162 v183 v184 v196) (d195 v162 v183 v184 v196) (d956 v162 v183 v184 v196) (d957 v162 v183 v184 v196)
def d1003 (v162 : IVec S128x8x512 32) (v183 v184 : FVec F S128x8x512 .f32) (v196 : FVec F S1x512 .f32) : FVec F S8x512 .f32 := k0_pay160 (d194 v162 v183 v184 v196) (d195 v162 v183 v184 v196) (d956 v162 v183 v184 v196) (d957 v162 v183 v184 v196)
def d1011 (v162 : IVec S128x8x512 32) (v183 v184 : FVec F S128x8x512 .f32) (v196 : FVec F S1x512 .f32) : FVec F S8x512 .f32 := k0_pay161 (d194 v162 v183 v184 v196) (d195 v162 v183 v184 v196) (d956 v162 v183 v184 v196) (d957 v162 v183 v184 v196)
def d1016 (v162 : IVec S128x8x512 32) (v183 v184 : FVec F S128x8x512 .f32) (v196 : FVec F S1x512 .f32) : FVec F S8x512 .f32 := k0_pay162 (d194 v162 v183 v184 v196) (d195 v162 v183 v184 v196) (d956 v162 v183 v184 v196) (d957 v162 v183 v184 v196)
def d1017 (v162 : IVec S128x8x512 32) (v183 v184 : FVec F S128x8x512 .f32) (v196 : FVec F S1x512 .f32) : FVec F S1x8x512 .f32 := k0_pay163 (d194 v162 v183 v184 v196)
def d1019 (v162 : IVec S128x8x512 32) (v183 v184 : FVec F S128x8x512 .f32) (v196 : FVec F S1x512 .f32) : FVec F S8x512 .f32 := k0_pay164 (d1016 v162 v183 v184 v196) (d1017 v162 v183 v184 v196)
def d1027 (v162 : IVec S128x8x512 32) (v183 v184 : FVec F S128x8x512 .f32) (v196 : FVec F S1x512 .f32) : FVec F S8x512 .f32 := k0_pay165 (d194 v162 v183 v184 v196) (d195 v162 v183 v184 v196) (d1016 v162 v183 v184 v196) (d1017 v162 v183 v184 v196)
def d1035 (v162 : IVec S128x8x512 32) (v183 v184 : FVec F S128x8x512 .f32) (v196 : FVec F S1x512 .f32) : FVec F S8x512 .f32 := k0_pay166 (d194 v162 v183 v184 v196) (d195 v162 v183 v184 v196) (d1016 v162 v183 v184 v196) (d1017 v162 v183 v184 v196)
def d1043 (v162 : IVec S128x8x512 32) (v183 v184 : FVec F S128x8x512 .f32) (v196 : FVec F S1x512 .f32) : FVec F S8x512 .f32 := k0_pay167 (d194 v162 v183 v184 v196) (d195 v162 v183 v184 v196) (d1016 v162 v183 v184 v196) (d1017 v162 v183 v184 v196)
def d1051 (v162 : IVec S128x8x512 32) (v183 v184 : FVec F S128x8x512 .f32) (v196 : FVec F S1x512 .f32) : FVec F S8x512 .f32 := k0_pay168 (d194 v162 v183 v184 v196) (d195 v162 v183 v184 v196) (d1016 v162 v183 v184 v196) (d1017 v162 v183 v184 v196)
def d1059 (v162 : IVec S128x8x512 32) (v183 v184 : FVec F S128x8x512 .f32) (v196 : FVec F S1x512 .f32) : FVec F S8x512 .f32 := k0_pay169 (d194 v162 v183 v184 v196) (d195 v162 v183 v184 v196) (d1016 v162 v183 v184 v196) (d1017 v162 v183 v184 v196)
def d1067 (v162 : IVec S128x8x512 32) (v183 v184 : FVec F S128x8x512 .f32) (v196 : FVec F S1x512 .f32) : FVec F S8x512 .f32 := k0_pay170 (d194 v162 v183 v184 v196) (d195 v162 v183 v184 v196) (d1016 v162 v183 v184 v196) (d1017 v162 v183 v184 v196)
def d1075 (v162 : IVec S128x8x512 32) (v183 v184 : FVec F S128x8x512 .f32) (v196 : FVec F S1x512 .f32) : FVec F S8x512 .f32 := k0_pay171 (d194 v162 v183 v184 v196) (d195 v162 v183 v184 v196) (d1016 v162 v183 v184 v196) (d1017 v162 v183 v184 v196)
def d1076 (v162 : IVec S128x8x512 32) (v183 v184 : FVec F S128x8x512 .f32) (v196 : FVec F S1x512 .f32) : FVec F S1x512 .f32 := k0_pay172 (d194 v162 v183 v184 v196) (d195 v162 v183 v184 v196) (d1016 v162 v183 v184 v196) (d1017 v162 v183 v184 v196)
def d1077 (v162 : IVec S128x8x512 32) (v183 v184 : FVec F S128x8x512 .f32) (v196 : FVec F S1x512 .f32) : FVec F S1x8x512 .f32 := k0_pay173 (d195 v162 v183 v184 v196)
def d1083 (v162 : IVec S128x8x512 32) (v183 v184 : FVec F S128x8x512 .f32) (v196 : FVec F S1x512 .f32) : FVec F S8x512 .f32 := k0_pay174 (d194 v162 v183 v184 v196) (d1076 v162 v183 v184 v196) (d1077 v162 v183 v184 v196)
def d1091 (v162 : IVec S128x8x512 32) (v183 v184 : FVec F S128x8x512 .f32) (v196 : FVec F S1x512 .f32) : FVec F S8x512 .f32 := k0_pay175 (d194 v162 v183 v184 v196) (d195 v162 v183 v184 v196) (d1076 v162 v183 v184 v196) (d1077 v162 v183 v184 v196)
def d1099 (v162 : IVec S128x8x512 32) (v183 v184 : FVec F S128x8x512 .f32) (v196 : FVec F S1x512 .f32) : FVec F S8x512 .f32 := k0_pay176 (d194 v162 v183 v184 v196) (d195 v162 v183 v184 v196) (d1076 v162 v183 v184 v196) (d1077 v162 v183 v184 v196)
def d1107 (v162 : IVec S128x8x512 32) (v183 v184 : FVec F S128x8x512 .f32) (v196 : FVec F S1x512 .f32) : FVec F S8x512 .f32 := k0_pay177 (d194 v162 v183 v184 v196) (d195 v162 v183 v184 v196) (d1076 v162 v183 v184 v196) (d1077 v162 v183 v184 v196)
def d1115 (v162 : IVec S128x8x512 32) (v183 v184 : FVec F S128x8x512 .f32) (v196 : FVec F S1x512 .f32) : FVec F S8x512 .f32 := k0_pay178 (d194 v162 v183 v184 v196) (d195 v162 v183 v184 v196) (d1076 v162 v183 v184 v196) (d1077 v162 v183 v184 v196)
def d1123 (v162 : IVec S128x8x512 32) (v183 v184 : FVec F S128x8x512 .f32) (v196 : FVec F S1x512 .f32) : FVec F S8x512 .f32 := k0_pay179 (d194 v162 v183 v184 v196) (d195 v162 v183 v184 v196) (d1076 v162 v183 v184 v196) (d1077 v162 v183 v184 v196)
def d1131 (v162 : IVec S128x8x512 32) (v183 v184 : FVec F S128x8x512 .f32) (v196 : FVec F S1x512 .f32) : FVec F S8x512 .f32 := k0_pay180 (d194 v162 v183 v184 v196) (d195 v162 v183 v184 v196) (d1076 v162 v183 v184 v196) (d1077 v162 v183 v184 v196)
def d1136 (v162 : IVec S128x8x512 32) (v183 v184 : FVec F S128x8x512 .f32) (v196 : FVec F S1x512 .f32) : FVec F S8x512 .f32 := k0_pay181 (d194 v162 v183 v184 v196) (d195 v162 v183 v184 v196) (d1076 v162 v183 v184 v196) (d1077 v162 v183 v184 v196)
def d1137 (v162 : IVec S128x8x512 32) (v183 v184 : FVec F S128x8x512 .f32) (v196 : FVec F S1x512 .f32) : FVec F S1x8x512 .f32 := k0_pay182 (d194 v162 v183 v184 v196)
def d1139 (v162 : IVec S128x8x512 32) (v183 v184 : FVec F S128x8x512 .f32) (v196 : FVec F S1x512 .f32) : FVec F S8x512 .f32 := k0_pay183 (d1136 v162 v183 v184 v196) (d1137 v162 v183 v184 v196)
def d1147 (v162 : IVec S128x8x512 32) (v183 v184 : FVec F S128x8x512 .f32) (v196 : FVec F S1x512 .f32) : FVec F S8x512 .f32 := k0_pay184 (d194 v162 v183 v184 v196) (d195 v162 v183 v184 v196) (d1136 v162 v183 v184 v196) (d1137 v162 v183 v184 v196)
def d1155 (v162 : IVec S128x8x512 32) (v183 v184 : FVec F S128x8x512 .f32) (v196 : FVec F S1x512 .f32) : FVec F S8x512 .f32 := k0_pay185 (d194 v162 v183 v184 v196) (d195 v162 v183 v184 v196) (d1136 v162 v183 v184 v196) (d1137 v162 v183 v184 v196)
def d1163 (v162 : IVec S128x8x512 32) (v183 v184 : FVec F S128x8x512 .f32) (v196 : FVec F S1x512 .f32) : FVec F S8x512 .f32 := k0_pay186 (d194 v162 v183 v184 v196) (d195 v162 v183 v184 v196) (d1136 v162 v183 v184 v196) (d1137 v162 v183 v184 v196)
def d1171 (v162 : IVec S128x8x512 32) (v183 v184 : FVec F S128x8x512 .f32) (v196 : FVec F S1x512 .f32) : FVec F S8x512 .f32 := k0_pay187 (d194 v162 v183 v184 v196) (d195 v162 v183 v184 v196) (d1136 v162 v183 v184 v196) (d1137 v162 v183 v184 v196)
def d1179 (v162 : IVec S128x8x512 32) (v183 v184 : FVec F S128x8x512 .f32) (v196 : FVec F S1x512 .f32) : FVec F S8x512 .f32 := k0_pay188 (d194 v162 v183 v184 v196) (d195 v162 v183 v184 v196) (d1136 v162 v183 v184 v196) (d1137 v162 v183 v184 v196)
def d1187 (v162 : IVec S128x8x512 32) (v183 v184 : FVec F S128x8x512 .f32) (v196 : FVec F S1x512 .f32) : FVec F S8x512 .f32 := k0_pay189 (d194 v162 v183 v184 v196) (d195 v162 v183 v184 v196) (d1136 v162 v183 v184 v196) (d1137 v162 v183 v184 v196)
def d1195 (v162 : IVec S128x8x512 32) (v183 v184 : FVec F S128x8x512 .f32) (v196 : FVec F S1x512 .f32) : FVec F S8x512 .f32 := k0_pay190 (d194 v162 v183 v184 v196) (d195 v162 v183 v184 v196) (d1136 v162 v183 v184 v196) (d1137 v162 v183 v184 v196)
def d1196 (v162 : IVec S128x8x512 32) (v183 v184 : FVec F S128x8x512 .f32) (v196 : FVec F S1x512 .f32) : FVec F S1x512 .f32 := k0_pay191 (d194 v162 v183 v184 v196) (d195 v162 v183 v184 v196) (d1136 v162 v183 v184 v196) (d1137 v162 v183 v184 v196)
def d1197 (v162 : IVec S128x8x512 32) (v183 v184 : FVec F S128x8x512 .f32) (v196 : FVec F S1x512 .f32) : FVec F S1x8x512 .f32 := k0_pay192 (d195 v162 v183 v184 v196)
def d1203 (v162 : IVec S128x8x512 32) (v183 v184 : FVec F S128x8x512 .f32) (v196 : FVec F S1x512 .f32) : FVec F S8x512 .f32 := k0_pay193 (d194 v162 v183 v184 v196) (d1196 v162 v183 v184 v196) (d1197 v162 v183 v184 v196)
def d1211 (v162 : IVec S128x8x512 32) (v183 v184 : FVec F S128x8x512 .f32) (v196 : FVec F S1x512 .f32) : FVec F S8x512 .f32 := k0_pay194 (d194 v162 v183 v184 v196) (d195 v162 v183 v184 v196) (d1203 v162 v183 v184 v196)
def d1219 (v162 : IVec S128x8x512 32) (v183 v184 : FVec F S128x8x512 .f32) (v196 : FVec F S1x512 .f32) : FVec F S8x512 .f32 := k0_pay195 (d194 v162 v183 v184 v196) (d195 v162 v183 v184 v196) (d1211 v162 v183 v184 v196)
def dRows (v162 : IVec S128x8x512 32) (v183 v184 : FVec F S128x8x512 .f32) (v196 : FVec F S1x512 .f32) : FVec F S1024x512 .f32 := k0_pay197 (d203 v162 v183 v184 v196) (d211 v162 v183 v184 v196) (d219 v162 v183 v184 v196) (d227 v162 v183 v184 v196) (d235 v162 v183 v184 v196) (d243 v162 v183 v184 v196) (d251 v162 v183 v184 v196) (d259 v162 v183 v184 v196) (d267 v162 v183 v184 v196) (d275 v162 v183 v184 v196) (d283 v162 v183 v184 v196) (d291 v162 v183 v184 v196) (d299 v162 v183 v184 v196) (d307 v162 v183 v184 v196) (d315 v162 v183 v184 v196) (d323 v162 v183 v184 v196) (d331 v162 v183 v184 v196) (d339 v162 v183 v184 v196) (d347 v162 v183 v184 v196) (d355 v162 v183 v184 v196) (d363 v162 v183 v184 v196) (d371 v162 v183 v184 v196) (d379 v162 v183 v184 v196) (d387 v162 v183 v184 v196) (d395 v162 v183 v184 v196) (d403 v162 v183 v184 v196) (d411 v162 v183 v184 v196) (d419 v162 v183 v184 v196) (d427 v162 v183 v184 v196) (d435 v162 v183 v184 v196) (d443 v162 v183 v184 v196) (d451 v162 v183 v184 v196) (d459 v162 v183 v184 v196) (d467 v162 v183 v184 v196) (d475 v162 v183 v184 v196) (d483 v162 v183 v184 v196) (d491 v162 v183 v184 v196) (d499 v162 v183 v184 v196) (d507 v162 v183 v184 v196) (d515 v162 v183 v184 v196) (d523 v162 v183 v184 v196) (d531 v162 v183 v184 v196) (d539 v162 v183 v184 v196) (d547 v162 v183 v184 v196) (d555 v162 v183 v184 v196) (d563 v162 v183 v184 v196) (d571 v162 v183 v184 v196) (d579 v162 v183 v184 v196) (d587 v162 v183 v184 v196) (d595 v162 v183 v184 v196) (d603 v162 v183 v184 v196) (d611 v162 v183 v184 v196) (d619 v162 v183 v184 v196) (d627 v162 v183 v184 v196) (d635 v162 v183 v184 v196) (d643 v162 v183 v184 v196) (d651 v162 v183 v184 v196) (d659 v162 v183 v184 v196) (d667 v162 v183 v184 v196) (d675 v162 v183 v184 v196) (d683 v162 v183 v184 v196) (d691 v162 v183 v184 v196) (d699 v162 v183 v184 v196) (d707 v162 v183 v184 v196) (d715 v162 v183 v184 v196) (d723 v162 v183 v184 v196) (d731 v162 v183 v184 v196) (d739 v162 v183 v184 v196) (d747 v162 v183 v184 v196) (d755 v162 v183 v184 v196) (d763 v162 v183 v184 v196) (d771 v162 v183 v184 v196) (d779 v162 v183 v184 v196) (d787 v162 v183 v184 v196) (d795 v162 v183 v184 v196) (d803 v162 v183 v184 v196) (d811 v162 v183 v184 v196) (d819 v162 v183 v184 v196) (d827 v162 v183 v184 v196) (d835 v162 v183 v184 v196) (d843 v162 v183 v184 v196) (d851 v162 v183 v184 v196) (d859 v162 v183 v184 v196) (d867 v162 v183 v184 v196) (d875 v162 v183 v184 v196) (d883 v162 v183 v184 v196) (d891 v162 v183 v184 v196) (d899 v162 v183 v184 v196) (d907 v162 v183 v184 v196) (d915 v162 v183 v184 v196) (d923 v162 v183 v184 v196) (d931 v162 v183 v184 v196) (d939 v162 v183 v184 v196) (d947 v162 v183 v184 v196) (d955 v162 v183 v184 v196) (d963 v162 v183 v184 v196) (d971 v162 v183 v184 v196) (d979 v162 v183 v184 v196) (d987 v162 v183 v184 v196) (d995 v162 v183 v184 v196) (d1003 v162 v183 v184 v196) (d1011 v162 v183 v184 v196) (d1019 v162 v183 v184 v196) (d1027 v162 v183 v184 v196) (d1035 v162 v183 v184 v196) (d1043 v162 v183 v184 v196) (d1051 v162 v183 v184 v196) (d1059 v162 v183 v184 v196) (d1067 v162 v183 v184 v196) (d1075 v162 v183 v184 v196) (d1083 v162 v183 v184 v196) (d1091 v162 v183 v184 v196) (d1099 v162 v183 v184 v196) (d1107 v162 v183 v184 v196) (d1115 v162 v183 v184 v196) (d1123 v162 v183 v184 v196) (d1131 v162 v183 v184 v196) (d1139 v162 v183 v184 v196) (d1147 v162 v183 v184 v196) (d1155 v162 v183 v184 v196) (d1163 v162 v183 v184 v196) (d1171 v162 v183 v184 v196) (d1179 v162 v183 v184 v196) (d1187 v162 v183 v184 v196) (d1195 v162 v183 v184 v196) (d1203 v162 v183 v184 v196) (d1211 v162 v183 v184 v196) (d1219 v162 v183 v184 v196)
def dLast (v162 : IVec S128x8x512 32) (v183 v184 : FVec F S128x8x512 .f32) (v196 : FVec F S1x512 .f32) : FVec F S1x512 .f32 := k0_pay196 (d1219 v162 v183 v184 v196)
theorem e203 (v162 : IVec S128x8x512 32) (v183 v184 : FVec F S128x8x512 .f32) (v196 : FVec F S1x512 .f32) : d203 v162 v183 v184 v196 = groups (d195 v162 v183 v184 v196) (d194 v162 v183 v184 v196) v196 0 (by decide) := rfl
theorem e211 (v162 : IVec S128x8x512 32) (v183 v184 : FVec F S128x8x512 .f32) (v196 : FVec F S1x512 .f32) : d211 v162 v183 v184 v196 = groups (d195 v162 v183 v184 v196) (d194 v162 v183 v184 v196) v196 1 (by decide) := by
  have h : d211 v162 v183 v184 v196 = group (d195 v162 v183 v184 v196) (d194 v162 v183 v184 v196) 1 (by decide) (lastRow (d203 v162 v183 v184 v196)) := rfl
  rw [h, e203]
  rfl
theorem e219 (v162 : IVec S128x8x512 32) (v183 v184 : FVec F S128x8x512 .f32) (v196 : FVec F S1x512 .f32) : d219 v162 v183 v184 v196 = groups (d195 v162 v183 v184 v196) (d194 v162 v183 v184 v196) v196 2 (by decide) := by
  have h : d219 v162 v183 v184 v196 = group (d195 v162 v183 v184 v196) (d194 v162 v183 v184 v196) 2 (by decide) (lastRow (d211 v162 v183 v184 v196)) := rfl
  rw [h, e211]
  rfl
theorem e227 (v162 : IVec S128x8x512 32) (v183 v184 : FVec F S128x8x512 .f32) (v196 : FVec F S1x512 .f32) : d227 v162 v183 v184 v196 = groups (d195 v162 v183 v184 v196) (d194 v162 v183 v184 v196) v196 3 (by decide) := by
  have h : d227 v162 v183 v184 v196 = group (d195 v162 v183 v184 v196) (d194 v162 v183 v184 v196) 3 (by decide) (lastRow (d219 v162 v183 v184 v196)) := rfl
  rw [h, e219]
  rfl
theorem e235 (v162 : IVec S128x8x512 32) (v183 v184 : FVec F S128x8x512 .f32) (v196 : FVec F S1x512 .f32) : d235 v162 v183 v184 v196 = groups (d195 v162 v183 v184 v196) (d194 v162 v183 v184 v196) v196 4 (by decide) := by
  have h : d235 v162 v183 v184 v196 = group (d195 v162 v183 v184 v196) (d194 v162 v183 v184 v196) 4 (by decide) (lastRow (d227 v162 v183 v184 v196)) := rfl
  rw [h, e227]
  rfl
theorem e243 (v162 : IVec S128x8x512 32) (v183 v184 : FVec F S128x8x512 .f32) (v196 : FVec F S1x512 .f32) : d243 v162 v183 v184 v196 = groups (d195 v162 v183 v184 v196) (d194 v162 v183 v184 v196) v196 5 (by decide) := by
  have h : d243 v162 v183 v184 v196 = group (d195 v162 v183 v184 v196) (d194 v162 v183 v184 v196) 5 (by decide) (lastRow (d235 v162 v183 v184 v196)) := rfl
  rw [h, e235]
  rfl
theorem e251 (v162 : IVec S128x8x512 32) (v183 v184 : FVec F S128x8x512 .f32) (v196 : FVec F S1x512 .f32) : d251 v162 v183 v184 v196 = groups (d195 v162 v183 v184 v196) (d194 v162 v183 v184 v196) v196 6 (by decide) := by
  have h : d251 v162 v183 v184 v196 = group (d195 v162 v183 v184 v196) (d194 v162 v183 v184 v196) 6 (by decide) (lastRow (d243 v162 v183 v184 v196)) := rfl
  rw [h, e243]
  rfl
theorem e259 (v162 : IVec S128x8x512 32) (v183 v184 : FVec F S128x8x512 .f32) (v196 : FVec F S1x512 .f32) : d259 v162 v183 v184 v196 = groups (d195 v162 v183 v184 v196) (d194 v162 v183 v184 v196) v196 7 (by decide) := by
  have h : d259 v162 v183 v184 v196 = group (d195 v162 v183 v184 v196) (d194 v162 v183 v184 v196) 7 (by decide) (lastRow (d251 v162 v183 v184 v196)) := rfl
  rw [h, e251]
  rfl
theorem e267 (v162 : IVec S128x8x512 32) (v183 v184 : FVec F S128x8x512 .f32) (v196 : FVec F S1x512 .f32) : d267 v162 v183 v184 v196 = groups (d195 v162 v183 v184 v196) (d194 v162 v183 v184 v196) v196 8 (by decide) := by
  have h : d267 v162 v183 v184 v196 = group (d195 v162 v183 v184 v196) (d194 v162 v183 v184 v196) 8 (by decide) (lastRow (d259 v162 v183 v184 v196)) := rfl
  rw [h, e259]
  rfl
theorem e275 (v162 : IVec S128x8x512 32) (v183 v184 : FVec F S128x8x512 .f32) (v196 : FVec F S1x512 .f32) : d275 v162 v183 v184 v196 = groups (d195 v162 v183 v184 v196) (d194 v162 v183 v184 v196) v196 9 (by decide) := by
  have h : d275 v162 v183 v184 v196 = group (d195 v162 v183 v184 v196) (d194 v162 v183 v184 v196) 9 (by decide) (lastRow (d267 v162 v183 v184 v196)) := rfl
  rw [h, e267]
  rfl
theorem e283 (v162 : IVec S128x8x512 32) (v183 v184 : FVec F S128x8x512 .f32) (v196 : FVec F S1x512 .f32) : d283 v162 v183 v184 v196 = groups (d195 v162 v183 v184 v196) (d194 v162 v183 v184 v196) v196 10 (by decide) := by
  have h : d283 v162 v183 v184 v196 = group (d195 v162 v183 v184 v196) (d194 v162 v183 v184 v196) 10 (by decide) (lastRow (d275 v162 v183 v184 v196)) := rfl
  rw [h, e275]
  rfl
theorem e291 (v162 : IVec S128x8x512 32) (v183 v184 : FVec F S128x8x512 .f32) (v196 : FVec F S1x512 .f32) : d291 v162 v183 v184 v196 = groups (d195 v162 v183 v184 v196) (d194 v162 v183 v184 v196) v196 11 (by decide) := by
  have h : d291 v162 v183 v184 v196 = group (d195 v162 v183 v184 v196) (d194 v162 v183 v184 v196) 11 (by decide) (lastRow (d283 v162 v183 v184 v196)) := rfl
  rw [h, e283]
  rfl
theorem e299 (v162 : IVec S128x8x512 32) (v183 v184 : FVec F S128x8x512 .f32) (v196 : FVec F S1x512 .f32) : d299 v162 v183 v184 v196 = groups (d195 v162 v183 v184 v196) (d194 v162 v183 v184 v196) v196 12 (by decide) := by
  have h : d299 v162 v183 v184 v196 = group (d195 v162 v183 v184 v196) (d194 v162 v183 v184 v196) 12 (by decide) (lastRow (d291 v162 v183 v184 v196)) := rfl
  rw [h, e291]
  rfl
theorem e307 (v162 : IVec S128x8x512 32) (v183 v184 : FVec F S128x8x512 .f32) (v196 : FVec F S1x512 .f32) : d307 v162 v183 v184 v196 = groups (d195 v162 v183 v184 v196) (d194 v162 v183 v184 v196) v196 13 (by decide) := by
  have h : d307 v162 v183 v184 v196 = group (d195 v162 v183 v184 v196) (d194 v162 v183 v184 v196) 13 (by decide) (lastRow (d299 v162 v183 v184 v196)) := rfl
  rw [h, e299]
  rfl
theorem e315 (v162 : IVec S128x8x512 32) (v183 v184 : FVec F S128x8x512 .f32) (v196 : FVec F S1x512 .f32) : d315 v162 v183 v184 v196 = groups (d195 v162 v183 v184 v196) (d194 v162 v183 v184 v196) v196 14 (by decide) := by
  have h : d315 v162 v183 v184 v196 = group (d195 v162 v183 v184 v196) (d194 v162 v183 v184 v196) 14 (by decide) (lastRow (d307 v162 v183 v184 v196)) := rfl
  rw [h, e307]
  rfl
theorem e323 (v162 : IVec S128x8x512 32) (v183 v184 : FVec F S128x8x512 .f32) (v196 : FVec F S1x512 .f32) : d323 v162 v183 v184 v196 = groups (d195 v162 v183 v184 v196) (d194 v162 v183 v184 v196) v196 15 (by decide) := by
  have h : d323 v162 v183 v184 v196 = group (d195 v162 v183 v184 v196) (d194 v162 v183 v184 v196) 15 (by decide) (lastRow (d315 v162 v183 v184 v196)) := rfl
  rw [h, e315]
  rfl
theorem e331 (v162 : IVec S128x8x512 32) (v183 v184 : FVec F S128x8x512 .f32) (v196 : FVec F S1x512 .f32) : d331 v162 v183 v184 v196 = groups (d195 v162 v183 v184 v196) (d194 v162 v183 v184 v196) v196 16 (by decide) := by
  have h : d331 v162 v183 v184 v196 = group (d195 v162 v183 v184 v196) (d194 v162 v183 v184 v196) 16 (by decide) (lastRow (d323 v162 v183 v184 v196)) := rfl
  rw [h, e323]
  rfl
theorem e339 (v162 : IVec S128x8x512 32) (v183 v184 : FVec F S128x8x512 .f32) (v196 : FVec F S1x512 .f32) : d339 v162 v183 v184 v196 = groups (d195 v162 v183 v184 v196) (d194 v162 v183 v184 v196) v196 17 (by decide) := by
  have h : d339 v162 v183 v184 v196 = group (d195 v162 v183 v184 v196) (d194 v162 v183 v184 v196) 17 (by decide) (lastRow (d331 v162 v183 v184 v196)) := rfl
  rw [h, e331]
  rfl
theorem e347 (v162 : IVec S128x8x512 32) (v183 v184 : FVec F S128x8x512 .f32) (v196 : FVec F S1x512 .f32) : d347 v162 v183 v184 v196 = groups (d195 v162 v183 v184 v196) (d194 v162 v183 v184 v196) v196 18 (by decide) := by
  have h : d347 v162 v183 v184 v196 = group (d195 v162 v183 v184 v196) (d194 v162 v183 v184 v196) 18 (by decide) (lastRow (d339 v162 v183 v184 v196)) := rfl
  rw [h, e339]
  rfl
theorem e355 (v162 : IVec S128x8x512 32) (v183 v184 : FVec F S128x8x512 .f32) (v196 : FVec F S1x512 .f32) : d355 v162 v183 v184 v196 = groups (d195 v162 v183 v184 v196) (d194 v162 v183 v184 v196) v196 19 (by decide) := by
  have h : d355 v162 v183 v184 v196 = group (d195 v162 v183 v184 v196) (d194 v162 v183 v184 v196) 19 (by decide) (lastRow (d347 v162 v183 v184 v196)) := rfl
  rw [h, e347]
  rfl
theorem e363 (v162 : IVec S128x8x512 32) (v183 v184 : FVec F S128x8x512 .f32) (v196 : FVec F S1x512 .f32) : d363 v162 v183 v184 v196 = groups (d195 v162 v183 v184 v196) (d194 v162 v183 v184 v196) v196 20 (by decide) := by
  have h : d363 v162 v183 v184 v196 = group (d195 v162 v183 v184 v196) (d194 v162 v183 v184 v196) 20 (by decide) (lastRow (d355 v162 v183 v184 v196)) := rfl
  rw [h, e355]
  rfl
theorem e371 (v162 : IVec S128x8x512 32) (v183 v184 : FVec F S128x8x512 .f32) (v196 : FVec F S1x512 .f32) : d371 v162 v183 v184 v196 = groups (d195 v162 v183 v184 v196) (d194 v162 v183 v184 v196) v196 21 (by decide) := by
  have h : d371 v162 v183 v184 v196 = group (d195 v162 v183 v184 v196) (d194 v162 v183 v184 v196) 21 (by decide) (lastRow (d363 v162 v183 v184 v196)) := rfl
  rw [h, e363]
  rfl
theorem e379 (v162 : IVec S128x8x512 32) (v183 v184 : FVec F S128x8x512 .f32) (v196 : FVec F S1x512 .f32) : d379 v162 v183 v184 v196 = groups (d195 v162 v183 v184 v196) (d194 v162 v183 v184 v196) v196 22 (by decide) := by
  have h : d379 v162 v183 v184 v196 = group (d195 v162 v183 v184 v196) (d194 v162 v183 v184 v196) 22 (by decide) (lastRow (d371 v162 v183 v184 v196)) := rfl
  rw [h, e371]
  rfl
theorem e387 (v162 : IVec S128x8x512 32) (v183 v184 : FVec F S128x8x512 .f32) (v196 : FVec F S1x512 .f32) : d387 v162 v183 v184 v196 = groups (d195 v162 v183 v184 v196) (d194 v162 v183 v184 v196) v196 23 (by decide) := by
  have h : d387 v162 v183 v184 v196 = group (d195 v162 v183 v184 v196) (d194 v162 v183 v184 v196) 23 (by decide) (lastRow (d379 v162 v183 v184 v196)) := rfl
  rw [h, e379]
  rfl
theorem e395 (v162 : IVec S128x8x512 32) (v183 v184 : FVec F S128x8x512 .f32) (v196 : FVec F S1x512 .f32) : d395 v162 v183 v184 v196 = groups (d195 v162 v183 v184 v196) (d194 v162 v183 v184 v196) v196 24 (by decide) := by
  have h : d395 v162 v183 v184 v196 = group (d195 v162 v183 v184 v196) (d194 v162 v183 v184 v196) 24 (by decide) (lastRow (d387 v162 v183 v184 v196)) := rfl
  rw [h, e387]
  rfl
theorem e403 (v162 : IVec S128x8x512 32) (v183 v184 : FVec F S128x8x512 .f32) (v196 : FVec F S1x512 .f32) : d403 v162 v183 v184 v196 = groups (d195 v162 v183 v184 v196) (d194 v162 v183 v184 v196) v196 25 (by decide) := by
  have h : d403 v162 v183 v184 v196 = group (d195 v162 v183 v184 v196) (d194 v162 v183 v184 v196) 25 (by decide) (lastRow (d395 v162 v183 v184 v196)) := rfl
  rw [h, e395]
  rfl
theorem e411 (v162 : IVec S128x8x512 32) (v183 v184 : FVec F S128x8x512 .f32) (v196 : FVec F S1x512 .f32) : d411 v162 v183 v184 v196 = groups (d195 v162 v183 v184 v196) (d194 v162 v183 v184 v196) v196 26 (by decide) := by
  have h : d411 v162 v183 v184 v196 = group (d195 v162 v183 v184 v196) (d194 v162 v183 v184 v196) 26 (by decide) (lastRow (d403 v162 v183 v184 v196)) := rfl
  rw [h, e403]
  rfl
theorem e419 (v162 : IVec S128x8x512 32) (v183 v184 : FVec F S128x8x512 .f32) (v196 : FVec F S1x512 .f32) : d419 v162 v183 v184 v196 = groups (d195 v162 v183 v184 v196) (d194 v162 v183 v184 v196) v196 27 (by decide) := by
  have h : d419 v162 v183 v184 v196 = group (d195 v162 v183 v184 v196) (d194 v162 v183 v184 v196) 27 (by decide) (lastRow (d411 v162 v183 v184 v196)) := rfl
  rw [h, e411]
  rfl
theorem e427 (v162 : IVec S128x8x512 32) (v183 v184 : FVec F S128x8x512 .f32) (v196 : FVec F S1x512 .f32) : d427 v162 v183 v184 v196 = groups (d195 v162 v183 v184 v196) (d194 v162 v183 v184 v196) v196 28 (by decide) := by
  have h : d427 v162 v183 v184 v196 = group (d195 v162 v183 v184 v196) (d194 v162 v183 v184 v196) 28 (by decide) (lastRow (d419 v162 v183 v184 v196)) := rfl
  rw [h, e419]
  rfl
theorem e435 (v162 : IVec S128x8x512 32) (v183 v184 : FVec F S128x8x512 .f32) (v196 : FVec F S1x512 .f32) : d435 v162 v183 v184 v196 = groups (d195 v162 v183 v184 v196) (d194 v162 v183 v184 v196) v196 29 (by decide) := by
  have h : d435 v162 v183 v184 v196 = group (d195 v162 v183 v184 v196) (d194 v162 v183 v184 v196) 29 (by decide) (lastRow (d427 v162 v183 v184 v196)) := rfl
  rw [h, e427]
  rfl
theorem e443 (v162 : IVec S128x8x512 32) (v183 v184 : FVec F S128x8x512 .f32) (v196 : FVec F S1x512 .f32) : d443 v162 v183 v184 v196 = groups (d195 v162 v183 v184 v196) (d194 v162 v183 v184 v196) v196 30 (by decide) := by
  have h : d443 v162 v183 v184 v196 = group (d195 v162 v183 v184 v196) (d194 v162 v183 v184 v196) 30 (by decide) (lastRow (d435 v162 v183 v184 v196)) := rfl
  rw [h, e435]
  rfl
theorem e451 (v162 : IVec S128x8x512 32) (v183 v184 : FVec F S128x8x512 .f32) (v196 : FVec F S1x512 .f32) : d451 v162 v183 v184 v196 = groups (d195 v162 v183 v184 v196) (d194 v162 v183 v184 v196) v196 31 (by decide) := by
  have h : d451 v162 v183 v184 v196 = group (d195 v162 v183 v184 v196) (d194 v162 v183 v184 v196) 31 (by decide) (lastRow (d443 v162 v183 v184 v196)) := rfl
  rw [h, e443]
  rfl
theorem e459 (v162 : IVec S128x8x512 32) (v183 v184 : FVec F S128x8x512 .f32) (v196 : FVec F S1x512 .f32) : d459 v162 v183 v184 v196 = groups (d195 v162 v183 v184 v196) (d194 v162 v183 v184 v196) v196 32 (by decide) := by
  have h : d459 v162 v183 v184 v196 = group (d195 v162 v183 v184 v196) (d194 v162 v183 v184 v196) 32 (by decide) (lastRow (d451 v162 v183 v184 v196)) := rfl
  rw [h, e451]
  rfl
theorem e467 (v162 : IVec S128x8x512 32) (v183 v184 : FVec F S128x8x512 .f32) (v196 : FVec F S1x512 .f32) : d467 v162 v183 v184 v196 = groups (d195 v162 v183 v184 v196) (d194 v162 v183 v184 v196) v196 33 (by decide) := by
  have h : d467 v162 v183 v184 v196 = group (d195 v162 v183 v184 v196) (d194 v162 v183 v184 v196) 33 (by decide) (lastRow (d459 v162 v183 v184 v196)) := rfl
  rw [h, e459]
  rfl
theorem e475 (v162 : IVec S128x8x512 32) (v183 v184 : FVec F S128x8x512 .f32) (v196 : FVec F S1x512 .f32) : d475 v162 v183 v184 v196 = groups (d195 v162 v183 v184 v196) (d194 v162 v183 v184 v196) v196 34 (by decide) := by
  have h : d475 v162 v183 v184 v196 = group (d195 v162 v183 v184 v196) (d194 v162 v183 v184 v196) 34 (by decide) (lastRow (d467 v162 v183 v184 v196)) := rfl
  rw [h, e467]
  rfl
theorem e483 (v162 : IVec S128x8x512 32) (v183 v184 : FVec F S128x8x512 .f32) (v196 : FVec F S1x512 .f32) : d483 v162 v183 v184 v196 = groups (d195 v162 v183 v184 v196) (d194 v162 v183 v184 v196) v196 35 (by decide) := by
  have h : d483 v162 v183 v184 v196 = group (d195 v162 v183 v184 v196) (d194 v162 v183 v184 v196) 35 (by decide) (lastRow (d475 v162 v183 v184 v196)) := rfl
  rw [h, e475]
  rfl
theorem e491 (v162 : IVec S128x8x512 32) (v183 v184 : FVec F S128x8x512 .f32) (v196 : FVec F S1x512 .f32) : d491 v162 v183 v184 v196 = groups (d195 v162 v183 v184 v196) (d194 v162 v183 v184 v196) v196 36 (by decide) := by
  have h : d491 v162 v183 v184 v196 = group (d195 v162 v183 v184 v196) (d194 v162 v183 v184 v196) 36 (by decide) (lastRow (d483 v162 v183 v184 v196)) := rfl
  rw [h, e483]
  rfl
theorem e499 (v162 : IVec S128x8x512 32) (v183 v184 : FVec F S128x8x512 .f32) (v196 : FVec F S1x512 .f32) : d499 v162 v183 v184 v196 = groups (d195 v162 v183 v184 v196) (d194 v162 v183 v184 v196) v196 37 (by decide) := by
  have h : d499 v162 v183 v184 v196 = group (d195 v162 v183 v184 v196) (d194 v162 v183 v184 v196) 37 (by decide) (lastRow (d491 v162 v183 v184 v196)) := rfl
  rw [h, e491]
  rfl
theorem e507 (v162 : IVec S128x8x512 32) (v183 v184 : FVec F S128x8x512 .f32) (v196 : FVec F S1x512 .f32) : d507 v162 v183 v184 v196 = groups (d195 v162 v183 v184 v196) (d194 v162 v183 v184 v196) v196 38 (by decide) := by
  have h : d507 v162 v183 v184 v196 = group (d195 v162 v183 v184 v196) (d194 v162 v183 v184 v196) 38 (by decide) (lastRow (d499 v162 v183 v184 v196)) := rfl
  rw [h, e499]
  rfl
theorem e515 (v162 : IVec S128x8x512 32) (v183 v184 : FVec F S128x8x512 .f32) (v196 : FVec F S1x512 .f32) : d515 v162 v183 v184 v196 = groups (d195 v162 v183 v184 v196) (d194 v162 v183 v184 v196) v196 39 (by decide) := by
  have h : d515 v162 v183 v184 v196 = group (d195 v162 v183 v184 v196) (d194 v162 v183 v184 v196) 39 (by decide) (lastRow (d507 v162 v183 v184 v196)) := rfl
  rw [h, e507]
  rfl
theorem e523 (v162 : IVec S128x8x512 32) (v183 v184 : FVec F S128x8x512 .f32) (v196 : FVec F S1x512 .f32) : d523 v162 v183 v184 v196 = groups (d195 v162 v183 v184 v196) (d194 v162 v183 v184 v196) v196 40 (by decide) := by
  have h : d523 v162 v183 v184 v196 = group (d195 v162 v183 v184 v196) (d194 v162 v183 v184 v196) 40 (by decide) (lastRow (d515 v162 v183 v184 v196)) := rfl
  rw [h, e515]
  rfl
theorem e531 (v162 : IVec S128x8x512 32) (v183 v184 : FVec F S128x8x512 .f32) (v196 : FVec F S1x512 .f32) : d531 v162 v183 v184 v196 = groups (d195 v162 v183 v184 v196) (d194 v162 v183 v184 v196) v196 41 (by decide) := by
  have h : d531 v162 v183 v184 v196 = group (d195 v162 v183 v184 v196) (d194 v162 v183 v184 v196) 41 (by decide) (lastRow (d523 v162 v183 v184 v196)) := rfl
  rw [h, e523]
  rfl
theorem e539 (v162 : IVec S128x8x512 32) (v183 v184 : FVec F S128x8x512 .f32) (v196 : FVec F S1x512 .f32) : d539 v162 v183 v184 v196 = groups (d195 v162 v183 v184 v196) (d194 v162 v183 v184 v196) v196 42 (by decide) := by
  have h : d539 v162 v183 v184 v196 = group (d195 v162 v183 v184 v196) (d194 v162 v183 v184 v196) 42 (by decide) (lastRow (d531 v162 v183 v184 v196)) := rfl
  rw [h, e531]
  rfl
theorem e547 (v162 : IVec S128x8x512 32) (v183 v184 : FVec F S128x8x512 .f32) (v196 : FVec F S1x512 .f32) : d547 v162 v183 v184 v196 = groups (d195 v162 v183 v184 v196) (d194 v162 v183 v184 v196) v196 43 (by decide) := by
  have h : d547 v162 v183 v184 v196 = group (d195 v162 v183 v184 v196) (d194 v162 v183 v184 v196) 43 (by decide) (lastRow (d539 v162 v183 v184 v196)) := rfl
  rw [h, e539]
  rfl
theorem e555 (v162 : IVec S128x8x512 32) (v183 v184 : FVec F S128x8x512 .f32) (v196 : FVec F S1x512 .f32) : d555 v162 v183 v184 v196 = groups (d195 v162 v183 v184 v196) (d194 v162 v183 v184 v196) v196 44 (by decide) := by
  have h : d555 v162 v183 v184 v196 = group (d195 v162 v183 v184 v196) (d194 v162 v183 v184 v196) 44 (by decide) (lastRow (d547 v162 v183 v184 v196)) := rfl
  rw [h, e547]
  rfl
theorem e563 (v162 : IVec S128x8x512 32) (v183 v184 : FVec F S128x8x512 .f32) (v196 : FVec F S1x512 .f32) : d563 v162 v183 v184 v196 = groups (d195 v162 v183 v184 v196) (d194 v162 v183 v184 v196) v196 45 (by decide) := by
  have h : d563 v162 v183 v184 v196 = group (d195 v162 v183 v184 v196) (d194 v162 v183 v184 v196) 45 (by decide) (lastRow (d555 v162 v183 v184 v196)) := rfl
  rw [h, e555]
  rfl
theorem e571 (v162 : IVec S128x8x512 32) (v183 v184 : FVec F S128x8x512 .f32) (v196 : FVec F S1x512 .f32) : d571 v162 v183 v184 v196 = groups (d195 v162 v183 v184 v196) (d194 v162 v183 v184 v196) v196 46 (by decide) := by
  have h : d571 v162 v183 v184 v196 = group (d195 v162 v183 v184 v196) (d194 v162 v183 v184 v196) 46 (by decide) (lastRow (d563 v162 v183 v184 v196)) := rfl
  rw [h, e563]
  rfl
theorem e579 (v162 : IVec S128x8x512 32) (v183 v184 : FVec F S128x8x512 .f32) (v196 : FVec F S1x512 .f32) : d579 v162 v183 v184 v196 = groups (d195 v162 v183 v184 v196) (d194 v162 v183 v184 v196) v196 47 (by decide) := by
  have h : d579 v162 v183 v184 v196 = group (d195 v162 v183 v184 v196) (d194 v162 v183 v184 v196) 47 (by decide) (lastRow (d571 v162 v183 v184 v196)) := rfl
  rw [h, e571]
  rfl
theorem e587 (v162 : IVec S128x8x512 32) (v183 v184 : FVec F S128x8x512 .f32) (v196 : FVec F S1x512 .f32) : d587 v162 v183 v184 v196 = groups (d195 v162 v183 v184 v196) (d194 v162 v183 v184 v196) v196 48 (by decide) := by
  have h : d587 v162 v183 v184 v196 = group (d195 v162 v183 v184 v196) (d194 v162 v183 v184 v196) 48 (by decide) (lastRow (d579 v162 v183 v184 v196)) := rfl
  rw [h, e579]
  rfl
theorem e595 (v162 : IVec S128x8x512 32) (v183 v184 : FVec F S128x8x512 .f32) (v196 : FVec F S1x512 .f32) : d595 v162 v183 v184 v196 = groups (d195 v162 v183 v184 v196) (d194 v162 v183 v184 v196) v196 49 (by decide) := by
  have h : d595 v162 v183 v184 v196 = group (d195 v162 v183 v184 v196) (d194 v162 v183 v184 v196) 49 (by decide) (lastRow (d587 v162 v183 v184 v196)) := rfl
  rw [h, e587]
  rfl
theorem e603 (v162 : IVec S128x8x512 32) (v183 v184 : FVec F S128x8x512 .f32) (v196 : FVec F S1x512 .f32) : d603 v162 v183 v184 v196 = groups (d195 v162 v183 v184 v196) (d194 v162 v183 v184 v196) v196 50 (by decide) := by
  have h : d603 v162 v183 v184 v196 = group (d195 v162 v183 v184 v196) (d194 v162 v183 v184 v196) 50 (by decide) (lastRow (d595 v162 v183 v184 v196)) := rfl
  rw [h, e595]
  rfl
theorem e611 (v162 : IVec S128x8x512 32) (v183 v184 : FVec F S128x8x512 .f32) (v196 : FVec F S1x512 .f32) : d611 v162 v183 v184 v196 = groups (d195 v162 v183 v184 v196) (d194 v162 v183 v184 v196) v196 51 (by decide) := by
  have h : d611 v162 v183 v184 v196 = group (d195 v162 v183 v184 v196) (d194 v162 v183 v184 v196) 51 (by decide) (lastRow (d603 v162 v183 v184 v196)) := rfl
  rw [h, e603]
  rfl
theorem e619 (v162 : IVec S128x8x512 32) (v183 v184 : FVec F S128x8x512 .f32) (v196 : FVec F S1x512 .f32) : d619 v162 v183 v184 v196 = groups (d195 v162 v183 v184 v196) (d194 v162 v183 v184 v196) v196 52 (by decide) := by
  have h : d619 v162 v183 v184 v196 = group (d195 v162 v183 v184 v196) (d194 v162 v183 v184 v196) 52 (by decide) (lastRow (d611 v162 v183 v184 v196)) := rfl
  rw [h, e611]
  rfl
theorem e627 (v162 : IVec S128x8x512 32) (v183 v184 : FVec F S128x8x512 .f32) (v196 : FVec F S1x512 .f32) : d627 v162 v183 v184 v196 = groups (d195 v162 v183 v184 v196) (d194 v162 v183 v184 v196) v196 53 (by decide) := by
  have h : d627 v162 v183 v184 v196 = group (d195 v162 v183 v184 v196) (d194 v162 v183 v184 v196) 53 (by decide) (lastRow (d619 v162 v183 v184 v196)) := rfl
  rw [h, e619]
  rfl
theorem e635 (v162 : IVec S128x8x512 32) (v183 v184 : FVec F S128x8x512 .f32) (v196 : FVec F S1x512 .f32) : d635 v162 v183 v184 v196 = groups (d195 v162 v183 v184 v196) (d194 v162 v183 v184 v196) v196 54 (by decide) := by
  have h : d635 v162 v183 v184 v196 = group (d195 v162 v183 v184 v196) (d194 v162 v183 v184 v196) 54 (by decide) (lastRow (d627 v162 v183 v184 v196)) := rfl
  rw [h, e627]
  rfl
theorem e643 (v162 : IVec S128x8x512 32) (v183 v184 : FVec F S128x8x512 .f32) (v196 : FVec F S1x512 .f32) : d643 v162 v183 v184 v196 = groups (d195 v162 v183 v184 v196) (d194 v162 v183 v184 v196) v196 55 (by decide) := by
  have h : d643 v162 v183 v184 v196 = group (d195 v162 v183 v184 v196) (d194 v162 v183 v184 v196) 55 (by decide) (lastRow (d635 v162 v183 v184 v196)) := rfl
  rw [h, e635]
  rfl
theorem e651 (v162 : IVec S128x8x512 32) (v183 v184 : FVec F S128x8x512 .f32) (v196 : FVec F S1x512 .f32) : d651 v162 v183 v184 v196 = groups (d195 v162 v183 v184 v196) (d194 v162 v183 v184 v196) v196 56 (by decide) := by
  have h : d651 v162 v183 v184 v196 = group (d195 v162 v183 v184 v196) (d194 v162 v183 v184 v196) 56 (by decide) (lastRow (d643 v162 v183 v184 v196)) := rfl
  rw [h, e643]
  rfl
theorem e659 (v162 : IVec S128x8x512 32) (v183 v184 : FVec F S128x8x512 .f32) (v196 : FVec F S1x512 .f32) : d659 v162 v183 v184 v196 = groups (d195 v162 v183 v184 v196) (d194 v162 v183 v184 v196) v196 57 (by decide) := by
  have h : d659 v162 v183 v184 v196 = group (d195 v162 v183 v184 v196) (d194 v162 v183 v184 v196) 57 (by decide) (lastRow (d651 v162 v183 v184 v196)) := rfl
  rw [h, e651]
  rfl
theorem e667 (v162 : IVec S128x8x512 32) (v183 v184 : FVec F S128x8x512 .f32) (v196 : FVec F S1x512 .f32) : d667 v162 v183 v184 v196 = groups (d195 v162 v183 v184 v196) (d194 v162 v183 v184 v196) v196 58 (by decide) := by
  have h : d667 v162 v183 v184 v196 = group (d195 v162 v183 v184 v196) (d194 v162 v183 v184 v196) 58 (by decide) (lastRow (d659 v162 v183 v184 v196)) := rfl
  rw [h, e659]
  rfl
theorem e675 (v162 : IVec S128x8x512 32) (v183 v184 : FVec F S128x8x512 .f32) (v196 : FVec F S1x512 .f32) : d675 v162 v183 v184 v196 = groups (d195 v162 v183 v184 v196) (d194 v162 v183 v184 v196) v196 59 (by decide) := by
  have h : d675 v162 v183 v184 v196 = group (d195 v162 v183 v184 v196) (d194 v162 v183 v184 v196) 59 (by decide) (lastRow (d667 v162 v183 v184 v196)) := rfl
  rw [h, e667]
  rfl
theorem e683 (v162 : IVec S128x8x512 32) (v183 v184 : FVec F S128x8x512 .f32) (v196 : FVec F S1x512 .f32) : d683 v162 v183 v184 v196 = groups (d195 v162 v183 v184 v196) (d194 v162 v183 v184 v196) v196 60 (by decide) := by
  have h : d683 v162 v183 v184 v196 = group (d195 v162 v183 v184 v196) (d194 v162 v183 v184 v196) 60 (by decide) (lastRow (d675 v162 v183 v184 v196)) := rfl
  rw [h, e675]
  rfl
theorem e691 (v162 : IVec S128x8x512 32) (v183 v184 : FVec F S128x8x512 .f32) (v196 : FVec F S1x512 .f32) : d691 v162 v183 v184 v196 = groups (d195 v162 v183 v184 v196) (d194 v162 v183 v184 v196) v196 61 (by decide) := by
  have h : d691 v162 v183 v184 v196 = group (d195 v162 v183 v184 v196) (d194 v162 v183 v184 v196) 61 (by decide) (lastRow (d683 v162 v183 v184 v196)) := rfl
  rw [h, e683]
  rfl
theorem e699 (v162 : IVec S128x8x512 32) (v183 v184 : FVec F S128x8x512 .f32) (v196 : FVec F S1x512 .f32) : d699 v162 v183 v184 v196 = groups (d195 v162 v183 v184 v196) (d194 v162 v183 v184 v196) v196 62 (by decide) := by
  have h : d699 v162 v183 v184 v196 = group (d195 v162 v183 v184 v196) (d194 v162 v183 v184 v196) 62 (by decide) (lastRow (d691 v162 v183 v184 v196)) := rfl
  rw [h, e691]
  rfl
theorem e707 (v162 : IVec S128x8x512 32) (v183 v184 : FVec F S128x8x512 .f32) (v196 : FVec F S1x512 .f32) : d707 v162 v183 v184 v196 = groups (d195 v162 v183 v184 v196) (d194 v162 v183 v184 v196) v196 63 (by decide) := by
  have h : d707 v162 v183 v184 v196 = group (d195 v162 v183 v184 v196) (d194 v162 v183 v184 v196) 63 (by decide) (lastRow (d699 v162 v183 v184 v196)) := rfl
  rw [h, e699]
  rfl
theorem e715 (v162 : IVec S128x8x512 32) (v183 v184 : FVec F S128x8x512 .f32) (v196 : FVec F S1x512 .f32) : d715 v162 v183 v184 v196 = groups (d195 v162 v183 v184 v196) (d194 v162 v183 v184 v196) v196 64 (by decide) := by
  have h : d715 v162 v183 v184 v196 = group (d195 v162 v183 v184 v196) (d194 v162 v183 v184 v196) 64 (by decide) (lastRow (d707 v162 v183 v184 v196)) := rfl
  rw [h, e707]
  rfl
theorem e723 (v162 : IVec S128x8x512 32) (v183 v184 : FVec F S128x8x512 .f32) (v196 : FVec F S1x512 .f32) : d723 v162 v183 v184 v196 = groups (d195 v162 v183 v184 v196) (d194 v162 v183 v184 v196) v196 65 (by decide) := by
  have h : d723 v162 v183 v184 v196 = group (d195 v162 v183 v184 v196) (d194 v162 v183 v184 v196) 65 (by decide) (lastRow (d715 v162 v183 v184 v196)) := rfl
  rw [h, e715]
  rfl
theorem e731 (v162 : IVec S128x8x512 32) (v183 v184 : FVec F S128x8x512 .f32) (v196 : FVec F S1x512 .f32) : d731 v162 v183 v184 v196 = groups (d195 v162 v183 v184 v196) (d194 v162 v183 v184 v196) v196 66 (by decide) := by
  have h : d731 v162 v183 v184 v196 = group (d195 v162 v183 v184 v196) (d194 v162 v183 v184 v196) 66 (by decide) (lastRow (d723 v162 v183 v184 v196)) := rfl
  rw [h, e723]
  rfl
theorem e739 (v162 : IVec S128x8x512 32) (v183 v184 : FVec F S128x8x512 .f32) (v196 : FVec F S1x512 .f32) : d739 v162 v183 v184 v196 = groups (d195 v162 v183 v184 v196) (d194 v162 v183 v184 v196) v196 67 (by decide) := by
  have h : d739 v162 v183 v184 v196 = group (d195 v162 v183 v184 v196) (d194 v162 v183 v184 v196) 67 (by decide) (lastRow (d731 v162 v183 v184 v196)) := rfl
  rw [h, e731]
  rfl
theorem e747 (v162 : IVec S128x8x512 32) (v183 v184 : FVec F S128x8x512 .f32) (v196 : FVec F S1x512 .f32) : d747 v162 v183 v184 v196 = groups (d195 v162 v183 v184 v196) (d194 v162 v183 v184 v196) v196 68 (by decide) := by
  have h : d747 v162 v183 v184 v196 = group (d195 v162 v183 v184 v196) (d194 v162 v183 v184 v196) 68 (by decide) (lastRow (d739 v162 v183 v184 v196)) := rfl
  rw [h, e739]
  rfl
theorem e755 (v162 : IVec S128x8x512 32) (v183 v184 : FVec F S128x8x512 .f32) (v196 : FVec F S1x512 .f32) : d755 v162 v183 v184 v196 = groups (d195 v162 v183 v184 v196) (d194 v162 v183 v184 v196) v196 69 (by decide) := by
  have h : d755 v162 v183 v184 v196 = group (d195 v162 v183 v184 v196) (d194 v162 v183 v184 v196) 69 (by decide) (lastRow (d747 v162 v183 v184 v196)) := rfl
  rw [h, e747]
  rfl
theorem e763 (v162 : IVec S128x8x512 32) (v183 v184 : FVec F S128x8x512 .f32) (v196 : FVec F S1x512 .f32) : d763 v162 v183 v184 v196 = groups (d195 v162 v183 v184 v196) (d194 v162 v183 v184 v196) v196 70 (by decide) := by
  have h : d763 v162 v183 v184 v196 = group (d195 v162 v183 v184 v196) (d194 v162 v183 v184 v196) 70 (by decide) (lastRow (d755 v162 v183 v184 v196)) := rfl
  rw [h, e755]
  rfl
theorem e771 (v162 : IVec S128x8x512 32) (v183 v184 : FVec F S128x8x512 .f32) (v196 : FVec F S1x512 .f32) : d771 v162 v183 v184 v196 = groups (d195 v162 v183 v184 v196) (d194 v162 v183 v184 v196) v196 71 (by decide) := by
  have h : d771 v162 v183 v184 v196 = group (d195 v162 v183 v184 v196) (d194 v162 v183 v184 v196) 71 (by decide) (lastRow (d763 v162 v183 v184 v196)) := rfl
  rw [h, e763]
  rfl
theorem e779 (v162 : IVec S128x8x512 32) (v183 v184 : FVec F S128x8x512 .f32) (v196 : FVec F S1x512 .f32) : d779 v162 v183 v184 v196 = groups (d195 v162 v183 v184 v196) (d194 v162 v183 v184 v196) v196 72 (by decide) := by
  have h : d779 v162 v183 v184 v196 = group (d195 v162 v183 v184 v196) (d194 v162 v183 v184 v196) 72 (by decide) (lastRow (d771 v162 v183 v184 v196)) := rfl
  rw [h, e771]
  rfl
theorem e787 (v162 : IVec S128x8x512 32) (v183 v184 : FVec F S128x8x512 .f32) (v196 : FVec F S1x512 .f32) : d787 v162 v183 v184 v196 = groups (d195 v162 v183 v184 v196) (d194 v162 v183 v184 v196) v196 73 (by decide) := by
  have h : d787 v162 v183 v184 v196 = group (d195 v162 v183 v184 v196) (d194 v162 v183 v184 v196) 73 (by decide) (lastRow (d779 v162 v183 v184 v196)) := rfl
  rw [h, e779]
  rfl
theorem e795 (v162 : IVec S128x8x512 32) (v183 v184 : FVec F S128x8x512 .f32) (v196 : FVec F S1x512 .f32) : d795 v162 v183 v184 v196 = groups (d195 v162 v183 v184 v196) (d194 v162 v183 v184 v196) v196 74 (by decide) := by
  have h : d795 v162 v183 v184 v196 = group (d195 v162 v183 v184 v196) (d194 v162 v183 v184 v196) 74 (by decide) (lastRow (d787 v162 v183 v184 v196)) := rfl
  rw [h, e787]
  rfl
theorem e803 (v162 : IVec S128x8x512 32) (v183 v184 : FVec F S128x8x512 .f32) (v196 : FVec F S1x512 .f32) : d803 v162 v183 v184 v196 = groups (d195 v162 v183 v184 v196) (d194 v162 v183 v184 v196) v196 75 (by decide) := by
  have h : d803 v162 v183 v184 v196 = group (d195 v162 v183 v184 v196) (d194 v162 v183 v184 v196) 75 (by decide) (lastRow (d795 v162 v183 v184 v196)) := rfl
  rw [h, e795]
  rfl
theorem e811 (v162 : IVec S128x8x512 32) (v183 v184 : FVec F S128x8x512 .f32) (v196 : FVec F S1x512 .f32) : d811 v162 v183 v184 v196 = groups (d195 v162 v183 v184 v196) (d194 v162 v183 v184 v196) v196 76 (by decide) := by
  have h : d811 v162 v183 v184 v196 = group (d195 v162 v183 v184 v196) (d194 v162 v183 v184 v196) 76 (by decide) (lastRow (d803 v162 v183 v184 v196)) := rfl
  rw [h, e803]
  rfl
theorem e819 (v162 : IVec S128x8x512 32) (v183 v184 : FVec F S128x8x512 .f32) (v196 : FVec F S1x512 .f32) : d819 v162 v183 v184 v196 = groups (d195 v162 v183 v184 v196) (d194 v162 v183 v184 v196) v196 77 (by decide) := by
  have h : d819 v162 v183 v184 v196 = group (d195 v162 v183 v184 v196) (d194 v162 v183 v184 v196) 77 (by decide) (lastRow (d811 v162 v183 v184 v196)) := rfl
  rw [h, e811]
  rfl
theorem e827 (v162 : IVec S128x8x512 32) (v183 v184 : FVec F S128x8x512 .f32) (v196 : FVec F S1x512 .f32) : d827 v162 v183 v184 v196 = groups (d195 v162 v183 v184 v196) (d194 v162 v183 v184 v196) v196 78 (by decide) := by
  have h : d827 v162 v183 v184 v196 = group (d195 v162 v183 v184 v196) (d194 v162 v183 v184 v196) 78 (by decide) (lastRow (d819 v162 v183 v184 v196)) := rfl
  rw [h, e819]
  rfl
theorem e835 (v162 : IVec S128x8x512 32) (v183 v184 : FVec F S128x8x512 .f32) (v196 : FVec F S1x512 .f32) : d835 v162 v183 v184 v196 = groups (d195 v162 v183 v184 v196) (d194 v162 v183 v184 v196) v196 79 (by decide) := by
  have h : d835 v162 v183 v184 v196 = group (d195 v162 v183 v184 v196) (d194 v162 v183 v184 v196) 79 (by decide) (lastRow (d827 v162 v183 v184 v196)) := rfl
  rw [h, e827]
  rfl
theorem e843 (v162 : IVec S128x8x512 32) (v183 v184 : FVec F S128x8x512 .f32) (v196 : FVec F S1x512 .f32) : d843 v162 v183 v184 v196 = groups (d195 v162 v183 v184 v196) (d194 v162 v183 v184 v196) v196 80 (by decide) := by
  have h : d843 v162 v183 v184 v196 = group (d195 v162 v183 v184 v196) (d194 v162 v183 v184 v196) 80 (by decide) (lastRow (d835 v162 v183 v184 v196)) := rfl
  rw [h, e835]
  rfl
theorem e851 (v162 : IVec S128x8x512 32) (v183 v184 : FVec F S128x8x512 .f32) (v196 : FVec F S1x512 .f32) : d851 v162 v183 v184 v196 = groups (d195 v162 v183 v184 v196) (d194 v162 v183 v184 v196) v196 81 (by decide) := by
  have h : d851 v162 v183 v184 v196 = group (d195 v162 v183 v184 v196) (d194 v162 v183 v184 v196) 81 (by decide) (lastRow (d843 v162 v183 v184 v196)) := rfl
  rw [h, e843]
  rfl
theorem e859 (v162 : IVec S128x8x512 32) (v183 v184 : FVec F S128x8x512 .f32) (v196 : FVec F S1x512 .f32) : d859 v162 v183 v184 v196 = groups (d195 v162 v183 v184 v196) (d194 v162 v183 v184 v196) v196 82 (by decide) := by
  have h : d859 v162 v183 v184 v196 = group (d195 v162 v183 v184 v196) (d194 v162 v183 v184 v196) 82 (by decide) (lastRow (d851 v162 v183 v184 v196)) := rfl
  rw [h, e851]
  rfl
theorem e867 (v162 : IVec S128x8x512 32) (v183 v184 : FVec F S128x8x512 .f32) (v196 : FVec F S1x512 .f32) : d867 v162 v183 v184 v196 = groups (d195 v162 v183 v184 v196) (d194 v162 v183 v184 v196) v196 83 (by decide) := by
  have h : d867 v162 v183 v184 v196 = group (d195 v162 v183 v184 v196) (d194 v162 v183 v184 v196) 83 (by decide) (lastRow (d859 v162 v183 v184 v196)) := rfl
  rw [h, e859]
  rfl
theorem e875 (v162 : IVec S128x8x512 32) (v183 v184 : FVec F S128x8x512 .f32) (v196 : FVec F S1x512 .f32) : d875 v162 v183 v184 v196 = groups (d195 v162 v183 v184 v196) (d194 v162 v183 v184 v196) v196 84 (by decide) := by
  have h : d875 v162 v183 v184 v196 = group (d195 v162 v183 v184 v196) (d194 v162 v183 v184 v196) 84 (by decide) (lastRow (d867 v162 v183 v184 v196)) := rfl
  rw [h, e867]
  rfl
theorem e883 (v162 : IVec S128x8x512 32) (v183 v184 : FVec F S128x8x512 .f32) (v196 : FVec F S1x512 .f32) : d883 v162 v183 v184 v196 = groups (d195 v162 v183 v184 v196) (d194 v162 v183 v184 v196) v196 85 (by decide) := by
  have h : d883 v162 v183 v184 v196 = group (d195 v162 v183 v184 v196) (d194 v162 v183 v184 v196) 85 (by decide) (lastRow (d875 v162 v183 v184 v196)) := rfl
  rw [h, e875]
  rfl
theorem e891 (v162 : IVec S128x8x512 32) (v183 v184 : FVec F S128x8x512 .f32) (v196 : FVec F S1x512 .f32) : d891 v162 v183 v184 v196 = groups (d195 v162 v183 v184 v196) (d194 v162 v183 v184 v196) v196 86 (by decide) := by
  have h : d891 v162 v183 v184 v196 = group (d195 v162 v183 v184 v196) (d194 v162 v183 v184 v196) 86 (by decide) (lastRow (d883 v162 v183 v184 v196)) := rfl
  rw [h, e883]
  rfl
theorem e899 (v162 : IVec S128x8x512 32) (v183 v184 : FVec F S128x8x512 .f32) (v196 : FVec F S1x512 .f32) : d899 v162 v183 v184 v196 = groups (d195 v162 v183 v184 v196) (d194 v162 v183 v184 v196) v196 87 (by decide) := by
  have h : d899 v162 v183 v184 v196 = group (d195 v162 v183 v184 v196) (d194 v162 v183 v184 v196) 87 (by decide) (lastRow (d891 v162 v183 v184 v196)) := rfl
  rw [h, e891]
  rfl
theorem e907 (v162 : IVec S128x8x512 32) (v183 v184 : FVec F S128x8x512 .f32) (v196 : FVec F S1x512 .f32) : d907 v162 v183 v184 v196 = groups (d195 v162 v183 v184 v196) (d194 v162 v183 v184 v196) v196 88 (by decide) := by
  have h : d907 v162 v183 v184 v196 = group (d195 v162 v183 v184 v196) (d194 v162 v183 v184 v196) 88 (by decide) (lastRow (d899 v162 v183 v184 v196)) := rfl
  rw [h, e899]
  rfl
theorem e915 (v162 : IVec S128x8x512 32) (v183 v184 : FVec F S128x8x512 .f32) (v196 : FVec F S1x512 .f32) : d915 v162 v183 v184 v196 = groups (d195 v162 v183 v184 v196) (d194 v162 v183 v184 v196) v196 89 (by decide) := by
  have h : d915 v162 v183 v184 v196 = group (d195 v162 v183 v184 v196) (d194 v162 v183 v184 v196) 89 (by decide) (lastRow (d907 v162 v183 v184 v196)) := rfl
  rw [h, e907]
  rfl
theorem e923 (v162 : IVec S128x8x512 32) (v183 v184 : FVec F S128x8x512 .f32) (v196 : FVec F S1x512 .f32) : d923 v162 v183 v184 v196 = groups (d195 v162 v183 v184 v196) (d194 v162 v183 v184 v196) v196 90 (by decide) := by
  have h : d923 v162 v183 v184 v196 = group (d195 v162 v183 v184 v196) (d194 v162 v183 v184 v196) 90 (by decide) (lastRow (d915 v162 v183 v184 v196)) := rfl
  rw [h, e915]
  rfl
theorem e931 (v162 : IVec S128x8x512 32) (v183 v184 : FVec F S128x8x512 .f32) (v196 : FVec F S1x512 .f32) : d931 v162 v183 v184 v196 = groups (d195 v162 v183 v184 v196) (d194 v162 v183 v184 v196) v196 91 (by decide) := by
  have h : d931 v162 v183 v184 v196 = group (d195 v162 v183 v184 v196) (d194 v162 v183 v184 v196) 91 (by decide) (lastRow (d923 v162 v183 v184 v196)) := rfl
  rw [h, e923]
  rfl
theorem e939 (v162 : IVec S128x8x512 32) (v183 v184 : FVec F S128x8x512 .f32) (v196 : FVec F S1x512 .f32) : d939 v162 v183 v184 v196 = groups (d195 v162 v183 v184 v196) (d194 v162 v183 v184 v196) v196 92 (by decide) := by
  have h : d939 v162 v183 v184 v196 = group (d195 v162 v183 v184 v196) (d194 v162 v183 v184 v196) 92 (by decide) (lastRow (d931 v162 v183 v184 v196)) := rfl
  rw [h, e931]
  rfl
theorem e947 (v162 : IVec S128x8x512 32) (v183 v184 : FVec F S128x8x512 .f32) (v196 : FVec F S1x512 .f32) : d947 v162 v183 v184 v196 = groups (d195 v162 v183 v184 v196) (d194 v162 v183 v184 v196) v196 93 (by decide) := by
  have h : d947 v162 v183 v184 v196 = group (d195 v162 v183 v184 v196) (d194 v162 v183 v184 v196) 93 (by decide) (lastRow (d939 v162 v183 v184 v196)) := rfl
  rw [h, e939]
  rfl
theorem e955 (v162 : IVec S128x8x512 32) (v183 v184 : FVec F S128x8x512 .f32) (v196 : FVec F S1x512 .f32) : d955 v162 v183 v184 v196 = groups (d195 v162 v183 v184 v196) (d194 v162 v183 v184 v196) v196 94 (by decide) := by
  have h : d955 v162 v183 v184 v196 = group (d195 v162 v183 v184 v196) (d194 v162 v183 v184 v196) 94 (by decide) (lastRow (d947 v162 v183 v184 v196)) := rfl
  rw [h, e947]
  rfl
theorem e963 (v162 : IVec S128x8x512 32) (v183 v184 : FVec F S128x8x512 .f32) (v196 : FVec F S1x512 .f32) : d963 v162 v183 v184 v196 = groups (d195 v162 v183 v184 v196) (d194 v162 v183 v184 v196) v196 95 (by decide) := by
  have h : d963 v162 v183 v184 v196 = group (d195 v162 v183 v184 v196) (d194 v162 v183 v184 v196) 95 (by decide) (lastRow (d955 v162 v183 v184 v196)) := rfl
  rw [h, e955]
  rfl
theorem e971 (v162 : IVec S128x8x512 32) (v183 v184 : FVec F S128x8x512 .f32) (v196 : FVec F S1x512 .f32) : d971 v162 v183 v184 v196 = groups (d195 v162 v183 v184 v196) (d194 v162 v183 v184 v196) v196 96 (by decide) := by
  have h : d971 v162 v183 v184 v196 = group (d195 v162 v183 v184 v196) (d194 v162 v183 v184 v196) 96 (by decide) (lastRow (d963 v162 v183 v184 v196)) := rfl
  rw [h, e963]
  rfl
theorem e979 (v162 : IVec S128x8x512 32) (v183 v184 : FVec F S128x8x512 .f32) (v196 : FVec F S1x512 .f32) : d979 v162 v183 v184 v196 = groups (d195 v162 v183 v184 v196) (d194 v162 v183 v184 v196) v196 97 (by decide) := by
  have h : d979 v162 v183 v184 v196 = group (d195 v162 v183 v184 v196) (d194 v162 v183 v184 v196) 97 (by decide) (lastRow (d971 v162 v183 v184 v196)) := rfl
  rw [h, e971]
  rfl
theorem e987 (v162 : IVec S128x8x512 32) (v183 v184 : FVec F S128x8x512 .f32) (v196 : FVec F S1x512 .f32) : d987 v162 v183 v184 v196 = groups (d195 v162 v183 v184 v196) (d194 v162 v183 v184 v196) v196 98 (by decide) := by
  have h : d987 v162 v183 v184 v196 = group (d195 v162 v183 v184 v196) (d194 v162 v183 v184 v196) 98 (by decide) (lastRow (d979 v162 v183 v184 v196)) := rfl
  rw [h, e979]
  rfl
theorem e995 (v162 : IVec S128x8x512 32) (v183 v184 : FVec F S128x8x512 .f32) (v196 : FVec F S1x512 .f32) : d995 v162 v183 v184 v196 = groups (d195 v162 v183 v184 v196) (d194 v162 v183 v184 v196) v196 99 (by decide) := by
  have h : d995 v162 v183 v184 v196 = group (d195 v162 v183 v184 v196) (d194 v162 v183 v184 v196) 99 (by decide) (lastRow (d987 v162 v183 v184 v196)) := rfl
  rw [h, e987]
  rfl
theorem e1003 (v162 : IVec S128x8x512 32) (v183 v184 : FVec F S128x8x512 .f32) (v196 : FVec F S1x512 .f32) : d1003 v162 v183 v184 v196 = groups (d195 v162 v183 v184 v196) (d194 v162 v183 v184 v196) v196 100 (by decide) := by
  have h : d1003 v162 v183 v184 v196 = group (d195 v162 v183 v184 v196) (d194 v162 v183 v184 v196) 100 (by decide) (lastRow (d995 v162 v183 v184 v196)) := rfl
  rw [h, e995]
  rfl
theorem e1011 (v162 : IVec S128x8x512 32) (v183 v184 : FVec F S128x8x512 .f32) (v196 : FVec F S1x512 .f32) : d1011 v162 v183 v184 v196 = groups (d195 v162 v183 v184 v196) (d194 v162 v183 v184 v196) v196 101 (by decide) := by
  have h : d1011 v162 v183 v184 v196 = group (d195 v162 v183 v184 v196) (d194 v162 v183 v184 v196) 101 (by decide) (lastRow (d1003 v162 v183 v184 v196)) := rfl
  rw [h, e1003]
  rfl
theorem e1019 (v162 : IVec S128x8x512 32) (v183 v184 : FVec F S128x8x512 .f32) (v196 : FVec F S1x512 .f32) : d1019 v162 v183 v184 v196 = groups (d195 v162 v183 v184 v196) (d194 v162 v183 v184 v196) v196 102 (by decide) := by
  have h : d1019 v162 v183 v184 v196 = group (d195 v162 v183 v184 v196) (d194 v162 v183 v184 v196) 102 (by decide) (lastRow (d1011 v162 v183 v184 v196)) := rfl
  rw [h, e1011]
  rfl
theorem e1027 (v162 : IVec S128x8x512 32) (v183 v184 : FVec F S128x8x512 .f32) (v196 : FVec F S1x512 .f32) : d1027 v162 v183 v184 v196 = groups (d195 v162 v183 v184 v196) (d194 v162 v183 v184 v196) v196 103 (by decide) := by
  have h : d1027 v162 v183 v184 v196 = group (d195 v162 v183 v184 v196) (d194 v162 v183 v184 v196) 103 (by decide) (lastRow (d1019 v162 v183 v184 v196)) := rfl
  rw [h, e1019]
  rfl
theorem e1035 (v162 : IVec S128x8x512 32) (v183 v184 : FVec F S128x8x512 .f32) (v196 : FVec F S1x512 .f32) : d1035 v162 v183 v184 v196 = groups (d195 v162 v183 v184 v196) (d194 v162 v183 v184 v196) v196 104 (by decide) := by
  have h : d1035 v162 v183 v184 v196 = group (d195 v162 v183 v184 v196) (d194 v162 v183 v184 v196) 104 (by decide) (lastRow (d1027 v162 v183 v184 v196)) := rfl
  rw [h, e1027]
  rfl
theorem e1043 (v162 : IVec S128x8x512 32) (v183 v184 : FVec F S128x8x512 .f32) (v196 : FVec F S1x512 .f32) : d1043 v162 v183 v184 v196 = groups (d195 v162 v183 v184 v196) (d194 v162 v183 v184 v196) v196 105 (by decide) := by
  have h : d1043 v162 v183 v184 v196 = group (d195 v162 v183 v184 v196) (d194 v162 v183 v184 v196) 105 (by decide) (lastRow (d1035 v162 v183 v184 v196)) := rfl
  rw [h, e1035]
  rfl
theorem e1051 (v162 : IVec S128x8x512 32) (v183 v184 : FVec F S128x8x512 .f32) (v196 : FVec F S1x512 .f32) : d1051 v162 v183 v184 v196 = groups (d195 v162 v183 v184 v196) (d194 v162 v183 v184 v196) v196 106 (by decide) := by
  have h : d1051 v162 v183 v184 v196 = group (d195 v162 v183 v184 v196) (d194 v162 v183 v184 v196) 106 (by decide) (lastRow (d1043 v162 v183 v184 v196)) := rfl
  rw [h, e1043]
  rfl
theorem e1059 (v162 : IVec S128x8x512 32) (v183 v184 : FVec F S128x8x512 .f32) (v196 : FVec F S1x512 .f32) : d1059 v162 v183 v184 v196 = groups (d195 v162 v183 v184 v196) (d194 v162 v183 v184 v196) v196 107 (by decide) := by
  have h : d1059 v162 v183 v184 v196 = group (d195 v162 v183 v184 v196) (d194 v162 v183 v184 v196) 107 (by decide) (lastRow (d1051 v162 v183 v184 v196)) := rfl
  rw [h, e1051]
  rfl
theorem e1067 (v162 : IVec S128x8x512 32) (v183 v184 : FVec F S128x8x512 .f32) (v196 : FVec F S1x512 .f32) : d1067 v162 v183 v184 v196 = groups (d195 v162 v183 v184 v196) (d194 v162 v183 v184 v196) v196 108 (by decide) := by
  have h : d1067 v162 v183 v184 v196 = group (d195 v162 v183 v184 v196) (d194 v162 v183 v184 v196) 108 (by decide) (lastRow (d1059 v162 v183 v184 v196)) := rfl
  rw [h, e1059]
  rfl
theorem e1075 (v162 : IVec S128x8x512 32) (v183 v184 : FVec F S128x8x512 .f32) (v196 : FVec F S1x512 .f32) : d1075 v162 v183 v184 v196 = groups (d195 v162 v183 v184 v196) (d194 v162 v183 v184 v196) v196 109 (by decide) := by
  have h : d1075 v162 v183 v184 v196 = group (d195 v162 v183 v184 v196) (d194 v162 v183 v184 v196) 109 (by decide) (lastRow (d1067 v162 v183 v184 v196)) := rfl
  rw [h, e1067]
  rfl
theorem e1083 (v162 : IVec S128x8x512 32) (v183 v184 : FVec F S128x8x512 .f32) (v196 : FVec F S1x512 .f32) : d1083 v162 v183 v184 v196 = groups (d195 v162 v183 v184 v196) (d194 v162 v183 v184 v196) v196 110 (by decide) := by
  have h : d1083 v162 v183 v184 v196 = group (d195 v162 v183 v184 v196) (d194 v162 v183 v184 v196) 110 (by decide) (lastRow (d1075 v162 v183 v184 v196)) := rfl
  rw [h, e1075]
  rfl
theorem e1091 (v162 : IVec S128x8x512 32) (v183 v184 : FVec F S128x8x512 .f32) (v196 : FVec F S1x512 .f32) : d1091 v162 v183 v184 v196 = groups (d195 v162 v183 v184 v196) (d194 v162 v183 v184 v196) v196 111 (by decide) := by
  have h : d1091 v162 v183 v184 v196 = group (d195 v162 v183 v184 v196) (d194 v162 v183 v184 v196) 111 (by decide) (lastRow (d1083 v162 v183 v184 v196)) := rfl
  rw [h, e1083]
  rfl
theorem e1099 (v162 : IVec S128x8x512 32) (v183 v184 : FVec F S128x8x512 .f32) (v196 : FVec F S1x512 .f32) : d1099 v162 v183 v184 v196 = groups (d195 v162 v183 v184 v196) (d194 v162 v183 v184 v196) v196 112 (by decide) := by
  have h : d1099 v162 v183 v184 v196 = group (d195 v162 v183 v184 v196) (d194 v162 v183 v184 v196) 112 (by decide) (lastRow (d1091 v162 v183 v184 v196)) := rfl
  rw [h, e1091]
  rfl
theorem e1107 (v162 : IVec S128x8x512 32) (v183 v184 : FVec F S128x8x512 .f32) (v196 : FVec F S1x512 .f32) : d1107 v162 v183 v184 v196 = groups (d195 v162 v183 v184 v196) (d194 v162 v183 v184 v196) v196 113 (by decide) := by
  have h : d1107 v162 v183 v184 v196 = group (d195 v162 v183 v184 v196) (d194 v162 v183 v184 v196) 113 (by decide) (lastRow (d1099 v162 v183 v184 v196)) := rfl
  rw [h, e1099]
  rfl
theorem e1115 (v162 : IVec S128x8x512 32) (v183 v184 : FVec F S128x8x512 .f32) (v196 : FVec F S1x512 .f32) : d1115 v162 v183 v184 v196 = groups (d195 v162 v183 v184 v196) (d194 v162 v183 v184 v196) v196 114 (by decide) := by
  have h : d1115 v162 v183 v184 v196 = group (d195 v162 v183 v184 v196) (d194 v162 v183 v184 v196) 114 (by decide) (lastRow (d1107 v162 v183 v184 v196)) := rfl
  rw [h, e1107]
  rfl
theorem e1123 (v162 : IVec S128x8x512 32) (v183 v184 : FVec F S128x8x512 .f32) (v196 : FVec F S1x512 .f32) : d1123 v162 v183 v184 v196 = groups (d195 v162 v183 v184 v196) (d194 v162 v183 v184 v196) v196 115 (by decide) := by
  have h : d1123 v162 v183 v184 v196 = group (d195 v162 v183 v184 v196) (d194 v162 v183 v184 v196) 115 (by decide) (lastRow (d1115 v162 v183 v184 v196)) := rfl
  rw [h, e1115]
  rfl
theorem e1131 (v162 : IVec S128x8x512 32) (v183 v184 : FVec F S128x8x512 .f32) (v196 : FVec F S1x512 .f32) : d1131 v162 v183 v184 v196 = groups (d195 v162 v183 v184 v196) (d194 v162 v183 v184 v196) v196 116 (by decide) := by
  have h : d1131 v162 v183 v184 v196 = group (d195 v162 v183 v184 v196) (d194 v162 v183 v184 v196) 116 (by decide) (lastRow (d1123 v162 v183 v184 v196)) := rfl
  rw [h, e1123]
  rfl
theorem e1139 (v162 : IVec S128x8x512 32) (v183 v184 : FVec F S128x8x512 .f32) (v196 : FVec F S1x512 .f32) : d1139 v162 v183 v184 v196 = groups (d195 v162 v183 v184 v196) (d194 v162 v183 v184 v196) v196 117 (by decide) := by
  have h : d1139 v162 v183 v184 v196 = group (d195 v162 v183 v184 v196) (d194 v162 v183 v184 v196) 117 (by decide) (lastRow (d1131 v162 v183 v184 v196)) := rfl
  rw [h, e1131]
  rfl
theorem e1147 (v162 : IVec S128x8x512 32) (v183 v184 : FVec F S128x8x512 .f32) (v196 : FVec F S1x512 .f32) : d1147 v162 v183 v184 v196 = groups (d195 v162 v183 v184 v196) (d194 v162 v183 v184 v196) v196 118 (by decide) := by
  have h : d1147 v162 v183 v184 v196 = group (d195 v162 v183 v184 v196) (d194 v162 v183 v184 v196) 118 (by decide) (lastRow (d1139 v162 v183 v184 v196)) := rfl
  rw [h, e1139]
  rfl
theorem e1155 (v162 : IVec S128x8x512 32) (v183 v184 : FVec F S128x8x512 .f32) (v196 : FVec F S1x512 .f32) : d1155 v162 v183 v184 v196 = groups (d195 v162 v183 v184 v196) (d194 v162 v183 v184 v196) v196 119 (by decide) := by
  have h : d1155 v162 v183 v184 v196 = group (d195 v162 v183 v184 v196) (d194 v162 v183 v184 v196) 119 (by decide) (lastRow (d1147 v162 v183 v184 v196)) := rfl
  rw [h, e1147]
  rfl
theorem e1163 (v162 : IVec S128x8x512 32) (v183 v184 : FVec F S128x8x512 .f32) (v196 : FVec F S1x512 .f32) : d1163 v162 v183 v184 v196 = groups (d195 v162 v183 v184 v196) (d194 v162 v183 v184 v196) v196 120 (by decide) := by
  have h : d1163 v162 v183 v184 v196 = group (d195 v162 v183 v184 v196) (d194 v162 v183 v184 v196) 120 (by decide) (lastRow (d1155 v162 v183 v184 v196)) := rfl
  rw [h, e1155]
  rfl
theorem e1171 (v162 : IVec S128x8x512 32) (v183 v184 : FVec F S128x8x512 .f32) (v196 : FVec F S1x512 .f32) : d1171 v162 v183 v184 v196 = groups (d195 v162 v183 v184 v196) (d194 v162 v183 v184 v196) v196 121 (by decide) := by
  have h : d1171 v162 v183 v184 v196 = group (d195 v162 v183 v184 v196) (d194 v162 v183 v184 v196) 121 (by decide) (lastRow (d1163 v162 v183 v184 v196)) := rfl
  rw [h, e1163]
  rfl
theorem e1179 (v162 : IVec S128x8x512 32) (v183 v184 : FVec F S128x8x512 .f32) (v196 : FVec F S1x512 .f32) : d1179 v162 v183 v184 v196 = groups (d195 v162 v183 v184 v196) (d194 v162 v183 v184 v196) v196 122 (by decide) := by
  have h : d1179 v162 v183 v184 v196 = group (d195 v162 v183 v184 v196) (d194 v162 v183 v184 v196) 122 (by decide) (lastRow (d1171 v162 v183 v184 v196)) := rfl
  rw [h, e1171]
  rfl
theorem e1187 (v162 : IVec S128x8x512 32) (v183 v184 : FVec F S128x8x512 .f32) (v196 : FVec F S1x512 .f32) : d1187 v162 v183 v184 v196 = groups (d195 v162 v183 v184 v196) (d194 v162 v183 v184 v196) v196 123 (by decide) := by
  have h : d1187 v162 v183 v184 v196 = group (d195 v162 v183 v184 v196) (d194 v162 v183 v184 v196) 123 (by decide) (lastRow (d1179 v162 v183 v184 v196)) := rfl
  rw [h, e1179]
  rfl
theorem e1195 (v162 : IVec S128x8x512 32) (v183 v184 : FVec F S128x8x512 .f32) (v196 : FVec F S1x512 .f32) : d1195 v162 v183 v184 v196 = groups (d195 v162 v183 v184 v196) (d194 v162 v183 v184 v196) v196 124 (by decide) := by
  have h : d1195 v162 v183 v184 v196 = group (d195 v162 v183 v184 v196) (d194 v162 v183 v184 v196) 124 (by decide) (lastRow (d1187 v162 v183 v184 v196)) := rfl
  rw [h, e1187]
  rfl
theorem e1203 (v162 : IVec S128x8x512 32) (v183 v184 : FVec F S128x8x512 .f32) (v196 : FVec F S1x512 .f32) : d1203 v162 v183 v184 v196 = groups (d195 v162 v183 v184 v196) (d194 v162 v183 v184 v196) v196 125 (by decide) := by
  have h : d1203 v162 v183 v184 v196 = group (d195 v162 v183 v184 v196) (d194 v162 v183 v184 v196) 125 (by decide) (lastRow (d1195 v162 v183 v184 v196)) := rfl
  rw [h, e1195]
  rfl
theorem e1211 (v162 : IVec S128x8x512 32) (v183 v184 : FVec F S128x8x512 .f32) (v196 : FVec F S1x512 .f32) : d1211 v162 v183 v184 v196 = groups (d195 v162 v183 v184 v196) (d194 v162 v183 v184 v196) v196 126 (by decide) := by
  have h : d1211 v162 v183 v184 v196 = group (d195 v162 v183 v184 v196) (d194 v162 v183 v184 v196) 126 (by decide) (lastRow (d1203 v162 v183 v184 v196)) := rfl
  rw [h, e1203]
  rfl
theorem e1219 (v162 : IVec S128x8x512 32) (v183 v184 : FVec F S128x8x512 .f32) (v196 : FVec F S1x512 .f32) : d1219 v162 v183 v184 v196 = groups (d195 v162 v183 v184 v196) (d194 v162 v183 v184 v196) v196 127 (by decide) := by
  have h : d1219 v162 v183 v184 v196 = group (d195 v162 v183 v184 v196) (d194 v162 v183 v184 v196) 127 (by decide) (lastRow (d1211 v162 v183 v184 v196)) := rfl
  rw [h, e1211]
  rfl
theorem dRows_eq (v162 : IVec S128x8x512 32) (v183 v184 : FVec F S128x8x512 .f32) (v196 : FVec F S1x512 .f32) : dRows v162 v183 v184 v196 = rows (d195 v162 v183 v184 v196) (d194 v162 v183 v184 v196) v196 := by
  unfold dRows k0_pay197 rows
  simp only [e203, e211, e219, e227, e235, e243, e251, e259, e267, e275, e283, e291, e299, e307, e315, e323, e331, e339, e347, e355, e363, e371, e379, e387, e395, e403, e411, e419, e427, e435, e443, e451, e459, e467, e475, e483, e491, e499, e507, e515, e523, e531, e539, e547, e555, e563, e571, e579, e587, e595, e603, e611, e619, e627, e635, e643, e651, e659, e667, e675, e683, e691, e699, e707, e715, e723, e731, e739, e747, e755, e763, e771, e779, e787, e795, e803, e811, e819, e827, e835, e843, e851, e859, e867, e875, e883, e891, e899, e907, e915, e923, e931, e939, e947, e955, e963, e971, e979, e987, e995, e1003, e1011, e1019, e1027, e1035, e1043, e1051, e1059, e1067, e1075, e1083, e1091, e1099, e1107, e1115, e1123, e1131, e1139, e1147, e1155, e1163, e1171, e1179, e1187, e1195, e1203, e1211, e1219]
  rfl
theorem dLast_eq (v162 : IVec S128x8x512 32) (v183 v184 : FVec F S128x8x512 .f32) (v196 : FVec F S1x512 .f32) : dLast v162 v183 v184 v196 = lastRow (groups (d195 v162 v183 v184 v196) (d194 v162 v183 v184 v196) v196 127 (by decide)) := by
  unfold dLast k0_pay196
  rw [e1219]
  exact shapeCast_self _ _

end Cert.Kernel4Ideal.Inproj
end
-- ==== Proof.Inproj.Recur.lean ====
/- What the recurrence's result block of the input projection kernel holds after each point, with what the point carries over:
   the last rows of the branch's projection and the last row of the recurrence. -/
module

public import proofs.«01_k».proof.Proof.Inproj.Chain

@[expose] public section

set_option maxRecDepth 65536

noncomputable section

namespace Cert.Kernel4Ideal.Inproj

open Cert.Kernel4Ideal Cert.Kernel4Ideal.Gen
open Idealize.ShloMosaic Idealize.ShloMosaic.TcCoe Idealize.SL.Sem

variable {F : FTy → Type} [FloatOps F]
variable (m : (ℓ : Loc nD τ sig) → Buf (Elt F) ℓ)

/-- The coordinate of a row within its group. -/
def inGroup : IVec S128x8x512 32 := iota .tc S128x8x512 32 [1] iota_S128x8x512_d1_w32

def bConvW (c : Dev nD) (t : Fin cfg0.N) : Vec F S4x512 .f32 := iblk m c 7 t
def bConvB (c : Dev nD) (t : Fin cfg0.N) : Vec F S1x512 .f32 := iblk m c 8 t
def bGateW (c : Dev nD) (t : Fin cfg0.N) : Vec F S512x1024 .bf16 := iblk m c 9 t
def bGateB (c : Dev nD) (t : Fin cfg0.N) : Vec F S1x1024 .f32 := iblk m c 10 t
def bLam (c : Dev nD) (t : Fin cfg0.N) : Vec F S1x512 .f32 := iblk m c 11 t

def cwRow0 (w : Vec F S4x512 .f32) : Vec F S1x512 .f32 := View.ld w (Rect.unit (s := S4x512) ![0, 0] S1x512.size inb_S4x512_S1x512_0_0)
def cwRow1 (w : Vec F S4x512 .f32) : Vec F S1x512 .f32 := View.ld w (Rect.unit (s := S4x512) ![1, 0] S1x512.size inb_S4x512_S1x512_1_0)
def cwRow2 (w : Vec F S4x512 .f32) : Vec F S1x512 .f32 := View.ld w (Rect.unit (s := S4x512) ![2, 0] S1x512.size inb_S4x512_S1x512_2_0)
def cwRow3 (w : Vec F S4x512 .f32) : Vec F S1x512 .f32 := View.ld w (Rect.unit (s := S4x512) ![3, 0] S1x512.size inb_S4x512_S1x512_3_0)

/-- The two branches' projection of point `t`'s rows. -/
def both (c : Dev nD) (t : Fin cfg0.N) : FVec F S1024x1024 .f32 :=
  k0_pay5 (bX m c t) (bNorm m c t) (bScale m c t) (bShift m c t)
    (View.ld (bIn m c t) (Rect.unit (s := S1024x2560) ![0, 0] S1024x1024.size inb_S1024x2560_S1024x1024_0_0))

/-- The convolved rows, from the rows at the four offsets. -/
def convRows (cw : Vec F S4x512 .f32) (cb : Vec F S1x512 .f32) (x0 x1 x2 x3 : FVec F S1024x512 .f32) : FVec F S1024x512 .f32 :=
  k0_pay16 (k0_pay14 (cwRow0 cw) x0) (k0_pay15 cb) (cwRow1 cw) x1 (cwRow2 cw) x2 (cwRow3 cw) x3
def decayGate (cw : Vec F S4x512 .f32) (cb : Vec F S1x512 .f32) (x0 x1 x2 x3 : FVec F S1024x512 .f32) (wg : Vec F S512x1024 .bf16) (bg : Vec F S1x1024 .f32) : FVec F S1024x512 .f32 :=
  k0_pay19 (k0_pay14 (cwRow0 cw) x0) (k0_pay15 cb) (cwRow1 cw) x1 (cwRow2 cw) x2 (cwRow3 cw) x3 wg bg
def inputGate (cw : Vec F S4x512 .f32) (cb : Vec F S1x512 .f32) (x0 x1 x2 x3 : FVec F S1024x512 .f32) (wg : Vec F S512x1024 .bf16) (bg : Vec F S1x1024 .f32) : FVec F S1024x512 .f32 :=
  k0_pay20 (k0_pay14 (cwRow0 cw) x0) (k0_pay15 cb) (cwRow1 cw) x1 (cwRow2 cw) x2 (cwRow3 cw) x3 wg bg

/-- The recurrence's rows from the two gates, the convolved rows, the decay's parameter and the row carried in. -/
def recurRows (r i u : FVec F S1024x512 .f32) (lam h : FVec F S1x512 .f32) : FVec F S1024x512 .f32 :=
  dRows inGroup (k0_pay29 u r i (k0_pay21 lam) k0_pay22) (k0_pay30 r (k0_pay21 lam) k0_pay22) h
def recurLast (r i u : FVec F S1024x512 .f32) (lam h : FVec F S1x512 .f32) : FVec F S1x512 .f32 :=
  dLast inGroup (k0_pay29 u r i (k0_pay21 lam) k0_pay22) (k0_pay30 r (k0_pay21 lam) k0_pay22) h
def gatedRows (y h : FVec F S1024x512 .f32) : FVec F S1x1024x512 .bf16 := k0_pay1 y h (k0_pay198 y) (k0_pay199 y)

/-- The rows from `o` on of the padded rows at a batch's first point: zeros before the point's own rows. -/
def rowsA (x : FVec F S1024x512 .f32) (o : ℕ) (inb : ∀ a : Fin 2, ![o, 0] a + ![1024, 512] a ≤ S1032x512.size a) : FVec F S1024x512 .f32 :=
  (View.whole cc0_scratch0).readCov (Val := Elt F)
    [⟨Rect.unit (s := S1032x512) ![8, 0] ![1024, 512] inb_S1032x512_S1024x512_8_0, x⟩, ⟨Rect.unit (s := S1032x512) ![0, 0] ![8, 512] inb_S1032x512_S8x512_0_0, k0_pay2 (F := F)⟩]
    (Rect.unit (s := S1032x512) ![o, 0] ![1024, 512] inb).toLoadRect

/-- The rows from `o` on of the padded rows at any other point: the rows kept from the point before, before the point's own. -/
def rowsB (kept : Vec F S1032x512 .f32) (x : FVec F S1024x512 .f32) (o : ℕ) (inb : ∀ a : Fin 2, ![o, 0] a + ![1024, 512] a ≤ S1032x512.size a) : FVec F S1024x512 .f32 :=
  View.ld (View.read (Elt F) (View.whole cc0_scratch0)
      ((View.whole cc0_scratch0).writes (Elt F) ((Memref.isWhole_whole cc0_scratch0).unread kept)
        [⟨Rect.unit (s := S1032x512) ![8, 0] ![1024, 512] inb_S1032x512_S1024x512_8_0, x⟩]))
    (Rect.unit (s := S1032x512) ![o, 0] ![1024, 512] inb)

/-- The point's own rows of the padded rows. -/
def rowsOwn (x : FVec F S1024x512 .f32) : FVec F S1024x512 .f32 :=
  (View.whole cc0_scratch0).readCov (Val := Elt F)
    [⟨Rect.unit (s := S1032x512) ![8, 0] ![1024, 512] inb_S1032x512_S1024x512_8_0, x⟩]
    (Rect.unit (s := S1032x512) ![8, 0] ![1024, 512] inb_S1032x512_S1024x512_8_0).toLoadRect

def recurAt (c : Dev nD) (t : Fin cfg0.N) (x0 x1 x2 x3 : FVec F S1024x512 .f32) (h : FVec F S1x512 .f32) : FVec F S1024x512 .f32 :=
  recurRows (decayGate (bConvW m c t) (bConvB m c t) x0 x1 x2 x3 (bGateW m c t) (bGateB m c t))
    (inputGate (bConvW m c t) (bConvB m c t) x0 x1 x2 x3 (bGateW m c t) (bGateB m c t))
    (convRows (bConvW m c t) (bConvB m c t) x0 x1 x2 x3) (bLam m c t) h
def lastAt (c : Dev nD) (t : Fin cfg0.N) (x0 x1 x2 x3 : FVec F S1024x512 .f32) (h : FVec F S1x512 .f32) : FVec F S1x512 .f32 :=
  recurLast (decayGate (bConvW m c t) (bConvB m c t) x0 x1 x2 x3 (bGateW m c t) (bGateB m c t))
    (inputGate (bConvW m c t) (bConvB m c t) x0 x1 x2 x3 (bGateW m c t) (bGateB m c t))
    (convRows (bConvW m c t) (bConvB m c t) x0 x1 x2 x3) (bLam m c t) h

def own (c : Dev nD) (t : Fin cfg0.N) : FVec F S1024x512 .f32 := k0_pay13 (both m c t)

theorem before_lt (t : Fin cfg0.N) : t.val - 1 < cfg0.N := lt_of_le_of_lt (Nat.sub_le _ _) t.isLt
/-- What the point before left. -/
def keptRows (c : Dev nD) (t : Fin cfg0.N) (h : ¬ t.val % 8 = 0) : Vec F S1032x512 .f32 := (outsAt0 m c (t.val - 1) (before_lt t)).2.2.2.2.1
def keptLast (c : Dev nD) (t : Fin cfg0.N) (h : ¬ t.val % 8 = 0) : Vec F S1x512 .f32 :=
  View.read (Elt F) (View.whole cc0_scratch1) ((Memref.isWhole_whole cc0_scratch1).unread (outsAt0 m c (t.val - 1) (before_lt t)).2.2.2.2.2)

theorem after_lru_A (c : Dev nD) (t : Fin cfg0.N) (h : t.val % 8 = 0) :
    (outsAt0 m c t.val t.isLt).1 = gatedRows (k0_pay24 (both m c t)) (recurAt m c t
      (rowsA (own m c t) 5 inb_S1032x512_S1024x512_5_0) (rowsA (own m c t) 6 inb_S1032x512_S1024x512_6_0) (rowsA (own m c t) 7 inb_S1032x512_S1024x512_7_0) (rowsA (own m c t) 8 inb_S1032x512_S1024x512_8_0) k0_pay3) := by
  rw [outsAt0_A m c t h]
  frame_out
  simp only [gatedRows, recurAt, lastAt, recurRows, recurLast, decayGate, inputGate, convRows, own, both, rowsA, rowsB, rowsOwn, keptRows, keptLast, bConvW, bConvB, bGateW, bGateB, bLam, bX, bScale, bShift, bNorm, bIn, cwRow0, cwRow1, cwRow2, cwRow3]
  generalize (k0_pay29 (F := F) _ _ _ _ _) = R
  generalize (k0_pay30 (F := F) _ _ _) = S
  generalize (k0_pay24 (F := F) _) = Y
  refine congrArg (fun z => k0_pay1 Y z _ _) ?_
  rfl

theorem after_last_A (c : Dev nD) (t : Fin cfg0.N) (h : t.val % 8 = 0) :
    (outsAt0 m c t.val t.isLt).2.2.2.2.2 = lastAt m c t
      (rowsA (own m c t) 5 inb_S1032x512_S1024x512_5_0) (rowsA (own m c t) 6 inb_S1032x512_S1024x512_6_0) (rowsA (own m c t) 7 inb_S1032x512_S1024x512_7_0) (rowsA (own m c t) 8 inb_S1032x512_S1024x512_8_0) k0_pay3 := by
  rw [outsAt0_A m c t h]
  frame_out
  simp only [gatedRows, recurAt, lastAt, recurRows, recurLast, decayGate, inputGate, convRows, own, both, rowsA, rowsB, rowsOwn, keptRows, keptLast, bConvW, bConvB, bGateW, bGateB, bLam, bX, bScale, bShift, bNorm, bIn, cwRow0, cwRow1, cwRow2, cwRow3]
  generalize (k0_pay29 (F := F) _ _ _ _ _) = R
  generalize (k0_pay30 (F := F) _ _ _) = S
  rfl

theorem after_lru_B (c : Dev nD) (t : Fin cfg0.N) (h : ¬ t.val % 8 = 0) :
    (outsAt0 m c t.val t.isLt).1 = gatedRows (k0_pay24 (both m c t)) (recurAt m c t
      (rowsB (keptRows m c t h) (own m c t) 5 inb_S1032x512_S1024x512_5_0) (rowsB (keptRows m c t h) (own m c t) 6 inb_S1032x512_S1024x512_6_0) (rowsB (keptRows m c t h) (own m c t) 7 inb_S1032x512_S1024x512_7_0) (rowsOwn (own m c t)) (keptLast m c t h)) := by
  rw [outsAt0_B m c t h]
  frame_out
  simp only [gatedRows, recurAt, lastAt, recurRows, recurLast, decayGate, inputGate, convRows, own, both, rowsA, rowsB, rowsOwn, keptRows, keptLast, bConvW, bConvB, bGateW, bGateB, bLam, bX, bScale, bShift, bNorm, bIn, cwRow0, cwRow1, cwRow2, cwRow3]
  generalize (k0_pay29 (F := F) _ _ _ _ _) = R
  generalize (k0_pay30 (F := F) _ _ _) = S
  generalize (View.read (Elt F) (View.whole cc0_scratch1) _) = H
  generalize (k0_pay24 (F := F) _) = Y
  refine congrArg (fun z => k0_pay1 Y z _ _) ?_
  rfl

theorem after_last_B (c : Dev nD) (t : Fin cfg0.N) (h : ¬ t.val % 8 = 0) :
    (outsAt0 m c t.val t.isLt).2.2.2.2.2 = lastAt m c t
      (rowsB (keptRows m c t h) (own m c t) 5 inb_S1032x512_S1024x512_5_0) (rowsB (keptRows m c t h) (own m c t) 6 inb_S1032x512_S1024x512_6_0) (rowsB (keptRows m c t h) (own m c t) 7 inb_S1032x512_S1024x512_7_0) (rowsOwn (own m c t)) (keptLast m c t h) := by
  rw [outsAt0_B m c t h]
  frame_out
  simp only [gatedRows, recurAt, lastAt, recurRows, recurLast, decayGate, inputGate, convRows, own, both, rowsA, rowsB, rowsOwn, keptRows, keptLast, bConvW, bConvB, bGateW, bGateB, bLam, bX, bScale, bShift, bNorm, bIn, cwRow0, cwRow1, cwRow2, cwRow3]
  generalize (k0_pay29 (F := F) _ _ _ _ _) = R
  generalize (k0_pay30 (F := F) _ _ _) = S
  generalize (View.read (Elt F) (View.whole cc0_scratch1) _) = H
  rfl

end Cert.Kernel4Ideal.Inproj

end
-- ==== Proof.Inproj.Scan.lean ====
/- The recurrence `h ↦ a·h + b` over the extended reals, and the kernel's way of running it eight steps at a time: three rounds,
   each joining a row with the row one, two and four before it. Also the decay's bounds, which the joining needs. -/
module

public import Idealize.ShloMosaic.PureOps.Ideal
public import Idealize.ShloMosaic.Lib.IdealHost

@[expose] public section

noncomputable section

namespace Cert.Inproj

open Idealize.ShloMosaic

/-- The recurrence after `n` steps from `h`. -/
def steps (a b : ℕ → EReal) (h : EReal) : ℕ → EReal
  | 0 => h
  | n + 1 => a n * steps a b h n + b n

theorem steps_add (a b : ℕ → EReal) (h : EReal) (k n : ℕ) :
    steps a b h (k + n) = steps (fun i => a (k + i)) (fun i => b (k + i)) (steps a b h k) n := by
  induction n with
  | zero => rfl
  | succ n ih => show a (k + n) * steps a b h (k + n) + b (k + n) = _; rw [ih]; rfl

theorem steps_congr {a a' b b' : ℕ → EReal} {h : EReal} (n : ℕ) (ha : ∀ i, i < n → a i = a' i) (hb : ∀ i, i < n → b i = b' i) :
    steps a b h n = steps a' b' h n := by
  induction n with
  | zero => rfl
  | succ n ih =>
    show a n * steps a b h n + b n = a' n * steps a' b' h n + b' n
    rw [ih (fun i hi => ha i (by omega)) (fun i hi => hb i (by omega)), ha n (by omega), hb n (by omega)]

/-- A decay: between zero and one. -/
def Decay (x : EReal) : Prop := 0 ≤ x ∧ x ≤ 1

theorem Decay.ne_top {x : EReal} (h : Decay x) : x ≠ ⊤ := fun e => absurd h.2 (by rw [e]; exact not_le.mpr (EReal.coe_lt_top 1))
theorem Decay.one : Decay 1 := ⟨zero_le_one, le_refl _⟩
theorem Decay.mul {x y : EReal} (hx : Decay x) (hy : Decay y) : Decay (x * y) :=
  ⟨mul_nonneg hx.1 hy.1, (mul_le_mul hx.2 hy.2 hy.1 zero_le_one).trans_eq (mul_one 1)⟩

/-- Two steps joined are one step. -/
theorem join {A A' B B' : EReal} (hA : Decay A) (c : EReal) : A * A' * c + (A * B' + B) = A * (A' * c + B') + B := by
  rw [EReal.left_distrib_of_nonneg_of_ne_top hA.1 hA.ne_top, mul_assoc, add_assoc]

/-- One round: each row from `d` on joined with the row `d` before it. -/
def roundA (d : ℕ) (A : ℕ → EReal) (k : ℕ) : EReal := A k * (if d ≤ k then A (k - d) else 1)
def roundB (d : ℕ) (A B : ℕ → EReal) (k : ℕ) : EReal := A k * (if d ≤ k then B (k - d) else 0) + B k

theorem round_decay {d : ℕ} {A : ℕ → EReal} (hA : ∀ k, Decay (A k)) (k : ℕ) : Decay (roundA d A k) := by
  unfold roundA
  split
  · exact (hA _).mul (hA _)
  · exact (hA _).mul Decay.one

theorem round_far {d : ℕ} {A B : ℕ → EReal} (hA : ∀ k, Decay (A k)) {k : ℕ} (h : d ≤ k) (c : EReal) :
    roundA d A k * c + roundB d A B k = A k * (A (k - d) * c + B (k - d)) + B k := by
  unfold roundA roundB
  rw [if_pos h, if_pos h]
  exact join (hA k) c

theorem round_near {d : ℕ} {A B : ℕ → EReal} {k : ℕ} (h : k < d) (c : EReal) :
    roundA d A k * c + roundB d A B k = A k * c + B k := by
  unfold roundA roundB
  rw [if_neg (by omega), if_neg (by omega), mul_one, mul_zero, zero_add]

/-- The three rounds are the recurrence over the rows up to each. -/
theorem rounds_eq {a b : ℕ → EReal} (ha : ∀ k, Decay (a k)) (c : EReal) {k : ℕ} (hk : k < 8) :
    roundA 4 (roundA 2 (roundA 1 a)) k * c + roundB 4 (roundA 2 (roundA 1 a)) (roundB 2 (roundA 1 a) (roundB 1 a b)) k = steps a b c (k + 1) := by
  have h1 := @round_decay 1 a ha
  have h2 := @round_decay 2 _ h1
  have f1 : ∀ {k : ℕ} (_ : 1 ≤ k) (c : EReal), roundA 1 a k * c + roundB 1 a b k = a k * (a (k - 1) * c + b (k - 1)) + b k := fun h c => round_far ha h c
  have f2 : ∀ {k : ℕ} (_ : 2 ≤ k) (c : EReal), roundA 2 (roundA 1 a) k * c + roundB 2 (roundA 1 a) (roundB 1 a b) k = _ := fun h c => round_far (B := roundB 1 a b) h1 h c
  have f4 : ∀ {k : ℕ} (_ : 4 ≤ k) (c : EReal), roundA 4 (roundA 2 (roundA 1 a)) k * c + roundB 4 (roundA 2 (roundA 1 a)) (roundB 2 (roundA 1 a) (roundB 1 a b)) k = _ :=
    fun h c => round_far (B := roundB 2 (roundA 1 a) (roundB 1 a b)) h2 h c
  have n1 : ∀ {k : ℕ} (_ : k < 1) (c : EReal), roundA 1 a k * c + roundB 1 a b k = _ := fun h c => round_near (A := a) (B := b) h c
  have n2 : ∀ {k : ℕ} (_ : k < 2) (c : EReal), roundA 2 (roundA 1 a) k * c + roundB 2 (roundA 1 a) (roundB 1 a b) k = _ := fun h c => round_near (A := roundA 1 a) (B := roundB 1 a b) h c
  have n4 : ∀ {k : ℕ} (_ : k < 4) (c : EReal), roundA 4 (roundA 2 (roundA 1 a)) k * c + roundB 4 (roundA 2 (roundA 1 a)) (roundB 2 (roundA 1 a) (roundB 1 a b)) k = _ :=
    fun h c => round_near (A := roundA 2 (roundA 1 a)) (B := roundB 2 (roundA 1 a) (roundB 1 a b)) h c
  interval_cases k
  · rw [n4 (by omega), n2 (by omega), n1 (by omega)]; rfl
  · rw [n4 (by omega), n2 (by omega), f1 (by omega)]; rfl
  · rw [n4 (by omega), f2 (by omega), n1 (k := 2 - 2) (by omega), f1 (by omega)]; rfl
  · rw [n4 (by omega), f2 (by omega), f1 (k := 3 - 2) (by omega), f1 (by omega)]; rfl
  · rw [f4 (by omega), n2 (k := 4 - 4) (by omega), n1 (k := 4 - 4) (by omega), f2 (by omega), f1 (k := 4 - 2) (by omega), f1 (by omega)]; rfl
  · rw [f4 (by omega), n2 (k := 5 - 4) (by omega), f1 (k := 5 - 4) (by omega), f2 (by omega), f1 (k := 5 - 2) (by omega), f1 (by omega)]; rfl
  · rw [f4 (by omega), f2 (k := 6 - 4) (by omega), n1 (k := 6 - 4 - 2) (by omega), f1 (k := 6 - 4) (by omega), f2 (by omega), f1 (k := 6 - 2) (by omega), f1 (by omega)]; rfl
  · rw [f4 (by omega), f2 (k := 7 - 4) (by omega), f1 (k := 7 - 4 - 2) (by omega), f1 (k := 7 - 4) (by omega), f2 (by omega), f1 (k := 7 - 2) (by omega), f1 (by omega)]; rfl

/-! ## The decay -/

theorem logistic_decay (x : EReal) : Decay (Ideal.logistic x) := by
  induction x with
  | bot => rw [Ideal.logistic_bot]; exact ⟨le_refl _, zero_le_one⟩
  | top => rw [Ideal.logistic_top]; exact Decay.one
  | coe r =>
    rw [Ideal.logistic_coe]
    have h : (0 : ℝ) < Real.exp (-r) := Real.exp_pos _
    refine ⟨by exact_mod_cast (by positivity : (0 : ℝ) ≤ (1 + Real.exp (-r))⁻¹), ?_⟩
    exact_mod_cast (inv_le_one_of_one_le₀ (by linarith) : (1 + Real.exp (-r))⁻¹ ≤ 1)

theorem exp_nonneg (x : EReal) : 0 ≤ Ideal.exp x := by
  induction x with
  | bot => exact le_refl _
  | top => exact le_top
  | coe r => rw [Ideal.exp_coe]; exact_mod_cast (Real.exp_pos r).le

theorem exp_decay {x : EReal} (h : x ≤ 0) : Decay (Ideal.exp x) := by
  refine ⟨exp_nonneg x, ?_⟩
  induction x with
  | bot => exact zero_le_one
  | top => exact absurd h (by simp)
  | coe r =>
    rw [Ideal.exp_coe]
    have : r ≤ 0 := by exact_mod_cast h
    exact_mod_cast Real.exp_le_one_iff.mpr this

theorem log1p_nonneg {x : EReal} (h : 0 ≤ x) : 0 ≤ Ideal.log1p x := by
  unfold Ideal.log1p
  induction x with
  | bot => exact absurd h (by simp)
  | top => rw [EReal.add_top_of_ne_bot (show (1 : EReal) ≠ ⊥ from EReal.coe_ne_bot 1)]; exact le_top
  | coe r =>
    have hr : 0 ≤ r := by exact_mod_cast h
    rw [← EReal.coe_one, ← EReal.coe_add, Ideal.log_coe, if_neg (by linarith)]
    exact_mod_cast Real.log_nonneg (by linarith)

/-- The softplus of the decay's parameter. -/
def softplus (x : EReal) : EReal := max x 0 + Ideal.log1p (Ideal.exp (-(max x (-x))))

theorem softplus_nonneg (x : EReal) : 0 ≤ softplus x := add_nonneg (le_max_right _ _) (log1p_nonneg (exp_nonneg _))

/-- Minus eight. -/
theorem minusEight : Ideal.ofBits .f32 0xC1000000#32 = ((-8 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

/-- The logarithm of the decay is not positive. -/
theorem logDecay_nonpos {r s : EReal} (hr : 0 ≤ r) (hs : 0 ≤ s) : Ideal.ofBits .f32 0xC1000000#32 * r * s ≤ 0 := by
  rw [minusEight, mul_assoc, EReal.coe_neg, EReal.neg_mul]
  have : (0 : EReal) ≤ ((8 : ℝ) : EReal) * (r * s) := mul_nonneg (by exact_mod_cast (by norm_num : (0 : ℝ) ≤ 8)) (mul_nonneg hr hs)
  simpa using EReal.neg_le_neg_iff.mpr this

/-- The two ways of writing one minus the decay's square. -/
theorem one_sub_sq {x : EReal} (h : x ≤ 0) :
    1 - Ideal.exp x * Ideal.exp x = -(Ideal.exp (Ideal.ofBits .f32 0x40000000#32 * x) - 1) := by
  rw [two]
  induction x with
  | top => exact absurd h (by simp)
  | bot =>
    have e : ((2 : ℝ) : EReal) * ⊥ = ⊥ := EReal.coe_mul_bot_of_pos (by norm_num)
    rw [e, Ideal.exp_bot]
    simp
  | coe r =>
    rw [← EReal.coe_mul, Ideal.exp_coe, Ideal.exp_coe, two_mul, Real.exp_add, ← EReal.coe_mul, ← EReal.coe_one, ← EReal.coe_sub, ← EReal.coe_sub, ← EReal.coe_neg, neg_sub]

end Cert.Inproj

end
-- ==== Proof.Ffn.Payload.lean ====
/- What one point of the output projection and feed-forward kernel computes, entry by entry, with the floats read as extended
   reals: the residual of a row, the row normalized and modulated, and what a half of the hidden features adds. -/
module

public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Kernel2Ideal.Ffn

open Cert.Kernel2Ideal Cert.Kernel2Ideal.Gen
open Idealize.ShloMosaic Idealize.ShloMosaic.TcCoe

/-- `g · σ(g) · u`: a hidden feature from its gate and its up projection. -/
def gated (g u : EReal) : EReal := g * Ideal.logistic g * u

/-- The factor a row is scaled by: one over the root of its mean square, a small number added to the mean. -/
def rowScale (x : Fin 1024 → EReal) : EReal :=
  Ideal.rsqrt (Ideal.div (∑ d : Fin 1024, x d * x d) (Ideal.ofBits .f32 0x44800000#32) + Ideal.ofBits .f32 0x358637BD#32)

/-- The zero accumulator. -/
theorem pay2_apply (r : Fin 512) (q : Fin 1024) : k0_pay2 (F := Ideal) (ix2 r q) = (0 : EReal) := by
  pointwise [k0_pay2]

/-- A half of the hidden features adds the down projection of its gated features. -/
theorem pay3_apply (x : Vec Ideal S512x1024 .bf16) (wg wu : Vec Ideal S1024x1536 .bf16) (a : Vec Ideal S512x1024 .f32)
    (wd : Vec Ideal S1536x1024 .bf16) (r : Fin 512) (q : Fin 1024) :
    k0_pay3 x wg wu a wd (ix2 r q)
      = (a (ix2 r q) + ∑ k : Fin 1536, gated (∑ d : Fin 1024, x (ix2 r d) * wg (ix2 d k)) (∑ d : Fin 1024, x (ix2 r d) * wu (ix2 d k)) * wd (ix2 k q) : EReal) := by
  pointwise [k0_pay3]
  rfl

/-- The result: the residual and the feed-forward's share of it. -/
theorem pay4_apply (x : Vec Ideal S512x1024 .f32) (g : Vec Ideal S1x1x1x1024 .f32) (a : Vec Ideal S512x1024 .f32) (r : Fin 512) (q : Fin 1024) :
    k0_pay4 x g a (ix3 0 r q) = (x (ix2 r q) + g (ix4 0 0 0 q) * a (ix2 r q) : EReal) := by
  pointwise [k0_pay4]

/-- The residual: the input and the output projection's share of it. -/
theorem pay5_apply (l : Vec Ideal S1x512x512 .bf16) (wl : Vec Ideal S512x1024 .bf16) (t : Vec Ideal S1x512x512 .bf16) (wt : Vec Ideal S512x1024 .bf16)
    (x : Vec Ideal S1x512x1024 .f32) (g : Vec Ideal S1x1x1x1024 .f32) (r : Fin 512) (q : Fin 1024) :
    k0_pay5 l wl t wt x g (ix2 r q)
      = (x (ix3 0 r q) + g (ix4 0 0 0 q) * ((∑ d : Fin 512, l (ix3 0 r d) * wl (ix2 d q)) + ∑ d : Fin 512, t (ix3 0 r d) * wt (ix2 d q)) : EReal) := by
  pointwise [k0_pay5]

theorem pay6_apply (l : Vec Ideal S1x512x512 .bf16) (wl : Vec Ideal S512x1024 .bf16) (t : Vec Ideal S1x512x512 .bf16) (wt : Vec Ideal S512x1024 .bf16)
    (x : Vec Ideal S1x512x1024 .f32) (g : Vec Ideal S1x1x1x1024 .f32) : k0_pay6 l wl t wt x g = k0_pay5 l wl t wt x g := by
  unfold k0_pay6
  exact shapeCast_self _ _

/-- The residual, normalized. -/
theorem pay7_apply (l : Vec Ideal S1x512x512 .bf16) (wl : Vec Ideal S512x1024 .bf16) (t : Vec Ideal S1x512x512 .bf16) (wt : Vec Ideal S512x1024 .bf16)
    (x : Vec Ideal S1x512x1024 .f32) (g : Vec Ideal S1x1x1x1024 .f32) (n : Vec Ideal S1x1024 .f32) (r : Fin 512) (q : Fin 1024) :
    k0_pay7 l wl t wt x g n (ix2 r q)
      = (k0_pay5 l wl t wt x g (ix2 r q) * rowScale (fun d => k0_pay5 l wl t wt x g (ix2 r d)) * n (ix2 0 q) : EReal) := by
  unfold k0_pay7
  generalize k0_pay5 l wl t wt x g = y
  pointwise [rowScale]

/-- And modulated. -/
theorem pay1_apply (y : FVec Ideal S512x1024 .f32) (s b : Vec Ideal S1x1x1x1024 .f32) (r : Fin 512) (q : Fin 1024) :
    k0_pay1 y s b (ix2 r q) = (y (ix2 r q) * (Ideal.ofBits .f32 0x3F800000#32 + s (ix4 0 0 0 q)) + b (ix4 0 0 0 q) : EReal) := by
  pointwise [k0_pay1]

end Cert.Kernel2Ideal.Ffn

end
-- ==== Proof.Inproj.Payload.lean ====
/- What one point of the input projection kernel computes for the attention's three results, entry by entry, with the floats
   read as extended reals: the row normalized and modulated, its projections, and the turn of the queries and keys. -/
module

public import proofs.«01_k».proof.Proof.Ffn.Payload
public import proofs.«01_k».proof.Proof.Gen.Kernel4Ideal.Skeleton
public import Idealize.ShloMosaic.Lib.Pointwise
public import Idealize.ShloMosaic.Lib.IdealHost
public import Idealize.ShloMosaic.Lib.KernelVsHost
public import Idealize.ShloMosaic.Lib.Pipeline.Value

@[expose] public section

set_option maxRecDepth 16384

noncomputable section

namespace Cert.Kernel4Ideal.Inproj

open Cert.Kernel4Ideal Cert.Kernel4Ideal.Gen
open Idealize.ShloMosaic Idealize.ShloMosaic.TcCoe
open Cert.Kernel2Ideal.Ffn (rowScale)

/-- The lane a lane is turned with: 32 further in the first half of its 64, 32 back in the second. -/
def partner (q : Fin 512) : Fin 512 :=
  if h : q.val % 64 < 32 then ⟨q.val + 32, by have := q.isLt; omega⟩ else ⟨q.val - 32, by have := q.isLt; omega⟩

/-- The column of the tables a lane reads. -/
def lane (q : Fin 512) : Fin 128 := ⟨q.val % 128, Nat.mod_lt _ (by decide)⟩

/-- The factor of the queries. -/
def qScale : EReal := Ideal.ofBits .f32 0x3E38AA3B#32

/-- A row normalized and modulated. -/
theorem pay4_apply (x : Vec Ideal S1x1024x1024 .f32) (n : Vec Ideal S1x1024 .f32) (s b : Vec Ideal S1x1x1x1024 .f32) (r d : Fin 1024) :
    k0_pay4 x n s b (ix2 r d)
      = (x (ix3 0 r d) * rowScale (fun e => x (ix3 0 r e)) * n (ix2 0 d) * (Ideal.ofBits .f32 0x3F800000#32 + s (ix4 0 0 0 d)) + b (ix4 0 0 0 d) : EReal) := by
  pointwise [k0_pay4, rowScale]

/-- The test of a lane's word the kernel makes: its rest by 64, taken with the divisor's sign, is below 32. -/
def firstHalf (w : BitVec 32) : BitVec 1 :=
  IntOp.cmpi .slt
    (Scalar.select
      (IntOp.andi (IntOp.xori (IntOp.cmpi .slt (IntOp.remsi .vector w (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector w (Scalar.select (Scalar.cmpi .eq 64#32 0#32) 1#32 64#32)) 0#32))
      (IntOp.addi (IntOp.remsi .vector w (Scalar.select (Scalar.cmpi .eq 64#32 0#32) 1#32 64#32)) (Scalar.select (Scalar.cmpi .eq 64#32 0#32) 1#32 64#32))
      (IntOp.remsi .vector w (Scalar.select (Scalar.cmpi .eq 64#32 0#32) 1#32 64#32)))
    32#32

theorem firstHalf_eq : ∀ q : Fin 512, firstHalf (BitVec.ofNat 32 q.val) = if q.val % 64 < 32 then 1#1 else 0#1 := by decide +kernel

/-- The mask holds on the first half of each 64 lanes. -/
theorem pay8_apply (r : Fin 1024) (q : Fin 512) : k0_pay8 (ix2 r q) = if q.val % 64 < 32 then 1#1 else 0#1 := by
  refine Eq.trans (?_ : _ = firstHalf (BitVec.ofNat 32 q.val)) (firstHalf_eq q)
  pointwise [k0_pay8]
  rfl

/-- The two rotations and the choice between them: each lane's partner. -/
theorem other_apply (y : FVec Ideal S1024x512 .f32) (r : Fin 1024) (q : Fin 512) :
    select k0_pay8 (dynamicRotate 1 480#32 none y rotates_S1024x512_d1) (dynamicRotate 1 32#32 none y rotates_S1024x512_d1) (ix2 r q)
      = y (ix2 r (partner q)) := by
  have hm := pay8_apply r q
  have hq := q.isLt
  generalize k0_pay8 = k at hm
  by_cases h : q.val % 64 < 32
  · rw [if_pos h] at hm
    refine Eq.trans (?_ : _ = dynamicRotate 1 480#32 none y rotates_S1024x512_d1 (ix2 r q)) (dynamicRotate_apply _ _ _ _ _ _ fun b => ?_)
    · show (if k (ix2 r q) = 1#1 then _ else _) = _
      rw [hm]; rfl
    · match b with
      | ⟨0, _⟩ => rfl
      | ⟨1, _⟩ =>
        show (partner q).val = (q.val + 512 - 480) % 512
        unfold partner
        rw [dif_pos h]
        show q.val + 32 = _
        omega
  · rw [if_neg h] at hm
    refine Eq.trans (?_ : _ = dynamicRotate 1 32#32 none y rotates_S1024x512_d1 (ix2 r q)) (dynamicRotate_apply _ _ _ _ _ _ fun b => ?_)
    · show (if k (ix2 r q) = 1#1 then _ else _) = _
      rw [hm]; rfl
    · match b with
      | ⟨0, _⟩ => rfl
      | ⟨1, _⟩ =>
        show (partner q).val = (q.val + 512 - 32) % 512
        unfold partner
        rw [dif_neg h]
        show q.val - 32 = _
        omega

/-- A table set beside itself four times. -/
theorem four_apply (y : FVec Ideal S1024x128 .f32) (r : Fin 1024) (q : Fin 512) :
    concatenate S1024x512 1 [⟨S1024x128, y⟩, ⟨S1024x128, y⟩, ⟨S1024x128, y⟩, ⟨S1024x128, y⟩]
      concatenates_S1024x128_S1024x128_S1024x128_S1024x128_S1024x512_d1 (ix2 r q) = y (ix2 r (lane q)) := by
  refine concatenate_replicate_apply (t := S1024x512) (s₁ := S1024x128) 1 4 y
    concatenates_S1024x128_S1024x128_S1024x128_S1024x128_S1024x512_d1 rfl (ix2 r q) (ix2 r (lane q)) rfl fun b hb => ?_
  match b with
  | ⟨0, _⟩ => rfl
  | ⟨1, _⟩ => exact absurd rfl hb

/-- A projection of the rows. -/
def proj (h : FVec Ideal S1024x1024 .bf16) (w : Vec Ideal S1024x512 .bf16) : FVec Ideal S1024x512 .f32 :=
  matmul (φ₂ := .bf16) dot_S1024x1024_S1024x512_S1024x512_1_0_0_1_n_n none h w (constant S1024x512 .f32 0x00000000#32)

theorem proj_apply (h : FVec Ideal S1024x1024 .bf16) (w : Vec Ideal S1024x512 .bf16) (r : Fin 1024) (q : Fin 512) :
    proj h w (ix2 r q) = (∑ d : Fin 1024, h (ix2 r d) * w (ix2 d q) : EReal) := by
  pointwise [proj]

/-- The turned projection, its tables as given. -/
theorem turned_apply (y c s : FVec Ideal S1024x512 .f32) (r : Fin 1024) (q : Fin 512) :
    addf (mulf y c) (mulf (select k0_pay8 (dynamicRotate 1 480#32 none y rotates_S1024x512_d1) (dynamicRotate 1 32#32 none y rotates_S1024x512_d1)) s) (ix2 r q)
      = (y (ix2 r q) * c (ix2 r q) + y (ix2 r (partner q)) * s (ix2 r q) : EReal) := by
  have h := other_apply y r q
  generalize select k0_pay8 (dynamicRotate 1 480#32 none y rotates_S1024x512_d1) (dynamicRotate 1 32#32 none y rotates_S1024x512_d1) = o at h
  rw [← h]
  pointwise

/-- The queries: a projection turned by the tables times the scale. -/
theorem pay9_apply (h : FVec Ideal S1024x1024 .bf16) (w : Vec Ideal S1024x512 .bf16) (c s : Vec Ideal S1024x128 .f32) (r : Fin 1024) (q : Fin 512) :
    k0_pay9 h w c s (ix2 r q)
      = (proj h w (ix2 r q) * (c (ix2 r (lane q)) * qScale) + proj h w (ix2 r (partner q)) * (s (ix2 r (lane q)) * qScale) : EReal) := by
  refine (turned_apply (proj h w) _ _ r q).trans ?_
  have e : ∀ y : Vec Ideal S1024x128 .f32, mulf y (broadcast S1024x128 (Scalar.ofBits (F := Ideal) .f32 0x3E38AA3B#32)) (ix2 r (lane q)) = (y (ix2 r (lane q)) * qScale : EReal) :=
    fun y => by pointwise [qScale]
  exact congrArg₂ (· + ·) (congrArg (_ * ·) ((four_apply _ r q).trans (e c))) (congrArg (_ * ·) ((four_apply _ r q).trans (e s)))

/-- The queries as they are stored. -/
theorem pay10_apply (y : FVec Ideal S1024x512 .bf16) (r : Fin 1024) (q : Fin 512) : k0_pay10 y (ix3 0 r q) = y (ix2 r q) := by
  pointwise [k0_pay10]

/-- The keys: a projection turned by the tables. -/
theorem pay11_apply (h : FVec Ideal S1024x1024 .bf16) (c s : Vec Ideal S1024x128 .f32) (w : Vec Ideal S1024x512 .bf16) (r : Fin 1024) (q : Fin 512) :
    k0_pay11 h (k0_pay6 c) (k0_pay7 s) k0_pay8 w (ix3 0 r q)
      = (proj h w (ix2 r q) * c (ix2 r (lane q)) + proj h w (ix2 r (partner q)) * s (ix2 r (lane q)) : EReal) := by
  refine (pay10_apply _ r q).trans ((turned_apply (proj h w) (k0_pay6 c) (k0_pay7 s) r q).trans ?_)
  exact congrArg₂ (· + ·) (congrArg (_ * ·) (four_apply c r q)) (congrArg (_ * ·) (four_apply s r q))

/-- The values: a projection. -/
theorem pay12_apply (h : FVec Ideal S1024x1024 .bf16) (w : Vec Ideal S1024x512 .bf16) (r : Fin 1024) (q : Fin 512) :
    k0_pay12 h w (ix3 0 r q) = proj h w (ix2 r q) := pay10_apply (proj h w) r q

end Cert.Kernel4Ideal.Inproj

end
-- ==== Proof.Inproj.RecurPayload.lean ====
/- What one point of the input projection kernel computes for the recurrence's result, entry by entry, with the floats read as
   extended reals: the rows of the recurrence are its steps from the row carried in. -/
module

public import proofs.«01_k».proof.Proof.Inproj.Recur
public import proofs.«01_k».proof.Proof.Inproj.Scan
public import proofs.«01_k».proof.Proof.Inproj.Payload

@[expose] public section

set_option maxRecDepth 16384

noncomputable section

namespace Cert.Kernel4Ideal.Inproj

open Cert.Kernel4Ideal Cert.Kernel4Ideal.Gen
open Idealize.ShloMosaic Idealize.ShloMosaic.TcCoe
open Cert.Inproj

/-- The rows of a group, by their number. -/
def rowsOf (y : FVec Ideal S128x8x512 .f32) (g : Fin 128) (w : Fin 512) (k : ℕ) : EReal := y (ix3 g ⟨k % 8, Nat.mod_lt _ (by decide)⟩ w)

theorem rowsOf_val (y : FVec Ideal S128x8x512 .f32) (g : Fin 128) (w : Fin 512) (k : Fin 8) : rowsOf y g w k.val = y (ix3 g k w) := by
  unfold rowsOf
  congr 2
  exact Fin.ext (Nat.mod_eq_of_lt k.isLt)

/-- A group's rows moved down, with a constant where there is no row. -/
theorem pick_apply (d : ℕ) (hd : d < 8) (mask : IVec S128x8x512 1) (hm : ∀ (g : Fin 128) (k : Fin 8) (w : Fin 512), mask (ix3 g k w) = if d ≤ k.val then 1#1 else 0#1)
    (y : FVec Ideal S128x8x512 .f32) (z : EReal) (g : Fin 128) (k : Fin 8) (w : Fin 512) :
    select mask (dynamicRotate 1 (BitVec.ofNat 32 d) none y rotates_S128x8x512_d1) (broadcast S128x8x512 z) (ix3 g k w)
      = if d ≤ k.val then rowsOf y g w (k.val - d) else z := by
  have h := hm g k w
  have hk := k.isLt
  by_cases hc : d ≤ k.val
  · rw [if_pos hc] at h ⊢
    refine Eq.trans (?_ : _ = dynamicRotate 1 (BitVec.ofNat 32 d) none y rotates_S128x8x512_d1 (ix3 g k w)) (dynamicRotate_apply _ _ _ _ _ _ fun b => ?_)
    · show (if mask (ix3 g k w) = 1#1 then _ else _) = _
      rw [h]; rfl
    · match b with
      | ⟨0, _⟩ => rfl
      | ⟨1, _⟩ =>
        show (k.val - d) % 8 = (k.val + 8 - (BitVec.ofNat 32 d).toNat % 8) % 8
        rw [BitVec.toNat_ofNat]
        omega
      | ⟨2, _⟩ => rfl
  · rw [if_neg hc] at h ⊢
    show (if mask (ix3 g k w) = 1#1 then _ else _) = _
    rw [h]; rfl

theorem atLeast_1 : ∀ k : Fin 8, IntOp.cmpi .sge (BitVec.ofNat 32 k.val) 1#32 = if 1 ≤ k.val then 1#1 else 0#1 := by decide +kernel
theorem atLeast_2 : ∀ k : Fin 8, IntOp.cmpi .sge (BitVec.ofNat 32 k.val) 2#32 = if 2 ≤ k.val then 1#1 else 0#1 := by decide +kernel
theorem atLeast_4 : ∀ k : Fin 8, IntOp.cmpi .sge (BitVec.ofNat 32 k.val) 4#32 = if 4 ≤ k.val then 1#1 else 0#1 := by decide +kernel

theorem mask_1 (g : Fin 128) (k : Fin 8) (w : Fin 512) : k0_pay26 (ix3 g k w) = if 1 ≤ k.val then 1#1 else 0#1 := by
  rw [← atLeast_1]; pointwise [k0_pay26]
theorem mask_2 (g : Fin 128) (k : Fin 8) (w : Fin 512) : k0_pay28 (ix3 g k w) = if 2 ≤ k.val then 1#1 else 0#1 := by
  rw [← atLeast_2]; pointwise [k0_pay28]
theorem mask_4 (g : Fin 128) (k : Fin 8) (w : Fin 512) : k0_pay31 inGroup (ix3 g k w) = if 4 ≤ k.val then 1#1 else 0#1 := by
  rw [← atLeast_4]; pointwise [k0_pay31, inGroup]

theorem one_f32 : (Scalar.ofBits .f32 0x3F800000#32 : Ideal .f32) = (1 : EReal) := Ideal.ofBits_one_f32
theorem zero_f32 : (Scalar.ofBits .f32 0x00000000#32 : Ideal .f32) = (0 : EReal) := Ideal.ofBits_zero_f32

theorem roundA_congr {d : ℕ} {A A' : ℕ → EReal} {k : ℕ} (h : ∀ i, i ≤ k → A i = A' i) : roundA d A k = roundA d A' k := by
  unfold roundA
  rw [h k le_rfl, h (k - d) (Nat.sub_le _ _)]
theorem roundB_congr {d : ℕ} {A A' B B' : ℕ → EReal} {k : ℕ} (h : ∀ i, i ≤ k → A i = A' i) (hB : ∀ i, i ≤ k → B i = B' i) : roundB d A B k = roundB d A' B' k := by
  unfold roundB
  rw [h k le_rfl, hB k le_rfl, hB (k - d) (Nat.sub_le _ _)]

/-- One round of the decays, and of the sums. -/
theorem roundA_apply (d : ℕ) (hd : d < 8) (mask : IVec S128x8x512 1) (hm : ∀ (g : Fin 128) (k : Fin 8) (w : Fin 512), mask (ix3 g k w) = if d ≤ k.val then 1#1 else 0#1)
    (y : FVec Ideal S128x8x512 .f32) (g : Fin 128) (w : Fin 512) (k : ℕ) (hk : k < 8) :
    rowsOf (mulf y (select mask (dynamicRotate 1 (BitVec.ofNat 32 d) none y rotates_S128x8x512_d1) (broadcast S128x8x512 (Scalar.ofBits .f32 0x3F800000#32)))) g w k
      = roundA d (rowsOf y g w) k := by
  refine (rowsOf_val _ g w ⟨k, hk⟩).trans ?_
  show (y (ix3 g ⟨k, hk⟩ w) * select mask _ _ (ix3 g ⟨k, hk⟩ w) : EReal) = _
  rw [one_f32, pick_apply d hd mask hm, ← rowsOf_val y]
  rfl

theorem roundB_apply (d : ℕ) (hd : d < 8) (mask : IVec S128x8x512 1) (hm : ∀ (g : Fin 128) (k : Fin 8) (w : Fin 512), mask (ix3 g k w) = if d ≤ k.val then 1#1 else 0#1)
    (y x : FVec Ideal S128x8x512 .f32) (g : Fin 128) (w : Fin 512) (k : ℕ) (hk : k < 8) :
    rowsOf (addf (mulf y (select mask (dynamicRotate 1 (BitVec.ofNat 32 d) none x rotates_S128x8x512_d1) (broadcast S128x8x512 (Scalar.ofBits .f32 0x00000000#32)))) x) g w k
      = roundB d (rowsOf y g w) (rowsOf x g w) k := by
  refine (rowsOf_val _ g w ⟨k, hk⟩).trans ?_
  show (y (ix3 g ⟨k, hk⟩ w) * select mask _ _ (ix3 g ⟨k, hk⟩ w) + x (ix3 g ⟨k, hk⟩ w) : EReal) = _
  rw [zero_f32, pick_apply d hd mask hm, ← rowsOf_val y, ← rowsOf_val x]
  rfl

/-- The decay's rows, in groups, and what each step adds. -/
def decayRows (r : FVec Ideal S1024x512 .f32) (lam : FVec Ideal S1x512 .f32) : FVec Ideal S1024x512 .f32 := k0_pay23 r (k0_pay21 lam) k0_pay22
def addedRows (r i u : FVec Ideal S1024x512 .f32) (lam : FVec Ideal S1x512 .f32) : FVec Ideal S1024x512 .f32 :=
  mulf (sqrt (subf (broadcast S1024x512 (Scalar.ofBits .f32 0x3F800000#32)) (mulf (decayRows r lam) (decayRows r lam)))) (mulf i u)

def grouped (y : FVec Ideal S1024x512 .f32) : FVec Ideal S128x8x512 .f32 := shapeCast S128x8x512 y shapeCasts_S1024x512_S128x8x512

theorem grouped_apply (y : FVec Ideal S1024x512 .f32) (g : Fin 128) (k : Fin 8) (w : Fin 512) :
    grouped y (ix3 g k w) = y (ix2 ⟨g.val * 8 + k.val, by have := g.isLt; have := k.isLt; omega⟩ w) := by
  refine shapeCast_apply _ _ _ _ ?_
  rw [Shape.rowMajor_val_two, Shape.rowMajor_val_three]
  rfl

variable (r i u : FVec Ideal S1024x512 .f32) (lam : FVec Ideal S1x512 .f32)

/-- After the three rounds. -/
theorem roundsA_apply (g : Fin 128) (w : Fin 512) (k : ℕ) (hk : k < 8) :
    rowsOf (k0_pay33 inGroup (k0_pay30 r (k0_pay21 lam) k0_pay22)) g w k
      = roundA 4 (roundA 2 (roundA 1 (rowsOf (grouped (decayRows r lam)) g w))) k := by
  have h1 := roundA_apply 1 (by decide) k0_pay26 mask_1 (grouped (decayRows r lam)) g w
  have h2 := roundA_apply 2 (by decide) k0_pay28 mask_2 (k0_pay27 r (k0_pay21 lam) k0_pay22) g w
  have h4 := roundA_apply 4 (by decide) (k0_pay31 inGroup) mask_4 (k0_pay30 r (k0_pay21 lam) k0_pay22) g w
  refine (h4 k hk).trans (roundA_congr fun i hi => ?_)
  refine (h2 i (by omega)).trans (roundA_congr fun j hj => ?_)
  exact h1 j (by omega)

theorem roundsB_apply (g : Fin 128) (w : Fin 512) (k : ℕ) (hk : k < 8) :
    rowsOf (k0_pay32 inGroup (k0_pay29 u r i (k0_pay21 lam) k0_pay22) (k0_pay30 r (k0_pay21 lam) k0_pay22)) g w k
      = roundB 4 (roundA 2 (roundA 1 (rowsOf (grouped (decayRows r lam)) g w)))
          (roundB 2 (roundA 1 (rowsOf (grouped (decayRows r lam)) g w)) (roundB 1 (rowsOf (grouped (decayRows r lam)) g w) (rowsOf (grouped (addedRows r i u lam)) g w))) k := by
  have h1 := roundA_apply 1 (by decide) k0_pay26 mask_1 (grouped (decayRows r lam)) g w
  have h2 := roundA_apply 2 (by decide) k0_pay28 mask_2 (k0_pay27 r (k0_pay21 lam) k0_pay22) g w
  have b1 := roundB_apply 1 (by decide) k0_pay26 mask_1 (grouped (decayRows r lam)) (grouped (addedRows r i u lam)) g w
  have b2 := roundB_apply 2 (by decide) k0_pay28 mask_2 (k0_pay27 r (k0_pay21 lam) k0_pay22)
    (addf (mulf (grouped (decayRows r lam)) (select k0_pay26 (dynamicRotate 1 1#32 none (grouped (addedRows r i u lam)) rotates_S128x8x512_d1) (broadcast S128x8x512 (Scalar.ofBits .f32 0x00000000#32)))) (grouped (addedRows r i u lam))) g w
  have b4 := roundB_apply 4 (by decide) (k0_pay31 inGroup) mask_4 (k0_pay30 r (k0_pay21 lam) k0_pay22) (k0_pay29 u r i (k0_pay21 lam) k0_pay22) g w
  refine (b4 k hk).trans (roundB_congr (fun i hi => ?_) fun i hi => ?_)
  · refine (h2 i (by omega)).trans (roundA_congr fun j hj => ?_)
    exact h1 j (by omega)
  · refine (b2 i (by omega)).trans (roundB_congr (fun j hj => ?_) fun j hj => ?_)
    · exact h1 j (by omega)
    · exact b1 j (by omega)

/-- A group's row. -/
theorem group_apply (a b : FVec Ideal S128x8x512 .f32) (n : ℕ) (hn : n < 128) (c : FVec Ideal S1x512 .f32) (k : Fin 8) (w : Fin 512) :
    group a b n hn c (ix2 k w) = (rowsOf a ⟨n, hn⟩ w k.val * c (ix2 0 w) + rowsOf b ⟨n, hn⟩ w k.val : EReal) := by
  have e : ∀ y : FVec Ideal S128x8x512 .f32, shapeCast S8x512 (extractStridedSlice S1x8x512 ![n, 0, 0] y (slices_group n hn)) shapeCasts_S1x8x512_S8x512 (ix2 k w) = y (ix3 ⟨n, hn⟩ k w) := by
    intro y
    refine (shapeCast_apply _ _ _ (ix3 0 k w) ?_).trans (extractStridedSlice_apply _ _ _ _ _ fun q => ?_)
    · rw [Shape.rowMajor_val_two, Shape.rowMajor_val_three]
      show (0 * 8 + k.val) * 512 + w.val = k.val * 512 + w.val
      omega
    · match q with
      | ⟨0, _⟩ => rfl
      | ⟨1, _⟩ => exact (Nat.zero_add _).symm
      | ⟨2, _⟩ => exact (Nat.zero_add _).symm
  rw [rowsOf_val, rowsOf_val, ← e a, ← e b]
  unfold group
  generalize shapeCast S8x512 (extractStridedSlice S1x8x512 ![n, 0, 0] a (slices_group n hn)) shapeCasts_S1x8x512_S8x512 = A
  generalize shapeCast S8x512 (extractStridedSlice S1x8x512 ![n, 0, 0] b (slices_group n hn)) shapeCasts_S1x8x512_S8x512 = B
  pointwise

/-- The last row of a group. -/
theorem lastRow_apply (x : FVec Ideal S8x512 .f32) (w : Fin 512) : lastRow x (ix2 0 w) = x (ix2 7 w) := by
  pointwise [lastRow]

/-- The decay and the added term of row `n`. -/
def decayOf (r : FVec Ideal S1024x512 .f32) (lam : FVec Ideal S1x512 .f32) (w : Fin 512) (n : ℕ) : EReal := decayRows r lam (ix2 ⟨n % 1024, Nat.mod_lt _ (by decide)⟩ w)
def addedOf (r i u : FVec Ideal S1024x512 .f32) (lam : FVec Ideal S1x512 .f32) (w : Fin 512) (n : ℕ) : EReal := addedRows r i u lam (ix2 ⟨n % 1024, Nat.mod_lt _ (by decide)⟩ w)

theorem rowsOf_grouped (y : FVec Ideal S1024x512 .f32) (n : ℕ) (hn : n < 128) (w : Fin 512) (k : ℕ) (hk : k < 8) :
    rowsOf (grouped y) ⟨n, hn⟩ w k = y (ix2 ⟨(8 * n + k) % 1024, Nat.mod_lt _ (by decide)⟩ w) := by
  refine (rowsOf_val _ _ _ ⟨k, hk⟩).trans ((grouped_apply _ _ _ _).trans ?_)
  congr 2
  apply Fin.ext
  show n * 8 + k = (8 * n + k) % 1024
  omega

theorem groups_apply (hA : ∀ j, Decay (decayRows r lam j)) (h : FVec Ideal S1x512 .f32) (w : Fin 512) :
    ∀ (n : ℕ) (hn : n < 128) (k : Fin 8),
      groups (k0_pay33 inGroup (k0_pay30 r (k0_pay21 lam) k0_pay22)) (k0_pay32 inGroup (k0_pay29 u r i (k0_pay21 lam) k0_pay22) (k0_pay30 r (k0_pay21 lam) k0_pay22)) h n hn (ix2 k w)
        = steps (decayOf r lam w) (addedOf r i u lam w) (h (ix2 0 w)) (8 * n + (k.val + 1)) := by
  have key : ∀ (n : ℕ) (hn : n < 128) (c : FVec Ideal S1x512 .f32) (k : Fin 8),
      group (k0_pay33 inGroup (k0_pay30 r (k0_pay21 lam) k0_pay22)) (k0_pay32 inGroup (k0_pay29 u r i (k0_pay21 lam) k0_pay22) (k0_pay30 r (k0_pay21 lam) k0_pay22)) n hn c (ix2 k w)
        = steps (fun j => decayOf r lam w (8 * n + j)) (fun j => addedOf r i u lam w (8 * n + j)) (c (ix2 0 w)) (k.val + 1) := by
    intro n hn c k
    rw [group_apply, roundsA_apply r lam _ _ _ k.isLt, roundsB_apply r i u lam _ _ _ k.isLt,
      rounds_eq (a := rowsOf (grouped (decayRows r lam)) ⟨n, hn⟩ w) (fun j => by
        rw [show rowsOf (grouped (decayRows r lam)) ⟨n, hn⟩ w j = _ from grouped_apply _ _ _ _]; exact hA _) _ k.isLt]
    have := k.isLt
    exact steps_congr _ (fun j hj => rowsOf_grouped _ n hn w j (by omega)) (fun j hj => rowsOf_grouped _ n hn w j (by omega))
  intro n
  induction n with
  | zero =>
    intro hn k
    refine (key 0 hn h k).trans ?_
    simp only [Nat.mul_zero, Nat.zero_add]
  | succ n ih =>
    intro hn k
    refine (key (n + 1) hn _ k).trans ?_
    rw [lastRow_apply, ih (by omega) 7, steps_add _ _ _ (8 * (n + 1))]
    rfl

/-- The recurrence's rows are its steps from the row carried in. -/
theorem recurRows_apply (hA : ∀ j, Decay (decayRows r lam j)) (h : FVec Ideal S1x512 .f32) (p : Fin 1024) (w : Fin 512) :
    recurRows r i u lam h (ix2 p w) = steps (decayOf r lam w) (addedOf r i u lam w) (h (ix2 0 w)) (p.val + 1) := by
  have hp := p.isLt
  refine (congrFun (dRows_eq inGroup (k0_pay29 u r i (k0_pay21 lam) k0_pay22) (k0_pay30 r (k0_pay21 lam) k0_pay22) h) (ix2 p w)).trans ?_
  refine (concatenate_ofFn_apply (t := S1024x512) (s₁ := S8x512) 0 _ _ rfl 8 rfl (ix2 p w) ⟨p.val / 8, by omega⟩ rfl (ix2 ⟨p.val % 8, Nat.mod_lt _ (by decide)⟩ w) rfl fun b hb => ?_).trans ?_
  · match b with
    | ⟨0, _⟩ => exact absurd rfl hb
    | ⟨1, _⟩ => rfl
  · refine (groups_apply r i u lam hA h w _ _ _).trans ?_
    congr 1
    show 8 * (p.val / 8) + (p.val % 8 + 1) = p.val + 1
    omega

theorem recurLast_apply (hA : ∀ j, Decay (decayRows r lam j)) (h : FVec Ideal S1x512 .f32) (w : Fin 512) :
    recurLast r i u lam h (ix2 0 w) = steps (decayOf r lam w) (addedOf r i u lam w) (h (ix2 0 w)) 1024 := by
  refine (congrFun (dLast_eq inGroup (k0_pay29 u r i (k0_pay21 lam) k0_pay22) (k0_pay30 r (k0_pay21 lam) k0_pay22) h) (ix2 0 w)).trans ?_
  exact (lastRow_apply _ w).trans (groups_apply r i u lam hA h w 127 (by decide) 7)

end Cert.Kernel4Ideal.Inproj

end
-- ==== Proof.Inproj.Result.lean ====
/- What the attention's three result arrays of the input projection kernel hold after the run, entry by entry, with the floats
   read as extended reals. -/
module

public import proofs.«01_k».proof.Proof.Inproj.Payload
public import proofs.«01_k».proof.Proof.Inproj.Points
public import Idealize.ShloMosaic.Lib.Pipeline.Value

@[expose] public section

set_option maxRecDepth 16384

noncomputable section

namespace Cert.Kernel4Ideal.Inproj

open Cert.Kernel4Ideal Cert.Kernel4Ideal.Gen
open Idealize.ShloMosaic Idealize.ShloMosaic.TcCoe Idealize.SL.Sem
open Idealize.ShloMosaic.Pipeline (Dat)
open Cert.Kernel2Ideal.Ffn (rowScale)

/-! ## The function -/

/-- The arguments the three results depend on. -/
structure Args where
  x : S4x8192x1024.Idx → EReal
  modl : S4x6x1x1024.Idx → EReal
  norm : S1024.Idx → EReal
  win : S1024x2560.Idx → EReal
  cos : S32768x128.Idx → EReal
  sin : S32768x128.Idx → EReal

/-- Column `o + q` of the input projection, the attention's parts starting at 1024, 1536 and 2048. -/
def qCol (q : Fin 512) : Fin 2560 := ⟨1024 + q.val, by have := q.isLt; omega⟩
def kCol (q : Fin 512) : Fin 2560 := ⟨1536 + q.val, by have := q.isLt; omega⟩
def vCol (q : Fin 512) : Fin 2560 := ⟨2048 + q.val, by have := q.isLt; omega⟩

/-- The row of the tables of a position of a batch. -/
def tableRow (b : Fin 4) (s : Fin 8192) : Fin 32768 := ⟨b.val * 8192 + s.val, by have := b.isLt; have := s.isLt; omega⟩

/-- The stream normalized and modulated. -/
def Args.hid (a : Args) (b : Fin 4) (s : Fin 8192) (d : Fin 1024) : EReal :=
  a.x (ix3 b s d) * rowScale (fun e => a.x (ix3 b s e)) * a.norm (ix1 d) * (Ideal.ofBits .f32 0x3F800000#32 + a.modl (ix4 b 1 0 d)) + a.modl (ix4 b 0 0 d)

/-- Its projection to a column. -/
def Args.prj (a : Args) (b : Fin 4) (s : Fin 8192) (e : Fin 2560) : EReal := ∑ d : Fin 1024, a.hid b s d * a.win (ix2 d e)

/-- A projection turned by the tables. -/
def Args.turned (a : Args) (b : Fin 4) (s : Fin 8192) (col : Fin 512 → Fin 2560) (q : Fin 512) : EReal :=
  a.prj b s (col q) * a.cos (ix2 (tableRow b s) (lane q)) + a.prj b s (col (partner q)) * a.sin (ix2 (tableRow b s) (lane q))

/-- The three results as arrays. -/
def qArr (a : Args) (i : S4x8192x512.Idx) : EReal := a.turned (i 0) (i 1) qCol (i 2) * qScale
def kArr (a : Args) (i : S4x8192x512.Idx) : EReal := a.turned (i 0) (i 1) kCol (i 2)
def vArr (a : Args) (i : S4x8192x512.Idx) : EReal := a.prj (i 0) (i 1) (vCol (i 2))

/-- The queries' factor is a real number that is not negative. -/
theorem qScale_nonneg : 0 ≤ qScale := by
  unfold qScale
  simp [Ideal.ofBits, Ideal.ieee, -EReal.coe_mul]

theorem qScale_ne_top : qScale ≠ ⊤ := by
  unfold qScale
  simp [Ideal.ofBits, Ideal.ieee, -EReal.coe_mul]

variable (m : (ℓ : Loc nD τ sig) → Buf (Elt Ideal) ℓ) (ρ : Dev nD → PrngReg)

/-- The arguments a memory holds. -/
def args (c : Dev nD) : Args where
  x := m ((c : Thread nD τ).loc main_arg0)
  modl := m ((c : Thread nD τ).loc main_arg1)
  norm := m ((c : Thread nD τ).loc main_arg2)
  win := m ((c : Thread nD τ).loc main_arg3)
  cos := m ((c : Thread nD τ).loc main_arg4)
  sin := m ((c : Thread nD τ).loc main_arg5)

/-! ## The blocks -/

theorem point_lt (t : Fin cfg0.N) : t.val < 32 := Nat.lt_of_lt_of_eq t.isLt N_0

/-- The coordinates as the words the index maps read. -/
theorem word_0 (t : Fin cfg0.N) : (BitVec.ofNat 32 (grid0.coords t 0).val).toNat = t.val / 8 := by
  have ht := point_lt t
  have e : (grid0.coords t 0).val = t.val / 8 % 4 := Pipeline.Grid.coords_val t 0 (by decide) rfl
  rw [e, BitVec.toNat_ofNat, Nat.mod_eq_of_lt (by omega)]
  omega

theorem word_1 (t : Fin cfg0.N) : (BitVec.ofNat 32 (grid0.coords t 1).val).toNat = t.val % 8 := by
  have e : (grid0.coords t 1).val = t.val / 1 % 8 := Pipeline.Grid.coords_val t 1 (by decide) rfl
  rw [e, BitVec.toNat_ofNat, Nat.mod_eq_of_lt (by omega)]
  omega

/-- The word of a table's row block. -/
theorem word_table (t : Fin cfg0.N) :
    (Scalar.addi (Scalar.muli (BitVec.ofNat 32 (grid0.coords t 0).val) 8#32) (BitVec.ofNat 32 (grid0.coords t 1).val)).toNat = t.val := by
  have ht := point_lt t
  have e0 := word_0 t
  have e1 := word_1 t
  show ((BitVec.ofNat 32 (grid0.coords t 0).val * 8#32) + BitVec.ofNat 32 (grid0.coords t 1).val).toNat = _
  rw [BitVec.toNat_add, BitVec.toNat_mul, e0, e1]
  show (t.val / 8 * 8 % 2 ^ 32 + t.val % 8) % 2 ^ 32 = t.val
  omega

/-- Point `t`'s batch, and row `r` of its rows. -/
def batchAt (t : Fin cfg0.N) : Fin 4 := ⟨t.val / 8, by have := point_lt t; omega⟩
def rowAt (t : Fin cfg0.N) (r : Fin 1024) : Fin 8192 := ⟨t.val % 8 * 1024 + r.val, by have := r.isLt; omega⟩

theorem blk_x (c : Dev nD) (t : Fin cfg0.N) (r d : Fin 1024) : bX m c t (ix3 0 r d) = (args m c).x (ix3 (batchAt t) (rowAt t r) d) := by
  refine (View.read_apply (v := ((cfg0.win 0).blk t).view) (Val := Elt Ideal) (V m c (Pipeline.arrRef spec0 0)) _).trans ?_
  show V m c main_arg0 _ = _
  rw [V_main_arg0]
  show m ((c : Thread nD τ).loc main_arg0) _ = m ((c : Thread nD τ).loc main_arg0) _
  congr 1
  funext a
  apply Fin.ext
  match a with
  | ⟨0, _⟩ => show (BitVec.ofNat 32 (grid0.coords t 0).val).toNat * 1 + 1 * 0 = t.val / 8; rw [word_0]; omega
  | ⟨1, _⟩ => show (BitVec.ofNat 32 (grid0.coords t 1).val).toNat * 1024 + 1 * r.val = t.val % 8 * 1024 + r.val; rw [word_1]; omega
  | ⟨2, _⟩ => show 0 * 1024 + 1 * d.val = d.val; omega

theorem blk_scale (c : Dev nD) (t : Fin cfg0.N) (d : Fin 1024) : bScale m c t (ix4 0 0 0 d) = (args m c).modl (ix4 (batchAt t) 1 0 d) := by
  refine (View.read_apply (v := ((cfg0.win 1).blk t).view) (Val := Elt Ideal) (V m c (Pipeline.arrRef spec0 1)) _).trans ?_
  show V m c main_arg1 _ = _
  rw [V_main_arg1]
  show m ((c : Thread nD τ).loc main_arg1) _ = m ((c : Thread nD τ).loc main_arg1) _
  congr 1
  funext a
  apply Fin.ext
  match a with
  | ⟨0, _⟩ => show (BitVec.ofNat 32 (grid0.coords t 0).val).toNat * 1 + 1 * 0 = t.val / 8; rw [word_0]; omega
  | ⟨1, _⟩ => rfl
  | ⟨2, _⟩ => rfl
  | ⟨3, _⟩ => show 0 * 1024 + 1 * d.val = d.val; omega

theorem blk_shift (c : Dev nD) (t : Fin cfg0.N) (d : Fin 1024) : bShift m c t (ix4 0 0 0 d) = (args m c).modl (ix4 (batchAt t) 0 0 d) := by
  refine (View.read_apply (v := ((cfg0.win 2).blk t).view) (Val := Elt Ideal) (V m c (Pipeline.arrRef spec0 2)) _).trans ?_
  show V m c main_arg1 _ = _
  rw [V_main_arg1]
  show m ((c : Thread nD τ).loc main_arg1) _ = m ((c : Thread nD τ).loc main_arg1) _
  congr 1
  funext a
  apply Fin.ext
  match a with
  | ⟨0, _⟩ => show (BitVec.ofNat 32 (grid0.coords t 0).val).toNat * 1 + 1 * 0 = t.val / 8; rw [word_0]; omega
  | ⟨1, _⟩ => rfl
  | ⟨2, _⟩ => rfl
  | ⟨3, _⟩ => show 0 * 1024 + 1 * d.val = d.val; omega

/-- The norm's weights as the kernel is given them: a row of one. -/
theorem entry_norm (c : Dev nD) : (V m c main_v28 : S1x1024.Idx → EReal) = shapeCast S1x1024 (args m c).norm shapeCasts_S1024_S1x1024 := by
  show StableHlo.after hostOps0 (fun b => m (c, b)) (Proc.devRef .tc main_v28) = _
  after_results
  rfl

theorem blk_norm (c : Dev nD) (t : Fin cfg0.N) (d : Fin 1024) : bNorm m c t (ix2 0 d) = (args m c).norm (ix1 d) := by
  refine (View.read_apply (v := ((cfg0.win 3).blk t).view) (Val := Elt Ideal) (V m c (Pipeline.arrRef spec0 3)) _).trans ?_
  refine Eq.trans (?_ : _ = (V m c main_v28 : S1x1024.Idx → EReal) (ix2 0 d)) ?_
  · show V m c main_v28 _ = V m c main_v28 _
    congr 1
    funext a
    apply Fin.ext
    match a with
    | ⟨0, _⟩ => rfl
    | ⟨1, _⟩ => show 0 * 1024 + 1 * d.val = d.val; omega
  · rw [entry_norm]
    generalize (args m c).norm = n
    pointwise

theorem blk_in (c : Dev nD) (t : Fin cfg0.N) (d : Fin 1024) (e : Fin 2560) : bIn m c t (ix2 d e) = (args m c).win (ix2 d e) := by
  refine (View.read_apply (v := ((cfg0.win 4).blk t).view) (Val := Elt Ideal) (V m c (Pipeline.arrRef spec0 4)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show 0 * 1024 + 1 * d.val = d.val; omega
  | ⟨1, _⟩ => show 0 * 2560 + 1 * e.val = e.val; omega

theorem blk_cos (c : Dev nD) (t : Fin cfg0.N) (r : Fin 1024) (l : Fin 128) : bCos m c t (ix2 r l) = (args m c).cos (ix2 (tableRow (batchAt t) (rowAt t r)) l) := by
  refine (View.read_apply (v := ((cfg0.win 5).blk t).view) (Val := Elt Ideal) (V m c (Pipeline.arrRef spec0 5)) _).trans ?_
  show V m c main_arg4 _ = _
  rw [V_main_arg4]
  show m ((c : Thread nD τ).loc main_arg4) _ = m ((c : Thread nD τ).loc main_arg4) _
  congr 1
  funext a
  apply Fin.ext
  match a with
  | ⟨0, _⟩ =>
    show (Scalar.addi (Scalar.muli (BitVec.ofNat 32 (grid0.coords t 0).val) 8#32) (BitVec.ofNat 32 (grid0.coords t 1).val)).toNat * 1024 + 1 * r.val
      = t.val / 8 * 8192 + (t.val % 8 * 1024 + r.val)
    rw [word_table]; omega
  | ⟨1, _⟩ => show 0 * 128 + 1 * l.val = l.val; omega

theorem blk_sin (c : Dev nD) (t : Fin cfg0.N) (r : Fin 1024) (l : Fin 128) : bSin m c t (ix2 r l) = (args m c).sin (ix2 (tableRow (batchAt t) (rowAt t r)) l) := by
  refine (View.read_apply (v := ((cfg0.win 6).blk t).view) (Val := Elt Ideal) (V m c (Pipeline.arrRef spec0 6)) _).trans ?_
  show V m c main_arg5 _ = _
  rw [V_main_arg5]
  show m ((c : Thread nD τ).loc main_arg5) _ = m ((c : Thread nD τ).loc main_arg5) _
  congr 1
  funext a
  apply Fin.ext
  match a with
  | ⟨0, _⟩ =>
    show (Scalar.addi (Scalar.muli (BitVec.ofNat 32 (grid0.coords t 0).val) 8#32) (BitVec.ofNat 32 (grid0.coords t 1).val)).toNat * 1024 + 1 * r.val
      = t.val / 8 * 8192 + (t.val % 8 * 1024 + r.val)
    rw [word_table]; omega
  | ⟨1, _⟩ => show 0 * 128 + 1 * l.val = l.val; omega

theorem blk_q (c : Dev nD) (t : Fin cfg0.N) (d : Fin 1024) (q : Fin 512) : qCols (bIn m c t) (ix2 d q) = (args m c).win (ix2 d (qCol q)) := by
  rw [← blk_in m c t]
  show bIn m c t _ = bIn m c t _
  congr 1
  funext a
  apply Fin.ext
  match a with
  | ⟨0, _⟩ => show 0 + 1 * d.val = d.val; omega
  | ⟨1, _⟩ => show 1024 + 1 * q.val = 1024 + q.val; omega

theorem blk_k (c : Dev nD) (t : Fin cfg0.N) (d : Fin 1024) (q : Fin 512) : kCols (bIn m c t) (ix2 d q) = (args m c).win (ix2 d (kCol q)) := by
  rw [← blk_in m c t]
  show bIn m c t _ = bIn m c t _
  congr 1
  funext a
  apply Fin.ext
  match a with
  | ⟨0, _⟩ => show 0 + 1 * d.val = d.val; omega
  | ⟨1, _⟩ => show 1536 + 1 * q.val = 1536 + q.val; omega

theorem blk_v (c : Dev nD) (t : Fin cfg0.N) (d : Fin 1024) (q : Fin 512) : vCols (bIn m c t) (ix2 d q) = (args m c).win (ix2 d (vCol q)) := by
  rw [← blk_in m c t]
  show bIn m c t _ = bIn m c t _
  congr 1
  funext a
  apply Fin.ext
  match a with
  | ⟨0, _⟩ => show 0 + 1 * d.val = d.val; omega
  | ⟨1, _⟩ => show 2048 + 1 * q.val = 2048 + q.val; omega

/-! ## The results' blocks -/

theorem hidden_eq (c : Dev nD) (t : Fin cfg0.N) (r d : Fin 1024) : hidden m c t (ix2 r d) = (args m c).hid (batchAt t) (rowAt t r) d := by
  refine (pay4_apply _ _ _ _ r d).trans ?_
  simp only [blk_x, blk_scale, blk_shift, blk_norm]
  rfl

theorem proj_q (c : Dev nD) (t : Fin cfg0.N) (r : Fin 1024) (q : Fin 512) :
    proj (hidden m c t) (qCols (bIn m c t)) (ix2 r q) = (args m c).prj (batchAt t) (rowAt t r) (qCol q) := by
  rw [proj_apply]
  simp only [hidden_eq, blk_q]
  rfl

theorem proj_k (c : Dev nD) (t : Fin cfg0.N) (r : Fin 1024) (q : Fin 512) :
    proj (hidden m c t) (kCols (bIn m c t)) (ix2 r q) = (args m c).prj (batchAt t) (rowAt t r) (kCol q) := by
  rw [proj_apply]
  simp only [hidden_eq, blk_k]
  rfl

theorem proj_v (c : Dev nD) (t : Fin cfg0.N) (r : Fin 1024) (q : Fin 512) :
    proj (hidden m c t) (vCols (bIn m c t)) (ix2 r q) = (args m c).prj (batchAt t) (rowAt t r) (vCol q) := by
  rw [proj_apply]
  simp only [hidden_eq, blk_v]
  rfl

/-- The block of queries that point `t` writes. -/
theorem block_q (c : Dev nD) (t : Fin cfg0.N) (r : Fin 1024) (q : Fin 512) :
    ((dats m 0 c).after 13 t : S1x1024x512.Idx → EReal) (ix3 0 r q) = (args m c).turned (batchAt t) (rowAt t r) qCol q * qScale := by
  rw [after0_13, after_q]
  refine (pay10_apply _ r q).trans ((pay9_apply _ _ _ _ r q).trans ?_)
  rw [proj_q, proj_q, blk_cos, blk_sin, Args.turned, EReal.right_distrib_of_nonneg_of_ne_top qScale_nonneg qScale_ne_top, mul_assoc, mul_assoc]

/-- The block of keys. -/
theorem block_k (c : Dev nD) (t : Fin cfg0.N) (r : Fin 1024) (q : Fin 512) :
    ((dats m 0 c).after 14 t : S1x1024x512.Idx → EReal) (ix3 0 r q) = (args m c).turned (batchAt t) (rowAt t r) kCol q := by
  rw [after0_14, after_k]
  refine (pay11_apply _ _ _ _ r q).trans ?_
  rw [proj_k, proj_k, blk_cos, blk_sin, Args.turned]

/-- The block of values. -/
theorem block_v (c : Dev nD) (t : Fin cfg0.N) (r : Fin 1024) (q : Fin 512) :
    ((dats m 0 c).after 15 t : S1x1024x512.Idx → EReal) (ix3 0 r q) = (args m c).prj (batchAt t) (rowAt t r) (vCol q) := by
  rw [after0_15, after_v]
  exact (pay12_apply _ _ r q).trans (proj_v m c t r q)

/-! ## The results -/

/-- The array of queries after the run. -/
theorem final_q (c : Dev nD) : (dats m 0 c).arrAt 13 cfg0.N = qArr (args m c) := by
  refine (dats m 0 c).arrAt_eq_of_cover 13 _ (fun t hf => ?_) (fun i => ?_)
  · show (cfg0.win 13).cut (grid0.coords t) ((dats m 0 c).after 13 t) = _
    refine funext fun (y : S1x1024x512.Idx) => ?_
    obtain ⟨r, q, rfl⟩ : ∃ (r : Fin 1024) (q : Fin 512), y = ix3 0 r q := ⟨y 1, y 2, by
      funext a
      match a with
      | ⟨0, _⟩ => exact Subsingleton.elim (α := Fin 1) _ _
      | ⟨1, _⟩ => rfl
      | ⟨2, _⟩ => rfl⟩
    refine Eq.trans ?_ (View.read_apply (v := ((cfg0.win 13).blk t).view) (Val := Elt Ideal) (qArr (args m c)) (ix3 0 r q)).symm
    refine Eq.trans (?_ : _ = ((dats m 0 c).after 13 t : S1x1024x512.Idx → EReal) (ix3 0 r q)) ((block_q m c t r q).trans ?_)
    · show ((dats m 0 c).after 13 t : S1x1024x512.Idx → EReal) _ = _
      congr 1
    · show qArr (args m c) (ix3 (batchAt t) (rowAt t r) q) = qArr (args m c) _
      congr 1
      funext a
      apply Fin.ext
      match a with
      | ⟨0, _⟩ => show t.val / 8 = (BitVec.ofNat 32 (grid0.coords t 0).val).toNat * 1 + 1 * 0; rw [word_0]; omega
      | ⟨1, _⟩ => show t.val % 8 * 1024 + r.val = (BitVec.ofNat 32 (grid0.coords t 1).val).toNat * 1024 + 1 * r.val; rw [word_1]; omega
      | ⟨2, _⟩ => show q.val = 0 * 512 + 1 * q.val; omega
  · have h0 : (i 0 : ℕ) < 4 := (i 0).isLt
    have h1 : (i 1 : ℕ) < 8192 := (i 1).isLt
    have h2 : (i 2 : ℕ) < 512 := (i 2).isLt
    let t : Fin cfg0.N := ⟨8 * (i 0 : ℕ) + (i 1 : ℕ) / 1024, Nat.lt_of_lt_of_eq (by omega) N_0.symm⟩
    have w0 := word_0 t
    have w1 := word_1 t
    have hv : t.val = 8 * (i 0 : ℕ) + (i 1 : ℕ) / 1024 := rfl
    refine ⟨t, flush0_13 t, ?_⟩
    show i ∈ ((View.whole main_v31_1).slice ((cfg0.win 13).rect t)).set
    rw [View.set_slice_whole, Rect.mem_set_unit]
    intro a
    match a with
    | ⟨0, _⟩ =>
      show (BitVec.ofNat 32 (grid0.coords t 0).val).toNat * 1 ≤ (i 0 : ℕ) ∧ (i 0 : ℕ) < (BitVec.ofNat 32 (grid0.coords t 0).val).toNat * 1 + 1
      rw [w0]; omega
    | ⟨1, _⟩ =>
      show (BitVec.ofNat 32 (grid0.coords t 1).val).toNat * 1024 ≤ (i 1 : ℕ) ∧ (i 1 : ℕ) < (BitVec.ofNat 32 (grid0.coords t 1).val).toNat * 1024 + 1024
      rw [w1]; omega
    | ⟨2, _⟩ =>
      show 0 * 512 ≤ (i 2 : ℕ) ∧ (i 2 : ℕ) < 0 * 512 + 512
      omega

/-- The array of keys after the run. -/
theorem final_k (c : Dev nD) : (dats m 0 c).arrAt 14 cfg0.N = kArr (args m c) := by
  refine (dats m 0 c).arrAt_eq_of_cover 14 _ (fun t hf => ?_) (fun i => ?_)
  · show (cfg0.win 14).cut (grid0.coords t) ((dats m 0 c).after 14 t) = _
    refine funext fun (y : S1x1024x512.Idx) => ?_
    obtain ⟨r, q, rfl⟩ : ∃ (r : Fin 1024) (q : Fin 512), y = ix3 0 r q := ⟨y 1, y 2, by
      funext a
      match a with
      | ⟨0, _⟩ => exact Subsingleton.elim (α := Fin 1) _ _
      | ⟨1, _⟩ => rfl
      | ⟨2, _⟩ => rfl⟩
    refine Eq.trans ?_ (View.read_apply (v := ((cfg0.win 14).blk t).view) (Val := Elt Ideal) (kArr (args m c)) (ix3 0 r q)).symm
    refine Eq.trans (?_ : _ = ((dats m 0 c).after 14 t : S1x1024x512.Idx → EReal) (ix3 0 r q)) ((block_k m c t r q).trans ?_)
    · show ((dats m 0 c).after 14 t : S1x1024x512.Idx → EReal) _ = _
      congr 1
    · show kArr (args m c) (ix3 (batchAt t) (rowAt t r) q) = kArr (args m c) _
      congr 1
      funext a
      apply Fin.ext
      match a with
      | ⟨0, _⟩ => show t.val / 8 = (BitVec.ofNat 32 (grid0.coords t 0).val).toNat * 1 + 1 * 0; rw [word_0]; omega
      | ⟨1, _⟩ => show t.val % 8 * 1024 + r.val = (BitVec.ofNat 32 (grid0.coords t 1).val).toNat * 1024 + 1 * r.val; rw [word_1]; omega
      | ⟨2, _⟩ => show q.val = 0 * 512 + 1 * q.val; omega
  · have h0 : (i 0 : ℕ) < 4 := (i 0).isLt
    have h1 : (i 1 : ℕ) < 8192 := (i 1).isLt
    have h2 : (i 2 : ℕ) < 512 := (i 2).isLt
    let t : Fin cfg0.N := ⟨8 * (i 0 : ℕ) + (i 1 : ℕ) / 1024, Nat.lt_of_lt_of_eq (by omega) N_0.symm⟩
    have w0 := word_0 t
    have w1 := word_1 t
    have hv : t.val = 8 * (i 0 : ℕ) + (i 1 : ℕ) / 1024 := rfl
    refine ⟨t, flush0_14 t, ?_⟩
    show i ∈ ((View.whole main_v31_2).slice ((cfg0.win 14).rect t)).set
    rw [View.set_slice_whole, Rect.mem_set_unit]
    intro a
    match a with
    | ⟨0, _⟩ =>
      show (BitVec.ofNat 32 (grid0.coords t 0).val).toNat * 1 ≤ (i 0 : ℕ) ∧ (i 0 : ℕ) < (BitVec.ofNat 32 (grid0.coords t 0).val).toNat * 1 + 1
      rw [w0]; omega
    | ⟨1, _⟩ =>
      show (BitVec.ofNat 32 (grid0.coords t 1).val).toNat * 1024 ≤ (i 1 : ℕ) ∧ (i 1 : ℕ) < (BitVec.ofNat 32 (grid0.coords t 1).val).toNat * 1024 + 1024
      rw [w1]; omega
    | ⟨2, _⟩ =>
      show 0 * 512 ≤ (i 2 : ℕ) ∧ (i 2 : ℕ) < 0 * 512 + 512
      omega

/-- The array of values after the run. -/
theorem final_v (c : Dev nD) : (dats m 0 c).arrAt 15 cfg0.N = vArr (args m c) := by
  refine (dats m 0 c).arrAt_eq_of_cover 15 _ (fun t hf => ?_) (fun i => ?_)
  · show (cfg0.win 15).cut (grid0.coords t) ((dats m 0 c).after 15 t) = _
    refine funext fun (y : S1x1024x512.Idx) => ?_
    obtain ⟨r, q, rfl⟩ : ∃ (r : Fin 1024) (q : Fin 512), y = ix3 0 r q := ⟨y 1, y 2, by
      funext a
      match a with
      | ⟨0, _⟩ => exact Subsingleton.elim (α := Fin 1) _ _
      | ⟨1, _⟩ => rfl
      | ⟨2, _⟩ => rfl⟩
    refine Eq.trans ?_ (View.read_apply (v := ((cfg0.win 15).blk t).view) (Val := Elt Ideal) (vArr (args m c)) (ix3 0 r q)).symm
    refine Eq.trans (?_ : _ = ((dats m 0 c).after 15 t : S1x1024x512.Idx → EReal) (ix3 0 r q)) ((block_v m c t r q).trans ?_)
    · show ((dats m 0 c).after 15 t : S1x1024x512.Idx → EReal) _ = _
      congr 1
    · show vArr (args m c) (ix3 (batchAt t) (rowAt t r) q) = vArr (args m c) _
      congr 1
      funext a
      apply Fin.ext
      match a with
      | ⟨0, _⟩ => show t.val / 8 = (BitVec.ofNat 32 (grid0.coords t 0).val).toNat * 1 + 1 * 0; rw [word_0]; omega
      | ⟨1, _⟩ => show t.val % 8 * 1024 + r.val = (BitVec.ofNat 32 (grid0.coords t 1).val).toNat * 1024 + 1 * r.val; rw [word_1]; omega
      | ⟨2, _⟩ => show q.val = 0 * 512 + 1 * q.val; omega
  · have h0 : (i 0 : ℕ) < 4 := (i 0).isLt
    have h1 : (i 1 : ℕ) < 8192 := (i 1).isLt
    have h2 : (i 2 : ℕ) < 512 := (i 2).isLt
    let t : Fin cfg0.N := ⟨8 * (i 0 : ℕ) + (i 1 : ℕ) / 1024, Nat.lt_of_lt_of_eq (by omega) N_0.symm⟩
    have w0 := word_0 t
    have w1 := word_1 t
    have hv : t.val = 8 * (i 0 : ℕ) + (i 1 : ℕ) / 1024 := rfl
    refine ⟨t, flush0_15 t, ?_⟩
    show i ∈ ((View.whole main_v31_3).slice ((cfg0.win 15).rect t)).set
    rw [View.set_slice_whole, Rect.mem_set_unit]
    intro a
    match a with
    | ⟨0, _⟩ =>
      show (BitVec.ofNat 32 (grid0.coords t 0).val).toNat * 1 ≤ (i 0 : ℕ) ∧ (i 0 : ℕ) < (BitVec.ofNat 32 (grid0.coords t 0).val).toNat * 1 + 1
      rw [w0]; omega
    | ⟨1, _⟩ =>
      show (BitVec.ofNat 32 (grid0.coords t 1).val).toNat * 1024 ≤ (i 1 : ℕ) ∧ (i 1 : ℕ) < (BitVec.ofNat 32 (grid0.coords t 1).val).toNat * 1024 + 1024
      rw [w1]; omega
    | ⟨2, _⟩ =>
      show 0 * 512 ≤ (i 2 : ℕ) ∧ (i 2 : ℕ) < 0 * 512 + 512
      omega

end Cert.Kernel4Ideal.Inproj

end
-- ==== Proof.Inproj.RecurArgs.lean ====
/- The recurrence of the input projection as a function of its arguments, entry by entry, and the blocks of those arguments each
   point of the kernel reads. -/
module

public import proofs.«01_k».proof.Proof.Inproj.Recur
public import proofs.«01_k».proof.Proof.Inproj.Scan
public import proofs.«01_k».proof.Proof.Inproj.Result

@[expose] public section

set_option maxRecDepth 16384

noncomputable section

namespace Cert.Kernel4Ideal.Inproj

open Cert.Kernel4Ideal Cert.Kernel4Ideal.Gen
open Idealize.ShloMosaic Idealize.ShloMosaic.TcCoe Idealize.SL.Sem
open Cert.Inproj

/-! ## The function -/

/-- The recurrence's own arguments. -/
structure RecArgs where
  cw : S4x512.Idx → EReal
  cb : S512.Idx → EReal
  wa : S8x64x64.Idx → EReal
  ba : S512.Idx → EReal
  wx : S8x64x64.Idx → EReal
  bx : S512.Idx → EReal
  lam : S512.Idx → EReal

/-- Column `w` of the recurrence's branch and of its gate's. -/
def xCol (w : Fin 512) : Fin 2560 := ⟨w.val, by have := w.isLt; omega⟩
def yCol (w : Fin 512) : Fin 2560 := ⟨512 + w.val, by have := w.isLt; omega⟩
/-- The head of a channel, its number in it, and the channel of the two. -/
def headOf (w : Fin 512) : Fin 8 := ⟨w.val / 64, by have := w.isLt; omega⟩
def laneOf (w : Fin 512) : Fin 64 := ⟨w.val % 64, Nat.mod_lt _ (by decide)⟩
def chan (n : Fin 8) (j : Fin 64) : Fin 512 := ⟨n.val * 64 + j.val, by have := n.isLt; have := j.isLt; omega⟩

/-- Position `n` of a sequence. -/
def posOf (n : ℕ) : Fin 8192 := ⟨n % 8192, Nat.mod_lt _ (by decide)⟩

/-- The branch's rows behind three rows of zeros. -/
def Args.padded (a : Args) (b : Fin 4) (n : ℕ) (w : Fin 512) : EReal := if n < 3 then 0 else a.prj b (posOf (n - 3)) (xCol w)

/-- The convolution over four rows. -/
def conv (a : Args) (r : RecArgs) (b : Fin 4) (s : Fin 8192) (w : Fin 512) : EReal :=
  r.cb (ix1 w) + r.cw (ix2 0 w) * a.padded b (s.val + 0) w + r.cw (ix2 1 w) * a.padded b (s.val + 1) w
    + r.cw (ix2 2 w) * a.padded b (s.val + 2) w + r.cw (ix2 3 w) * a.padded b (s.val + 3) w

/-- A gate: the logistic function of a head's projection. -/
def gate (a : Args) (r : RecArgs) (wg : S8x64x64.Idx → EReal) (bg : S512.Idx → EReal) (b : Fin 4) (s : Fin 8192) (w : Fin 512) : EReal :=
  Ideal.logistic (∑ j : Fin 64, conv a r b s (chan (headOf w) j) * wg (ix3 (headOf w) j (laneOf w)) + bg (ix1 w))

/-- The decay's logarithm, the decay, and what a step adds. -/
def logDecay (a : Args) (r : RecArgs) (b : Fin 4) (s : Fin 8192) (w : Fin 512) : EReal :=
  Ideal.ofBits .f32 0xC1000000#32 * gate a r r.wa r.ba b s w * softplus (-r.lam (ix1 w))
def decay (a : Args) (r : RecArgs) (b : Fin 4) (s : Fin 8192) (w : Fin 512) : EReal := Ideal.exp (logDecay a r b s w)
def added (a : Args) (r : RecArgs) (b : Fin 4) (s : Fin 8192) (w : Fin 512) : EReal :=
  Ideal.sqrt (1 - decay a r b s w * decay a r b s w) * (gate a r r.wx r.bx b s w * conv a r b s w)

/-- The recurrence after `n` steps. -/
def hAfter (a : Args) (r : RecArgs) (b : Fin 4) (w : Fin 512) (n : ℕ) : EReal :=
  steps (fun k => decay a r b (posOf k) w) (fun k => added a r b (posOf k) w) 0 n

/-- The gate's activation. -/
def gelu (y : EReal) : EReal :=
  Ideal.ofBits .f32 0x3F000000#32 * y * (1 + Ideal.tanh (Ideal.ofBits .f32 0x3F4C422A#32 * (y + Ideal.ofBits .f32 0x3D372713#32 * (y * y * y))))

/-- The recurrence's result as an array. -/
def lruArr (a : Args) (r : RecArgs) (i : S4x8192x512.Idx) : EReal :=
  hAfter a r (i 0) (i 2) ((i 1 : Fin 8192).val + 1) * gelu (a.prj (i 0) (i 1) (yCol (i 2)))

variable (m : (ℓ : Loc nD τ sig) → Buf (Elt Ideal) ℓ)

/-- The arguments a memory holds. -/
def recArgs (c : Dev nD) : RecArgs where
  cw := m ((c : Thread nD τ).loc main_arg6)
  cb := m ((c : Thread nD τ).loc main_arg7)
  wa := m ((c : Thread nD τ).loc main_arg8)
  ba := m ((c : Thread nD τ).loc main_arg9)
  wx := m ((c : Thread nD τ).loc main_arg10)
  bx := m ((c : Thread nD τ).loc main_arg11)
  lam := m ((c : Thread nD τ).loc main_arg12)

/-! ## The blocks -/

theorem blk_convw (c : Dev nD) (t : Fin cfg0.N) (d : Fin 4) (e : Fin 512) : bConvW m c t (ix2 d e) = (recArgs m c).cw (ix2 d e) := by
  refine (View.read_apply (v := ((cfg0.win 7).blk t).view) (Val := Elt Ideal) (V m c (Pipeline.arrRef spec0 7)) _).trans ?_
  show V m c main_arg6 _ = _
  rw [V_main_arg6]
  show m ((c : Thread nD τ).loc main_arg6) _ = m ((c : Thread nD τ).loc main_arg6) _
  congr 1
  funext a
  apply Fin.ext
  match a with
  | ⟨0, _⟩ => show 0 * 4 + 1 * d.val = d.val; omega
  | ⟨1, _⟩ => show 0 * 512 + 1 * e.val = e.val; omega

theorem entry_convb (c : Dev nD) : (V m c main_v29 : S1x512.Idx → EReal) = shapeCast S1x512 (recArgs m c).cb shapeCasts_S512_S1x512 := by
  show StableHlo.after hostOps0 (fun b => m (c, b)) (Proc.devRef .tc main_v29) = _
  after_results
  rfl

theorem blk_convb (c : Dev nD) (t : Fin cfg0.N) (d : Fin 512) : bConvB m c t (ix2 0 d) = (recArgs m c).cb (ix1 d) := by
  refine (View.read_apply (v := ((cfg0.win 8).blk t).view) (Val := Elt Ideal) (V m c (Pipeline.arrRef spec0 8)) _).trans ?_
  refine Eq.trans (?_ : _ = (V m c main_v29 : S1x512.Idx → EReal) (ix2 0 d)) ?_
  · show V m c main_v29 _ = V m c main_v29 _
    congr 1
    funext a
    apply Fin.ext
    match a with
    | ⟨0, _⟩ => rfl
    | ⟨1, _⟩ => show 0 * 512 + 1 * d.val = d.val; omega
  · rw [entry_convb]
    generalize (recArgs m c).cb = n
    pointwise

theorem entry_lam (c : Dev nD) : (V m c main_v30 : S1x512.Idx → EReal) = shapeCast S1x512 (recArgs m c).lam shapeCasts_S512_S1x512 := by
  show StableHlo.after hostOps0 (fun b => m (c, b)) (Proc.devRef .tc main_v30) = _
  after_results
  rfl

theorem blk_lam (c : Dev nD) (t : Fin cfg0.N) (d : Fin 512) : bLam m c t (ix2 0 d) = (recArgs m c).lam (ix1 d) := by
  refine (View.read_apply (v := ((cfg0.win 11).blk t).view) (Val := Elt Ideal) (V m c (Pipeline.arrRef spec0 11)) _).trans ?_
  refine Eq.trans (?_ : _ = (V m c main_v30 : S1x512.Idx → EReal) (ix2 0 d)) ?_
  · show V m c main_v30 _ = V m c main_v30 _
    congr 1
    funext a
    apply Fin.ext
    match a with
    | ⟨0, _⟩ => rfl
    | ⟨1, _⟩ => show 0 * 512 + 1 * d.val = d.val; omega
  · rw [entry_lam]
    generalize (recArgs m c).lam = n
    pointwise

/-- The gates' offsets, the decay's before the input's. -/
theorem entry_gateb (c : Dev nD) : (V m c main_v27 : S1x1024.Idx → EReal)
    = shapeCast S1x1024 (concatenate S1024 0 [⟨S512, (recArgs m c).ba⟩, ⟨S512, (recArgs m c).bx⟩] concatenates_S512_S512_S1024_d0) shapeCasts_S1024_S1x1024 := by
  show StableHlo.after hostOps0 (fun b => m (c, b)) (Proc.devRef .tc main_v27) = _
  after_results
  rfl

theorem blk_gateb (c : Dev nD) (t : Fin cfg0.N) (d : Fin 1024) : bGateB m c t (ix2 0 d) = (V m c main_v27 : S1x1024.Idx → EReal) (ix2 0 d) := by
  refine (View.read_apply (v := ((cfg0.win 10).blk t).view) (Val := Elt Ideal) (V m c (Pipeline.arrRef spec0 10)) _).trans ?_
  show V m c main_v27 _ = V m c main_v27 _
  congr 1
  funext a
  apply Fin.ext
  match a with
  | ⟨0, _⟩ => rfl
  | ⟨1, _⟩ => show 0 * 1024 + 1 * d.val = d.val; omega

/-- A gate's weights as one matrix, zero outside the heads' blocks. -/
def blockDiag (w : S8x64x64.Idx → EReal) : FVec Ideal S512x512 .f32 :=
  shapeCast S512x512 (mulf
    (broadcastInDim S8x64x8x64 ![0, 1, 2, 3] bcast_S8x64x1x64_S8x64x8x64_0_1_2_3 (broadcastInDim S8x64x1x64 ![0, 1, 3] bcast_S8x64x64_S8x64x1x64_0_1_3 (w : FVec Ideal S8x64x64 .f32)))
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1))))))
    shapeCasts_S8x64x8x64_S512x512

theorem entry_gatew (c : Dev nD) : (V m c main_v25 : S512x1024.Idx → EReal)
    = (truncf .bf16 (concatenate S512x1024 1 [⟨S512x512, blockDiag (recArgs m c).wa⟩, ⟨S512x512, blockDiag (recArgs m c).wx⟩] concatenates_S512x512_S512x512_S512x1024_d1 : FVec Ideal S512x1024 .f32) bitsLt_bf16_f32 : FVec Ideal S512x1024 .bf16) := by
  show StableHlo.after hostOps0 (fun b => m (c, b)) (Proc.devRef .tc main_v25) = _
  after_results
  rfl

theorem blk_gatew (c : Dev nD) (t : Fin cfg0.N) (d : Fin 512) (e : Fin 1024) : bGateW m c t (ix2 d e) = (V m c main_v25 : S512x1024.Idx → EReal) (ix2 d e) := by
  refine (View.read_apply (v := ((cfg0.win 9).blk t).view) (Val := Elt Ideal) (V m c (Pipeline.arrRef spec0 9)) _).trans ?_
  show V m c main_v25 _ = V m c main_v25 _
  congr 1
  funext a
  apply Fin.ext
  match a with
  | ⟨0, _⟩ => show 0 * 512 + 1 * d.val = d.val; omega
  | ⟨1, _⟩ => show 0 * 1024 + 1 * e.val = e.val; omega

theorem eye_eq : ∀ n n' : Fin 8, IntOp.cmpi .eq (BitVec.ofNat 32 n.val + 0#32) (BitVec.ofNat 32 n'.val) = if n = n' then 1#1 else 0#1 := by decide +kernel

theorem blockDiag_apply (w : S8x64x64.Idx → EReal) (n : Fin 8) (j : Fin 64) (k : Fin 512) :
    blockDiag w (ix2 (chan n j) k) = if n = headOf k then w (ix3 n j (laneOf k)) else 0 := by
  refine (shapeCast_apply _ _ _ (ix4 n j (headOf k) (laneOf k)) ?_).trans ?_
  · rw [Shape.rowMajor_val_two, Shape.rowMajor_val_four]
    show ((n.val * 64 + j.val) * 8 + k.val / 64) * 64 + k.val % 64 = (n.val * 64 + j.val) * 512 + k.val
    omega
  · have h := eye_eq n (headOf k)
    have h' : (FloatOps.uitofp .f32 (IntOp.cmpi .eq (BitVec.ofNat 32 n.val + 0#32) (BitVec.ofNat 32 (headOf k).val)) : Ideal .f32) = if n = headOf k then (1 : EReal) else 0 := by
      rw [h]
      by_cases hc : n = headOf k
      · rw [if_pos hc, if_pos hc]; show ((((1#1 : BitVec 1).toNat : ℕ) : ℝ) : EReal) = 1; simp
      · rw [if_neg hc, if_neg hc]; show ((((0#1 : BitVec 1).toNat : ℕ) : ℝ) : EReal) = 0; simp
    refine Eq.trans (?_ : _ = (w (ix3 n j (laneOf k)) * (FloatOps.uitofp .f32 (IntOp.cmpi .eq (BitVec.ofNat 32 n.val + 0#32) (BitVec.ofNat 32 (headOf k).val)) : Ideal .f32) : EReal)) ?_
    · pointwise [headOf, laneOf]
      rfl
    · rw [h']
      by_cases hc : n = headOf k
      · rw [if_pos hc, if_pos hc, mul_one]
      · rw [if_neg hc, if_neg hc, mul_zero]

end Cert.Kernel4Ideal.Inproj

end
-- ==== Proof.Inproj.RecurPoint.lean ====
/- The recurrence of the input projection at one point of the kernel, entry by entry, with the floats read as extended reals: the
   rows it writes are the recurrence's, if the rows it starts from are. -/
module

public import proofs.«01_k».proof.Proof.Inproj.RecurPayload
public import proofs.«01_k».proof.Proof.Inproj.RecurArgs

@[expose] public section

set_option maxRecDepth 16384

noncomputable section

namespace Cert.Kernel4Ideal.Inproj

open Cert.Kernel4Ideal Cert.Kernel4Ideal.Gen
open Idealize.ShloMosaic Idealize.ShloMosaic.TcCoe Idealize.SL.Sem
open Cert.Inproj

theorem cwRow0_apply (w : Vec Ideal S4x512 .f32) (e : Fin 512) : cwRow0 w (ix2 0 e) = w (ix2 0 e) := by
  show w _ = w _
  congr 1; funext a; apply Fin.ext
  match a with
  | ⟨0, _⟩ => rfl
  | ⟨1, _⟩ => show 0 + 1 * e.val = e.val; omega
theorem cwRow1_apply (w : Vec Ideal S4x512 .f32) (e : Fin 512) : cwRow1 w (ix2 0 e) = w (ix2 1 e) := by
  show w _ = w _
  congr 1; funext a; apply Fin.ext
  match a with
  | ⟨0, _⟩ => rfl
  | ⟨1, _⟩ => show 0 + 1 * e.val = e.val; omega
theorem cwRow2_apply (w : Vec Ideal S4x512 .f32) (e : Fin 512) : cwRow2 w (ix2 0 e) = w (ix2 2 e) := by
  show w _ = w _
  congr 1; funext a; apply Fin.ext
  match a with
  | ⟨0, _⟩ => rfl
  | ⟨1, _⟩ => show 0 + 1 * e.val = e.val; omega
theorem cwRow3_apply (w : Vec Ideal S4x512 .f32) (e : Fin 512) : cwRow3 w (ix2 0 e) = w (ix2 3 e) := by
  show w _ = w _
  congr 1; funext a; apply Fin.ext
  match a with
  | ⟨0, _⟩ => rfl
  | ⟨1, _⟩ => show 0 + 1 * e.val = e.val; omega

variable (cw : Vec Ideal S4x512 .f32) (cb : Vec Ideal S1x512 .f32) (x0 x1 x2 x3 : FVec Ideal S1024x512 .f32)

theorem convRows_apply (p : Fin 1024) (w : Fin 512) :
    convRows cw cb x0 x1 x2 x3 (ix2 p w) = (cb (ix2 0 w) + cw (ix2 0 w) * x0 (ix2 p w) + cw (ix2 1 w) * x1 (ix2 p w) + cw (ix2 2 w) * x2 (ix2 p w) + cw (ix2 3 w) * x3 (ix2 p w) : EReal) := by
  rw [← cwRow0_apply cw, ← cwRow1_apply cw, ← cwRow2_apply cw, ← cwRow3_apply cw]
  unfold convRows
  generalize cwRow0 cw = a0
  generalize cwRow1 cw = a1
  generalize cwRow2 cw = a2
  generalize cwRow3 cw = a3
  pointwise [k0_pay14, k0_pay15, k0_pay16]

/-- The two gates' projections. -/
def gates (u : FVec Ideal S1024x512 .f32) (wg : Vec Ideal S512x1024 .bf16) (bg : Vec Ideal S1x1024 .f32) : FVec Ideal S1024x1024 .f32 :=
  addf (matmul (φ₂ := .bf16) dot_S1024x512_S512x1024_S1024x1024_1_0_0_1_n_n none (truncf .bf16 u bitsLt_bf16_f32) (shapeCast S512x1024 wg shapeCasts_S512x1024_S512x1024) (constant S1024x1024 .f32 0x00000000#32))
    (broadcastTo S1024x1024 (shapeCast S1x1024 bg shapeCasts_S1x1024_S1x1024) broadcasts_S1x1024_S1024x1024)

theorem gates_apply (u : FVec Ideal S1024x512 .f32) (wg : Vec Ideal S512x1024 .bf16) (bg : Vec Ideal S1x1024 .f32) (p e : Fin 1024) :
    gates u wg bg (ix2 p e) = (∑ k : Fin 512, u (ix2 p k) * wg (ix2 k e) + bg (ix2 0 e) : EReal) := by
  pointwise [gates]

def loCol (w : Fin 512) : Fin 1024 := ⟨w.val, by have := w.isLt; omega⟩
def hiCol (w : Fin 512) : Fin 1024 := ⟨512 + w.val, by have := w.isLt; omega⟩

variable (wg : Vec Ideal S512x1024 .bf16) (bg : Vec Ideal S1x1024 .f32)

theorem decayGate_apply (p : Fin 1024) (w : Fin 512) :
    decayGate cw cb x0 x1 x2 x3 wg bg (ix2 p w) = Ideal.logistic (gates (convRows cw cb x0 x1 x2 x3) wg bg (ix2 p (loCol w))) := by
  show FloatOps.logistic (extractStridedSlice S1024x512 ![0, 0] (gates (convRows cw cb x0 x1 x2 x3) wg bg) slices_S1024x1024_o0_0_S1024x512 (ix2 p w)) = _
  rw [extractStridedSlice_apply (k := ix2 p (loCol w))]
  · rfl
  · intro a
    match a with
    | ⟨0, _⟩ => exact (Nat.zero_add _).symm
    | ⟨1, _⟩ => exact (Nat.zero_add _).symm

theorem inputGate_apply (p : Fin 1024) (w : Fin 512) :
    inputGate cw cb x0 x1 x2 x3 wg bg (ix2 p w) = Ideal.logistic (gates (convRows cw cb x0 x1 x2 x3) wg bg (ix2 p (hiCol w))) := by
  show FloatOps.logistic (extractStridedSlice S1024x512 ![0, 512] (gates (convRows cw cb x0 x1 x2 x3) wg bg) slices_S1024x1024_o0_512_S1024x512 (ix2 p w)) = _
  rw [extractStridedSlice_apply (k := ix2 p (hiCol w))]
  · rfl
  · intro a
    match a with
    | ⟨0, _⟩ => exact (Nat.zero_add _).symm
    | ⟨1, _⟩ => rfl

theorem sum_blockDiag (f : Fin 512 → EReal) (wt : S8x64x64.Idx → EReal) (w : Fin 512) :
    ∑ k : Fin 512, f k * blockDiag wt (ix2 k w) = ∑ j : Fin 64, f (chan (headOf w) j) * wt (ix3 (headOf w) j (laneOf w)) := by
  have e : ∑ k : Fin 512, f k * blockDiag wt (ix2 k w) = ∑ q : Fin 8 × Fin 64, f (chan q.1 q.2) * blockDiag wt (ix2 (chan q.1 q.2) w) := by
    refine (Fintype.sum_equiv (finProdFinEquiv (m := 8) (n := 64)) _ (fun k : Fin 512 => f k * blockDiag wt (ix2 k w)) fun q => ?_).symm
    have : (finProdFinEquiv (m := 8) (n := 64) q : Fin 512) = chan q.1 q.2 := Fin.ext (by
      show q.2.val + 64 * q.1.val = q.1.val * 64 + q.2.val
      omega)
    rw [this]
  rw [e, Fintype.sum_prod_type, Finset.sum_eq_single (headOf w)]
  · refine Finset.sum_congr rfl fun j _ => ?_
    rw [blockDiag_apply, if_pos rfl]
  · intro n _ hn
    refine Finset.sum_eq_zero fun j _ => ?_
    rw [blockDiag_apply, if_neg hn, mul_zero]
  · intro h; exact absurd (Finset.mem_univ _) h

theorem decayRows_apply (r : FVec Ideal S1024x512 .f32) (lam : FVec Ideal S1x512 .f32) (p : Fin 1024) (w : Fin 512) :
    decayRows r lam (ix2 p w) = Ideal.exp (Ideal.ofBits .f32 0xC1000000#32 * r (ix2 p w) * softplus (-lam (ix2 0 w))) := by
  refine Eq.trans (?_ : _ = Ideal.exp (Ideal.ofBits .f32 0xC1000000#32 * r (ix2 p w) * softplus (0 - lam (ix2 0 w)))) ?_
  · pointwise [decayRows, k0_pay23, k0_pay21, k0_pay22, softplus]
    have z : ∀ x : EReal, (0 : EReal) - x = -x := fun x => by rw [sub_eq_add_neg, zero_add]
    rw [z]
    exact congrArg (fun y : EReal => Ideal.exp (Ideal.ofBits .f32 0xC1000000#32 * r (ix2 p w) * (max (-lam (ix2 0 w)) 0 + Ideal.log1p (Ideal.exp y)))) (z (max (-lam (ix2 0 w)) (- -lam (ix2 0 w))))
  · rw [sub_eq_add_neg, zero_add]

theorem addedRows_apply (r i u : FVec Ideal S1024x512 .f32) (lam : FVec Ideal S1x512 .f32) (p : Fin 1024) (w : Fin 512) :
    addedRows r i u lam (ix2 p w) = Ideal.sqrt (1 - decayRows r lam (ix2 p w) * decayRows r lam (ix2 p w)) * (i (ix2 p w) * u (ix2 p w)) := by
  rw [← one_f32]
  unfold addedRows
  generalize decayRows r lam = A
  pointwise

theorem gatedRows_apply (y h : FVec Ideal S1024x512 .f32) (p : Fin 1024) (w : Fin 512) :
    gatedRows y h (ix3 0 p w) = (h (ix2 p w) * gelu (y (ix2 p w)) : EReal) := by
  unfold gelu
  rw [← one_f32]
  pointwise [gatedRows, k0_pay1, k0_pay198, k0_pay199]

variable (m : (ℓ : Loc nD τ sig) → Buf (Elt Ideal) ℓ)

theorem gates_lo (c : Dev nD) (t : Fin cfg0.N) (u : FVec Ideal S1024x512 .f32) (p : Fin 1024) (w : Fin 512) :
    gates u (bGateW m c t) (bGateB m c t) (ix2 p (loCol w))
      = (∑ j : Fin 64, u (ix2 p (chan (headOf w) j)) * (recArgs m c).wa (ix3 (headOf w) j (laneOf w)) + (recArgs m c).ba (ix1 w) : EReal) := by
  rw [gates_apply, blk_gateb, entry_gateb, ← sum_blockDiag (fun k => u (ix2 p k))]
  refine congrArg₂ (· + ·) (Finset.sum_congr rfl fun k _ => ?_) ?_
  · rw [blk_gatew, entry_gatew]
    generalize blockDiag _ = A
    generalize blockDiag _ = B
    pointwise [loCol]
  · generalize (recArgs m c).ba = A
    generalize (recArgs m c).bx = B
    pointwise [loCol]

theorem gates_hi (c : Dev nD) (t : Fin cfg0.N) (u : FVec Ideal S1024x512 .f32) (p : Fin 1024) (w : Fin 512) :
    gates u (bGateW m c t) (bGateB m c t) (ix2 p (hiCol w))
      = (∑ j : Fin 64, u (ix2 p (chan (headOf w) j)) * (recArgs m c).wx (ix3 (headOf w) j (laneOf w)) + (recArgs m c).bx (ix1 w) : EReal) := by
  rw [gates_apply, blk_gateb, entry_gateb, ← sum_blockDiag (fun k => u (ix2 p k))]
  refine congrArg₂ (· + ·) (Finset.sum_congr rfl fun k _ => ?_) ?_
  · rw [blk_gatew, entry_gatew]
    generalize blockDiag (recArgs m c).wa = A
    generalize blockDiag (recArgs m c).wx = B
    pointwise [hiCol]
  · generalize (recArgs m c).ba = A
    generalize (recArgs m c).bx = B
    pointwise [hiCol]

/-- The rows a point convolves, at offset `j`. -/
def IsRows (c : Dev nD) (t : Fin cfg0.N) (j : ℕ) (x : FVec Ideal S1024x512 .f32) : Prop :=
  ∀ (p : Fin 1024) (w : Fin 512), x (ix2 p w) = (args m c).padded (batchAt t) ((rowAt t p).val + j) w

variable (c : Dev nD) (t : Fin cfg0.N) (h0 : IsRows m c t 0 x0) (h1 : IsRows m c t 1 x1) (h2 : IsRows m c t 2 x2) (h3 : IsRows m c t 3 x3)
include h0 h1 h2 h3

theorem conv_point (p : Fin 1024) (w : Fin 512) :
    convRows (bConvW m c t) (bConvB m c t) x0 x1 x2 x3 (ix2 p w) = conv (args m c) (recArgs m c) (batchAt t) (rowAt t p) w := by
  rw [convRows_apply, blk_convb, blk_convw, blk_convw, blk_convw, blk_convw, h0, h1, h2, h3]
  rfl

theorem decayGate_point (p : Fin 1024) (w : Fin 512) :
    decayGate (bConvW m c t) (bConvB m c t) x0 x1 x2 x3 (bGateW m c t) (bGateB m c t) (ix2 p w)
      = gate (args m c) (recArgs m c) (recArgs m c).wa (recArgs m c).ba (batchAt t) (rowAt t p) w := by
  rw [decayGate_apply, gates_lo]
  simp only [conv_point x0 x1 x2 x3 m c t h0 h1 h2 h3]
  rfl

theorem inputGate_point (p : Fin 1024) (w : Fin 512) :
    inputGate (bConvW m c t) (bConvB m c t) x0 x1 x2 x3 (bGateW m c t) (bGateB m c t) (ix2 p w)
      = gate (args m c) (recArgs m c) (recArgs m c).wx (recArgs m c).bx (batchAt t) (rowAt t p) w := by
  rw [inputGate_apply, gates_hi]
  simp only [conv_point x0 x1 x2 x3 m c t h0 h1 h2 h3]
  rfl

theorem decay_point (p : Fin 1024) (w : Fin 512) :
    decayRows (decayGate (bConvW m c t) (bConvB m c t) x0 x1 x2 x3 (bGateW m c t) (bGateB m c t)) (bLam m c t) (ix2 p w)
      = decay (args m c) (recArgs m c) (batchAt t) (rowAt t p) w := by
  rw [decayRows_apply, decayGate_point x0 x1 x2 x3 m c t h0 h1 h2 h3, blk_lam]
  rfl

theorem added_point (p : Fin 1024) (w : Fin 512) :
    addedRows (decayGate (bConvW m c t) (bConvB m c t) x0 x1 x2 x3 (bGateW m c t) (bGateB m c t))
        (inputGate (bConvW m c t) (bConvB m c t) x0 x1 x2 x3 (bGateW m c t) (bGateB m c t)) (convRows (bConvW m c t) (bConvB m c t) x0 x1 x2 x3) (bLam m c t) (ix2 p w)
      = added (args m c) (recArgs m c) (batchAt t) (rowAt t p) w := by
  rw [addedRows_apply, decay_point x0 x1 x2 x3 m c t h0 h1 h2 h3, inputGate_point x0 x1 x2 x3 m c t h0 h1 h2 h3, conv_point x0 x1 x2 x3 m c t h0 h1 h2 h3]
  rfl

omit h0 h1 h2 h3 in
theorem decay_decay (a : Args) (r : RecArgs) (b : Fin 4) (s : Fin 8192) (w : Fin 512) : Decay (decay a r b s w) :=
  exp_decay (logDecay_nonpos (logistic_decay _).1 (softplus_nonneg _))

theorem rows_point (h : FVec Ideal S1x512 .f32) (w : Fin 512) (hh : h (ix2 0 w) = hAfter (args m c) (recArgs m c) (batchAt t) w (t.val % 8 * 1024)) (p : Fin 1024) :
    recurAt m c t x0 x1 x2 x3 h (ix2 p w) = hAfter (args m c) (recArgs m c) (batchAt t) w (t.val % 8 * 1024 + (p.val + 1)) := by
  have hp := p.isLt
  have ht : t.val % 8 < 8 := Nat.mod_lt _ (by decide)
  unfold recurAt
  rw [recurRows_apply, hh, hAfter, hAfter, steps_add _ _ _ (t.val % 8 * 1024)]
  · refine steps_congr _ (fun j hj => ?_) fun j hj => ?_
    · refine (decay_point x0 x1 x2 x3 m c t h0 h1 h2 h3 _ w).trans ?_
      congr 1
      apply Fin.ext
      show t.val % 8 * 1024 + j % 1024 = (t.val % 8 * 1024 + j) % 8192
      omega
    · refine (added_point x0 x1 x2 x3 m c t h0 h1 h2 h3 _ w).trans ?_
      congr 1
      apply Fin.ext
      show t.val % 8 * 1024 + j % 1024 = (t.val % 8 * 1024 + j) % 8192
      omega
  · intro j
    obtain ⟨p', w', rfl⟩ : ∃ (p' : Fin 1024) (w' : Fin 512), j = ix2 p' w' := ⟨j 0, j 1, funext fun a => by match a with | ⟨0, _⟩ => rfl | ⟨1, _⟩ => rfl⟩
    rw [decay_point x0 x1 x2 x3 m c t h0 h1 h2 h3]
    exact decay_decay _ _ _ _ _

theorem last_point (h : FVec Ideal S1x512 .f32) (w : Fin 512) (hh : h (ix2 0 w) = hAfter (args m c) (recArgs m c) (batchAt t) w (t.val % 8 * 1024)) :
    lastAt m c t x0 x1 x2 x3 h (ix2 0 w) = hAfter (args m c) (recArgs m c) (batchAt t) w (t.val % 8 * 1024 + 1024) := by
  have ht : t.val % 8 < 8 := Nat.mod_lt _ (by decide)
  unfold lastAt
  rw [recurLast_apply, hh, hAfter, hAfter, steps_add _ _ _ (t.val % 8 * 1024)]
  · refine steps_congr _ (fun j hj => ?_) fun j hj => ?_
    · refine (decay_point x0 x1 x2 x3 m c t h0 h1 h2 h3 _ w).trans ?_
      congr 1
      apply Fin.ext
      show t.val % 8 * 1024 + j % 1024 = (t.val % 8 * 1024 + j) % 8192
      omega
    · refine (added_point x0 x1 x2 x3 m c t h0 h1 h2 h3 _ w).trans ?_
      congr 1
      apply Fin.ext
      show t.val % 8 * 1024 + j % 1024 = (t.val % 8 * 1024 + j) % 8192
      omega
  · intro j
    obtain ⟨p', w', rfl⟩ : ∃ (p' : Fin 1024) (w' : Fin 512), j = ix2 p' w' := ⟨j 0, j 1, funext fun a => by match a with | ⟨0, _⟩ => rfl | ⟨1, _⟩ => rfl⟩
    rw [decay_point x0 x1 x2 x3 m c t h0 h1 h2 h3]
    exact decay_decay _ _ _ _ _

end Cert.Kernel4Ideal.Inproj

end
-- ==== Proof.Inproj.RecurCarry.lean ====
/- What a point of the input projection kernel hands to the next one for the recurrence: the last rows of the branch's projection
   and the recurrence's last row; and the recurrence's result array after the run. -/
module

public import proofs.«01_k».proof.Proof.Inproj.RecurPoint
public import Idealize.ShloMosaic.Lib.WritesUnit
public import Idealize.ShloMosaic.Lib.Pipeline.ReadBack

@[expose] public section

set_option maxRecDepth 65536

noncomputable section

namespace Cert.Kernel4Ideal.Inproj

open Cert.Kernel4Ideal Cert.Kernel4Ideal.Gen
open Idealize.ShloMosaic Idealize.ShloMosaic.TcCoe Idealize.SL.Sem
open Cert.Inproj

/-! ## The padded rows -/

section
variable {F : FTy → Type} [FloatOps F]
variable (m : (ℓ : Loc nD τ sig) → Buf (Elt F) ℓ)

/-- What the point's own last eight rows become: the first eight of the padded rows. -/
theorem after_pad_A (c : Dev nD) (t : Fin cfg0.N) (h : t.val % 8 = 0) :
    (outsAt0 m c t.val t.isLt).2.2.2.2.1 = View.canon (Val := Elt F)
      [⟨Rect.unit (s := S1032x512) ![0, 0] ![8, 512] inb_S1032x512_S8x512_0_0, k0_pay17 ((View.whole cc0_scratch0).readCov (Val := Elt F)
          [⟨Rect.unit (s := S1032x512) ![8, 0] ![1024, 512] inb_S1032x512_S1024x512_8_0, own m c t⟩, ⟨Rect.unit (s := S1032x512) ![0, 0] ![8, 512] inb_S1032x512_S8x512_0_0, k0_pay2 (F := F)⟩]
          (Rect.unit (s := S1032x512) ![1024, 0] ![8, 512] inb_S1032x512_S8x512_1024_0).toLoadRect)⟩,
        ⟨Rect.unit (s := S1032x512) ![8, 0] ![1024, 512] inb_S1032x512_S1024x512_8_0, own m c t⟩, ⟨Rect.unit (s := S1032x512) ![0, 0] ![8, 512] inb_S1032x512_S8x512_0_0, k0_pay2 (F := F)⟩] := by
  rw [outsAt0_A m c t h]
  frame_out
  simp only [own, both, bX, bNorm, bScale, bShift, bIn]

theorem after_pad_B (c : Dev nD) (t : Fin cfg0.N) (h : ¬ t.val % 8 = 0) :
    (outsAt0 m c t.val t.isLt).2.2.2.2.1 = View.canon (Val := Elt F)
      [⟨Rect.unit (s := S1032x512) ![0, 0] ![8, 512] inb_S1032x512_S8x512_0_0, k0_pay17 ((View.whole cc0_scratch0).readCov (Val := Elt F)
          [⟨Rect.unit (s := S1032x512) ![8, 0] ![1024, 512] inb_S1032x512_S1024x512_8_0, own m c t⟩]
          (Rect.unit (s := S1032x512) ![1024, 0] ![8, 512] inb_S1032x512_S8x512_1024_0).toLoadRect)⟩,
        ⟨Rect.unit (s := S1032x512) ![8, 0] ![1024, 512] inb_S1032x512_S1024x512_8_0, own m c t⟩] := by
  rw [outsAt0_B m c t h]
  frame_out
  simp only [own, both, bX, bNorm, bScale, bShift, bIn]
end

variable (m : (ℓ : Loc nD τ sig) → Buf (Elt Ideal) ℓ)

theorem low_emb (k : Fin 8) (w : Fin 512) :
    (ix2 ⟨k.val, by have := k.isLt; omega⟩ w : S1032x512.Idx) = (Rect.unit (s := S1032x512) ![0, 0] ![8, 512] inb_S1032x512_S8x512_0_0).emb (ix2 k w : S8x512.Idx) := by
  funext a; apply Fin.ext
  match a with
  | ⟨0, _⟩ => show k.val = 0 + 1 * k.val; omega
  | ⟨1, _⟩ => show w.val = 0 + 1 * w.val; omega

theorem pad_low (P : (Rect.unit (s := S1032x512) ![0, 0] ![8, 512] inb_S1032x512_S8x512_0_0).shape.Idx → Elt Ideal .f32) (L : List (View.Piece (Elt Ideal) S1032x512 .f32)) (k : Fin 8) (w : Fin 512) :
    View.canon (Val := Elt Ideal) (⟨Rect.unit (s := S1032x512) ![0, 0] ![8, 512] inb_S1032x512_S8x512_0_0, P⟩ :: L) (ix2 ⟨k.val, by have := k.isLt; omega⟩ w) = P (ix2 k w : S8x512.Idx) :=
  (congrArg (View.canon (Val := Elt Ideal) (⟨Rect.unit (s := S1032x512) ![0, 0] ![8, 512] inb_S1032x512_S8x512_0_0, P⟩ :: L)) (low_emb k w)).trans
    (View.canon_cons_emb (Val := Elt Ideal) (Rect.unit (s := S1032x512) ![0, 0] ![8, 512] inb_S1032x512_S8x512_0_0) P L (ix2 k w : S8x512.Idx))

/-- The padded rows read after a write of rows: within them, and outside of them. -/
theorem read_own (f : cc0_scratch0.ty.Contents (Elt Ideal)) (x : FVec Ideal S1024x512 .f32) (L : List (View.Piece (Elt Ideal) S1032x512 .f32)) (y : S1032x512.Idx) (p : Fin 1024) (w : Fin 512)
    (h0 : (y (0 : Fin 2)).val = 8 + p.val) (h1 : (y (1 : Fin 2)).val = w.val) :
    (View.whole cc0_scratch0).read (Elt Ideal) ((View.whole cc0_scratch0).writes (Elt Ideal) f (⟨Rect.unit (s := S1032x512) ![8, 0] ![1024, 512] inb_S1032x512_S1024x512_8_0, x⟩ :: L)) y = x (ix2 p w) :=
  View.read_writes_cons_rows_of_mem (Val := Elt Ideal) (d := ![1032, 512]) (e := .f32) (off := ![8, 0]) (size := ![1024, 512]) (View.whole cc0_scratch0) f inb_S1032x512_S1024x512_8_0 x L y (ix2 p w : S1024x512.Idx) rfl h0 h1

theorem read_off_own (f : cc0_scratch0.ty.Contents (Elt Ideal)) (x : FVec Ideal S1024x512 .f32) (L : List (View.Piece (Elt Ideal) S1032x512 .f32)) (y : S1032x512.Idx)
    (h0 : (y (0 : Fin 2)).val < 8) :
    (View.whole cc0_scratch0).read (Elt Ideal) ((View.whole cc0_scratch0).writes (Elt Ideal) f (⟨Rect.unit (s := S1032x512) ![8, 0] ![1024, 512] inb_S1032x512_S1024x512_8_0, x⟩ :: L)) y
      = (View.whole cc0_scratch0).read (Elt Ideal) ((View.whole cc0_scratch0).writes (Elt Ideal) f L) y :=
  View.read_writes_cons_rows_of_not_mem (Val := Elt Ideal) (d := ![1032, 512]) (e := .f32) (off := ![8, 0]) (size := ![1024, 512]) (W := 1024) (View.whole cc0_scratch0) f inb_S1032x512_S1024x512_8_0 x L y rfl rfl (.inl h0)

theorem read_low (f : cc0_scratch0.ty.Contents (Elt Ideal)) (x : FVec Ideal S8x512 .f32) (L : List (View.Piece (Elt Ideal) S1032x512 .f32)) (y : S1032x512.Idx) (p : Fin 8) (w : Fin 512)
    (h0 : (y (0 : Fin 2)).val = 0 + p.val) (h1 : (y (1 : Fin 2)).val = w.val) :
    (View.whole cc0_scratch0).read (Elt Ideal) ((View.whole cc0_scratch0).writes (Elt Ideal) f (⟨Rect.unit (s := S1032x512) ![0, 0] ![8, 512] inb_S1032x512_S8x512_0_0, x⟩ :: L)) y = x (ix2 p w) :=
  View.read_writes_cons_rows_of_mem (Val := Elt Ideal) (d := ![1032, 512]) (e := .f32) (off := ![0, 0]) (size := ![8, 512]) (View.whole cc0_scratch0) f inb_S1032x512_S8x512_0_0 x L y (ix2 p w : S8x512.Idx) rfl h0 h1

/-- Row `p`, column `w` of a load of rows from `o` on. -/
abbrev at1024 (o : ℕ) (inb : ∀ a : Fin 2, ![o, 0] a + ![1024, 512] a ≤ S1032x512.size a) (p : Fin 1024) (w : Fin 512) : S1032x512.Idx :=
  (Rect.unit (s := S1032x512) ![o, 0] ![1024, 512] inb).toLoadRect.idx (ix2 p w : S1024x512.Idx)
theorem at1024_0 (o : ℕ) (inb : ∀ a : Fin 2, ![o, 0] a + ![1024, 512] a ≤ S1032x512.size a) (p : Fin 1024) (w : Fin 512) : (at1024 o inb p w (0 : Fin 2)).val = o + p.val := by
  show o + 1 * p.val = _; omega
theorem at1024_1 (o : ℕ) (inb : ∀ a : Fin 2, ![o, 0] a + ![1024, 512] a ≤ S1032x512.size a) (p : Fin 1024) (w : Fin 512) : (at1024 o inb p w (1 : Fin 2)).val = w.val := by
  show 0 + 1 * w.val = _; omega

abbrev at8 (k : Fin 8) (w : Fin 512) : S1032x512.Idx :=
  (Rect.unit (s := S1032x512) ![1024, 0] ![8, 512] inb_S1032x512_S8x512_1024_0).toLoadRect.idx (ix2 k w : S8x512.Idx)
theorem at8_0 (k : Fin 8) (w : Fin 512) : (at8 k w (0 : Fin 2)).val = 1024 + k.val := by show 1024 + 1 * k.val = _; omega
theorem at8_1 (k : Fin 8) (w : Fin 512) : (at8 k w (1 : Fin 2)).val = w.val := by show 0 + 1 * w.val = _; omega

/-- A load of the padded rows reads what the writes left. -/
theorem cov_at (L : List (View.Piece (Elt Ideal) S1032x512 .f32)) (B : LoadRect S1032x512) (j : B.shape.Idx) :
    (View.whole cc0_scratch0).readCov (Val := Elt Ideal) L B j
      = (View.whole cc0_scratch0).read (Elt Ideal) ((View.whole cc0_scratch0).writes (Elt Ideal) (View.whole cc0_scratch0).junk L) (B.idx j) :=
  (congrFun (View.readCov_eq_canon' (Val := Elt Ideal) (View.whole cc0_scratch0) L B) j).trans (View.read_writes_junk_apply_eq_canon (Val := Elt Ideal) (View.whole cc0_scratch0) (B.idx j) L).symm

/-- A load of the padded rows, whatever they held before the point's own rows. -/
theorem load_own (x : FVec Ideal S1024x512 .f32) (L : List (View.Piece (Elt Ideal) S1032x512 .f32)) (k : Fin 8) (w : Fin 512) :
    (View.whole cc0_scratch0).readCov (Val := Elt Ideal)
        (⟨Rect.unit (s := S1032x512) ![8, 0] ![1024, 512] inb_S1032x512_S1024x512_8_0, x⟩ :: L)
        (Rect.unit (s := S1032x512) ![1024, 0] ![8, 512] inb_S1032x512_S8x512_1024_0).toLoadRect (ix2 k w : S8x512.Idx)
      = x (ix2 ⟨1016 + k.val, by have := k.isLt; omega⟩ w) :=
  (cov_at (⟨Rect.unit (s := S1032x512) ![8, 0] ![1024, 512] inb_S1032x512_S1024x512_8_0, x⟩ :: L) (Rect.unit (s := S1032x512) ![1024, 0] ![8, 512] inb_S1032x512_S8x512_1024_0).toLoadRect (ix2 k w : S8x512.Idx)).trans <| read_own (View.whole cc0_scratch0).junk x L (at8 k w) ⟨1016 + k.val, by have := k.isLt; omega⟩ w (by rw [at8_0]; show _ = 8 + (1016 + k.val); omega) (at8_1 k w)

theorem after_pad (c : Dev nD) (t : Fin cfg0.N) (k : Fin 8) (w : Fin 512) :
    (outsAt0 m c t.val t.isLt).2.2.2.2.1 (ix2 ⟨k.val, by have := k.isLt; omega⟩ w) = own m c t (ix2 ⟨1016 + k.val, by have := k.isLt; omega⟩ w) := by
  have e : ∀ y : FVec Ideal S8x512 .f32, k0_pay17 y (ix2 k w) = y (ix2 k w) := fun y => by pointwise [k0_pay17]
  by_cases h : t.val % 8 = 0
  · rw [after_pad_A m c t h]
    exact (pad_low _ _ k w).trans ((e _).trans (load_own _ _ k w))
  · rw [after_pad_B m c t h]
    exact (pad_low _ _ k w).trans ((e _).trans (load_own _ _ k w))

theorem rowsA_apply (x : FVec Ideal S1024x512 .f32) (o : ℕ) (ho : o ≤ 8) (inb : ∀ a : Fin 2, ![o, 0] a + ![1024, 512] a ≤ S1032x512.size a) (p : Fin 1024) (w : Fin 512) :
    rowsA x o inb (ix2 p w) = if h : 8 ≤ p.val + o then x (ix2 ⟨p.val + o - 8, by have := p.isLt; omega⟩ w) else (0 : EReal) := by
  have hp := p.isLt
  refine (cov_at [⟨Rect.unit (s := S1032x512) ![8, 0] ![1024, 512] inb_S1032x512_S1024x512_8_0, x⟩, ⟨Rect.unit (s := S1032x512) ![0, 0] ![8, 512] inb_S1032x512_S8x512_0_0, k0_pay2 (F := Ideal)⟩] (Rect.unit (s := S1032x512) ![o, 0] ![1024, 512] inb).toLoadRect (ix2 p w : S1024x512.Idx)).trans ?_
  by_cases h : 8 ≤ p.val + o
  · rw [dif_pos h]
    exact read_own _ x _ (at1024 o inb p w) ⟨p.val + o - 8, by omega⟩ w (by rw [at1024_0]; show _ = 8 + (p.val + o - 8); omega) (at1024_1 o inb p w)
  · rw [dif_neg h]
    refine (read_off_own _ x _ (at1024 o inb p w) (by rw [at1024_0]; omega)).trans ?_
    refine (read_low _ (k0_pay2 (F := Ideal)) _ (at1024 o inb p w) ⟨p.val + o, by omega⟩ w (by rw [at1024_0]; show _ = 0 + (p.val + o); omega) (at1024_1 o inb p w)).trans ?_
    pointwise [k0_pay2]

theorem rowsB_apply (kept : Vec Ideal S1032x512 .f32) (x : FVec Ideal S1024x512 .f32) (o : ℕ) (ho : o ≤ 8) (inb : ∀ a : Fin 2, ![o, 0] a + ![1024, 512] a ≤ S1032x512.size a) (p : Fin 1024) (w : Fin 512) :
    rowsB kept x o inb (ix2 p w) = if h : 8 ≤ p.val + o then x (ix2 ⟨p.val + o - 8, by have := p.isLt; omega⟩ w) else kept (ix2 ⟨p.val + o, by have := p.isLt; omega⟩ w) := by
  have hp := p.isLt
  by_cases h : 8 ≤ p.val + o
  · rw [dif_pos h]
    exact read_own _ x _ (at1024 o inb p w) ⟨p.val + o - 8, by omega⟩ w (by rw [at1024_0]; show _ = 8 + (p.val + o - 8); omega) (at1024_1 o inb p w)
  · rw [dif_neg h]
    refine (read_off_own _ x _ (at1024 o inb p w) (by rw [at1024_0]; omega)).trans ?_
    refine (congrFun (read_unread_whole cc0_scratch0 (Memref.isWhole_whole cc0_scratch0) kept) (at1024 o inb p w)).trans ?_
    congr 1
    funext a; apply Fin.ext
    match a with
    | ⟨0, _⟩ => exact (at1024_0 o inb p w).trans (Nat.add_comm _ _)
    | ⟨1, _⟩ => exact at1024_1 o inb p w

theorem rowsOwn_eq (x : FVec Ideal S1024x512 .f32) : rowsOwn x = x := View.readCov_cons_toLoadRect _ _ _ _

/-! ## The points in order -/

/-- The branches' projection. -/
theorem both_apply (c : Dev nD) (t : Fin cfg0.N) (p e : Fin 1024) :
    both m c t (ix2 p e) = (args m c).prj (batchAt t) (rowAt t p) ⟨e.val, by have := e.isLt; omega⟩ := by
  have hw : ∀ d : Fin 1024, View.ld (bIn m c t) (Rect.unit (s := S1024x2560) ![0, 0] S1024x1024.size inb_S1024x2560_S1024x1024_0_0) (ix2 d e : S1024x1024.Idx)
      = (args m c).win (ix2 d ⟨e.val, by have := e.isLt; omega⟩) := by
    intro d
    rw [← blk_in m c t]
    show bIn m c t _ = bIn m c t _
    congr 1
    funext a
    apply Fin.ext
    match a with
    | ⟨0, _⟩ => show 0 + 1 * d.val = d.val; omega
    | ⟨1, _⟩ => show 0 + 1 * e.val = e.val; omega
  refine Eq.trans (?_ : _ = (∑ d : Fin 1024, hidden m c t (ix2 p d) * View.ld (bIn m c t) (Rect.unit (s := S1024x2560) ![0, 0] S1024x1024.size inb_S1024x2560_S1024x1024_0_0) (ix2 d e : S1024x1024.Idx) : EReal)) ?_
  · unfold both k0_pay5
    rw [show k0_pay4 (bX m c t) (bNorm m c t) (bScale m c t) (bShift m c t) = hidden m c t from rfl]
    generalize hidden m c t = H
    generalize View.ld (bIn m c t) _ = W
    pointwise
  · simp only [hidden_eq, hw]
    rfl

theorem own_apply (c : Dev nD) (t : Fin cfg0.N) (p : Fin 1024) (w : Fin 512) : own m c t (ix2 p w) = (args m c).prj (batchAt t) (rowAt t p) (xCol w) := by
  refine Eq.trans (?_ : _ = both m c t (ix2 p ⟨w.val, by have := w.isLt; omega⟩)) (both_apply m c t p _)
  unfold own
  generalize both m c t = y
  pointwise [k0_pay13]

theorem gateCols_apply (c : Dev nD) (t : Fin cfg0.N) (p : Fin 1024) (w : Fin 512) : k0_pay24 (both m c t) (ix2 p w) = (args m c).prj (batchAt t) (rowAt t p) (yCol w) := by
  refine Eq.trans (?_ : _ = both m c t (ix2 p ⟨512 + w.val, by have := w.isLt; omega⟩)) (both_apply m c t p _)
  generalize both m c t = y
  pointwise [k0_pay24]

theorem isRows_A (c : Dev nD) (t : Fin cfg0.N) (h : t.val % 8 = 0) (j : ℕ) (hj : j ≤ 3) (inb : ∀ a : Fin 2, ![5 + j, 0] a + ![1024, 512] a ≤ S1032x512.size a) :
    IsRows m c t j (rowsA (own m c t) (5 + j) inb) := by
  intro p w
  have hp := p.isLt
  rw [rowsA_apply _ _ (by omega)]
  have hr : (rowAt t p).val = p.val := by show t.val % 8 * 1024 + p.val = p.val; omega
  unfold Args.padded
  rw [hr]
  by_cases hc : 8 ≤ p.val + (5 + j)
  · rw [dif_pos hc, if_neg (by omega), own_apply]
    congr 1
    apply Fin.ext
    show t.val % 8 * 1024 + (p.val + (5 + j) - 8) = (p.val + j - 3) % 8192
    omega
  · rw [dif_neg hc, if_pos (by omega)]

theorem before_batch (t : Fin cfg0.N) (h : ¬ t.val % 8 = 0) : batchAt ⟨t.val - 1, before_lt t⟩ = batchAt t := by
  apply Fin.ext; show (t.val - 1) / 8 = t.val / 8; omega

theorem isRows_B (c : Dev nD) (t : Fin cfg0.N) (h : ¬ t.val % 8 = 0) (j : ℕ) (hj : j ≤ 3) (inb : ∀ a : Fin 2, ![5 + j, 0] a + ![1024, 512] a ≤ S1032x512.size a) :
    IsRows m c t j (rowsB (keptRows m c t h) (own m c t) (5 + j) inb) := by
  intro p w
  have hp := p.isLt
  have ht : t.val % 8 < 8 := Nat.mod_lt _ (by decide)
  rw [rowsB_apply _ _ _ (by omega)]
  have hr : (rowAt t p).val = t.val % 8 * 1024 + p.val := rfl
  unfold Args.padded
  rw [hr, if_neg (by omega)]
  by_cases hc : 8 ≤ p.val + (5 + j)
  · rw [dif_pos hc, own_apply]
    congr 1
    apply Fin.ext
    show t.val % 8 * 1024 + (p.val + (5 + j) - 8) = (t.val % 8 * 1024 + p.val + j - 3) % 8192
    omega
  · rw [dif_neg hc]
    refine (after_pad m c ⟨t.val - 1, before_lt t⟩ ⟨p.val + (5 + j), by omega⟩ w).trans ?_
    rw [own_apply, before_batch t h]
    congr 1
    apply Fin.ext
    show (t.val - 1) % 8 * 1024 + (1016 + (p.val + (5 + j))) = (t.val % 8 * 1024 + p.val + j - 3) % 8192
    omega

theorem isRows_own (c : Dev nD) (t : Fin cfg0.N) : IsRows m c t 3 (rowsOwn (own m c t)) := by
  intro p w
  have hp := p.isLt
  have ht : t.val % 8 < 8 := Nat.mod_lt _ (by decide)
  rw [rowsOwn_eq, own_apply]
  have hr : (rowAt t p).val = t.val % 8 * 1024 + p.val := rfl
  unfold Args.padded
  rw [if_neg (by omega), hr]
  congr 1
  apply Fin.ext
  show t.val % 8 * 1024 + p.val = (t.val % 8 * 1024 + p.val + 3 - 3) % 8192
  omega

theorem zeros_apply (w : Fin 512) : (k0_pay3 (F := Ideal)) (ix2 0 w) = (0 : EReal) := by pointwise [k0_pay3]

/-- The recurrence's row a point leaves. -/
theorem last_eq (c : Dev nD) (w : Fin 512) : ∀ (n : ℕ) (hn : n < cfg0.N),
    (outsAt0 m c n hn).2.2.2.2.2 (ix2 0 w) = hAfter (args m c) (recArgs m c) (batchAt ⟨n, hn⟩) w (n % 8 * 1024 + 1024) := by
  intro n
  induction n with
  | zero =>
    intro hn
    rw [after_last_A m c ⟨0, hn⟩ rfl]
    exact last_point _ _ _ _ m c ⟨0, hn⟩ (isRows_A m c _ rfl 0 (by decide) _) (isRows_A m c _ rfl 1 (by decide) _) (isRows_A m c _ rfl 2 (by decide) _) (isRows_A m c _ rfl 3 (by decide) _) _ w (zeros_apply w)
  | succ n ih =>
    intro hn
    by_cases h : (n + 1) % 8 = 0
    · rw [after_last_A m c ⟨n + 1, hn⟩ h]
      refine last_point _ _ _ _ m c ⟨n + 1, hn⟩ (isRows_A m c _ h 0 (by decide) _) (isRows_A m c _ h 1 (by decide) _) (isRows_A m c _ h 2 (by decide) _) (isRows_A m c _ h 3 (by decide) _) _ w ?_
      show _ = hAfter _ _ _ w ((n + 1) % 8 * 1024)
      rw [h]
      exact zeros_apply w
    · rw [after_last_B m c ⟨n + 1, hn⟩ h]
      refine last_point _ _ _ _ m c ⟨n + 1, hn⟩ (isRows_B m c _ h 0 (by decide) _) (isRows_B m c _ h 1 (by decide) _) (isRows_B m c _ h 2 (by decide) _) (isRows_own m c _) _ w ?_
      refine (congrFun (read_unread_whole cc0_scratch1 (Memref.isWhole_whole cc0_scratch1) _) _).trans ?_
      refine (ih (lt_trans (Nat.lt_succ_self n) hn)).trans ?_
      show hAfter _ _ _ w (n % 8 * 1024 + 1024) = hAfter _ _ _ w ((n + 1) % 8 * 1024)
      rw [show n % 8 * 1024 + 1024 = (n + 1) % 8 * 1024 by omega]
      congr 1
      exact before_batch ⟨n + 1, hn⟩ h

/-- The block of the recurrence's result that point `t` writes. -/
theorem block_lru (c : Dev nD) (t : Fin cfg0.N) (p : Fin 1024) (w : Fin 512) :
    ((dats m 0 c).after 12 t : S1x1024x512.Idx → EReal) (ix3 0 p w) = lruArr (args m c) (recArgs m c) (ix3 (batchAt t) (rowAt t p) w) := by
  rw [after0_12]
  by_cases h : t.val % 8 = 0
  · rw [after_lru_A m c t h]
    refine (gatedRows_apply _ _ p w).trans ?_
    rw [gateCols_apply, rows_point _ _ _ _ m c t (isRows_A m c _ h 0 (by decide) _) (isRows_A m c _ h 1 (by decide) _) (isRows_A m c _ h 2 (by decide) _) (isRows_A m c _ h 3 (by decide) _) _ w
      ((zeros_apply w).trans (by rw [h]; rfl)) p]
    rfl
  · rw [after_lru_B m c t h]
    refine (gatedRows_apply _ _ p w).trans ?_
    rw [gateCols_apply, rows_point _ _ _ _ m c t (isRows_B m c _ h 0 (by decide) _) (isRows_B m c _ h 1 (by decide) _) (isRows_B m c _ h 2 (by decide) _) (isRows_own m c _) _ w ?_ p]
    · rfl
    · refine (congrFun (read_unread_whole cc0_scratch1 (Memref.isWhole_whole cc0_scratch1) _) _).trans ?_
      refine (last_eq m c w (t.val - 1) (before_lt t)).trans ?_
      rw [show (t.val - 1) % 8 * 1024 + 1024 = t.val % 8 * 1024 by omega]
      congr 1
      exact before_batch t h

/-- The recurrence's result array after the run. -/
theorem final_lru (c : Dev nD) : (dats m 0 c).arrAt 12 cfg0.N = lruArr (args m c) (recArgs m c) := by
  refine (dats m 0 c).arrAt_eq_of_cover 12 _ (fun t hf => ?_) (fun i => ?_)
  · show (cfg0.win 12).cut (grid0.coords t) ((dats m 0 c).after 12 t) = _
    refine funext fun (y : S1x1024x512.Idx) => ?_
    obtain ⟨r, q, rfl⟩ : ∃ (r : Fin 1024) (q : Fin 512), y = ix3 0 r q := ⟨y 1, y 2, by
      funext a
      match a with
      | ⟨0, _⟩ => exact Subsingleton.elim (α := Fin 1) _ _
      | ⟨1, _⟩ => rfl
      | ⟨2, _⟩ => rfl⟩
    refine Eq.trans ?_ (View.read_apply (v := ((cfg0.win 12).blk t).view) (Val := Elt Ideal) (lruArr (args m c) (recArgs m c)) (ix3 0 r q)).symm
    refine Eq.trans (?_ : _ = ((dats m 0 c).after 12 t : S1x1024x512.Idx → EReal) (ix3 0 r q)) ((block_lru m c t r q).trans ?_)
    · show ((dats m 0 c).after 12 t : S1x1024x512.Idx → EReal) _ = _
      congr 1
    · show lruArr (args m c) (recArgs m c) (ix3 (batchAt t) (rowAt t r) q) = lruArr (args m c) (recArgs m c) _
      congr 1
      funext a
      apply Fin.ext
      match a with
      | ⟨0, _⟩ => show t.val / 8 = (BitVec.ofNat 32 (grid0.coords t 0).val).toNat * 1 + 1 * 0; rw [word_0]; omega
      | ⟨1, _⟩ => show t.val % 8 * 1024 + r.val = (BitVec.ofNat 32 (grid0.coords t 1).val).toNat * 1024 + 1 * r.val; rw [word_1]; omega
      | ⟨2, _⟩ => show q.val = 0 * 512 + 1 * q.val; omega
  · have h0 : (i 0 : ℕ) < 4 := (i 0).isLt
    have h1 : (i 1 : ℕ) < 8192 := (i 1).isLt
    have h2 : (i 2 : ℕ) < 512 := (i 2).isLt
    let t : Fin cfg0.N := ⟨8 * (i 0 : ℕ) + (i 1 : ℕ) / 1024, Nat.lt_of_lt_of_eq (by omega) N_0.symm⟩
    have w0 := word_0 t
    have w1 := word_1 t
    have hv : t.val = 8 * (i 0 : ℕ) + (i 1 : ℕ) / 1024 := rfl
    refine ⟨t, flush0_12 t, ?_⟩
    show i ∈ ((View.whole main_v31_0).slice ((cfg0.win 12).rect t)).set
    rw [View.set_slice_whole, Rect.mem_set_unit]
    intro a
    match a with
    | ⟨0, _⟩ =>
      show (BitVec.ofNat 32 (grid0.coords t 0).val).toNat * 1 ≤ (i 0 : ℕ) ∧ (i 0 : ℕ) < (BitVec.ofNat 32 (grid0.coords t 0).val).toNat * 1 + 1
      rw [w0]; omega
    | ⟨1, _⟩ =>
      show (BitVec.ofNat 32 (grid0.coords t 1).val).toNat * 1024 ≤ (i 1 : ℕ) ∧ (i 1 : ℕ) < (BitVec.ofNat 32 (grid0.coords t 1).val).toNat * 1024 + 1024
      rw [w1]; omega
    | ⟨2, _⟩ =>
      show 0 * 512 ≤ (i 2 : ℕ) ∧ (i 2 : ℕ) < 0 * 512 + 512
      omega

end Cert.Kernel4Ideal.Inproj

end
-- ==== Proof.Inproj.ReferenceLoop.lean ====
/- The loop of the input projection's reference: after its last trip every row of the carried rows is the recurrence's state after
   that row's step. -/
module

public import proofs.«01_k».proof.Proof.Inproj.RecurArgs
public import proofs.«01_k».proof.Proof.Gen.Reference4Ideal.Run

@[expose] public section

set_option maxRecDepth 16384

noncomputable section

namespace Cert.Reference4Ideal.Inproj

open Cert.Reference4Ideal Cert.Reference4Ideal.Gen
open Idealize.ShloMosaic Idealize.ShloMosaic.TcCoe Idealize.SL.Sem
open Cert.Reference4Ideal.Value Idealize.ShloMosaic.StableHlo
open Cert.Inproj (steps)
open Cert.Kernel4Ideal.Inproj (posOf)

/-- The counter before trip `k`, as a number. -/
theorem iv_toInt {k : ℕ} (hk : k < 8192) : (Scf.iv 0#32 1#32 k).toInt = (k : ℤ) := by
  have e : Scf.iv 0#32 1#32 k = BitVec.ofNat 32 k := by
    unfold Scf.iv
    simp
  rw [e]
  have h : (BitVec.ofNat 32 k).toNat = k := by
    rw [BitVec.toNat_ofNat]
    exact Nat.mod_eq_of_lt (by omega)
  rw [BitVec.toInt_eq_toNat_cond, h, if_pos (by omega)]

/-- A row read at the counter. -/
theorem row_read (x : FVec Ideal S8192x4x512 .f32) (i : IVec S_ 32) {k : ℕ} (hk : k < 8192) (hi : i = fun _ => Scf.iv 0#32 1#32 k)
    (b : Fin 4) (w : Fin 512) :
    shapeCast S4x512 (Host.dynamicSlice S1x4x512 x (fun q => (((![i, constantI S_ 32 0#32, constantI S_ 32 0#32] : Fin 3 → IVec S_ 32)) q (Shape.Idx.first h_S_)).toInt) sliceFits_S8192x4x512_S1x4x512) shapeCasts_S1x4x512_S4x512 (ix2 b w)
      = x (ix3 (posOf k) b w) := by
  refine (shapeCast_apply _ _ _ (ix3 0 b w) ?_).trans ?_
  · rw [Shape.rowMajor_val_two, Shape.rowMajor_val_three]
    show (0 * 4 + b.val) * 512 + w.val = b.val * 512 + w.val
    omega
  · have ht := iv_toInt hk
    subst hi
    unfold Host.dynamicSlice extractStridedSlice
    refine congrArg x (funext fun a => Fin.ext ?_)
    match a with
    | ⟨0, _⟩ =>
      show (min (max (Scf.iv 0#32 1#32 k).toInt 0) ((8191 : ℕ) : ℤ)).toNat + 0 = k % 8192
      rw [ht]
      omega
    | ⟨1, _⟩ =>
      show (min (max (0#32 : BitVec 32).toInt 0) ((0 : ℕ) : ℤ)).toNat + b.val = b.val
      simp
    | ⟨2, _⟩ =>
      show (min (max (0#32 : BitVec 32).toInt 0) ((0 : ℕ) : ℤ)).toNat + w.val = w.val
      simp

/-- A row written at the counter. -/
theorem row_write (x : FVec Ideal S8192x4x512 .f32) (h : FVec Ideal S4x512 .f32) (i : IVec S_ 32) {k : ℕ} (hk : k < 8192)
    (hi : i = fun _ => Scf.iv 0#32 1#32 k) (s : Fin 8192) (b : Fin 4) (w : Fin 512) :
    Host.dynamicUpdateSlice x (broadcastInDim S1x4x512 ![1, 2] bcast_S4x512_S1x4x512_1_2 h) (fun q => (((![i, constantI S_ 32 0#32, constantI S_ 32 0#32] : Fin 3 → IVec S_ 32)) q (Shape.Idx.first h_S_)).toInt) updateFits_S8192x4x512_S1x4x512 (ix3 s b w)
      = if s.val = k then h (ix2 b w) else x (ix3 s b w) := by
  have ht := iv_toInt hk
  subst hi
  have e0 : (min (max (Scf.iv 0#32 1#32 k).toInt 0) ((8191 : ℕ) : ℤ)).toNat = k := by rw [ht]; omega
  have e1 : (min (max (0#32 : BitVec 32).toInt 0) ((0 : ℕ) : ℤ)).toNat = 0 := by simp
  have hb := b.isLt
  have hw := w.isLt
  unfold Host.dynamicUpdateSlice updateSlice
  by_cases c : s.val = k
  · rw [if_pos c, dif_pos ?_]
    · refine broadcastInDim_apply _ _ _ _ (ix2 b w) fun a => ?_
      match a with
      | ⟨0, _⟩ =>
        show b.val = b.val - (min (max (0#32 : BitVec 32).toInt 0) ((0 : ℕ) : ℤ)).toNat
        rw [e1]; rfl
      | ⟨1, _⟩ =>
        show w.val = w.val - (min (max (0#32 : BitVec 32).toInt 0) ((0 : ℕ) : ℤ)).toNat
        rw [e1]; rfl
    · intro a
      match a with
      | ⟨0, _⟩ =>
        show (min (max (Scf.iv 0#32 1#32 k).toInt 0) ((8191 : ℕ) : ℤ)).toNat ≤ s.val ∧ s.val < (min (max (Scf.iv 0#32 1#32 k).toInt 0) ((8191 : ℕ) : ℤ)).toNat + 1
        rw [e0]; omega
      | ⟨1, _⟩ =>
        show (min (max (0#32 : BitVec 32).toInt 0) ((0 : ℕ) : ℤ)).toNat ≤ b.val ∧ b.val < (min (max (0#32 : BitVec 32).toInt 0) ((0 : ℕ) : ℤ)).toNat + 4
        rw [e1]; omega
      | ⟨2, _⟩ =>
        show (min (max (0#32 : BitVec 32).toInt 0) ((0 : ℕ) : ℤ)).toNat ≤ w.val ∧ w.val < (min (max (0#32 : BitVec 32).toInt 0) ((0 : ℕ) : ℤ)).toNat + 512
        rw [e1]; omega
  · rw [if_neg c, dif_neg ?_]
    intro hall
    have h0 : (min (max (Scf.iv 0#32 1#32 k).toInt 0) ((8191 : ℕ) : ℤ)).toNat ≤ s.val ∧ s.val < (min (max (Scf.iv 0#32 1#32 k).toInt 0) ((8191 : ℕ) : ℤ)).toNat + 1 := hall 0
    rw [e0] at h0
    omega

variable (m : (ℓ : Loc nD τ sig) → Buf (Elt Ideal) ℓ) (c : Dev nD)

/-- The buffers the loop carries, before trip `k`. -/
abbrev before (k : ℕ) : Valuation τ sig (Elt Ideal) := STEP^[k] (entryContents preI m c)
abbrev factors (k : ℕ) : FVec Ideal S8192x4x512 .f32 := before m c k (Proc.devRef .tc main_v148_0)
abbrev terms (k : ℕ) : FVec Ideal S8192x4x512 .f32 := before m c k (Proc.devRef .tc main_v148_1)
abbrev counter (k : ℕ) : IVec S_ 32 := before m c k (Proc.devRef .tc main_v148_2)
abbrev state (k : ℕ) : FVec Ideal S4x512 .f32 := before m c k (Proc.devRef .tc main_v148_3)
abbrev rows (k : ℕ) : FVec Ideal S8192x4x512 .f32 := before m c k (Proc.devRef .tc main_v148_4)

theorem before_succ (k : ℕ) : before m c (k + 1) = STEP (before m c k) := Function.iterate_succ_apply' _ _ _

theorem factors_eq : ∀ k, factors m c k = factors m c 0
  | 0 => rfl
  | k + 1 => by
    unfold factors
    rw [before_succ, STEP_main_v148_0]
    exact factors_eq k

theorem terms_eq : ∀ k, terms m c k = terms m c 0
  | 0 => rfl
  | k + 1 => by
    unfold terms
    rw [before_succ, STEP_main_v148_1]
    exact terms_eq k

theorem counter_eq (k : ℕ) : counter m c k = fun _ => Scf.iv 0#32 1#32 k :=
  (atK_agree m c k main_v148_2 (by decide)).symm.trans (atK_ctr m c k)

/-- One trip's state. -/
theorem state_succ (k : ℕ) (hk : k < 8192) (b : Fin 4) (w : Fin 512) :
    state m c (k + 1) (ix2 b w) = (factors m c 0 (ix3 (posOf k) b w) * state m c k (ix2 b w) + terms m c 0 (ix3 (posOf k) b w) : EReal) := by
  have e1 := row_read (factors m c k) (counter m c k) hk (counter_eq m c k) b w
  have e2 := row_read (terms m c k) (counter m c k) hk (counter_eq m c k) b w
  rw [factors_eq m c k] at e1
  rw [terms_eq m c k] at e2
  rw [← e1, ← e2, ← factors_eq m c k, ← terms_eq m c k]
  unfold state
  rw [before_succ, STEP_main_v148_3]
  rfl

/-- The state before trip `k` is the recurrence after `k` steps. -/
theorem state_eq (b : Fin 4) (w : Fin 512) : ∀ k, k ≤ 8192 → state m c k (ix2 b w)
    = steps (fun n => factors m c 0 (ix3 (posOf n) b w)) (fun n => terms m c 0 (ix3 (posOf n) b w)) (state m c 0 (ix2 b w)) k
  | 0, _ => rfl
  | k + 1, h => by
    rw [state_succ m c k (by omega), state_eq b w k (by omega)]
    rfl

/-- One trip's rows. -/
theorem rows_succ (k : ℕ) (hk : k < 8192) (s : Fin 8192) (b : Fin 4) (w : Fin 512) :
    rows m c (k + 1) (ix3 s b w) = if s.val = k then state m c (k + 1) (ix2 b w) else rows m c k (ix3 s b w) := by
  have e := row_write (rows m c k) (state m c (k + 1)) (counter m c k) hk (counter_eq m c k) s b w
  rw [← e]
  unfold rows state
  rw [before_succ, STEP_main_v148_4, STEP_main_v148_3]
  rfl

/-- Before trip `k` the rows of the trips before it are written. -/
theorem rows_eq (s : Fin 8192) (b : Fin 4) (w : Fin 512) : ∀ k, k ≤ 8192 → s.val < k → rows m c k (ix3 s b w) = state m c (s.val + 1) (ix2 b w)
  | 0, _, h => absurd h (Nat.not_lt_zero _)
  | k + 1, hk, h => by
    rw [rows_succ m c k (by omega)]
    by_cases e : s.val = k
    · rw [if_pos e, e]
    · rw [if_neg e]
      exact rows_eq s b w k (by omega) (by omega)

/-- The rows the loop leaves. -/
theorem rows_last (s : Fin 8192) (b : Fin 4) (w : Fin 512) : rows m c 8192 (ix3 s b w)
    = steps (fun n => factors m c 0 (ix3 (posOf n) b w)) (fun n => terms m c 0 (ix3 (posOf n) b w)) (state m c 0 (ix2 b w)) (s.val + 1) :=
  (rows_eq m c s b w 8192 (le_refl _) s.isLt).trans (state_eq m c b w _ s.isLt)

end Cert.Reference4Ideal.Inproj

end
-- ==== Proof.Inproj.Reference.lean ====
/- What the reference of the input projection computes, entry by entry, with the floats read as extended reals: the kernel's
   attention results. -/
module

public import proofs.«01_k».proof.Proof.Inproj.Result
public import proofs.«01_k».proof.Proof.Gen.Reference4Ideal.Run

@[expose] public section

set_option maxRecDepth 16384

noncomputable section

namespace Cert.Reference4Ideal.Inproj

open Cert.Reference4Ideal Cert.Reference4Ideal.Gen
open Idealize.ShloMosaic Idealize.ShloMosaic.TcCoe Idealize.SL.Sem
open Cert.Kernel2Ideal.Ffn (rowScale)
open Cert.Kernel4Ideal.Inproj (Args partner lane qScale qCol kCol vCol tableRow qArr kArr vArr)

variable (x : FVec Ideal S4x8192x1024 .f32) (md : FVec Ideal S4x6x1x1024 .f32) (n : FVec Ideal S1024 .f32) (w : FVec Ideal S1024x2560 .bf16)
  (cs sn : FVec Ideal S32768x128 .f32)

/-- The arguments together. -/
def args : Args where
  x := x
  modl := md
  norm := n
  win := w
  cos := cs
  sin := sn

/-- The two modulations, each a row per batch. -/
def shift : FVec Ideal S4x1x1024 .f32 := shapeCast _ (extractStridedSlice S4x1x1x1024 ![0, 0, 0, 0] md slices_S4x6x1x1024_S4x1x1x1024_0_0_0_0) shapeCasts_S4x1x1x1024_S4x1x1024
def scale : FVec Ideal S4x1x1024 .f32 := shapeCast _ (extractStridedSlice S4x1x1x1024 ![0, 1, 0, 0] md slices_S4x6x1x1024_S4x1x1x1024_0_1_0_0) shapeCasts_S4x1x1x1024_S4x1x1024

/-- The stream normalized and modulated. -/
def modul : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 n))) (broadcastInDim S4x8192x1024 ![0, 1, 2] bcast_S4x1x1024_S4x8192x1024_0_1_2 (addf (broadcastInDim S4x1x1024 ![] bcast_S_S4x1x1024 (constant S_ .f32 0x3F800000#32)) (scale md)))) (broadcastInDim S4x8192x1024 ![0, 1, 2] bcast_S4x1x1024_S4x8192x1024_0_1_2 (shift md))

/-- The input projection, and the attention's columns of it. -/
def whole : FVec Ideal S4x8192x2560 .f32 :=
  Host.dotGeneral dot_S4x8192x1024_S1024x2560_S4x8192x2560_2_0_01_1_n_n none (modul x md n) (extf .f32 w bitsLt_bf16_f32)
def proj : FVec Ideal S4x8192x1536 .f32 :=
  extractStridedSlice S4x8192x1536 ![0, 0, 1024] (whole x md n w) slices_S4x8192x2560_S4x8192x1536_0_0_1024

/-- A part of it turned by the tables. -/
def heads (y : FVec Ideal S4x8192x512 .f32) : FVec Ideal S4x8192x4x2x64 .f32 := shapeCast _ y shapeCasts_S4x8192x512_S4x8192x4x2x64
def table (y : FVec Ideal S32768x128 .f32) : FVec Ideal S4x8192x4x2x64 .f32 :=
  broadcastInDim S4x8192x4x2x64 ![0, 1, 2, 3, 4] bcast_S4x8192x1x2x64_S4x8192x4x2x64_0_1_2_3_4 (shapeCast _ y shapeCasts_S32768x128_S4x8192x1x2x64)
def other (y : FVec Ideal S4x8192x4x2x64 .f32) : FVec Ideal S4x8192x4x2x64 .f32 :=
  concatenate S4x8192x4x2x64 4 [⟨S4x8192x4x2x32, (extractStridedSlice S4x8192x4x2x32 ![0, 0, 0, 0, 32] y slices_S4x8192x4x2x64_S4x8192x4x2x32_0_0_0_0_32)⟩, ⟨S4x8192x4x2x32, (extractStridedSlice S4x8192x4x2x32 ![0, 0, 0, 0, 0] y slices_S4x8192x4x2x64_S4x8192x4x2x32_0_0_0_0_0)⟩] concatenates_S4x8192x4x2x32_S4x8192x4x2x32_S4x8192x4x2x64_d4
def rope (y : FVec Ideal S4x8192x512 .f32) : FVec Ideal S4x8192x512 .f32 :=
  shapeCast _ (addf (mulf (heads y) (table cs)) (mulf (other (heads y)) (table sn))) shapeCasts_S4x8192x4x2x64_S4x8192x512

/-- The three results. -/
def queries : FVec Ideal S4x8192x512 .bf16 :=
  truncf .bf16 (mulf (rope cs sn (extractStridedSlice S4x8192x512 ![0, 0, 0] (proj x md n w) slices_S4x8192x1536_S4x8192x512_0_0_0)) (broadcastInDim S4x8192x512 ![] bcast_S_S4x8192x512 (constant S_ .f32 0x3E38AA3B#32))) bitsLt_bf16_f32
def keys : FVec Ideal S4x8192x512 .bf16 :=
  truncf .bf16 (rope cs sn (extractStridedSlice S4x8192x512 ![0, 0, 512] (proj x md n w) slices_S4x8192x1536_S4x8192x512_0_0_512)) bitsLt_bf16_f32
def values : FVec Ideal S4x8192x512 .bf16 :=
  truncf .bf16 (extractStridedSlice S4x8192x512 ![0, 0, 1024] (proj x md n w) slices_S4x8192x1536_S4x8192x512_0_0_1024) bitsLt_bf16_f32

theorem shift_apply (b : Fin 4) (d : Fin 1024) : shift md (ix3 b 0 d) = md (ix4 b 0 0 d) := by pointwise [shift]
theorem scale_apply (b : Fin 4) (d : Fin 1024) : scale md (ix3 b 0 d) = md (ix4 b 1 0 d) := by pointwise [scale]

theorem modul_apply (b : Fin 4) (s : Fin 8192) (d : Fin 1024) : modul x md n (ix3 b s d) = (args x md n w cs sn).hid b s d := by
  have h3 := shift_apply md b d
  have h4 := scale_apply md b d
  unfold modul
  generalize shift md = sh at h3
  generalize scale md = sc at h4
  refine Eq.trans (?_ : _ = (x (ix3 b s d) * rowScale (fun e => x (ix3 b s e)) * n (ix1 d)
    * (Ideal.ofBits .f32 0x3F800000#32 + sc (ix3 b 0 d)) + sh (ix3 b 0 d) : EReal)) ?_
  · pointwise [rowScale]
  · rw [h3, h4]; rfl

/-- Column `e` of the attention's columns. -/
def attCol (e : Fin 1536) : Fin 2560 := ⟨1024 + e.val, by have := e.isLt; omega⟩

theorem whole_apply (b : Fin 4) (s : Fin 8192) (e : Fin 2560) : whole x md n w (ix3 b s e) = (args x md n w cs sn).prj b s e := by
  have h := modul_apply x md n w cs sn b s
  unfold whole
  generalize modul x md n = y at h
  refine Eq.trans (?_ : _ = (∑ d : Fin 1024, y (ix3 b s d) * w (ix2 d e) : EReal)) ?_
  · pointwise
  · simp only [h]; rfl

theorem proj_apply (b : Fin 4) (s : Fin 8192) (e : Fin 1536) :
    proj x md n w (ix3 b s e) = (args x md n w cs sn).prj b s (attCol e) := by
  refine (extractStridedSlice_apply _ _ _ _ (ix3 b s (attCol e)) fun a => ?_).trans (whole_apply x md n w cs sn b s _)
  match a with
  | ⟨0, _⟩ => show b.val = 0 + b.val; omega
  | ⟨1, _⟩ => show s.val = 0 + s.val; omega
  | ⟨2, _⟩ => show 1024 + e.val = 1024 + e.val; omega

theorem heads_apply (y : FVec Ideal S4x8192x512 .f32) (b : Fin 4) (s : Fin 8192) (h : Fin 4) (p : Fin 2) (l : Fin 64) (q : Fin 512)
    (hq : q.val = h.val * 128 + p.val * 64 + l.val) : heads y (ix5 b s h p l) = y (ix3 b s q) := by
  refine shapeCast_apply _ _ _ _ ?_
  rw [Shape.rowMajor_val_three, Shape.rowMajor_val_five]
  show (b.val * 8192 + s.val) * 512 + q.val = (((b.val * 8192 + s.val) * 4 + h.val) * 2 + p.val) * 64 + l.val
  omega

theorem table_apply (y : FVec Ideal S32768x128 .f32) (b : Fin 4) (s : Fin 8192) (h : Fin 4) (p : Fin 2) (l : Fin 64) (k : Fin 128)
    (hk : k.val = p.val * 64 + l.val) : table y (ix5 b s h p l) = y (ix2 (tableRow b s) k) := by
  refine (broadcastInDim_apply _ _ _ _ (ix5 b s 0 p l) fun a => ?_).trans (shapeCast_apply _ _ _ _ ?_)
  · match a with
    | ⟨0, _⟩ => rfl
    | ⟨1, _⟩ => rfl
    | ⟨2, _⟩ => rfl
    | ⟨3, _⟩ => rfl
    | ⟨4, _⟩ => rfl
  · rw [Shape.rowMajor_val_two, Shape.rowMajor_val_five]
    show (b.val * 8192 + s.val) * 128 + k.val = (((b.val * 8192 + s.val) * 1 + 0) * 2 + p.val) * 64 + l.val
    omega

theorem other_apply (y : FVec Ideal S4x8192x4x2x64 .f32) (b : Fin 4) (s : Fin 8192) (h : Fin 4) (p : Fin 2) (l l' : Fin 64)
    (hl : l'.val = if l.val < 32 then l.val + 32 else l.val - 32) : other y (ix5 b s h p l) = y (ix5 b s h p l') := by
  have hlt := l.isLt
  by_cases c : l.val < 32
  · rw [if_pos c] at hl
    refine (concatenate_pair_apply_left (t := S4x8192x4x2x64) (s₁ := S4x8192x4x2x32) (s₂ := S4x8192x4x2x32) 4 _ _ _ (ix5 b s h p l) rfl
      (ix5 b s h p (⟨l.val, c⟩ : Fin 32)) fun a => ?_).trans (extractStridedSlice_apply _ _ _ _ (ix5 b s h p l') fun a => ?_)
    · match a with
      | ⟨0, _⟩ => rfl
      | ⟨1, _⟩ => rfl
      | ⟨2, _⟩ => rfl
      | ⟨3, _⟩ => rfl
      | ⟨4, _⟩ => rfl
    · match a with
      | ⟨0, _⟩ => show b.val = 0 + b.val; omega
      | ⟨1, _⟩ => show s.val = 0 + s.val; omega
      | ⟨2, _⟩ => show h.val = 0 + h.val; omega
      | ⟨3, _⟩ => show p.val = 0 + p.val; omega
      | ⟨4, _⟩ => show l'.val = 32 + l.val; omega
  · rw [if_neg c] at hl
    refine (concatenate_pair_apply_right (t := S4x8192x4x2x64) (s₁ := S4x8192x4x2x32) (s₂ := S4x8192x4x2x32) 4 _ _ _ (ix5 b s h p l) rfl rfl
      (ix5 b s h p (⟨l.val - 32, by omega⟩ : Fin 32)) (fun a ha => ?_) ?_).trans (extractStridedSlice_apply _ _ _ _ (ix5 b s h p l') fun a => ?_)
    · match a with
      | ⟨0, _⟩ => rfl
      | ⟨1, _⟩ => rfl
      | ⟨2, _⟩ => rfl
      | ⟨3, _⟩ => rfl
      | ⟨4, _⟩ => exact absurd rfl ha
    · show l.val - 32 + 32 = l.val
      omega
    · match a with
      | ⟨0, _⟩ => show b.val = 0 + b.val; omega
      | ⟨1, _⟩ => show s.val = 0 + s.val; omega
      | ⟨2, _⟩ => show h.val = 0 + h.val; omega
      | ⟨3, _⟩ => show p.val = 0 + p.val; omega
      | ⟨4, _⟩ => show l'.val = 0 + (l.val - 32); omega

theorem rope_apply (y : FVec Ideal S4x8192x512 .f32) (b : Fin 4) (s : Fin 8192) (q : Fin 512) :
    rope cs sn y (ix3 b s q)
      = (y (ix3 b s q) * cs (ix2 (tableRow b s) (lane q)) + y (ix3 b s (partner q)) * sn (ix2 (tableRow b s) (lane q)) : EReal) := by
  have hq := q.isLt
  let h : Fin 4 := ⟨q.val / 128, by omega⟩
  let p : Fin 2 := ⟨q.val / 64 % 2, by omega⟩
  let l : Fin 64 := ⟨q.val % 64, by omega⟩
  let l' : Fin 64 := ⟨if q.val % 64 < 32 then q.val % 64 + 32 else q.val % 64 - 32, by split <;> omega⟩
  have e1 := heads_apply y b s h p l q (by show q.val = q.val / 128 * 128 + q.val / 64 % 2 * 64 + q.val % 64; omega)
  have e2 := (other_apply (heads y) b s h p l l' rfl).trans (heads_apply y b s h p l' (partner q) (by
    show (partner q).val = q.val / 128 * 128 + q.val / 64 % 2 * 64 + (if q.val % 64 < 32 then q.val % 64 + 32 else q.val % 64 - 32)
    unfold partner
    split
    · show q.val + 32 = _
      omega
    · show q.val - 32 = _
      omega))
  have hk : (lane q).val = p.val * 64 + l.val := by
    show q.val % 128 = q.val / 64 % 2 * 64 + q.val % 64
    omega
  have e3 := table_apply cs b s h p l (lane q) hk
  have e4 := table_apply sn b s h p l (lane q) hk
  refine Eq.trans (shapeCast_apply _ _ _ (ix5 b s h p l) ?_) ?_
  · rw [Shape.rowMajor_val_three, Shape.rowMajor_val_five]
    show (((b.val * 8192 + s.val) * 4 + q.val / 128) * 2 + q.val / 64 % 2) * 64 + q.val % 64 = (b.val * 8192 + s.val) * 512 + q.val
    omega
  · rw [← e1, ← e2, ← e3, ← e4]
    generalize heads y = z
    generalize other z = o
    generalize table cs = c
    generalize table sn = d
    pointwise

/-- An index of a result is its three coordinates. -/
theorem idx_eq (i : S4x8192x512.Idx) : ∃ (b : Fin 4) (s : Fin 8192) (q : Fin 512), i = ix3 b s q := ⟨i 0, i 1, i 2, by
  funext a
  match a with
  | ⟨0, _⟩ => rfl
  | ⟨1, _⟩ => rfl
  | ⟨2, _⟩ => rfl⟩

/-- The parts of the projection. -/
theorem part_q (b : Fin 4) (s : Fin 8192) (q : Fin 512) :
    extractStridedSlice S4x8192x512 ![0, 0, 0] (proj x md n w) slices_S4x8192x1536_S4x8192x512_0_0_0 (ix3 b s q) = (args x md n w cs sn).prj b s (qCol q) := by
  refine (extractStridedSlice_apply _ _ _ _ (ix3 b s (⟨q.val, by have := q.isLt; omega⟩ : Fin 1536)) fun a => ?_).trans (proj_apply x md n w cs sn b s _)
  match a with
  | ⟨0, _⟩ => show b.val = 0 + b.val; omega
  | ⟨1, _⟩ => show s.val = 0 + s.val; omega
  | ⟨2, _⟩ => show q.val = 0 + q.val; omega

theorem part_k (b : Fin 4) (s : Fin 8192) (q : Fin 512) :
    extractStridedSlice S4x8192x512 ![0, 0, 512] (proj x md n w) slices_S4x8192x1536_S4x8192x512_0_0_512 (ix3 b s q) = (args x md n w cs sn).prj b s (kCol q) := by
  refine (extractStridedSlice_apply _ _ _ _ (ix3 b s (⟨512 + q.val, by have := q.isLt; omega⟩ : Fin 1536)) fun a => ?_).trans
    ((proj_apply x md n w cs sn b s _).trans (congrArg _ (Fin.ext (by show 1024 + (512 + q.val) = 1536 + q.val; omega))))
  match a with
  | ⟨0, _⟩ => show b.val = 0 + b.val; omega
  | ⟨1, _⟩ => show s.val = 0 + s.val; omega
  | ⟨2, _⟩ => show 512 + q.val = 512 + q.val; omega

theorem part_v (b : Fin 4) (s : Fin 8192) (q : Fin 512) :
    extractStridedSlice S4x8192x512 ![0, 0, 1024] (proj x md n w) slices_S4x8192x1536_S4x8192x512_0_0_1024 (ix3 b s q) = (args x md n w cs sn).prj b s (vCol q) := by
  refine (extractStridedSlice_apply _ _ _ _ (ix3 b s (⟨1024 + q.val, by have := q.isLt; omega⟩ : Fin 1536)) fun a => ?_).trans
    ((proj_apply x md n w cs sn b s _).trans (congrArg _ (Fin.ext (by show 1024 + (1024 + q.val) = 2048 + q.val; omega))))
  match a with
  | ⟨0, _⟩ => show b.val = 0 + b.val; omega
  | ⟨1, _⟩ => show s.val = 0 + s.val; omega
  | ⟨2, _⟩ => show 1024 + q.val = 1024 + q.val; omega

theorem queries_eq : queries x md n w cs sn = qArr (args x md n w cs sn) := by
  refine funext fun (i : S4x8192x512.Idx) => ?_
  obtain ⟨b, s, q, rfl⟩ := idx_eq i
  have h := rope_apply cs sn (extractStridedSlice S4x8192x512 ![0, 0, 0] (proj x md n w) slices_S4x8192x1536_S4x8192x512_0_0_0) b s q
  rw [part_q x md n w cs sn, part_q x md n w cs sn] at h
  unfold queries
  generalize rope cs sn (extractStridedSlice S4x8192x512 ![0, 0, 0] (proj x md n w) slices_S4x8192x1536_S4x8192x512_0_0_0) = y at h
  refine Eq.trans (?_ : _ = (y (ix3 b s q) * qScale : EReal)) ?_
  · pointwise [qScale]
  · rw [h]; rfl

theorem keys_eq : keys x md n w cs sn = kArr (args x md n w cs sn) := by
  refine funext fun (i : S4x8192x512.Idx) => ?_
  obtain ⟨b, s, q, rfl⟩ := idx_eq i
  have h := rope_apply cs sn (extractStridedSlice S4x8192x512 ![0, 0, 512] (proj x md n w) slices_S4x8192x1536_S4x8192x512_0_0_512) b s q
  rw [part_k x md n w cs sn, part_k x md n w cs sn] at h
  exact h

theorem values_eq : values x md n w = vArr (args x md n w cs sn) := by
  refine funext fun (i : S4x8192x512.Idx) => ?_
  obtain ⟨b, s, q, rfl⟩ := idx_eq i
  exact part_v x md n w cs sn b s q

end Cert.Reference4Ideal.Inproj

end
-- ==== Proof.Inproj.ReferenceDefs.lean ====
/- The recurrence of the input projection's reference, as functions of arrays. -/
module

public import proofs.«01_k».proof.Proof.Inproj.Reference
public import proofs.«01_k».proof.Proof.Gen.Reference4Ideal.Run

@[expose] public section

set_option maxRecDepth 16384

noncomputable section

namespace Cert.Reference4Ideal.Inproj

open Cert.Reference4Ideal Cert.Reference4Ideal.Gen
open Idealize.ShloMosaic Idealize.ShloMosaic.TcCoe Idealize.SL.Sem

/-- A row of channels at every position. -/
def across (v : FVec Ideal S512 .f32) : FVec Ideal S4x8192x512 .f32 :=
  broadcastInDim S4x8192x512 ![0, 1, 2] bcast_S1x1x512_S4x8192x512_0_1_2 (broadcastInDim S1x1x512 ![2] bcast_S512_S1x1x512_2 v)
/-- A number at every position. -/
def every (v : BitVec 32) : FVec Ideal S4x8192x512 .f32 := broadcastInDim S4x8192x512 ![] bcast_S_S4x8192x512 (constant S_ .f32 v)

/-- The activation of the gate's columns, and the recurrence's. -/
def act (y : FVec Ideal S4x8192x512 .f32) : FVec Ideal S4x8192x512 .f32 :=
  mulf y (mulf (every 0x3F000000#32) (addf (every 0x3F800000#32) (Host.tanh (mulf (every 0x3F4C422A#32) (addf y (mulf (every 0x3D372713#32) (mulf (mulf y y) y)))))))
def gateCols (p : FVec Ideal S4x8192x2560 .f32) : FVec Ideal S4x8192x512 .f32 := extractStridedSlice S4x8192x512 ![0, 0, 512] p slices_S4x8192x2560_S4x8192x512_0_0_512
def recCols (p : FVec Ideal S4x8192x2560 .f32) : FVec Ideal S4x8192x512 .f32 := extractStridedSlice S4x8192x512 ![0, 0, 0] p slices_S4x8192x2560_S4x8192x512_0_0_0

/-- The recurrence's columns behind three rows of zeros. -/
def padRows (y : FVec Ideal S4x8192x512 .f32) : FVec Ideal S4x8195x512 .f32 :=
  pad S4x8195x512 ![0, 3, 0] ![0, 0, 0] ![0, 0, 0] y (sitofp .f32 (constantI S_ 32 0#32) : FVec Ideal S_ .f32) pads_S4x8192x512_S4x8195x512_000_300_000 h_S_

/-- The convolution. -/
def convR (p : FVec Ideal S4x8195x512 .f32) (cw : FVec Ideal S4x512 .f32) (cb : FVec Ideal S512 .f32) : FVec Ideal S4x8192x512 .f32 :=
  addf (addf (addf (addf (addf (every 0x00000000#32)
    (mulf (extractStridedSlice S4x8192x512 ![0, 0, 0] p slices_S4x8195x512_S4x8192x512_0_0_0) (across (shapeCast _ (extractStridedSlice S1x512 ![0, 0] cw slices_S4x512_S1x512_0_0) shapeCasts_S1x512_S512))))
    (mulf (extractStridedSlice S4x8192x512 ![0, 1, 0] p slices_S4x8195x512_S4x8192x512_0_1_0) (across (shapeCast _ (extractStridedSlice S1x512 ![1, 0] cw slices_S4x512_S1x512_1_0) shapeCasts_S1x512_S512))))
    (mulf (extractStridedSlice S4x8192x512 ![0, 2, 0] p slices_S4x8195x512_S4x8192x512_0_2_0) (across (shapeCast _ (extractStridedSlice S1x512 ![2, 0] cw slices_S4x512_S1x512_2_0) shapeCasts_S1x512_S512))))
    (mulf (extractStridedSlice S4x8192x512 ![0, 3, 0] p slices_S4x8195x512_S4x8192x512_0_3_0) (across (shapeCast _ (extractStridedSlice S1x512 ![3, 0] cw slices_S4x512_S1x512_3_0) shapeCasts_S1x512_S512))))
    (across cb)

/-- A gate. -/
def headProj (u : FVec Ideal S4x8192x512 .f32) (wg : FVec Ideal S8x64x64 .f32) : FVec Ideal S4x8192x512 .f32 :=
  shapeCast _ (transpose S4x8192x8x64 [2, 3, 0, 1] (Host.dotGeneral dot_S8x64x64_S4x8192x8x64_S8x64x4x8192_1_3_2_01_0_2 none wg (shapeCast S4x8192x8x64 u shapeCasts_S4x8192x512_S4x8192x8x64)) transposes_S8x64x4x8192_S4x8192x8x64_2_3_0_1) shapeCasts_S4x8192x8x64_S4x8192x512
def gateR (u : FVec Ideal S4x8192x512 .f32) (wg : FVec Ideal S8x64x64 .f32) (bg : FVec Ideal S512 .f32) : FVec Ideal S4x8192x512 .f32 :=
  Host.divf (every 0x3F800000#32) (addf (every 0x3F800000#32) (Host.exp (Host.negf (addf (headProj u wg) (across bg)))))

/-- The soft maximum of a number and zero. -/
def zeros : FVec Ideal S512 .f32 := broadcastInDim S512 ![] bcast_S_S512 (constant S_ .f32 0x00000000#32)
def softR (v : FVec Ideal S512 .f32) : FVec Ideal S512 .f32 :=
  select (cmpf .une (subf v zeros) (subf v zeros)) (addf v zeros) (addf (maximumf v zeros) (Host.log1p (Host.exp (Host.negf (Host.absf (subf v zeros))))))

/-- The decay's logarithm, the decay and what a step adds. -/
def logR (r : FVec Ideal S4x8192x512 .f32) (sp : FVec Ideal S512 .f32) : FVec Ideal S4x8192x512 .f32 := mulf r (across sp)
def addedR (la i u : FVec Ideal S4x8192x512 .f32) : FVec Ideal S4x8192x512 .f32 :=
  mulf (Host.sqrt (Host.negf (Host.expm1 (mulf (every 0x40000000#32) la)))) (mulf i u)
/-- The positions first. -/
def timeMajor (y : FVec Ideal S4x8192x512 .f32) : FVec Ideal S8192x4x512 .f32 := transpose S8192x4x512 [1, 0, 2] y transposes_S4x8192x512_S8192x4x512_1_0_2

end Cert.Reference4Ideal.Inproj

end
-- ==== Proof.Inproj.ReferencePoint.lean ====
/- The recurrence of the input projection's reference, entry by entry, with the floats read as extended reals. -/
module

public import proofs.«01_k».proof.Proof.Inproj.ReferenceDefs
public import proofs.«01_k».proof.Proof.Inproj.RecurPoint
public import Idealize.ShloMosaic.Lib.KernelVsHost
public import proofs.«01_k».proof.Proof.Gen.Reference4Ideal.Run

@[expose] public section

set_option maxRecDepth 16384

noncomputable section

namespace Cert.Reference4Ideal.Inproj

open Cert.Reference4Ideal Cert.Reference4Ideal.Gen
open Idealize.ShloMosaic Idealize.ShloMosaic.TcCoe Idealize.SL.Sem

open Cert.Inproj
open Cert.Kernel4Ideal.Inproj (Args RecArgs xCol yCol headOf laneOf chan posOf conv gate logDecay decay added hAfter gelu lruArr one_f32 zero_f32)

theorem across_apply (v : FVec Ideal S512 .f32) (b : Fin 4) (s : Fin 8192) (w : Fin 512) : across v (ix3 b s w) = v (ix1 w) := by
  pointwise [across]

theorem every_apply (v : BitVec 32) (b : Fin 4) (s : Fin 8192) (w : Fin 512) : every v (ix3 b s w) = Ideal.ofBits .f32 v := by
  pointwise [every]

theorem act_apply (y : FVec Ideal S4x8192x512 .f32) (b : Fin 4) (s : Fin 8192) (w : Fin 512) : act y (ix3 b s w) = gelu (y (ix3 b s w)) := by
  refine Eq.trans (?_ : _ = (y (ix3 b s w) * (every 0x3F000000#32 (ix3 b s w) * (every 0x3F800000#32 (ix3 b s w) + Ideal.tanh (every 0x3F4C422A#32 (ix3 b s w)
    * (y (ix3 b s w) + every 0x3D372713#32 (ix3 b s w) * (y (ix3 b s w) * y (ix3 b s w) * y (ix3 b s w)))))) : EReal)) ?_
  · rfl
  · rw [every_apply, every_apply, every_apply, every_apply]
    unfold gelu
    rw [← one_f32]
    exact (mul_left_comm _ _ _).trans (mul_assoc _ _ _).symm

theorem gateCols_apply (p : FVec Ideal S4x8192x2560 .f32) (b : Fin 4) (s : Fin 8192) (w : Fin 512) : gateCols p (ix3 b s w) = p (ix3 b s (yCol w)) := by
  refine extractStridedSlice_apply _ _ _ _ (ix3 b s (yCol w)) fun a => ?_
  match a with
  | ⟨0, _⟩ => show b.val = 0 + b.val; omega
  | ⟨1, _⟩ => show s.val = 0 + s.val; omega
  | ⟨2, _⟩ => show 512 + w.val = 512 + w.val; omega

theorem recCols_apply (p : FVec Ideal S4x8192x2560 .f32) (b : Fin 4) (s : Fin 8192) (w : Fin 512) : recCols p (ix3 b s w) = p (ix3 b s (xCol w)) := by
  refine extractStridedSlice_apply _ _ _ _ (ix3 b s (xCol w)) fun a => ?_
  match a with
  | ⟨0, _⟩ => show b.val = 0 + b.val; omega
  | ⟨1, _⟩ => show s.val = 0 + s.val; omega
  | ⟨2, _⟩ => show w.val = 0 + w.val; omega

theorem padRows_apply (y : FVec Ideal S4x8192x512 .f32) (b : Fin 4) (n : Fin 8195) (w : Fin 512) :
    padRows y (ix3 b n w) = if n.val < 3 then 0 else y (ix3 b (posOf (n.val - 3)) w) := by
  have hn := n.isLt
  unfold padRows
  by_cases c : n.val < 3
  · rw [if_pos c, pad_apply_of_not_inside _ _ _ _ _ _ _ _ (1 : Fin 3) ?_]
    · show (((0#32 : BitVec 32).toInt : ℝ) : EReal) = 0
      simp
    · intro hall
      have h0 : 3 ≤ n.val := hall.1
      omega
  · rw [if_neg c]
    refine pad_apply_of_inside _ _ _ _ _ _ _ _ (ix3 b (posOf (n.val - 3)) w) fun a => ?_
    match a with
    | ⟨0, _⟩ => show b.val = 0 + b.val * (0 + 1); omega
    | ⟨1, _⟩ => show n.val = 3 + (n.val - 3) % 8192 * (0 + 1); omega
    | ⟨2, _⟩ => show w.val = 0 + w.val * (0 + 1); omega

/-- Row `j` of the convolution's weights. -/
theorem cwRow_apply (cw : FVec Ideal S4x512 .f32) (w : Fin 512) :
    (shapeCast S512 (extractStridedSlice S1x512 ![0, 0] cw slices_S4x512_S1x512_0_0) shapeCasts_S1x512_S512 : FVec Ideal S512 .f32) (ix1 w) = cw (ix2 0 w)
    ∧ (shapeCast S512 (extractStridedSlice S1x512 ![1, 0] cw slices_S4x512_S1x512_1_0) shapeCasts_S1x512_S512 : FVec Ideal S512 .f32) (ix1 w) = cw (ix2 1 w)
    ∧ (shapeCast S512 (extractStridedSlice S1x512 ![2, 0] cw slices_S4x512_S1x512_2_0) shapeCasts_S1x512_S512 : FVec Ideal S512 .f32) (ix1 w) = cw (ix2 2 w)
    ∧ (shapeCast S512 (extractStridedSlice S1x512 ![3, 0] cw slices_S4x512_S1x512_3_0) shapeCasts_S1x512_S512 : FVec Ideal S512 .f32) (ix1 w) = cw (ix2 3 w) := by
  refine ⟨?_, ?_, ?_, ?_⟩ <;> pointwise

def rowPlus (s : Fin 8192) (j : ℕ) (hj : j < 4) : Fin 8195 := ⟨s.val + j, by have := s.isLt; omega⟩

theorem slide0 (p : FVec Ideal S4x8195x512 .f32) (b : Fin 4) (s : Fin 8192) (w : Fin 512) :
    extractStridedSlice S4x8192x512 ![0, 0, 0] p slices_S4x8195x512_S4x8192x512_0_0_0 (ix3 b s w) = p (ix3 b (rowPlus s 0 (by decide)) w) := by
  refine extractStridedSlice_apply _ _ _ _ _ fun a => ?_
  match a with
  | ⟨0, _⟩ => show b.val = 0 + b.val; omega
  | ⟨1, _⟩ => show s.val + 0 = 0 + s.val; omega
  | ⟨2, _⟩ => show w.val = 0 + w.val; omega
theorem slide1 (p : FVec Ideal S4x8195x512 .f32) (b : Fin 4) (s : Fin 8192) (w : Fin 512) :
    extractStridedSlice S4x8192x512 ![0, 1, 0] p slices_S4x8195x512_S4x8192x512_0_1_0 (ix3 b s w) = p (ix3 b (rowPlus s 1 (by decide)) w) := by
  refine extractStridedSlice_apply _ _ _ _ _ fun a => ?_
  match a with
  | ⟨0, _⟩ => show b.val = 0 + b.val; omega
  | ⟨1, _⟩ => show s.val + 1 = 1 + s.val; omega
  | ⟨2, _⟩ => show w.val = 0 + w.val; omega
theorem slide2 (p : FVec Ideal S4x8195x512 .f32) (b : Fin 4) (s : Fin 8192) (w : Fin 512) :
    extractStridedSlice S4x8192x512 ![0, 2, 0] p slices_S4x8195x512_S4x8192x512_0_2_0 (ix3 b s w) = p (ix3 b (rowPlus s 2 (by decide)) w) := by
  refine extractStridedSlice_apply _ _ _ _ _ fun a => ?_
  match a with
  | ⟨0, _⟩ => show b.val = 0 + b.val; omega
  | ⟨1, _⟩ => show s.val + 2 = 2 + s.val; omega
  | ⟨2, _⟩ => show w.val = 0 + w.val; omega
theorem slide3 (p : FVec Ideal S4x8195x512 .f32) (b : Fin 4) (s : Fin 8192) (w : Fin 512) :
    extractStridedSlice S4x8192x512 ![0, 3, 0] p slices_S4x8195x512_S4x8192x512_0_3_0 (ix3 b s w) = p (ix3 b (rowPlus s 3 (by decide)) w) := by
  refine extractStridedSlice_apply _ _ _ _ _ fun a => ?_
  match a with
  | ⟨0, _⟩ => show b.val = 0 + b.val; omega
  | ⟨1, _⟩ => show s.val + 3 = 3 + s.val; omega
  | ⟨2, _⟩ => show w.val = 0 + w.val; omega

theorem convR_apply (p : FVec Ideal S4x8195x512 .f32) (cw : FVec Ideal S4x512 .f32) (cb : FVec Ideal S512 .f32) (b : Fin 4) (s : Fin 8192) (w : Fin 512) :
    convR p cw cb (ix3 b s w) = (p (ix3 b (rowPlus s 0 (by decide)) w) * cw (ix2 0 w) + p (ix3 b (rowPlus s 1 (by decide)) w) * cw (ix2 1 w)
      + p (ix3 b (rowPlus s 2 (by decide)) w) * cw (ix2 2 w) + p (ix3 b (rowPlus s 3 (by decide)) w) * cw (ix2 3 w) + cb (ix1 w) : EReal) := by
  obtain ⟨r0, r1, r2, r3⟩ := cwRow_apply cw w
  have e0 := slide0 p b s w
  have e1 := slide1 p b s w
  have e2 := slide2 p b s w
  have e3 := slide3 p b s w
  have z : every 0x00000000#32 (ix3 b s w) = (0 : EReal) := (every_apply _ b s w).trans zero_f32
  rw [← r0, ← r1, ← r2, ← r3, ← e0, ← e1, ← e2, ← e3, ← zero_add (extractStridedSlice S4x8192x512 ![0, 0, 0] p slices_S4x8195x512_S4x8192x512_0_0_0 (ix3 b s w) * _ : EReal), ← z,
    ← across_apply (shapeCast S512 (extractStridedSlice S1x512 ![0, 0] cw slices_S4x512_S1x512_0_0) shapeCasts_S1x512_S512) b s w,
    ← across_apply (shapeCast S512 (extractStridedSlice S1x512 ![1, 0] cw slices_S4x512_S1x512_1_0) shapeCasts_S1x512_S512) b s w,
    ← across_apply (shapeCast S512 (extractStridedSlice S1x512 ![2, 0] cw slices_S4x512_S1x512_2_0) shapeCasts_S1x512_S512) b s w,
    ← across_apply (shapeCast S512 (extractStridedSlice S1x512 ![3, 0] cw slices_S4x512_S1x512_3_0) shapeCasts_S1x512_S512) b s w,
    ← across_apply cb b s w]
  rfl

theorem headProj_apply (u : FVec Ideal S4x8192x512 .f32) (wg : FVec Ideal S8x64x64 .f32) (b : Fin 4) (s : Fin 8192) (w : Fin 512) :
    headProj u wg (ix3 b s w) = (∑ j : Fin 64, u (ix3 b s (chan (headOf w) j)) * wg (ix3 (headOf w) j (laneOf w)) : EReal) := by
  have hu : ∀ j : Fin 64, shapeCast S4x8192x8x64 u shapeCasts_S4x8192x512_S4x8192x8x64 (ix4 b s (headOf w) j) = u (ix3 b s (chan (headOf w) j)) := fun j => by
    refine shapeCast_apply _ _ _ _ ?_
    rw [Shape.rowMajor_val_three, Shape.rowMajor_val_four]
    show (b.val * 8192 + s.val) * 512 + (w.val / 64 * 64 + j.val) = ((b.val * 8192 + s.val) * 8 + w.val / 64) * 64 + j.val
    omega
  unfold headProj
  refine (shapeCast_apply _ _ _ (ix4 b s (headOf w) (laneOf w)) ?_).trans ((transpose_apply _ _ _ _ (ix4 (headOf w) (laneOf w) b s) fun a => ?_).trans ?_)
  · rw [Shape.rowMajor_val_three, Shape.rowMajor_val_four]
    show ((b.val * 8192 + s.val) * 8 + w.val / 64) * 64 + w.val % 64 = (b.val * 8192 + s.val) * 512 + w.val
    omega
  · match a with
    | ⟨0, _⟩ => rfl
    | ⟨1, _⟩ => rfl
    | ⟨2, _⟩ => rfl
    | ⟨3, _⟩ => rfl
  · simp only [← hu]
    generalize shapeCast S4x8192x8x64 u shapeCasts_S4x8192x512_S4x8192x8x64 = v
    refine Eq.trans (?_ : _ = (∑ j : Fin 64, wg (ix3 (headOf w) j (laneOf w)) * v (ix4 b s (headOf w) j) : EReal)) (Finset.sum_congr rfl fun j _ => mul_comm _ _)
    pointwise

theorem gateR_apply (u : FVec Ideal S4x8192x512 .f32) (wg : FVec Ideal S8x64x64 .f32) (bg : FVec Ideal S512 .f32) (b : Fin 4) (s : Fin 8192) (w : Fin 512) :
    gateR u wg bg (ix3 b s w) = Ideal.logistic (∑ j : Fin 64, u (ix3 b s (chan (headOf w) j)) * wg (ix3 (headOf w) j (laneOf w)) + bg (ix1 w)) := by
  have z : every 0x3F800000#32 (ix3 b s w) = (1 : EReal) := (every_apply _ b s w).trans one_f32
  rw [← headProj_apply, ← across_apply bg b s w]
  unfold Ideal.logistic
  rw [← z]
  rfl

theorem zeros_apply (w : Fin 512) : zeros (ix1 w) = (0 : EReal) := by
  refine Eq.trans (?_ : _ = Ideal.ofBits .f32 0x00000000#32) zero_f32
  pointwise [zeros]

theorem softR_apply (v : FVec Ideal S512 .f32) (w : Fin 512) : softR v (ix1 w) = softplus (v (ix1 w)) := by
  have z := zeros_apply w
  have e : subf v zeros (ix1 w) = v (ix1 w) := by
    show (v (ix1 w) - zeros (ix1 w) : EReal) = v (ix1 w)
    rw [z, sub_zero]
  show (if Ideal.cmp .une (subf v zeros (ix1 w)) (subf v zeros (ix1 w)) = 1#1 then (v (ix1 w) + zeros (ix1 w) : EReal)
    else max (v (ix1 w)) (zeros (ix1 w)) + Ideal.log1p (Ideal.exp (-(max (subf v zeros (ix1 w)) (-(subf v zeros (ix1 w))))))) = _
  rw [if_neg (by simp [Ideal.cmp]), e, z]
  rfl

variable (a : Args) (r : RecArgs) (p : FVec Ideal S4x8192x2560 .f32) (hp : ∀ (b : Fin 4) (s : Fin 8192) (e : Fin 2560), p (ix3 b s e) = a.prj b s e)
include hp

theorem padded_point (b : Fin 4) (s : Fin 8192) (j : ℕ) (hj : j < 4) (w : Fin 512) :
    padRows (recCols p) (ix3 b (rowPlus s j hj) w) = a.padded b (s.val + j) w := by
  rw [padRows_apply]
  unfold Args.padded
  by_cases c : s.val + j < 3
  · rw [if_pos c, if_pos (show (rowPlus s j hj).val < 3 from c)]
  · rw [if_neg c, if_neg (show ¬(rowPlus s j hj).val < 3 from c), recCols_apply, hp]
    rfl

theorem conv_eq (b : Fin 4) (s : Fin 8192) (w : Fin 512) : convR (padRows (recCols p)) r.cw r.cb (ix3 b s w) = conv a r b s w := by
  rw [convR_apply, padded_point a p hp, padded_point a p hp, padded_point a p hp, padded_point a p hp]
  unfold conv
  rw [mul_comm (r.cw _), mul_comm (r.cw _), mul_comm (r.cw _), mul_comm (r.cw _), add_comm _ (r.cb _), ← add_assoc, ← add_assoc, ← add_assoc]

theorem gate_eq (wg : FVec Ideal S8x64x64 .f32) (bg : FVec Ideal S512 .f32) (b : Fin 4) (s : Fin 8192) (w : Fin 512) :
    gateR (convR (padRows (recCols p)) r.cw r.cb) wg bg (ix3 b s w) = gate a r wg bg b s w := by
  rw [gateR_apply]
  unfold gate
  simp only [conv_eq a r p hp]

/-- The decay's logarithm. -/
def logOf : FVec Ideal S4x8192x512 .f32 :=
  logR (mulf (every 0xC1000000#32) (gateR (convR (padRows (recCols p)) r.cw r.cb) r.wa r.ba)) (softR (Host.negf (F := Ideal) (s := S512) (φ := .f32) r.lam))

theorem log_eq (b : Fin 4) (s : Fin 8192) (w : Fin 512) : logOf r p (ix3 b s w) = logDecay a r b s w := by
  have e1 := gate_eq a r p hp r.wa r.ba b s w
  have e2 := every_apply 0xC1000000#32 b s w
  have e3 := (across_apply (softR (Host.negf (F := Ideal) (s := S512) (φ := .f32) r.lam)) b s w).trans (softR_apply _ w)
  unfold logDecay
  rw [← e1, ← e2]
  exact congrArg (fun y : EReal => every 0xC1000000#32 (ix3 b s w) * gateR (convR (padRows (recCols p)) r.cw r.cb) r.wa r.ba (ix3 b s w) * y) e3

theorem decay_eq (b : Fin 4) (s : Fin 8192) (w : Fin 512) : timeMajor (Host.exp (logOf r p)) (ix3 s b w) = decay a r b s w := by
  refine (transpose_apply _ _ _ _ (ix3 b s w) fun k => ?_).trans (congrArg Ideal.exp (log_eq a r p hp b s w))
  match k with
  | ⟨0, _⟩ => rfl
  | ⟨1, _⟩ => rfl
  | ⟨2, _⟩ => rfl

theorem logDecay_le (b : Fin 4) (s : Fin 8192) (w : Fin 512) : logDecay a r b s w ≤ 0 := logDecay_nonpos (logistic_decay _).1 (softplus_nonneg _)

theorem added_eq (b : Fin 4) (s : Fin 8192) (w : Fin 512) :
    timeMajor (addedR (logOf r p) (gateR (convR (padRows (recCols p)) r.cw r.cb) r.wx r.bx) (convR (padRows (recCols p)) r.cw r.cb)) (ix3 s b w) = added a r b s w := by
  refine (transpose_apply _ _ _ _ (ix3 b s w) fun k => ?_).trans ?_
  · match k with
    | ⟨0, _⟩ => rfl
    | ⟨1, _⟩ => rfl
    | ⟨2, _⟩ => rfl
  · have e1 := gate_eq a r p hp r.wx r.bx b s w
    have e2 := every_apply 0x40000000#32 b s w
    have e3 := log_eq a r p hp b s w
    have e4 := conv_eq a r p hp b s w
    unfold added decay
    rw [one_sub_sq (logDecay_le a r p hp b s w), ← e1, ← e2, ← e3, ← e4]
    rfl

/-- The gate's activation. -/
theorem act_eq (b : Fin 4) (s : Fin 8192) (w : Fin 512) : act (gateCols p) (ix3 b s w) = gelu (a.prj b s (yCol w)) := by
  rw [act_apply, gateCols_apply, hp]

end Cert.Reference4Ideal.Inproj

end
-- ==== Proof.Inproj.ReferenceFirst.lean ====
/- What the reference of the input projection computes first: its projections. -/
module

public import proofs.«01_k».proof.Proof.Inproj.ReferenceDefs
public import proofs.«01_k».proof.Proof.Gen.Reference4Ideal.Run

@[expose] public section

set_option maxRecDepth 16384

noncomputable section

namespace Cert.Reference4Ideal.Inproj

open Cert.Reference4Ideal Cert.Reference4Ideal.Gen
open Idealize.ShloMosaic Idealize.ShloMosaic.TcCoe Idealize.SL.Sem
open Cert.Reference4Ideal.Value Idealize.ShloMosaic.StableHlo

variable (X : Valuation τ sig (Elt Ideal))

/-- The operations up to the projection, and those after it. -/
theorem cut : after hostOps0 X = after (hostOps0.drop 29) (after (hostOps0.take 29) X) := by
  rw [← after_append, List.take_append_drop]

/-- The later results of what the projection is. -/
def queriesOf (p : FVec Ideal S4x8192x2560 .f32) (cs sn : FVec Ideal S32768x128 .f32) : FVec Ideal S4x8192x512 .bf16 :=
  truncf .bf16 (mulf (rope cs sn (extractStridedSlice S4x8192x512 ![0, 0, 0] (extractStridedSlice S4x8192x1536 ![0, 0, 1024] p slices_S4x8192x2560_S4x8192x1536_0_0_1024) slices_S4x8192x1536_S4x8192x512_0_0_0)) (broadcastInDim S4x8192x512 ![] bcast_S_S4x8192x512 (constant S_ .f32 0x3E38AA3B#32))) bitsLt_bf16_f32
def keysOf (p : FVec Ideal S4x8192x2560 .f32) (cs sn : FVec Ideal S32768x128 .f32) : FVec Ideal S4x8192x512 .bf16 :=
  truncf .bf16 (rope cs sn (extractStridedSlice S4x8192x512 ![0, 0, 512] (extractStridedSlice S4x8192x1536 ![0, 0, 1024] p slices_S4x8192x2560_S4x8192x1536_0_0_1024) slices_S4x8192x1536_S4x8192x512_0_0_512)) bitsLt_bf16_f32
def valuesOf (p : FVec Ideal S4x8192x2560 .f32) : FVec Ideal S4x8192x512 .bf16 :=
  truncf .bf16 (extractStridedSlice S4x8192x512 ![0, 0, 1024] (extractStridedSlice S4x8192x1536 ![0, 0, 1024] p slices_S4x8192x2560_S4x8192x1536_0_0_1024) slices_S4x8192x1536_S4x8192x512_0_0_1024) bitsLt_bf16_f32

set_option maxHeartbeats 4000000 in
theorem t_v24 : after (hostOps0.take 29) X (Proc.devRef .tc main_v24) = whole (X (Proc.devRef .tc main_arg0)) (X (Proc.devRef .tc main_arg1)) (X (Proc.devRef .tc main_arg2)) (X (Proc.devRef .tc main_arg3)) := by
  simp only [hostOps0, List.take_succ_cons, List.take_zero]
  after_results_simp <;> rfl
theorem t_arg4 : after (hostOps0.take 29) X (Proc.devRef .tc main_arg4) = X (Proc.devRef .tc main_arg4) := by
  simp only [hostOps0, List.take_succ_cons, List.take_zero]
  after_results_simp <;> rfl
theorem t_arg5 : after (hostOps0.take 29) X (Proc.devRef .tc main_arg5) = X (Proc.devRef .tc main_arg5) := by
  simp only [hostOps0, List.take_succ_cons, List.take_zero]
  after_results_simp <;> rfl

set_option maxHeartbeats 4000000 in
theorem d_v41 : after (hostOps0.drop 29) X (Proc.devRef .tc main_v41) = queriesOf (X (Proc.devRef .tc main_v24)) (X (Proc.devRef .tc main_arg4)) (X (Proc.devRef .tc main_arg5)) := by
  simp only [hostOps0, List.drop_succ_cons, List.drop_zero]
  after_results_simp <;> rfl
set_option maxHeartbeats 4000000 in
theorem d_v53 : after (hostOps0.drop 29) X (Proc.devRef .tc main_v53) = keysOf (X (Proc.devRef .tc main_v24)) (X (Proc.devRef .tc main_arg4)) (X (Proc.devRef .tc main_arg5)) := by
  simp only [hostOps0, List.drop_succ_cons, List.drop_zero]
  after_results_simp <;> rfl
set_option maxHeartbeats 4000000 in
theorem d_v55 : after (hostOps0.drop 29) X (Proc.devRef .tc main_v55) = valuesOf (X (Proc.devRef .tc main_v24)) := by
  simp only [hostOps0, List.drop_succ_cons, List.drop_zero]
  after_results_simp <;> rfl
set_option maxHeartbeats 4000000 in
theorem d_v69 : after (hostOps0.drop 29) X (Proc.devRef .tc main_v69) = act (gateCols (X (Proc.devRef .tc main_v24))) := by
  simp only [hostOps0, List.drop_succ_cons, List.drop_zero]
  after_results_simp <;> rfl
set_option maxHeartbeats 4000000 in
theorem d_v70 : after (hostOps0.drop 29) X (Proc.devRef .tc main_v70) = recCols (X (Proc.devRef .tc main_v24)) := by
  simp only [hostOps0, List.drop_succ_cons, List.drop_zero]
  after_results_simp <;> rfl
set_option maxHeartbeats 4000000 in
theorem d_c : after (hostOps0.drop 29) X (Proc.devRef .tc main_c) = (constantI S_ 32 0#32 : IVec S_ 32) := by
  simp only [hostOps0, List.drop_succ_cons, List.drop_zero]
  after_results_simp <;> rfl

theorem s0_v41 : after hostOps0 X (Proc.devRef .tc main_v41) = queries (X (Proc.devRef .tc main_arg0)) (X (Proc.devRef .tc main_arg1)) (X (Proc.devRef .tc main_arg2)) (X (Proc.devRef .tc main_arg3)) (X (Proc.devRef .tc main_arg4)) (X (Proc.devRef .tc main_arg5)) := by
  rw [cut, d_v41, t_v24, t_arg4, t_arg5]
  rfl
theorem s0_v53 : after hostOps0 X (Proc.devRef .tc main_v53) = keys (X (Proc.devRef .tc main_arg0)) (X (Proc.devRef .tc main_arg1)) (X (Proc.devRef .tc main_arg2)) (X (Proc.devRef .tc main_arg3)) (X (Proc.devRef .tc main_arg4)) (X (Proc.devRef .tc main_arg5)) := by
  rw [cut, d_v53, t_v24, t_arg4, t_arg5]
  rfl
theorem s0_v55 : after hostOps0 X (Proc.devRef .tc main_v55) = values (X (Proc.devRef .tc main_arg0)) (X (Proc.devRef .tc main_arg1)) (X (Proc.devRef .tc main_arg2)) (X (Proc.devRef .tc main_arg3)) := by
  rw [cut, d_v55, t_v24]
  rfl
theorem s0_v69 : after hostOps0 X (Proc.devRef .tc main_v69) = act (gateCols (whole (X (Proc.devRef .tc main_arg0)) (X (Proc.devRef .tc main_arg1)) (X (Proc.devRef .tc main_arg2)) (X (Proc.devRef .tc main_arg3)))) := by
  rw [cut, d_v69, t_v24]
theorem s0_v70 : after hostOps0 X (Proc.devRef .tc main_v70) = recCols (whole (X (Proc.devRef .tc main_arg0)) (X (Proc.devRef .tc main_arg1)) (X (Proc.devRef .tc main_arg2)) (X (Proc.devRef .tc main_arg3))) := by
  rw [cut, d_v70, t_v24]
theorem s0_c : after hostOps0 X (Proc.devRef .tc main_c) = (constantI S_ 32 0#32 : IVec S_ 32) := by
  rw [cut, d_c]

end Cert.Reference4Ideal.Inproj

end
-- ==== Proof.Inproj.ReferenceEntry.lean ====
/- What the reference of the input projection computes between its projections and its loop. -/
module

public import proofs.«01_k».proof.Proof.Inproj.ReferenceDefs
public import proofs.«01_k».proof.Proof.Gen.Reference4Ideal.Run

@[expose] public section

set_option maxRecDepth 16384

noncomputable section

namespace Cert.Reference4Ideal.Inproj

open Cert.Reference4Ideal Cert.Reference4Ideal.Gen
open Idealize.ShloMosaic Idealize.ShloMosaic.TcCoe Idealize.SL.Sem
open Cert.Reference4Ideal.Value Idealize.ShloMosaic.StableHlo

variable (X : Valuation τ sig (Elt Ideal))

/-! ## The stretches between the projections and the loop -/

theorem s1_v71 (hc : X (Proc.devRef .tc main_c) = (constantI S_ 32 0#32 : IVec S_ 32)) : after hostOps0_1 X (Proc.devRef .tc main_v71) = padRows (X (Proc.devRef .tc main_v70)) := by
  refine Eq.trans (?_ : _ = (pad S4x8195x512 ![0, 3, 0] ![0, 0, 0] ![0, 0, 0] (X (Proc.devRef .tc main_v70)) (sitofp .f32 (X (Proc.devRef .tc main_c)) : FVec Ideal S_ .f32) pads_S4x8192x512_S4x8195x512_000_300_000 h_S_ : FVec Ideal S4x8195x512 .f32)) ?_
  · after_reads_simp
    rfl
  · rw [hc]; rfl

set_option maxHeartbeats 4000000 in
theorem s2_v103 : after hostOps0_2 X (Proc.devRef .tc main_v103) = convR (X (Proc.devRef .tc main_v71)) (X (Proc.devRef .tc main_arg6)) (X (Proc.devRef .tc main_arg7)) := by
  after_results_simp <;> rfl
set_option maxHeartbeats 4000000 in
theorem s2_v128 : after hostOps0_2 X (Proc.devRef .tc main_v128) = gateR (convR (X (Proc.devRef .tc main_v71)) (X (Proc.devRef .tc main_arg6)) (X (Proc.devRef .tc main_arg7))) (X (Proc.devRef .tc main_arg10)) (X (Proc.devRef .tc main_arg11)) := by
  after_results_simp <;> rfl
set_option maxHeartbeats 4000000 in
theorem s2_v130 : after hostOps0_2 X (Proc.devRef .tc main_v130) = mulf (every 0xC1000000#32) (gateR (convR (X (Proc.devRef .tc main_v71)) (X (Proc.devRef .tc main_arg6)) (X (Proc.devRef .tc main_arg7))) (X (Proc.devRef .tc main_arg8)) (X (Proc.devRef .tc main_arg9))) := by
  after_results_simp <;> rfl
theorem s2_v131 : after hostOps0_2 X (Proc.devRef .tc main_v131) = (Host.negf (F := Ideal) (s := S512) (φ := .f32) (X (Proc.devRef .tc main_arg12))) := by
  after_results_simp <;> rfl

theorem s3_v132 : after hostOps0_3 X (Proc.devRef .tc main_v132) = softR (X (Proc.devRef .tc main_v131)) := by
  after_reads_simp
  rfl

theorem s4_0 : after hostOps0_4 X (Proc.devRef .tc main_v148_0) = timeMajor (Host.exp (logR (X (Proc.devRef .tc main_v130)) (X (Proc.devRef .tc main_v132)))) := by
  after_results_simp <;> rfl
theorem s4_1 : after hostOps0_4 X (Proc.devRef .tc main_v148_1) = timeMajor (addedR (logR (X (Proc.devRef .tc main_v130)) (X (Proc.devRef .tc main_v132))) (X (Proc.devRef .tc main_v128)) (X (Proc.devRef .tc main_v103))) := by
  after_results_simp <;> rfl
theorem s4_3 : after hostOps0_4 X (Proc.devRef .tc main_v148_3) = (broadcastInDim S4x512 ![] bcast_S_S4x512 (constant S_ .f32 0x00000000#32) : FVec Ideal S4x512 .f32) := by
  after_results_simp <;> rfl

end Cert.Reference4Ideal.Inproj

end
-- ==== Proof.Inproj.ReferenceRun.lean ====
/- The reference of the input projection from start to end: it runs, leaves its arguments as they were, and its results are the
   kernel's. -/
module

public import proofs.«01_k».proof.Proof.Inproj.ReferenceLoop
public import proofs.«01_k».proof.Proof.Inproj.ReferencePoint
public import proofs.«01_k».proof.Proof.Inproj.ReferenceFirst
public import proofs.«01_k».proof.Proof.Inproj.ReferenceEntry
public import proofs.«01_k».proof.Proof.Gen.Reference4Ideal.Run

@[expose] public section

set_option maxRecDepth 16384

noncomputable section

namespace Cert.Reference4Ideal.Inproj

open Cert.Reference4Ideal Cert.Reference4Ideal.Gen
open Idealize.ShloMosaic Idealize.ShloMosaic.TcCoe Idealize.SL.Sem

open Cert.Reference4Ideal.Value Idealize.ShloMosaic.StableHlo
open Cert.Inproj
open Cert.Kernel4Ideal.Inproj (Args qArr kArr vArr RecArgs posOf decay added hAfter gelu lruArr zero_f32)

variable (m : (ℓ : Loc nD τ sig) → Buf (Elt Ideal) ℓ) (c : Dev nD)

/-- The arguments a memory holds. -/
def argsAt : Args :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
def recAt : RecArgs where
  cw := m ((c.tc : Thread nD τ).loc main_arg6)
  cb := m ((c.tc : Thread nD τ).loc main_arg7)
  wa := m ((c.tc : Thread nD τ).loc main_arg8)
  ba := m ((c.tc : Thread nD τ).loc main_arg9)
  wx := m ((c.tc : Thread nD τ).loc main_arg10)
  bx := m ((c.tc : Thread nD τ).loc main_arg11)
  lam := m ((c.tc : Thread nD τ).loc main_arg12)
/-- The projection of those. -/
def wholeAt : FVec Ideal S4x8192x2560 .f32 :=
  whole (m ((c.tc : Thread nD τ).loc main_arg0)) (m ((c.tc : Thread nD τ).loc main_arg1)) (m ((c.tc : Thread nD τ).loc main_arg2)) (m ((c.tc : Thread nD τ).loc main_arg3))

theorem wholeAt_apply (b : Fin 4) (s : Fin 8192) (e : Fin 2560) : wholeAt m c (ix3 b s e) = (argsAt m c).prj b s e := whole_apply _ _ _ _ _ _ b s e

/-! ## What no operation writes stays -/

/-- A buffer the loop does not write. -/
theorem trip_keep (X : Valuation τ sig (Elt Ideal)) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) :
    afterL bodyI (after condOps X) (Proc.devRef .tc r) = X (Proc.devRef .tc r) := by
  simp only [bodyI, afterL_cons, afterL_nil]
  rw [after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

theorem loop_keep (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) :
    ∀ k, atK m k c (Proc.devRef .tc r) = entryContents preI m c (Proc.devRef .tc r)
  | 0 => rfl
  | k + 1 => (trip_keep (atK m k c) r hc h0 h1 h2 h3 h4).trans (loop_keep r hc h0 h1 h2 h3 h4 k)

/-- A buffer the loop and the operations after it do not write. -/
theorem end_keep (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W)
    (hp : (hostOps0_5 : List (HloOp τ sig (Elt Ideal))).Forall fun op => (Proc.devRef .tc r : DevRef τ sig) ∉ op.writes) :
    finalContents condOps preI bodyI postI 8192 m c (Proc.devRef .tc r) = entryContents preI m c (Proc.devRef .tc r) := by
  show after hostOps0_5 (after condOps (atK m 8192 c)) (Proc.devRef .tc r) = entryContents preI m c (Proc.devRef .tc r)
  rw [after_of_forall_not_mem hostOps0_5 _ (List.forall_iff_forall_mem.mp hp), after_of_writes_sub condOps _ condOps_writes hc,
    loop_keep m c r hc h0 h1 h2 h3 h4 8192]

/-- A buffer the stretches between the projections and the loop do not write. -/
theorem entry_keep (r : Ref sig .tc) (h1 : r ∉ hostOps0_1_W) (h2 : r ∉ hostOps0_2_W) (h3 : r ∉ hostOps0_3_W) (h4 : r ∉ hostOps0_4_W) :
    entryContents preI m c (Proc.devRef .tc r) = after hostOps0 (launchContents m c) (Proc.devRef .tc r) := by
  simp only [entryContents, preI, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1]

/-- An argument. -/
theorem arg_keep (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W)
    (hp : (hostOps0_5 : List (HloOp τ sig (Elt Ideal))).Forall fun op => (Proc.devRef .tc r : DevRef τ sig) ∉ op.writes)
    (g0 : r ∉ hostOps0_W) (g1 : r ∉ hostOps0_1_W) (g2 : r ∉ hostOps0_2_W) (g3 : r ∉ hostOps0_3_W) (g4 : r ∉ hostOps0_4_W) :
    finalContents condOps preI bodyI postI 8192 m c (Proc.devRef .tc r) = m ((c.tc : Thread nD τ).loc r) := by
  rw [end_keep m c r hc h0 h1 h2 h3 h4 hp, entry_keep m c r g1 g2 g3 g4, after_of_writes_sub hostOps0 _ hostOps0_writes g0]

/-! ## The loop's entry -/

/-- The contents after the convolution's stretch. -/
abbrev mid : Valuation τ sig (Elt Ideal) := after hostOps0_2 (after hostOps0_1 (after hostOps0 (launchContents m c)))

theorem early (r : Ref sig .tc) (g0 : r ∉ hostOps0_W) (g1 : r ∉ hostOps0_1_W) :
    after hostOps0_1 (after hostOps0 (launchContents m c)) (Proc.devRef .tc r) = m ((c.tc : Thread nD τ).loc r) := by
  rw [after_of_writes_sub hostOps0_1 _ hostOps0_1_writes g1, after_of_writes_sub hostOps0 _ hostOps0_writes g0]

theorem early_v71 : after hostOps0_1 (after hostOps0 (launchContents m c)) (Proc.devRef .tc main_v71) = padRows (recCols (wholeAt m c)) := by
  rw [s1_v71 _ (s0_c _), s0_v70]
  rfl

theorem mid_v103 : mid m c (Proc.devRef .tc main_v103) = convR (padRows (recCols (wholeAt m c))) (recAt m c).cw (recAt m c).cb := by
  unfold mid
  rw [s2_v103, early_v71, early m c main_arg6 (by decide) (by decide), early m c main_arg7 (by decide) (by decide)]
  rfl

theorem mid_v128 : mid m c (Proc.devRef .tc main_v128) = gateR (convR (padRows (recCols (wholeAt m c))) (recAt m c).cw (recAt m c).cb) (recAt m c).wx (recAt m c).bx := by
  unfold mid
  rw [s2_v128, early_v71, early m c main_arg6 (by decide) (by decide), early m c main_arg7 (by decide) (by decide),
    early m c main_arg10 (by decide) (by decide), early m c main_arg11 (by decide) (by decide)]
  rfl

theorem mid_v130 : mid m c (Proc.devRef .tc main_v130) = mulf (every 0xC1000000#32) (gateR (convR (padRows (recCols (wholeAt m c))) (recAt m c).cw (recAt m c).cb) (recAt m c).wa (recAt m c).ba) := by
  unfold mid
  rw [s2_v130, early_v71, early m c main_arg6 (by decide) (by decide), early m c main_arg7 (by decide) (by decide),
    early m c main_arg8 (by decide) (by decide), early m c main_arg9 (by decide) (by decide)]
  rfl

theorem mid_v131 : mid m c (Proc.devRef .tc main_v131) = Host.negf (F := Ideal) (s := S512) (φ := .f32) (recAt m c).lam := by
  unfold mid
  rw [s2_v131, early m c main_arg12 (by decide) (by decide)]
  rfl

/-- A buffer of that stretch at the loop's entry. -/
theorem late (r : Ref sig .tc) (g3 : r ∉ hostOps0_3_W) : after hostOps0_3 (mid m c) (Proc.devRef .tc r) = mid m c (Proc.devRef .tc r) :=
  after_of_writes_sub hostOps0_3 _ hostOps0_3_writes g3

theorem factors_zero : factors m c 0 = timeMajor (Host.exp (logOf (recAt m c) (wholeAt m c))) := by
  show after hostOps0_4 (after hostOps0_3 (mid m c)) (Proc.devRef .tc main_v148_0) = _
  rw [s4_0, s3_v132, late m c main_v130 (by decide), mid_v130, mid_v131]
  rfl

theorem terms_zero : terms m c 0 = timeMajor (addedR (logOf (recAt m c) (wholeAt m c)) (gateR (convR (padRows (recCols (wholeAt m c))) (recAt m c).cw (recAt m c).cb) (recAt m c).wx (recAt m c).bx) (convR (padRows (recCols (wholeAt m c))) (recAt m c).cw (recAt m c).cb)) := by
  show after hostOps0_4 (after hostOps0_3 (mid m c)) (Proc.devRef .tc main_v148_1) = _
  rw [s4_1, s3_v132, late m c main_v130 (by decide), late m c main_v128 (by decide), late m c main_v103 (by decide), mid_v130, mid_v131, mid_v128, mid_v103]
  rfl

theorem state_zero (b : Fin 4) (w : Fin 512) : state m c 0 (ix2 b w) = (0 : EReal) := by
  refine Eq.trans (?_ : _ = Ideal.ofBits .f32 0x00000000#32) zero_f32
  show after hostOps0_4 (after hostOps0_3 (mid m c)) (Proc.devRef .tc main_v148_3) (ix2 b w) = _
  rw [s4_3]
  pointwise

/-- The rows the loop leaves: the recurrence. -/
theorem rows_rec (s : Fin 8192) (b : Fin 4) (w : Fin 512) : rows m c 8192 (ix3 s b w) = hAfter (argsAt m c) (recAt m c) b w (s.val + 1) := by
  rw [rows_last, state_zero]
  refine steps_congr _ (fun n _ => ?_) (fun n _ => ?_)
  · rw [factors_zero]
    exact decay_eq (argsAt m c) (recAt m c) (wholeAt m c) (wholeAt_apply m c) b (posOf n) w
  · rw [terms_zero]
    exact added_eq (argsAt m c) (recAt m c) (wholeAt m c) (wholeAt_apply m c) b (posOf n) w

/-! ## The results -/

theorem gate_entry : entryContents preI m c (Proc.devRef .tc main_v69) = act (gateCols (wholeAt m c)) := by
  rw [entry_keep m c main_v69 (by decide) (by decide) (by decide) (by decide), s0_v69]
  rfl

/-- What the operations after the loop make of what it leaves. -/
theorem last_v151 (X : Valuation τ sig (Elt Ideal)) : after hostOps0_5 X (Proc.devRef .tc main_v151)
    = (truncf .bf16 (mulf (transpose S4x8192x512 [1, 0, 2] (X (Proc.devRef .tc main_v148_4)) transposes_S8192x4x512_S4x8192x512_1_0_2 : FVec Ideal S4x8192x512 .f32) (X (Proc.devRef .tc main_v69))) bitsLt_bf16_f32 : FVec Ideal S4x8192x512 .bf16) := by
  after_results_simp <;> rfl

theorem final_lru : finalContents condOps preI bodyI postI 8192 m c (Proc.devRef .tc main_v151) = lruArr (argsAt m c) (recAt m c) := by
  show after hostOps0_5 (after condOps (atK m 8192 c)) (Proc.devRef .tc main_v151) = _
  rw [last_v151, cond_keeps (atK m 8192 c) main_v148_4 (by decide), atK_agree m c 8192 main_v148_4 (by decide),
    after_of_writes_sub condOps _ condOps_writes (by decide), loop_keep m c main_v69 (by decide) (by decide) (by decide) (by decide) (by decide) (by decide) 8192,
    gate_entry]
  refine funext fun (i : S4x8192x512.Idx) => ?_
  obtain ⟨b, s, w, rfl⟩ := idx_eq i
  have e1 := rows_rec m c s b w
  have e2 := act_eq (argsAt m c) (wholeAt m c) (wholeAt_apply m c) b s w
  have e3 : transpose S4x8192x512 [1, 0, 2] (rows m c 8192) transposes_S8192x4x512_S4x8192x512_1_0_2 (ix3 b s w) = rows m c 8192 (ix3 s b w) := by
    refine transpose_apply _ _ _ _ _ fun k => ?_
    match k with
    | ⟨0, _⟩ => rfl
    | ⟨1, _⟩ => rfl
    | ⟨2, _⟩ => rfl
  show (transpose S4x8192x512 [1, 0, 2] (rows m c 8192) transposes_S8192x4x512_S4x8192x512_1_0_2 (ix3 b s w) * act (gateCols (wholeAt m c)) (ix3 b s w) : EReal) = _
  rw [e3, e1, e2]
  rfl

theorem final_q : finalContents condOps preI bodyI postI 8192 m c (Proc.devRef .tc main_v41) = qArr (argsAt m c) := by
  rw [end_keep m c main_v41 (by decide) (by decide) (by decide) (by decide) (by decide) (by decide) (by simp [List.Forall]), entry_keep m c main_v41 (by decide) (by decide) (by decide) (by decide), s0_v41]
  exact queries_eq _ _ _ _ _ _

theorem final_k : finalContents condOps preI bodyI postI 8192 m c (Proc.devRef .tc main_v53) = kArr (argsAt m c) := by
  rw [end_keep m c main_v53 (by decide) (by decide) (by decide) (by decide) (by decide) (by decide) (by simp [List.Forall]), entry_keep m c main_v53 (by decide) (by decide) (by decide) (by decide), s0_v53]
  exact keys_eq _ _ _ _ _ _

theorem final_v : finalContents condOps preI bodyI postI 8192 m c (Proc.devRef .tc main_v55) = vArr (argsAt m c) := by
  rw [end_keep m c main_v55 (by decide) (by decide) (by decide) (by decide) (by decide) (by decide) (by simp [List.Forall]), entry_keep m c main_v55 (by decide) (by decide) (by decide) (by decide), s0_v55]
  exact values_eq _ _ _ _ _ _

/-- From any memory the reference runs to its end with its results these functions of its arguments, and the arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v151) = lruArr (argsAt m c) (recAt m c)
    ∧ r.2.mem ((c.tc : Thread nD τ).loc main_v41) = qArr (argsAt m c)
    ∧ r.2.mem ((c.tc : Thread nD τ).loc main_v53) = kArr (argsAt m c)
    ∧ r.2.mem ((c.tc : Thread nD τ).loc main_v55) = vArr (argsAt m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)) :=
  (θ_run (defs (F := Ideal)) _ _).mono (fun r h c => ⟨(h c main_v151 rfl).trans (final_lru m c), (h c main_v41 rfl).trans (final_q m c),
    (h c main_v53 rfl).trans (final_k m c), (h c main_v55 rfl).trans (final_v m c),
    (h c main_arg0 rfl).trans (arg_keep m c main_arg0 (by decide) (by decide) (by decide) (by decide) (by decide) (by decide) (by simp [List.Forall]) (by decide) (by decide) (by decide) (by decide) (by decide)),
    (h c main_arg1 rfl).trans (arg_keep m c main_arg1 (by decide) (by decide) (by decide) (by decide) (by decide) (by decide) (by simp [List.Forall]) (by decide) (by decide) (by decide) (by decide) (by decide)),
    (h c main_arg2 rfl).trans (arg_keep m c main_arg2 (by decide) (by decide) (by decide) (by decide) (by decide) (by decide) (by simp [List.Forall]) (by decide) (by decide) (by decide) (by decide) (by decide)),
    (h c main_arg3 rfl).trans (arg_keep m c main_arg3 (by decide) (by decide) (by decide) (by decide) (by decide) (by decide) (by simp [List.Forall]) (by decide) (by decide) (by decide) (by decide) (by decide)),
    (h c main_arg4 rfl).trans (arg_keep m c main_arg4 (by decide) (by decide) (by decide) (by decide) (by decide) (by decide) (by simp [List.Forall]) (by decide) (by decide) (by decide) (by decide) (by decide)),
    (h c main_arg5 rfl).trans (arg_keep m c main_arg5 (by decide) (by decide) (by decide) (by decide) (by decide) (by decide) (by simp [List.Forall]) (by decide) (by decide) (by decide) (by decide) (by decide)),
    (h c main_arg6 rfl).trans (arg_keep m c main_arg6 (by decide) (by decide) (by decide) (by decide) (by decide) (by decide) (by simp [List.Forall]) (by decide) (by decide) (by decide) (by decide) (by decide)),
    (h c main_arg7 rfl).trans (arg_keep m c main_arg7 (by decide) (by decide) (by decide) (by decide) (by decide) (by decide) (by simp [List.Forall]) (by decide) (by decide) (by decide) (by decide) (by decide)),
    (h c main_arg8 rfl).trans (arg_keep m c main_arg8 (by decide) (by decide) (by decide) (by decide) (by decide) (by decide) (by simp [List.Forall]) (by decide) (by decide) (by decide) (by decide) (by decide)),
    (h c main_arg9 rfl).trans (arg_keep m c main_arg9 (by decide) (by decide) (by decide) (by decide) (by decide) (by decide) (by simp [List.Forall]) (by decide) (by decide) (by decide) (by decide) (by decide)),
    (h c main_arg10 rfl).trans (arg_keep m c main_arg10 (by decide) (by decide) (by decide) (by decide) (by decide) (by decide) (by simp [List.Forall]) (by decide) (by decide) (by decide) (by decide) (by decide)),
    (h c main_arg11 rfl).trans (arg_keep m c main_arg11 (by decide) (by decide) (by decide) (by decide) (by decide) (by decide) (by simp [List.Forall]) (by decide) (by decide) (by decide) (by decide) (by decide)),
    (h c main_arg12 rfl).trans (arg_keep m c main_arg12 (by decide) (by decide) (by decide) (by decide) (by decide) (by decide) (by simp [List.Forall]) (by decide) (by decide) (by decide) (by decide) (by decide))⟩)
    (run_fold m ρ)

end Cert.Reference4Ideal.Inproj

end
-- ==== Proof.Moe.Run.lean ====
/- One grid point of the expert feed-forward kernel, in the three ways it can go. A point is given by its tile of rows and by
   the half of the hidden features it adds. Either the tile is not valid, and zeros are stored as its result; or it is valid
   and the point adds the first half to a zero accumulator, leaving the result's buffer alone; or it is valid and the point
   adds the second half to the accumulator and stores the rounded sum. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Pipeline.Kit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts, the table of marks and the accumulator, each a whole buffer. -/
abbrev expM : Memref sig .tc .smem S152 .i32 := Memref.whole main_arg0
abbrev markM : Memref sig .tc .smem S152 .i32 := Memref.whole main_arg1
abbrev accM : Memref sig .tc .vmem S512x1024 .f32 := Memref.whole cc0_scratch0

/-- The contents of a table's buffer. -/
abbrev TabBuf (c : Dev nD) {S : Shape} {e : EltTy} (M : Memref sig .tc .smem S e) : Type := Buf (Elt F) (M.view.loc (c : Thread nD τ))

/-- A table held at half the full share: the body only reads it, and the pipeline keeps the other half. -/
abbrev tabHeld (c : Dev nD) {S : Shape} {e : EltTy} (M : Memref sig .tc .smem S e) (f : TabBuf (F := F) c M) : sProp 𝕄 :=
  M.view.loc (c : Thread nD τ) ↦{fullShare.right} f

/-- The mark of the point's tile, as the body reads it. -/
abbrev mark (c : Dev nD) (i : grid0.Coords) (T1 : TabBuf (F := F) c markM) : BitVec 32 :=
  View.readAt (Elt F) markM.view (Rect.unit (s := S152) (k0_off1 i) S1.size (k0_off1_inb i)).toLoadRect T1
    (Shape.Idx.first (numel1_S1.symm ▸ Nat.one_pos))

/-- The point adds the first half of the hidden features. -/
abbrev firstHalf (i : grid0.Coords) : Prop :=
  (Scalar.cmpi .ne (Scalar.extui (Scalar.cmpi .eq (BitVec.ofNat 32 (i 1).val) 0#32)) 0#32) = 1#1

section
variable (c : Dev nD) (i : grid0.Coords)
  (arg4 : Memref sig .tc .vmem S512x1024 .bf16) (harg4 : arg4.IsWhole) (arg5 : Memref sig .tc .vmem S1x1024x1536 .bf16) (harg5 : arg5.IsWhole)
  (arg6 : Memref sig .tc .vmem S1x1024x1536 .bf16) (harg6 : arg6.IsWhole) (arg7 : Memref sig .tc .vmem S1x1536x1024 .bf16) (harg7 : arg7.IsWhole)
  (arg8 : Memref sig .tc .vmem S512x1024 .bf16) (harg8 : arg8.IsWhole) (T0 : TabBuf (F := F) c expM) (T1 : TabBuf (F := F) c markM)
  (x0 : Vec F S512x1024 .bf16) (x1 : Vec F S1x1024x1536 .bf16) (x2 : Vec F S1x1024x1536 .bf16) (x3 : Vec F S1x1536x1024 .bf16)

/-- The four blocks the point reads and the two tables: held on entry, and given back unchanged. -/
abbrev given : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ tabHeld c expM T0 ∗ tabHeld c markM T1)

/-- The kernel's body on these buffers. -/
abbrev body : Prog (TpuEff nD τ sig (Elt F) Λ₀ .tc) PUnit :=
  cc0_moe_ffn i expM (Memref.isWhole_whole _) markM (Memref.isWhole_whole _) arg4 harg4 arg5 harg5 arg6 harg6 arg7 harg7 arg8 harg8 accM (Memref.isWhole_whole _)

set_option maxHeartbeats 4000000 in
/-- A tile that is not valid: zeros are stored, the accumulator is not touched. -/
theorem run_zero (h1 : k0_cond1 (mark c i T1) = 1#1) (h2 : ¬k0_cond2 (mark c i T1) = 1#1) (a : Vec F S512x1024 .f32) (K : PUnit → sProp 𝕄) :
    iprop(given c arg4 arg5 arg6 arg7 T0 T1 x0 x1 x2 x3
        ∗ (∃ d, owns (c : Thread nD τ) arg8 fullShare d) ∗ owns (c : Thread nD τ) accM fullShare a
        ∗ (iprop(given c arg4 arg5 arg6 arg7 T0 T1 x0 x1 x2 x3
            ∗ owns (c : Thread nD τ) arg8 fullShare (k0_pay1 (F := F)) ∗ owns (c : Thread nD τ) accM fullShare a) -∗ K ⟨⟩))
      ⊢ wp frame (wpE (defs₀ (F := F)) Variants.none c none) Set.univ (body i arg4 harg4 arg5 harg5 arg6 harg6 arg7 harg7 arg8 harg8) K := by
  have h2' : ¬k0_cond2 (View.readAt (Elt F) markM.view (Rect.unit (s := S152) (k0_off2 i) S1.size (k0_off2_inb i)).toLoadRect T1
    (Shape.Idx.first (numel1_S1.symm ▸ Nat.one_pos))) = 1#1 := h2
  unfold given owns body
  rw [cc0_moe_ffn_eq_skeleton]; unfold cc0_moe_ffn_skel
  iintro ⟨⟨H0, H1, H2, H3, HT0, HT1⟩, ⟨%d4, %f4, -, HO4⟩, ⟨%fa, %hfa, HS0⟩, Hk⟩
  have hS0 : accM.IsWhole := Memref.isWhole_whole _
  obtain rfl := hS0.eq_unread hfa
  have hT0 : expM.IsWhole := Memref.isWhole_whole _
  have hT1 : markM.IsWhole := Memref.isWhole_whole _
  sl_exec! (disch := first | (guard_target = k0_cond1 _ = _; exact h1) | (guard_target = ¬(k0_cond2 _ = _); exact h2'))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro; exact View.read_writes_full _ _ _ _ _
  iexists _; isplitr; swap
  · iexact HS0
  · ipureintro; exact hS0.read_unread _

set_option maxHeartbeats 4000000 in
/-- A valid tile, the first half of the hidden features: the accumulator holds that half's product, the result's buffer is
    not touched. -/
theorem run_first (h1 : ¬k0_cond1 (mark c i T1) = 1#1) (h2 : k0_cond2 (mark c i T1) = 1#1) (h3 : firstHalf i) (h4 : ¬k0_cond4 i = 1#1)
    (y : Vec F S512x1024 .bf16) (K : PUnit → sProp 𝕄) :
    iprop(given c arg4 arg5 arg6 arg7 T0 T1 x0 x1 x2 x3
        ∗ owns (c : Thread nD τ) arg8 fullShare y ∗ (∃ a, owns (c : Thread nD τ) accM fullShare a)
        ∗ (iprop(given c arg4 arg5 arg6 arg7 T0 T1 x0 x1 x2 x3
            ∗ owns (c : Thread nD τ) arg8 fullShare y ∗ owns (c : Thread nD τ) accM fullShare (k0_pay3 x0 x1 x2 (k0_pay2 (F := F)) x3)) -∗ K ⟨⟩))
      ⊢ wp frame (wpE (defs₀ (F := F)) Variants.none c none) Set.univ (body i arg4 harg4 arg5 harg5 arg6 harg6 arg7 harg7 arg8 harg8) K := by
  have h2' : k0_cond2 (View.readAt (Elt F) markM.view (Rect.unit (s := S152) (k0_off2 i) S1.size (k0_off2_inb i)).toLoadRect T1
    (Shape.Idx.first (numel1_S1.symm ▸ Nat.one_pos))) = 1#1 := h2
  unfold given owns body
  rw [cc0_moe_ffn_eq_skeleton]; unfold cc0_moe_ffn_skel
  iintro ⟨⟨H0, H1, H2, H3, HT0, HT1⟩, ⟨%f4, %hf4, HO4⟩, ⟨%a, %fa, -, HS0⟩, Hk⟩
  obtain rfl := harg8.eq_unread hf4
  have hS0 : accM.IsWhole := Memref.isWhole_whole _
  have hT0 : expM.IsWhole := Memref.isWhole_whole _
  have hT1 : markM.IsWhole := Memref.isWhole_whole _
  sl_exec! (disch := first | (guard_target = ¬(k0_cond1 _ = _); exact h1) | (guard_target = k0_cond2 _ = _; exact h2') | (guard_target = Scalar.cmpi = _; exact h3) | (guard_target = ¬(k0_cond4 _ = _); exact h4))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro; exact harg8.read_unread _
  iexists _; isplitr; swap
  · iexact HS0
  · ipureintro
    unfold run_first.sl.HS0_2
    refine (View.read_writes_full _ _ _ _ _).trans ?_
    congr 1
    · exact View.readAt_rep_full _ _ _
    · exact View.readAt_rep_full _ _ _
    · exact View.readAt_rep_full _ _ _
    · exact View.readCov_full _ _ _ _ _
    · exact View.readAt_rep_full _ _ _

set_option maxHeartbeats 4000000 in
/-- A valid tile, the second half: it is added to the accumulator, and the rounded sum is stored as the result. -/
theorem run_second (h1 : ¬k0_cond1 (mark c i T1) = 1#1) (h2 : k0_cond2 (mark c i T1) = 1#1) (h3 : ¬firstHalf i) (h4 : k0_cond4 i = 1#1)
    (a : Vec F S512x1024 .f32) (K : PUnit → sProp 𝕄) :
    iprop(given c arg4 arg5 arg6 arg7 T0 T1 x0 x1 x2 x3
        ∗ (∃ d, owns (c : Thread nD τ) arg8 fullShare d) ∗ owns (c : Thread nD τ) accM fullShare a
        ∗ (iprop(given c arg4 arg5 arg6 arg7 T0 T1 x0 x1 x2 x3
            ∗ owns (c : Thread nD τ) arg8 fullShare (k0_pay4 (k0_pay3 x0 x1 x2 a x3)) ∗ (∃ a', owns (c : Thread nD τ) accM fullShare a')) -∗ K ⟨⟩))
      ⊢ wp frame (wpE (defs₀ (F := F)) Variants.none c none) Set.univ (body i arg4 harg4 arg5 harg5 arg6 harg6 arg7 harg7 arg8 harg8) K := by
  have h2' : k0_cond2 (View.readAt (Elt F) markM.view (Rect.unit (s := S152) (k0_off2 i) S1.size (k0_off2_inb i)).toLoadRect T1
    (Shape.Idx.first (numel1_S1.symm ▸ Nat.one_pos))) = 1#1 := h2
  unfold given owns body
  rw [cc0_moe_ffn_eq_skeleton]; unfold cc0_moe_ffn_skel
  iintro ⟨⟨H0, H1, H2, H3, HT0, HT1⟩, ⟨%d4, %f4, -, HO4⟩, ⟨%fa, %hfa, HS0⟩, Hk⟩
  have hS0 : accM.IsWhole := Memref.isWhole_whole _
  obtain rfl := hS0.eq_unread hfa
  have hT0 : expM.IsWhole := Memref.isWhole_whole _
  have hT1 : markM.IsWhole := Memref.isWhole_whole _
  sl_exec! (disch := first | (guard_target = ¬(k0_cond1 _ = _); exact h1) | (guard_target = k0_cond2 _ = _; exact h2') | (guard_target = ¬(Scalar.cmpi = _); exact h3) | (guard_target = k0_cond4 _ = _; exact h4))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      unfold run_second.sl.HO4_1
      refine (View.read_writes_full _ _ _ _ _).trans ?_
      congr 1
      refine (View.readCov_full _ _ _ _ _).trans ?_
      congr 1
      · exact View.readAt_rep_full _ _ _
      · exact View.readAt_rep_full _ _ _
      · exact View.readAt_rep_full _ _ _
      · exact (View.readAt_full _ _ _).trans (hS0.read_unread _)
      · exact View.readAt_rep_full _ _ _
  iexists _, _; isplitr; swap
  · iexact HS0
  · ipureintro; rfl

end

end Cert.KernelIdeal.Moe

end
-- ==== Proof.Moe.Frame.lean ====
/- The expert feed-forward kernel run from start to end, for every contents of its two tables that keep the blocks inside
   their arrays: what is held between grid points, what each point leaves in the result's buffer, and the run of the whole
   program to a final memory in which every array is named. -/
module

public import proofs.«01_k».proof.Proof.Moe.Run
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the kernel starts -/

/-- Core `c`'s buffers when the kernel starts: as launched. -/
abbrev V (c : Dev nD) (b : Ref sig .tc) : Buf (Elt F) ((c : Thread nD τ).loc b) := m ((c : Thread nD τ).loc b)

/-- The program is the kernel's region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents, which are the one device's. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables keep every block they choose inside its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- The halves of the tables the body is handed. -/
theorem tables_eq (c : Dev nD) : (Pipeline.ΦT pre0 (tbl m) c : sProp 𝕄) = iprop(tabHeld c expM (tbl m 0) ∗ tabHeld c markM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The accumulator at anything and the generator at some state: what is held before the first point. -/
theorem scratch_eq (c : Dev nD) :
    (Pipeline.ΦA spec0 c : sProp 𝕄) = iprop((∃ d, owns (c : Thread nD τ) accM fullShare d) ∗ (∃ r, prngReg c r)) := by
  unfold Pipeline.ΦA; rw [scopedRest0_eq]; simp only [accM, owns_whole]; rfl

/-! ## The point's tile and half -/

theorem coord_tile (t : Fin grid0.N) : (grid0.coords t 0).val = t.val / 2 := by
  have ht : t.val < 304 := Nat.lt_of_lt_of_eq t.isLt N_0
  have e0 : (grid0.coords t 0).val = t.val / 2 % 152 := Pipeline.Grid.coords_val t 0 (by decide) rfl
  omega

theorem coord_half (t : Fin grid0.N) : (grid0.coords t 1).val = t.val % 2 := by
  have e1 : (grid0.coords t 1).val = t.val / 1 % 2 := Pipeline.Grid.coords_val t 1 (by decide) rfl
  omega

theorem firstHalf_iff (t : Fin grid0.N) : firstHalf (grid0.coords t) ↔ t.val % 2 = 0 := by
  have ht : t.val < 304 := Nat.lt_of_lt_of_eq t.isLt N_0
  simp only [firstHalf, coord_half]
  word_cmp

theorem cond4_iff (t : Fin grid0.N) : k0_cond4 (grid0.coords t) = 1#1 ↔ t.val % 2 = 1 := by
  have ht : t.val < 304 := Nat.lt_of_lt_of_eq t.isLt N_0
  unfold k0_cond4
  simp only [coord_half]
  word_cmp

theorem cond1_iff (v : BitVec 32) : k0_cond1 v = 1#1 ↔ v = 0#32 := by
  by_cases h : v = 0#32
  · subst h; decide
  · have hb : (v == 0#32) = false := beq_eq_false_iff_ne.mpr h
    have e : k0_cond1 v = BitVec.ofBool (BitVec.setWidth 32 (BitVec.ofBool (v == 0#32)) != 0#32) := rfl
    rw [e, hb]
    simp [h]

theorem cond2_iff (v : BitVec 32) : k0_cond2 v = 1#1 ↔ v ≠ 0#32 := by
  by_cases h : v = 0#32
  · subst h; decide
  · have hb : (v == 0#32) = false := beq_eq_false_iff_ne.mpr h
    have e : k0_cond2 v = BitVec.ofBool (BitVec.setWidth 32 (BitVec.ofBool (!(v == 0#32))) != 0#32) := rfl
    rw [e, hb]
    simp [h]

theorem off_val (i : grid0.Coords) (a : Fin 1) : k0_off1 i a = (i 0).val := by
  have h : (i 0).val < 152 := (i 0).isLt
  match a with
  | 0 =>
    show (BitVec.ofNat 32 (i 0).val).toNat = (i 0).val
    rw [BitVec.toNat_ofNat]; omega

/-- The entry of a tile in a table. -/
def tileIx (n : ℕ) (h : n < 152) : S152.Idx := fun a => ⟨n, match a with | 0 => h⟩

/-- The mark the body reads is the table's entry for the point's tile. -/
theorem mark_eq (c : Dev nD) (i : grid0.Coords) (T1 : S152.Idx → BitVec 32) :
    mark (F := F) c i T1 = T1 (tileIx (i 0).val (i 0).isLt) := by
  refine congrArg T1 (funext fun a => Fin.ext ?_)
  show k0_off1 i a + 1 * 0 = (i 0).val
  rw [off_val]
  rfl

/-- The mark of point `t`'s tile. -/
abbrev markAt (c : Dev nD) (t : Fin grid0.N) : BitVec 32 := mark c (grid0.coords t) (tbl m 1)

theorem tileIx_congr (a b : ℕ) (ha : a < 152) (hb : b < 152) (h : a = b) : tileIx a ha = tileIx b hb := by subst h; rfl

theorem markAt_eq (c : Dev nD) (t t' : Fin grid0.N) (h : t.val / 2 = t'.val / 2) : markAt m c t = markAt m c t' :=
  (mark_eq c (grid0.coords t) (tbl m 1)).trans ((congrArg (tbl m 1) (tileIx_congr _ _ _ _ (by rw [coord_tile, coord_tile, h]))).trans
    (mark_eq c (grid0.coords t') (tbl m 1)).symm)

/-- The launch's reading of the mark is the body's. -/
theorem atD_mark (c : Dev nD) (i : grid0.Coords) : (tbl m).atD 1 (k0_off1 i) = mark c i (tbl m 1) := by
  have h : ∀ a, k0_off1 i a + 1 ≤ (pre0.ref 1).ty.shape.size a := fun a => (off_val i a).symm ▸ (match a with | 0 => (i 0).isLt)
  exact (dif_pos h).trans ((congrArg (tbl m 1) (funext fun a => Fin.ext ((off_val i a).trans rfl) : _ = tileIx (i 0).val (i 0).isLt)).trans (mark_eq c i (tbl m 1)).symm)

/-- The result's buffer is stored at a point whose tile is not valid, and at a valid tile's second half. -/
theorem idle_eq (hO : Ok m) (c : Dev nD) (t : Fin grid0.N) :
    (cfgM m hO).idle (4 : Fin 5) (grid0.coords t)
      = (!(k0_cond1 (markAt m c t) == 1#1) && !(k0_cond2 (markAt m c t) == 1#1 && k0_cond4 (grid0.coords t) == 1#1)) := by
  show (!(k0_cond1 ((tbl m).atD 1 (k0_off1 (grid0.coords t))) == 1#1) && !(k0_cond2 ((tbl m).atD 1 (k0_off1 (grid0.coords t))) == 1#1 && k0_cond4 (grid0.coords t) == 1#1)) = _
  rw [atD_mark m c]

/-- The result's block is written back after each tile's second point. -/
theorem flush_iff (hO : Ok m) (t : Fin (cfgM m hO).N) : ((cfgM m hO).win (4 : Fin 5)).flush t = true ↔ t.val % 2 = 1 :=
  (fun t => Pipeline.Window.flushOf_reads cc0_transform_4 reads0_4 hreads0_4 0 (by decide) (by decide)
      (Pipeline.Window.sep_of_coord cc0_transform_4 0 0 (fun _ => rfl) (by decide)) (P := 2) (m := 1) (by decide) rfl t
    : ∀ t : Fin grid0.N, Pipeline.Window.flushOf grid0 true cc0_transform_4 t = true ↔ t.val % 2 = 1) t

/-! ## What the buffers hold -/

/-- Window `w`'s block at point `t`, of the array as launched. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The accumulator after a valid tile's first point. -/
def firstSum (hO : Ok m) (c : Dev nD) (t : Fin (cfgM m hO).N) : Vec F S512x1024 .f32 :=
  k0_pay3 (iblk m hO c 0 t) (iblk m hO c 1 t) (iblk m hO c 2 t) (k0_pay2 (F := F)) (iblk m hO c 3 t)

/-- The point before `t`. -/
def before (hO : Ok m) (t : Fin (cfgM m hO).N) : Fin (cfgM m hO).N := ⟨t.val - 1, lt_of_le_of_lt (Nat.sub_le _ _) t.isLt⟩

/-- What the result's buffer holds after a point that stores it. -/
def outBlk (hO : Ok m) (c : Dev nD) (t : Fin (cfgM m hO).N) : Vec F S512x1024 .bf16 :=
  if k0_cond1 (markAt m c t) = 1#1 then k0_pay1
  else k0_pay4 (k0_pay3 (iblk m hO c 0 t) (iblk m hO c 1 t) (iblk m hO c 2 t) (firstSum m hO c (before m hO t)) (iblk m hO c 3 t))

/-- Before position `n` the accumulator holds `a`: known where the point before was a valid tile's first. -/
def Held (hO : Ok m) (c : Dev nD) (n : ℕ) (a : Vec F S512x1024 .f32) : Prop :=
  ∀ t : Fin (cfgM m hO).N, t.val + 1 = n → t.val % 2 = 0 → ¬k0_cond1 (markAt m c t) = 1#1 → a = firstSum m hO c t

/-- What is held before position `n`. -/
def Phi (hO : Ok m) (c : Dev nD) (n : ℕ) : sProp 𝕄 :=
  iprop(((∃ a, ⌜Held m hO c n a⌝ ∗ owns (c : Thread nD τ) accM fullShare a) ∗ (∃ r, prngReg c r)) ∗ Pipeline.ΦT pre0 (tbl m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlk m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after (0 : Fin 5) t = iblk m hO c 0 t := by dsimp only [dats]; try rfl
theorem after_1 (hO : Ok m) (c : Dev nD) (t : Fin (cfgM m hO).N) : (dats m hO 0 c).after (1 : Fin 5) t = iblk m hO c 1 t := by dsimp only [dats]; try rfl
theorem after_2 (hO : Ok m) (c : Dev nD) (t : Fin (cfgM m hO).N) : (dats m hO 0 c).after (2 : Fin 5) t = iblk m hO c 2 t := by dsimp only [dats]; try rfl
theorem after_3 (hO : Ok m) (c : Dev nD) (t : Fin (cfgM m hO).N) : (dats m hO 0 c).after (3 : Fin 5) t = iblk m hO c 3 t := by dsimp only [dats]; try rfl
theorem after_4 (hO : Ok m) (c : Dev nD) (t : Fin (cfgM m hO).N) : (dats m hO 0 c).after (4 : Fin 5) t = outBlk m hO c t := by dsimp only [dats]; try rfl

/-- The body finds each input's block in its buffer, fetched at this point or kept from an earlier one. -/
theorem before_0 (hO : Ok m) (c : Dev nD) (t : Fin (cfgM m hO).N) (d) : (dats m hO 0 c).before (0 : Fin 5) t d = iblk m hO c 0 t :=
  ((dats m hO 0 c).before_in_eq_fetched (0 : Fin 5) rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before (1 : Fin 5) t d = iblk m hO c 1 t :=
  ((dats m hO 0 c).before_in_eq_fetched (1 : Fin 5) rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before (2 : Fin 5) t d = iblk m hO c 2 t :=
  ((dats m hO 0 c).before_in_eq_fetched (2 : Fin 5) rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before (3 : Fin 5) t d = iblk m hO c 3 t :=
  ((dats m hO 0 c).before_in_eq_fetched (3 : Fin 5) rfl (fun _ => rfl) (fun _ _ _ => rfl) (fun t => by rw [after_3]; unfold Dat.blockOf iblk; rw [A_eq]; try rfl) t d).trans
    (by unfold Dat.fetched Dat.blockOf iblk; rw [A_eq]; try rfl)

/-! ## The body at a point -/

abbrev ms_0 (hO : Ok m) (t : Fin (cfgM m hO).N) : Memref sig .tc .vmem S512x1024 .bf16 := spec0_0.stage ((cfgM m hO).slots t (0 : Fin 5))
abbrev hs_0 (hO : Ok m) (t : Fin (cfgM m hO).N) : (ms_0 m hO t).IsWhole := hstage0_0 (((cfgM m hO).slots t (0 : Fin 5)).cast nbuf0_0)
abbrev ms_1 (hO : Ok m) (t : Fin (cfgM m hO).N) : Memref sig .tc .vmem S1x1024x1536 .bf16 := spec0_1.stage ((cfgM m hO).slots t (1 : Fin 5))
abbrev hs_1 (hO : Ok m) (t : Fin (cfgM m hO).N) : (ms_1 m hO t).IsWhole := hstage0_1 (((cfgM m hO).slots t (1 : Fin 5)).cast nbuf0_1)
abbrev ms_2 (hO : Ok m) (t : Fin (cfgM m hO).N) : Memref sig .tc .vmem S1x1024x1536 .bf16 := spec0_2.stage ((cfgM m hO).slots t (2 : Fin 5))
abbrev hs_2 (hO : Ok m) (t : Fin (cfgM m hO).N) : (ms_2 m hO t).IsWhole := hstage0_2 (((cfgM m hO).slots t (2 : Fin 5)).cast nbuf0_2)
abbrev ms_3 (hO : Ok m) (t : Fin (cfgM m hO).N) : Memref sig .tc .vmem S1x1536x1024 .bf16 := spec0_3.stage ((cfgM m hO).slots t (3 : Fin 5))
abbrev hs_3 (hO : Ok m) (t : Fin (cfgM m hO).N) : (ms_3 m hO t).IsWhole := hstage0_3 (((cfgM m hO).slots t (3 : Fin 5)).cast nbuf0_3)
abbrev ms_4 (hO : Ok m) (t : Fin (cfgM m hO).N) : Memref sig .tc .vmem S512x1024 .bf16 := spec0_4.stage ((cfgM m hO).slots t (4 : Fin 5))
abbrev hs_4 (hO : Ok m) (t : Fin (cfgM m hO).N) : (ms_4 m hO t).IsWhole := hstage0_4 (((cfgM m hO).slots t (4 : Fin 5)).cast nbuf0_4)

/-- The body at point `t`, on the buffers the pipeline hands it. -/
abbrev bodyAt (hO : Ok m) (t : Fin (cfgM m hO).N) : Prog (TpuEff nD τ sig (Elt F) Λ₀ .tc) PUnit :=
  body (grid0.coords t) (ms_0 m hO t) (hs_0 m hO t) (ms_1 m hO t) (hs_1 m hO t) (ms_2 m hO t) (hs_2 m hO t) (ms_3 m hO t) (hs_3 m hO t) (ms_4 m hO t) (hs_4 m hO t)

set_option maxHeartbeats 4000000 in
/-- From what is held before the point to what is held after it, in each of the three ways a point can go. -/
theorem sound_body (hO : Ok m) (c : Dev nD) (t : Fin (cfgM m hO).N) :
    iprop((dats m hO 0 c).Φ t.castSucc ∗ (dats m hO 0 c).owesAt () t.castSucc
        ∗ (∃ d, owns (c : Thread nD τ) (ms_0 m hO t) fullShare ((dats m hO 0 c).before (0 : Fin 5) t d))
        ∗ (∃ d, owns (c : Thread nD τ) (ms_1 m hO t) fullShare ((dats m hO 0 c).before (1 : Fin 5) t d))
        ∗ (∃ d, owns (c : Thread nD τ) (ms_2 m hO t) fullShare ((dats m hO 0 c).before (2 : Fin 5) t d))
        ∗ (∃ d, owns (c : Thread nD τ) (ms_3 m hO t) fullShare ((dats m hO 0 c).before (3 : Fin 5) t d))
        ∗ (∃ d, owns (c : Thread nD τ) (ms_4 m hO t) fullShare ((dats m hO 0 c).before (4 : Fin 5) t d)))
      ⊢ wp frame (wpE (defs₀ (F := F)) Variants.none c none) Set.univ (bodyAt m hO t) fun _ =>
          iprop((dats m hO 0 c).Φ t.succ ∗ (dats m hO 0 c).owesAt () t.succ
            ∗ bigSep Finset.univ fun w : Fin (cfgM m hO).W =>
                match (cfgM m hO).idle w ((cfgM m hO).grid.coords t) with
                | true =>
                  match ((cfgM m hO).win w).flush t with
                  | false => iprop(∃ d, owns (c : Thread nD τ) (((cfgM m hO).win w).stage ((cfgM m hO).slots t w)) fullShare ((dats m hO 0 c).before w t d))
                  | true => owns (c : Thread nD τ) (((cfgM m hO).win w).stage ((cfgM m hO).slots t w)) fullShare ((dats m hO 0 c).after w t)
                | false => owns (c : Thread nD τ) (((cfgM m hO).win w).stage ((cfgM m hO).slots t w)) fullShare ((dats m hO 0 c).after w t)) := by
  rw [bigSep_W0]
  rewrite [show (dats m hO 0 c).Φ t.succ = Phi m hO c (t.val + 1) from rfl, show (dats m hO 0 c).Φ t.castSucc = Phi m hO c t.val from rfl,
    show (dats m hO 0 c).owesAt () t.succ = (dats m hO 0 c).owesAt () t.castSucc from rfl]
  have hi := idle_eq m hO c t
  have c12 : k0_cond2 (markAt m c t) = 1#1 ↔ ¬k0_cond1 (markAt m c t) = 1#1 := by rw [cond1_iff, cond2_iff]
  by_cases h1 : k0_cond1 (markAt m c t) = 1#1
  · have h2 : ¬k0_cond2 (markAt m c t) = 1#1 := fun h => c12.mp h h1
    have i4 : (cfgM m hO).idle (4 : Fin 5) ((cfgM m hO).grid.coords t) = false := by rw [hi, h1]; rfl
    rewrite [i4]
    simp only [before_0, before_1, before_2, before_3, after_0, after_1, after_2, after_3, after_4]
    rw [show outBlk m hO c t = k0_pay1 from if_pos h1]
    unfold Phi
    rw [tables_eq]
    iintro ⟨⟨⟨⟨%a, %ha, HS⟩, Hg⟩, HT0, HT1⟩, Ho, ⟨%d0, H0⟩, ⟨%d1, H1⟩, ⟨%d2, H2⟩, ⟨%d3, H3⟩, ⟨%d4, H4⟩⟩
    iapply (run_zero c (grid0.coords t) (ms_0 m hO t) (hs_0 m hO t) (ms_1 m hO t) (hs_1 m hO t) (ms_2 m hO t) (hs_2 m hO t) (ms_3 m hO t) (hs_3 m hO t) (ms_4 m hO t) (hs_4 m hO t) (tbl m 0) (tbl m 1) (iblk m hO c 0 t) (iblk m hO c 1 t) (iblk m hO c 2 t) (iblk m hO c 3 t) h1 h2 a _)
    unfold given
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS]; · iexact HS
    iintro ⟨⟨H0, H1, H2, H3, HT0, HT1⟩, H4, HS⟩
    isplitl [HS Hg HT0 HT1]
    · isplitl [HS Hg]
      · isplitl [HS]
        · iexists a; isplitr; swap
          · iexact HS
          · ipureintro
            intro t' e _ h1'
            have : t' = t := Fin.ext (by omega)
            subst this; exact absurd h1 h1'
        iexact Hg
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4
  · have h2 : k0_cond2 (markAt m c t) = 1#1 := c12.mpr h1
    by_cases hp : t.val % 2 = 0
    · have h3 : firstHalf (grid0.coords t) := (firstHalf_iff t).mpr hp
      have h4 : ¬k0_cond4 (grid0.coords t) = 1#1 := fun h => by have := (cond4_iff t).mp h; omega
      have i4 : (cfgM m hO).idle (4 : Fin 5) ((cfgM m hO).grid.coords t) = true := by
        rw [hi, beq_eq_false_iff_ne.mpr h1, beq_eq_false_iff_ne.mpr h4, Bool.and_false]; rfl
      have f4 : ((cfgM m hO).win (4 : Fin 5)).flush t = false := by
        rw [Bool.eq_false_iff]; intro h; have := (flush_iff m hO t).mp h; omega
      rewrite [i4]
      simp only [before_0, before_1, before_2, before_3, after_0, after_1, after_2, after_3, f4]
      unfold Phi
      rw [tables_eq]
      iintro ⟨⟨⟨⟨%a, %ha, HS⟩, Hg⟩, HT0, HT1⟩, Ho, ⟨%d0, H0⟩, ⟨%d1, H1⟩, ⟨%d2, H2⟩, ⟨%d3, H3⟩, ⟨%d4, H4⟩⟩
      iapply (run_first c (grid0.coords t) (ms_0 m hO t) (hs_0 m hO t) (ms_1 m hO t) (hs_1 m hO t) (ms_2 m hO t) (hs_2 m hO t) (ms_3 m hO t) (hs_3 m hO t) (ms_4 m hO t) (hs_4 m hO t) (tbl m 0) (tbl m 1) (iblk m hO c 0 t) (iblk m hO c 1 t) (iblk m hO c 2 t) (iblk m hO c 3 t) h1 h2 h3 h4 _ _)
      unfold given
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS]; · iexists _; iexact HS
      iintro ⟨⟨H0, H1, H2, H3, HT0, HT1⟩, H4, HS⟩
      isplitl [HS Hg HT0 HT1]
      · isplitl [HS Hg]
        · isplitl [HS]
          · iexists _; isplitr; swap
            · iexact HS
            · ipureintro
              intro t' e _ _
              have : t' = t := Fin.ext (by omega)
              subst this; rfl
          iexact Hg
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · have h3 : ¬firstHalf (grid0.coords t) := fun h => hp ((firstHalf_iff t).mp h)
      have h4 : k0_cond4 (grid0.coords t) = 1#1 := (cond4_iff t).mpr (by omega)
      have i4 : (cfgM m hO).idle (4 : Fin 5) ((cfgM m hO).grid.coords t) = false := by
        rw [hi, h2, h4]; simp
      have hk : k0_cond1 (markAt m c (before m hO t)) = k0_cond1 (markAt m c t) := by
        rw [markAt_eq m c (before m hO t) t (by show (t.val - 1) / 2 = t.val / 2; omega)]
      rewrite [i4]
      simp only [before_0, before_1, before_2, before_3, after_0, after_1, after_2, after_3, after_4]
      rw [show outBlk m hO c t = _ from if_neg h1]
      unfold Phi
      rw [tables_eq]
      iintro ⟨⟨⟨⟨%a, %ha, HS⟩, Hg⟩, HT0, HT1⟩, Ho, ⟨%d0, H0⟩, ⟨%d1, H1⟩, ⟨%d2, H2⟩, ⟨%d3, H3⟩, ⟨%d4, H4⟩⟩
      obtain rfl := ha (before m hO t) (show t.val - 1 + 1 = t.val by omega) (show (t.val - 1) % 2 = 0 by omega) (by rw [hk]; exact h1)
      iapply (run_second c (grid0.coords t) (ms_0 m hO t) (hs_0 m hO t) (ms_1 m hO t) (hs_1 m hO t) (ms_2 m hO t) (hs_2 m hO t) (ms_3 m hO t) (hs_3 m hO t) (ms_4 m hO t) (hs_4 m hO t) (tbl m 0) (tbl m 1) (iblk m hO c 0 t) (iblk m hO c 1 t) (iblk m hO c 2 t) (iblk m hO c 3 t) h1 h2 h3 h4 _ _)
      unfold given
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS]; · iexact HS
      iintro ⟨⟨H0, H1, H2, H3, HT0, HT1⟩, H4, ⟨%a', HS⟩⟩
      isplitl [HS Hg HT0 HT1]
      · isplitl [HS Hg]
        · isplitl [HS]
          · iexists a'; isplitr; swap
            · iexact HS
            · ipureintro
              intro t' e hp' _
              have : t' = t := Fin.ext (by omega)
              subst this; exact absurd hp' hp
          iexact Hg
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, body_row m hO]
  exact sound_body m hO c t

/-! ## The whole run -/

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, scratch_eq]
  unfold Phi
  iintro ⟨⟨⟨%a, HS⟩, Hg⟩, HT⟩
  isplitl [HS Hg]
  · isplitl [HS]
    · iexists a; isplitr; swap
      · iexact HS
      · ipureintro; intro t e; exact absurd e (Nat.succ_ne_zero _)
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N from rfl, scratch_eq]
  unfold Phi
  iintro ⟨⟨⟨%a, -, HS⟩, Hg⟩, -⟩
  isplitl [HS]
  · iexists a; iexact HS
  iexact Hg

set_option backward.isDefEq.respectTransparency.types false in
/-- The program runs to its end; every array then holds what its write-backs made of it, and every semaphore is at zero. -/
theorem run (hO : Ok m) : θ_run defs (onTc (τ := τ) (main (F := F))) (s₀ m ρ) (fun r =>
    (Pipeline.FramePost (Pipeline.pin pcfgs fun _ => adm m hO) (dats m hO) (0 : Fin 1) (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.KernelIdeal.Moe

end
-- ==== Proof.Moe.Tables.lean ====
/- The two tables: the precondition says that every tile's expert is one of the eight and that its mark is zero or one; so
   every block a table chooses lies inside its array, and where it lies. -/
module

public import proofs.«01_k».proof.Proof.Moe.Frame
public import proofs.«01_k».proof.Proof.Gen.Pre_tables_in_range
public import Idealize.ShloMosaic.Lib.Affine
public import Idealize.ShloMosaic.Lib.ReduceAll

@[expose] public section

set_option maxRecDepth 16384

noncomputable section

namespace Cert.KernelIdeal.Moe

open Cert.KernelIdeal Cert.KernelIdeal.Gen
open Idealize.ShloMosaic Idealize.ShloMosaic.TcCoe

variable {F : FTy → Type} [FloatOps F]

/-- Every tile's expert is one of the eight, and its mark is zero or one. -/
def InRange (T0 T1 : S152.Idx → BitVec 32) : Prop := ∀ n, (T0 n).toNat < 8 ∧ (T1 n = 0#32 ∨ T1 n = 1#32)

/-- The precondition, read. -/
theorem inRange_of_pre (T0 T1 : S152.Idx → BitVec 32) (x2 : FVec F S77824x1024 .bf16) (x3 x4 : FVec F S8x1024x3072 .bf16)
    (x5 : FVec F S8x3072x1024 .bf16) (h : Cert.Pre_tables_in_range.fn (F := F) T0 T1 x2 x3 x4 x5 = fun _ => 1#1) : InRange T0 T1 := by
  intro n
  have h0 := congrFun h (fun a => absurd a.isLt (Nat.not_lt_zero _))
  dsimp only [Cert.Pre_tables_in_range.fn] at h0
  have h1 := @Host.reduce_andi_all _ _ _ _ ⟨fun a b => funext fun k => absurd k.isLt (Nat.not_lt_zero _)⟩ _ _ _ _ _ h0 n
  have split : ∀ a b : BitVec 1, a &&& b = 1#1 → a = 1#1 ∧ b = 1#1 := by decide
  obtain ⟨h123, h4⟩ := split _ _ h1
  obtain ⟨h12, h3⟩ := split _ _ h123
  obtain ⟨h1, h2⟩ := split _ _ h12
  have e1 := IntOp.cmpi_sge.1 h1
  have e2 := IntOp.cmpi_slt.1 h2
  have e3 := IntOp.cmpi_sge.1 h3
  have e4 := IntOp.cmpi_sle.1 h4
  change (0#32).toInt ≤ (T0 n).toInt at e1
  change (T0 n).toInt < (8#32).toInt at e2
  change (0#32).toInt ≤ (T1 n).toInt at e3
  change (T1 n).toInt ≤ (1#32).toInt at e4
  rw [show (0#32).toInt = 0 from by decide] at e1 e3
  rw [show (8#32).toInt = 8 from by decide] at e2
  rw [show (1#32).toInt = 1 from by decide] at e4
  have small : ∀ x : BitVec 32, 0 ≤ x.toInt → (x.toNat : ℤ) = x.toInt := fun x hx => by
    have q := BitVec.toInt_eq_toNat_cond x
    have hl := x.isLt
    split at q <;> omega
  refine ⟨?_, ?_⟩
  · have := small _ e1; omega
  · have := small _ e3
    have hn : (T1 n).toNat = 0 ∨ (T1 n).toNat = 1 := by omega
    exact hn.imp (fun h => BitVec.eq_of_toNat_eq h) (fun h => BitVec.eq_of_toNat_eq h)

/-! ## Where the blocks lie -/

variable (pf : pre0.Contents (Elt F))

/-- The tile's expert and mark in the tables. -/
abbrev expOf (i : grid0.Coords) : BitVec 32 := pf 0 (tileIx (i 0).val (i 0).isLt)
abbrev markOf (i : grid0.Coords) : BitVec 32 := pf 1 (tileIx (i 0).val (i 0).isLt)

theorem at_exp (i : grid0.Coords) : pf.at 0 (Rect.unit (s := S152) (k0_off1 i) S1.size (k0_off1_inb i)) numel1_S1 = expOf pf i :=
  congrArg (pf 0) (funext fun a => Fin.ext (off_val i a))
theorem at_mark (i : grid0.Coords) : pf.at 1 (Rect.unit (s := S152) (k0_off1 i) S1.size (k0_off1_inb i)) numel1_S1 = markOf pf i :=
  congrArg (pf 1) (funext fun a => Fin.ext (off_val i a))

/-- The half of the hidden features fetched at a point: the point's own at a valid tile, the second at another. -/
def halfOf (i : grid0.Coords) : ℕ := if markOf pf i = 0#32 then 1 else (i 1).val

theorem halfOf_lt (i : grid0.Coords) : halfOf pf i < 2 := by
  have : (i 1).val < 2 := (i 1).isLt
  unfold halfOf; split <;> omega

/-- The word the index map computes for that half. -/
theorem half_word (i : grid0.Coords) (h : markOf pf i = 0#32 ∨ markOf pf i = 1#32) :
    (Scalar.addi (Scalar.muli (BitVec.ofNat 32 (i 1).val) (markOf pf i)) (Scalar.muli (1#32) (Scalar.subi (1#32) (markOf pf i)))).toNat = halfOf pf i := by
  have hi : (i 1).val < 2 := (i 1).isLt
  have hc : (i 1).val = 0 ∨ (i 1).val = 1 := by omega
  unfold halfOf
  rcases h with h | h <;> rcases hc with hc | hc <;> rw [h, hc] <;> decide

theorem ix_1 (i : grid0.Coords) (h : markOf pf i = 0#32 ∨ markOf pf i = 1#32) :
    cc0_transform_1 k0_off1_inb numel1_S1 pf i = ![(expOf pf i).toNat, 0, halfOf pf i] := by
  rw [← half_word pf i h, ← at_exp, ← at_mark]; rfl
theorem ix_2 (i : grid0.Coords) (h : markOf pf i = 0#32 ∨ markOf pf i = 1#32) :
    cc0_transform_2 k0_off1_inb numel1_S1 pf i = ![(expOf pf i).toNat, 0, halfOf pf i] := by
  rw [← half_word pf i h, ← at_exp, ← at_mark]; rfl
theorem ix_3 (i : grid0.Coords) (h : markOf pf i = 0#32 ∨ markOf pf i = 1#32) :
    cc0_transform_3 k0_off1_inb numel1_S1 pf i = ![(expOf pf i).toNat, halfOf pf i, 0] := by
  rw [← half_word pf i h, ← at_exp, ← at_mark]; rfl

theorem ok_of_inRange (hr : InRange (pf 0) (pf 1)) : ok0 (F := F) pf := by
  have hb : ∀ i : grid0.Coords, (expOf pf i).toNat < 8 := fun i => (hr _).1
  refine ⟨fun i => ⟨?_, .inr (Affine.block_words_dvd (s := S8x1024x3072) (p := EltTy.packing .bf16) (by decide) (by decide))⟩,
    fun i => ⟨?_, .inr (Affine.block_words_dvd (s := S8x1024x3072) (p := EltTy.packing .bf16) (by decide) (by decide))⟩,
    fun i => ⟨?_, .inr (Affine.block_words_dvd (s := S8x3072x1024) (p := EltTy.packing .bf16) (by decide) (by decide))⟩⟩
  · rw [ix_1 pf i (hr _).2]
    have := hb i; have := halfOf_lt pf i
    intro a
    match a with
    | 0 => show ((expOf pf i).toNat + 1) * 1 ≤ 8; omega
    | 1 => show (0 + 1) * 1024 ≤ 1024; omega
    | 2 => show (halfOf pf i + 1) * 1536 ≤ 3072; omega
  · rw [ix_2 pf i (hr _).2]
    have := hb i; have := halfOf_lt pf i
    intro a
    match a with
    | 0 => show ((expOf pf i).toNat + 1) * 1 ≤ 8; omega
    | 1 => show (0 + 1) * 1024 ≤ 1024; omega
    | 2 => show (halfOf pf i + 1) * 1536 ≤ 3072; omega
  · rw [ix_3 pf i (hr _).2]
    have := hb i; have := halfOf_lt pf i
    intro a
    match a with
    | 0 => show ((expOf pf i).toNat + 1) * 1 ≤ 8; omega
    | 1 => show (halfOf pf i + 1) * 1536 ≤ 3072; omega
    | 2 => show (0 + 1) * 1024 ≤ 1024; omega

end Cert.KernelIdeal.Moe

end
-- ==== Proof.Moe.Ends.lean ====
/- How the run ends: every argument as it was, and every semaphore at zero, where the tables are in range. -/
module

public import proofs.«01_k».proof.Proof.Moe.Tables

@[expose] public section

noncomputable section

namespace Cert.KernelIdeal.Moe

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- Every argument of device `c` is what it was. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem kept (hO : Ok m) (r : PUnit × MemSt nD τ sig (Elt F))
    (h : Pipeline.FramePost (Pipeline.pin pcfgs fun _ => adm m hO) (dats m hO) (0 : Fin 1) (V m) r) (c : Dev nD) : Kept m r c :=
  ⟨(h c).2 main_arg0 (by decide : main_arg0 ∈ Pipeline.restRefs sig spec0), (h c).2 main_arg1 (by decide : main_arg1 ∈ Pipeline.restRefs sig spec0),
    ((h c).1 (0 : Fin 5)).trans (((dats m hO 0 c).arrAt_in (0 : Fin 5) rfl _).trans (A_eq m hO c 0)),
    ((h c).1 (1 : Fin 5)).trans (((dats m hO 0 c).arrAt_in (1 : Fin 5) rfl _).trans (A_eq m hO c 1)),
    ((h c).1 (2 : Fin 5)).trans (((dats m hO 0 c).arrAt_in (2 : Fin 5) rfl _).trans (A_eq m hO c 2)),
    ((h c).1 (3 : Fin 5)).trans (((dats m hO 0 c).arrAt_in (3 : Fin 5) rfl _).trans (A_eq m hO c 3))⟩

/-- Tables in range name blocks of the arrays. -/
theorem ok_of_tables (hr : InRange (tbl m 0) (tbl m 1)) : Ok m := ok_of_inRange (tbl m) hr

theorem frame (hO : Ok m) : θ_run defs (onTc (τ := τ) (main (F := F))) ⟨m, fun _ => 0, ρ⟩ (fun r => (∀ c : Dev nD, Kept m r c) ∧ r.2.sem = fun _ => 0) :=
  (θ_run defs _ _).mono (fun r h => ⟨kept m hO r h.1, h.2⟩) (run m ρ hO)

end Cert.KernelIdeal.Moe

end
-- ==== Proof.Moe.Payload.lean ====
/- What one point of the kernel computes, entry by entry, with the floats read as extended reals: the hidden features of a
   row at one expert, and what a half of them adds to the accumulator. -/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.KernelIdeal.Moe

open Cert.KernelIdeal Cert.KernelIdeal.Gen
open Idealize.ShloMosaic Idealize.ShloMosaic.TcCoe

/-- `g · σ(g) · u`: a hidden feature from its gate and its up projection. -/
def gated (g u : EReal) : EReal := g * Ideal.logistic g * u

/-- The zeros a tile that is not valid stores. -/
theorem pay1_apply (r : Fin 512) (q : Fin 1024) : k0_pay1 (F := Ideal) (ix2 r q) = (0 : EReal) := by
  pointwise [k0_pay1]

/-- The zero accumulator. -/
theorem pay2_apply (r : Fin 512) (q : Fin 1024) : k0_pay2 (F := Ideal) (ix2 r q) = (0 : EReal) := by
  pointwise [k0_pay2]

/-- The rounded sum is the sum. -/
theorem pay4_apply (a : Vec Ideal S512x1024 .f32) (r : Fin 512) (q : Fin 1024) : k0_pay4 a (ix2 r q) = a (ix2 r q) := by
  pointwise [k0_pay4]

/-- A half of the hidden features adds the down projection of its gated features. -/
theorem pay3_apply (x : Vec Ideal S512x1024 .bf16) (wg wu : Vec Ideal S1x1024x1536 .bf16) (a : Vec Ideal S512x1024 .f32)
    (wd : Vec Ideal S1x1536x1024 .bf16) (r : Fin 512) (q : Fin 1024) :
    k0_pay3 x wg wu a wd (ix2 r q)
      = (a (ix2 r q) + ∑ k : Fin 1536, gated (∑ d : Fin 1024, x (ix2 r d) * wg (ix3 0 d k)) (∑ d : Fin 1024, x (ix2 r d) * wu (ix3 0 d k)) * wd (ix3 0 k q) : EReal) := by
  pointwise [k0_pay3]
  rfl

/-- The same over the entries' values. -/
theorem pay3_of {x : Vec Ideal S512x1024 .bf16} {wg wu : Vec Ideal S1x1024x1536 .bf16} {a : Vec Ideal S512x1024 .f32}
    {wd : Vec Ideal S1x1536x1024 .bf16} {r : Fin 512} {q : Fin 1024} (xr : Fin 1024 → EReal) (gr ur : Fin 1024 → Fin 1536 → EReal)
    (dr : Fin 1536 → EReal) (A : EReal) (hx : ∀ d, x (ix2 r d) = xr d) (hg : ∀ d k, wg (ix3 0 d k) = gr d k)
    (hu : ∀ d k, wu (ix3 0 d k) = ur d k) (hd : ∀ k, wd (ix3 0 k q) = dr k) (ha : a (ix2 r q) = A) :
    k0_pay3 x wg wu a wd (ix2 r q) = (A + ∑ k : Fin 1536, gated (∑ d : Fin 1024, xr d * gr d k) (∑ d : Fin 1024, xr d * ur d k) * dr k : EReal) := by
  rw [pay3_apply]
  simp only [hx, hg, hu, hd, ha]

end Cert.KernelIdeal.Moe

end
-- ==== Proof.Moe.Result.lean ====
/- What the result array holds after the run, entry by entry, with the floats read as extended reals: nothing but zeros in a
   tile that is not valid, and in a valid one the feed-forward of each row at the tile's expert. -/
module

public import proofs.«01_k».proof.Proof.Moe.Tables
public import proofs.«01_k».proof.Proof.Moe.Payload
public import Idealize.ShloMosaic.Lib.Pipeline.Value

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

/-! ## The feed-forward of one row at one expert -/

/-- Entry `q` of row `r`'s feed-forward at expert `e`: the down projection of its gated hidden features. -/
def expertRow (x : S77824x1024.Idx → EReal) (wg wu : S8x1024x3072.Idx → EReal) (wd : S8x3072x1024.Idx → EReal)
    (e : Fin 8) (r : Fin 77824) (q : Fin 1024) : EReal :=
  ∑ k : Fin 3072, gated (∑ d : Fin 1024, x (ix2 r d) * wg (ix3 e d k)) (∑ d : Fin 1024, x (ix2 r d) * wu (ix3 e d k)) * wd (ix3 e k q)

/-- The tile of a row. -/
def rowTile (r : Fin 77824) : S152.Idx := tileIx (r.val / 512) (by have := r.isLt; omega)

/-- The expert a table gives a tile. -/
def expertOf (T0 : S152.Idx → BitVec 32) (n : S152.Idx) : Fin 8 := ⟨(T0 n).toNat % 8, Nat.mod_lt _ (by decide)⟩

/-- The result: zero in a tile that is not valid, else the row's feed-forward at the tile's expert. -/
def moeOut (T0 T1 : S152.Idx → BitVec 32) (x : S77824x1024.Idx → EReal) (wg wu : S8x1024x3072.Idx → EReal)
    (wd : S8x3072x1024.Idx → EReal) (i : S77824x1024.Idx) : EReal :=
  if T1 (rowTile (i 0)) = 0#32 then 0 else expertRow x wg wu wd (expertOf T0 (rowTile (i 0))) (i 0) (i 1)

/-! ## The blocks -/

variable (m : (ℓ : Loc nD τ sig) → Buf (Elt Ideal) ℓ) (ρ : Dev nD → PrngReg) (hO : Ok m)

/-- The tables: each tile's expert, and its mark. -/
def tabE : S152.Idx → BitVec 32 := tbl m 0
def tabM : S152.Idx → BitVec 32 := tbl m 1

abbrev xArr (c : Dev nD) : S77824x1024.Idx → EReal := m ((c : Thread nD τ).loc main_arg2)
abbrev wgArr (c : Dev nD) : S8x1024x3072.Idx → EReal := m ((c : Thread nD τ).loc main_arg3)
abbrev wuArr (c : Dev nD) : S8x1024x3072.Idx → EReal := m ((c : Thread nD τ).loc main_arg4)
abbrev wdArr (c : Dev nD) : S8x3072x1024.Idx → EReal := m ((c : Thread nD τ).loc main_arg5)

theorem point_lt (t : Fin (cfgM m hO).N) : t.val < 304 := Nat.lt_of_lt_of_eq t.isLt N_0

/-- Row `r` of point `t`'s tile. -/
def rowAt (t : Fin (cfgM m hO).N) (r : Fin 512) : Fin 77824 := ⟨t.val / 2 * 512 + r.val, by have := point_lt m hO t; have := r.isLt; omega⟩

/-- Hidden feature `k` of point `t`'s half. -/
def hidAt (t : Fin (cfgM m hO).N) (k : Fin 1536) : Fin 3072 := ⟨t.val % 2 * 1536 + k.val, by have := k.isLt; omega⟩

/-- Point `t`'s tile. -/
def tileAt (t : Fin (cfgM m hO).N) : S152.Idx := tileIx (t.val / 2) (by have := point_lt m hO t; omega)

theorem tile_coord (t : Fin (cfgM m hO).N) : tileIx (grid0.coords t 0).val (grid0.coords t 0).isLt = tileAt m hO t :=
  tileIx_congr _ _ _ _ (coord_tile t)

theorem rowTile_rowAt (t : Fin (cfgM m hO).N) (r : Fin 512) : rowTile (rowAt m hO t r) = tileAt m hO t :=
  tileIx_congr _ _ _ _ (by show (t.val / 2 * 512 + r.val) / 512 = t.val / 2; have := r.isLt; omega)

theorem half_valid (t : Fin (cfgM m hO).N) (hv : tabM m (tileAt m hO t) ≠ 0#32) : halfOf (tbl m) (grid0.coords t) = t.val % 2 := by
  have e : halfOf (tbl m) (grid0.coords t) = if tabM m (tileIx (grid0.coords t 0).val (grid0.coords t 0).isLt) = 0#32 then 1 else (grid0.coords t 1).val := rfl
  rw [e, tile_coord m hO t, if_neg hv, coord_half]

/-- The blocks of point `t`, at their shapes. -/
def bx (c : Dev nD) (t : Fin (cfgM m hO).N) : Vec Ideal S512x1024 .bf16 := iblk m hO c 0 t
def bg (c : Dev nD) (t : Fin (cfgM m hO).N) : Vec Ideal S1x1024x1536 .bf16 := iblk m hO c 1 t
def bu (c : Dev nD) (t : Fin (cfgM m hO).N) : Vec Ideal S1x1024x1536 .bf16 := iblk m hO c 2 t
def bd (c : Dev nD) (t : Fin (cfgM m hO).N) : Vec Ideal S1x1536x1024 .bf16 := iblk m hO c 3 t

theorem blk_0 (c : Dev nD) (t : Fin (cfgM m hO).N) (r : Fin 512) (d : Fin 1024) :
    bx m hO c t (ix2 r d) = xArr m c (ix2 (rowAt m hO t r) d) := by
  have ht := coord_tile t
  refine (View.read_apply (v := (((cfgM m hO).win (0 : Fin 5)).blk t).view) (Val := Elt Ideal) (V m c (Pipeline.arrRef spec0 (0 : Fin 5))) _).trans ?_
  show m ((c : Thread nD τ).loc main_arg2) _ = m ((c : Thread nD τ).loc main_arg2) _
  congr 1
  funext a
  apply Fin.ext
  match a with
  | ⟨0, _⟩ =>
    show (BitVec.ofNat 32 (grid0.coords t 0).val).toNat * 512 + 1 * r.val = t.val / 2 * 512 + r.val
    have := point_lt m hO t
    rw [ht, BitVec.toNat_ofNat, Nat.mod_eq_of_lt (by omega)]; omega
  | ⟨1, _⟩ => show 0 * 1024 + 1 * d.val = d.val; omega

variable (hr : InRange (tabE m) (tabM m))
include hr

theorem expert_val (t : Fin (cfgM m hO).N) : (expertOf (tabE m) (tileAt m hO t)).val = (expOf (tbl m) (grid0.coords t)).toNat := by
  have e : expOf (tbl m) (grid0.coords t) = tabE m (tileIx (grid0.coords t 0).val (grid0.coords t 0).isLt) := rfl
  rw [e, tile_coord m hO t]
  exact Nat.mod_eq_of_lt (hr _).1

theorem blk_1 (c : Dev nD) (t : Fin (cfgM m hO).N) (hv : tabM m (tileAt m hO t) ≠ 0#32) (d : Fin 1024) (k : Fin 1536) :
    bg m hO c t (ix3 0 d k) = wgArr m c (ix3 (expertOf (tabE m) (tileAt m hO t)) d (hidAt m hO t k)) := by
  have hi := ix_1 (tbl m) (grid0.coords t) (hr _).2
  rw [half_valid m hO t hv] at hi
  have he := expert_val m hO hr t
  refine (View.read_apply (v := (((cfgM m hO).win (1 : Fin 5)).blk t).view) (Val := Elt Ideal) (V m c (Pipeline.arrRef spec0 (1 : Fin 5))) _).trans ?_
  show m ((c : Thread nD τ).loc main_arg3) _ = m ((c : Thread nD τ).loc main_arg3) _
  congr 1
  funext a
  apply Fin.ext
  match a with
  | ⟨0, _⟩ =>
    show cc0_transform_1 k0_off1_inb numel1_S1 (tbl m) (grid0.coords t) 0 * 1 + 1 * 0 = (expertOf (tabE m) (tileAt m hO t)).val
    rw [hi, he]; show _ * 1 + 1 * 0 = _; rw [Nat.mul_one]; rfl
  | ⟨1, _⟩ =>
    show cc0_transform_1 k0_off1_inb numel1_S1 (tbl m) (grid0.coords t) 1 * 1024 + 1 * d.val = d.val
    rw [hi]; show 0 * 1024 + 1 * d.val = d.val; omega
  | ⟨2, _⟩ =>
    show cc0_transform_1 k0_off1_inb numel1_S1 (tbl m) (grid0.coords t) 2 * 1536 + 1 * k.val = t.val % 2 * 1536 + k.val
    rw [hi]; show t.val % 2 * 1536 + 1 * k.val = t.val % 2 * 1536 + k.val; omega

theorem blk_2 (c : Dev nD) (t : Fin (cfgM m hO).N) (hv : tabM m (tileAt m hO t) ≠ 0#32) (d : Fin 1024) (k : Fin 1536) :
    bu m hO c t (ix3 0 d k) = wuArr m c (ix3 (expertOf (tabE m) (tileAt m hO t)) d (hidAt m hO t k)) := by
  have hi := ix_2 (tbl m) (grid0.coords t) (hr _).2
  rw [half_valid m hO t hv] at hi
  have he := expert_val m hO hr t
  refine (View.read_apply (v := (((cfgM m hO).win (2 : Fin 5)).blk t).view) (Val := Elt Ideal) (V m c (Pipeline.arrRef spec0 (2 : Fin 5))) _).trans ?_
  show m ((c : Thread nD τ).loc main_arg4) _ = m ((c : Thread nD τ).loc main_arg4) _
  congr 1
  funext a
  apply Fin.ext
  match a with
  | ⟨0, _⟩ =>
    show cc0_transform_2 k0_off1_inb numel1_S1 (tbl m) (grid0.coords t) 0 * 1 + 1 * 0 = (expertOf (tabE m) (tileAt m hO t)).val
    rw [hi, he]; show _ * 1 + 1 * 0 = _; rw [Nat.mul_one]; rfl
  | ⟨1, _⟩ =>
    show cc0_transform_2 k0_off1_inb numel1_S1 (tbl m) (grid0.coords t) 1 * 1024 + 1 * d.val = d.val
    rw [hi]; show 0 * 1024 + 1 * d.val = d.val; omega
  | ⟨2, _⟩ =>
    show cc0_transform_2 k0_off1_inb numel1_S1 (tbl m) (grid0.coords t) 2 * 1536 + 1 * k.val = t.val % 2 * 1536 + k.val
    rw [hi]; show t.val % 2 * 1536 + 1 * k.val = t.val % 2 * 1536 + k.val; omega

theorem blk_3 (c : Dev nD) (t : Fin (cfgM m hO).N) (hv : tabM m (tileAt m hO t) ≠ 0#32) (k : Fin 1536) (q : Fin 1024) :
    bd m hO c t (ix3 0 k q) = wdArr m c (ix3 (expertOf (tabE m) (tileAt m hO t)) (hidAt m hO t k) q) := by
  have hi := ix_3 (tbl m) (grid0.coords t) (hr _).2
  rw [half_valid m hO t hv] at hi
  have he := expert_val m hO hr t
  refine (View.read_apply (v := (((cfgM m hO).win (3 : Fin 5)).blk t).view) (Val := Elt Ideal) (V m c (Pipeline.arrRef spec0 (3 : Fin 5))) _).trans ?_
  show m ((c : Thread nD τ).loc main_arg5) _ = m ((c : Thread nD τ).loc main_arg5) _
  congr 1
  funext a
  apply Fin.ext
  match a with
  | ⟨0, _⟩ =>
    show cc0_transform_3 k0_off1_inb numel1_S1 (tbl m) (grid0.coords t) 0 * 1 + 1 * 0 = (expertOf (tabE m) (tileAt m hO t)).val
    rw [hi, he]; show _ * 1 + 1 * 0 = _; rw [Nat.mul_one]; rfl
  | ⟨1, _⟩ =>
    show cc0_transform_3 k0_off1_inb numel1_S1 (tbl m) (grid0.coords t) 1 * 1536 + 1 * k.val = t.val % 2 * 1536 + k.val
    rw [hi]; show t.val % 2 * 1536 + 1 * k.val = t.val % 2 * 1536 + k.val; omega
  | ⟨2, _⟩ =>
    show cc0_transform_3 k0_off1_inb numel1_S1 (tbl m) (grid0.coords t) 2 * 1024 + 1 * q.val = q.val
    rw [hi]; show 0 * 1024 + 1 * q.val = q.val; omega

/-! ## The result's blocks -/

/-- What hidden feature `k` adds to entry `q` of row `r`, at expert `e`. -/
def term (c : Dev nD) (e : Fin 8) (r : Fin 77824) (q : Fin 1024) (k : Fin 3072) : EReal :=
  gated (∑ d : Fin 1024, xArr m c (ix2 r d) * wgArr m c (ix3 e d k)) (∑ d : Fin 1024, xArr m c (ix2 r d) * wuArr m c (ix3 e d k)) * wdArr m c (ix3 e k q)

/-- What a half adds to a row at a valid tile, over the arrays. -/
theorem half_apply (c : Dev nD) (t : Fin (cfgM m hO).N) (hv : tabM m (tileAt m hO t) ≠ 0#32) (a : Vec Ideal S512x1024 .f32) (r : Fin 512) (q : Fin 1024)
    (A : EReal) (ha : a (ix2 r q) = A) :
    k0_pay3 (bx m hO c t) (bg m hO c t) (bu m hO c t) a (bd m hO c t) (ix2 r q)
      = (A + ∑ k : Fin 1536, term m c (expertOf (tabE m) (tileAt m hO t)) (rowAt m hO t r) q (hidAt m hO t k) : EReal) :=
  pay3_of _ _ _ _ A (fun d => blk_0 m hO c t r d) (fun d k => blk_1 m hO hr c t hv d k) (fun d k => blk_2 m hO hr c t hv d k)
    (fun k => blk_3 m hO hr c t hv k q) ha

/-- The block written back after a tile's second point is the result's. -/
theorem out_apply (c : Dev nD) (t : Fin (cfgM m hO).N) (ht : t.val % 2 = 1) (r : Fin 512) (q : Fin 1024) :
    outBlk m hO c t (ix2 r q)
      = moeOut (tabE m) (tabM m) (xArr m c) (wgArr m c) (wuArr m c) (wdArr m c) (ix2 (rowAt m hO t r) q) := by
  have hm : markAt m c t = tabM m (tileAt m hO t) := (mark_eq c (grid0.coords t) (tabM m)).trans (congrArg (tabM m) (tile_coord m hO t))
  have hrow : rowTile (rowAt m hO t r) = tileAt m hO t := rowTile_rowAt m hO t r
  have hk : k0_cond1 (markAt m c t) = 1#1 ↔ tabM m (tileAt m hO t) = 0#32 := by rw [cond1_iff, hm]
  have hR : moeOut (tabE m) (tabM m) (xArr m c) (wgArr m c) (wuArr m c) (wdArr m c) (ix2 (rowAt m hO t r) q)
      = if tabM m (tileAt m hO t) = 0#32 then 0
        else expertRow (xArr m c) (wgArr m c) (wuArr m c) (wdArr m c) (expertOf (tabE m) (tileAt m hO t)) (rowAt m hO t r) q := by
    rw [← hrow]; rfl
  rw [hR]
  by_cases hz : tabM m (tileAt m hO t) = 0#32
  · rw [if_pos hz, show outBlk m hO c t = k0_pay1 (F := Ideal) from if_pos (hk.mpr hz)]
    exact pay1_apply r q
  · rw [if_neg hz, show outBlk m hO c t = k0_pay4 (k0_pay3 (bx m hO c t) (bg m hO c t) (bu m hO c t)
        (k0_pay3 (bx m hO c (before m hO t)) (bg m hO c (before m hO t)) (bu m hO c (before m hO t)) (k0_pay2 (F := Ideal)) (bd m hO c (before m hO t)))
        (bd m hO c t)) from if_neg fun h => hz (hk.mp h)]
    have hb : tileAt m hO (before m hO t) = tileAt m hO t :=
      tileIx_congr _ _ _ _ (by show (t.val - 1) / 2 = t.val / 2; omega)
    have hrb : rowAt m hO (before m hO t) r = rowAt m hO t r :=
      Fin.ext (by show (t.val - 1) / 2 * 512 + r.val = t.val / 2 * 512 + r.val; omega)
    have hzb : tabM m (tileAt m hO (before m hO t)) ≠ 0#32 := by rw [hb]; exact hz
    rw [pay4_apply]
    have h1 := half_apply m hO hr c (before m hO t) hzb (k0_pay2 (F := Ideal)) r q 0 (pay2_apply r q)
    rw [hb, hrb, zero_add] at h1
    refine (half_apply m hO hr c t hz _ r q _ h1).trans (Eq.symm ((Fin.sum_univ_two_halves 1536 1536 rfl
      (term m c (expertOf (tabE m) (tileAt m hO t)) (rowAt m hO t r) q)).trans ?_))
    have e0 : ∀ k : Fin 1536, (⟨k.val, by have := k.isLt; omega⟩ : Fin 3072) = hidAt m hO (before m hO t) k := fun k =>
      Fin.ext (by show k.val = (t.val - 1) % 2 * 1536 + k.val
                  have : (t.val - 1) % 2 = 0 := by omega
                  rw [this]; omega)
    have e1 : ∀ k : Fin 1536, (⟨1536 + k.val, by have := k.isLt; omega⟩ : Fin 3072) = hidAt m hO t k := fun k =>
      Fin.ext (by show 1536 + k.val = t.val % 2 * 1536 + k.val; rw [ht])
    simp only [e0, e1]

/-- So the array ends holding the result. -/
theorem final (c : Dev nD) :
    (dats m hO 0 c).arrAt (4 : Fin 5) (cfgM m hO).N
      = moeOut (tabE m) (tabM m) (xArr m c) (wgArr m c) (wuArr m c) (wdArr m c) := by
  refine (dats m hO 0 c).arrAt_eq_of_cover (4 : Fin 5) _ (fun t hf => ?_) (fun i => ?_)
  · have ht := (flush_iff m hO t).mp hf
    have hc := coord_tile t
    have hlt := point_lt m hO t
    show ((cfgM m hO).win (4 : Fin 5)).cut (grid0.coords t) ((dats m hO 0 c).after (4 : Fin 5) t) = _
    rw [after_4]
    refine funext fun (y : S512x1024.Idx) => ?_
    refine Eq.trans ?_ (View.read_apply (v := (((cfgM m hO).win (4 : Fin 5)).blk t).view) (Val := Elt Ideal)
      (moeOut (tabE m) (tabM m) (xArr m c) (wgArr m c) (wuArr m c) (wdArr m c)) y).symm
    refine Eq.trans (?_ : _ = outBlk m hO c t (ix2 (y 0) (y 1))) ((out_apply m hO hr c t ht (y 0) (y 1)).trans ?_)
    · show outBlk m hO c t _ = _
      congr 1
      funext a
      match a with
      | ⟨0, _⟩ => rfl
      | ⟨1, _⟩ => rfl
    · show moeOut _ _ _ _ _ _ _ = moeOut _ _ _ _ _ _ _
      congr 1
      funext a
      apply Fin.ext
      match a with
      | ⟨0, _⟩ =>
        show t.val / 2 * 512 + (y 0).val = (BitVec.ofNat 32 (grid0.coords t 0).val).toNat * 512 + 1 * (y 0).val
        rw [hc, BitVec.toNat_ofNat, Nat.mod_eq_of_lt (by omega)]; omega
      | ⟨1, _⟩ => show (y 1).val = 0 * 1024 + 1 * (y 1).val; omega
  · have h0 : (i 0 : ℕ) < 77824 := (i 0).isLt
    have h1 : (i 1 : ℕ) < 1024 := (i 1).isLt
    let t : Fin (cfgM m hO).N := ⟨2 * ((i 0 : ℕ) / 512) + 1, Nat.lt_of_lt_of_eq (by omega) N_0.symm⟩
    have hc := coord_tile t
    refine ⟨t, (flush_iff m hO t).mpr (by show (2 * ((i 0 : ℕ) / 512) + 1) % 2 = 1; omega), ?_⟩
    show i ∈ ((View.whole main_v0).slice (((cfgM m hO).win (4 : Fin 5)).rect t)).set
    rw [View.set_slice_whole, Rect.mem_set_unit]
    intro a
    match a with
    | ⟨0, _⟩ =>
      show (BitVec.ofNat 32 (grid0.coords t 0).val).toNat * 512 ≤ (i 0 : ℕ) ∧ (i 0 : ℕ) < (BitVec.ofNat 32 (grid0.coords t 0).val).toNat * 512 + 512
      rw [hc, BitVec.toNat_ofNat]
      show (2 * ((i 0 : ℕ) / 512) + 1) / 2 % 2 ^ 32 * 512 ≤ (i 0 : ℕ) ∧ (i 0 : ℕ) < (2 * ((i 0 : ℕ) / 512) + 1) / 2 % 2 ^ 32 * 512 + 512
      omega
    | ⟨1, _⟩ =>
      show 0 * 1024 ≤ (i 1 : ℕ) ∧ (i 1 : ℕ) < 0 * 1024 + 1024
      omega

end Cert.KernelIdeal.Moe

end
-- ==== Proof.Moe.Reference.lean ====
/- What the reference computes, entry by entry, with the floats read as extended reals: each row through every expert, the
   experts that are not its tile's masked to zero, and the sum over the experts. With the tables in range exactly one term of
   that sum is left, or none in a tile that is not valid: the kernel's result. -/
module

public import proofs.«01_k».proof.Proof.Moe.Result
public import proofs.«01_k».proof.Proof.Gen.ReferenceIdeal.Run

@[expose] public section

set_option maxRecDepth 16384

noncomputable section

namespace Cert.ReferenceIdeal.Moe

open Cert.ReferenceIdeal Cert.ReferenceIdeal.Gen
open Idealize.ShloMosaic Idealize.ShloMosaic.TcCoe Idealize.SL.Sem
open Cert.KernelIdeal.Moe (gated rowTile expertOf expertRow moeOut InRange tileIx)

variable (T0 T1 : S152.Idx → BitVec 32) (x : FVec Ideal S77824x1024 .bf16) (wg wu : FVec Ideal S8x1024x3072 .bf16) (wd : FVec Ideal S8x3072x1024 .bf16)

/-- A projection of every row at every expert. -/
def proj (w : FVec Ideal S8x1024x3072 .bf16) : FVec Ideal S8x77824x3072 .f32 :=
  transpose S8x77824x3072 [0, 2, 1] (Host.dotGeneral dot_S8x1024x3072_S77824x1024_S8x3072x77824_1_1_02_0_n_n none (extf .f32 w bitsLt_bf16_f32) (extf .f32 x bitsLt_bf16_f32)) transposes_S8x3072x77824_S8x77824x3072_0_2_1

/-- The gated hidden features. -/
def hidden : FVec Ideal S8x77824x3072 .f32 :=
  mulf (mulf (proj x wg) (Host.divf (broadcastInDim S8x77824x3072 ![] bcast_S_S8x77824x3072 (constant S_ .f32 0x3F800000#32)) (addf (broadcastInDim S8x77824x3072 ![] bcast_S_S8x77824x3072 (constant S_ .f32 0x3F800000#32)) (Host.exp (Host.negf (proj x wg)))))) (proj x wu)

/-- Every row's feed-forward at every expert. -/
def everyExpert : FVec Ideal S8x77824x1024 .f32 :=
  Host.dotGeneral dot_S8x77824x3072_S8x3072x1024_S8x77824x1024_2_1_1_2_0_0 none (hidden x wg wu) (extf .f32 wd bitsLt_bf16_f32)

/-- The mask: the row's tile is valid, and the expert is the tile's. -/
def keep : S8x77824x1024.Idx → BitVec 1 :=
  broadcastInDim S8x77824x1024 ![0, 1, 2] bcast_S8x77824x1_S8x77824x1024_0_1_2 (broadcastInDim S8x77824x1 ![0, 1] bcast_S8x77824_S8x77824x1_0_1 (andi (cmpi .eq (broadcastInDim S8x77824 ![0, 1] bcast_S1x77824_S8x77824_0_1 (broadcastInDim S1x77824 ![1] bcast_S77824_S1x77824_1 (shapeCast S77824 (broadcastInDim S152x512 ![0] bcast_S152_S152x512_0 T0) shapeCasts_S152x512_S77824))) (broadcastInDim S8x77824 ![0, 1] bcast_S8x1_S8x77824_0_1 (broadcastInDim S8x1 ![0] bcast_S8_S8x1_0 (iotaInDim S8 32 0)))) (broadcastInDim S8x77824 ![0, 1] bcast_S1x77824_S8x77824_0_1 (cmpi .ne (broadcastInDim S1x77824 ![1] bcast_S77824_S1x77824_1 (shapeCast S77824 (broadcastInDim S152x512 ![0] bcast_S152_S152x512_0 T1) shapeCasts_S152x512_S77824)) (broadcastInDim S1x77824 ![] bcast_S_S1x77824 (constantI S_ 32 0#32))))))

/-- The reference's result. -/
def result : FVec Ideal S77824x1024 .bf16 :=
  truncf .bf16 (Host.reduceAdd (select (keep T0 T1) (everyExpert x wg wu wd) (broadcastInDim S8x77824x1024 ![] bcast_S_S8x77824x1024 (id (constant (F := Ideal) S_ .f32 0x00000000#32)))) (constant (F := Ideal) S_ .f32 0x00000000#32) reducesTo_S8x77824x1024_S77824x1024_d0 h_S_) bitsLt_bf16_f32

theorem proj_apply (w : FVec Ideal S8x1024x3072 .bf16) (e : Fin 8) (r : Fin 77824) (k : Fin 3072) :
    proj x w (ix3 e r k) = (∑ d : Fin 1024, x (ix2 r d) * w (ix3 e d k) : EReal) := by
  have h : proj x w (ix3 e r k) = (∑ d : Fin 1024, w (ix3 e d k) * x (ix2 r d) : EReal) := by pointwise [proj]
  rw [h]
  exact Finset.sum_congr rfl fun d _ => mul_comm _ _

theorem hidden_apply (e : Fin 8) (r : Fin 77824) (k : Fin 3072) :
    hidden x wg wu (ix3 e r k)
      = gated (∑ d : Fin 1024, x (ix2 r d) * wg (ix3 e d k)) (∑ d : Fin 1024, x (ix2 r d) * wu (ix3 e d k)) := by
  rw [← proj_apply x wg, ← proj_apply x wu]
  unfold hidden gated
  generalize proj x wg = g
  generalize proj x wu = u
  pointwise [Ideal.logistic]

theorem everyExpert_apply (e : Fin 8) (r : Fin 77824) (q : Fin 1024) :
    everyExpert x wg wu wd (ix3 e r q) = expertRow x wg wu wd e r q := by
  unfold everyExpert expertRow
  have hh := fun k => hidden_apply x wg wu e r k
  generalize hidden x wg wu = h at hh
  have h1 : Host.dotGeneral dot_S8x77824x3072_S8x3072x1024_S8x77824x1024_2_1_1_2_0_0 none h (extf .f32 wd bitsLt_bf16_f32) (ix3 e r q)
      = (∑ k : Fin 3072, h (ix3 e r k) * wd (ix3 e k q) : EReal) := by pointwise
  rw [h1]
  simp only [hh]

theorem keep_apply (e : Fin 8) (r : Fin 77824) (q : Fin 1024) :
    keep T0 T1 (ix3 e r q) = IntOp.andi (IntOp.cmpi .eq (T0 (rowTile r)) (BitVec.ofNat 32 e.val)) (IntOp.cmpi .ne (T1 (rowTile r)) 0#32) := by
  have h : ∀ p : r.val / 512 < 152, (ix1 (⟨r.val / 512, p⟩ : Fin 152) : S152.Idx) = rowTile r := fun p => by
    funext a
    match a with
    | ⟨0, _⟩ => rfl
  pointwise [keep]
  simp only [h]

theorem result_apply (r : Fin 77824) (q : Fin 1024) :
    result T0 T1 x wg wu wd (ix2 r q) = (∑ e : Fin 8, if keep T0 T1 (ix3 e r q) = 1#1 then everyExpert x wg wu wd (ix3 e r q) else 0 : EReal) := by
  unfold result
  generalize everyExpert x wg wu wd = y
  generalize keep T0 T1 = k
  pointwise
  refine Finset.sum_congr rfl fun e _ => ?_
  show (if k (ix3 e r q) = 1#1 then y (ix3 e r q) else Ideal.ofBits .f32 0x00000000#32) = _
  rw [Ideal.ofBits_zero_f32]

/-- The mask's bit is set exactly where the row's tile is valid and its expert is this one. -/
theorem keep_iff (hr : InRange T0 T1) (e : Fin 8) (r : Fin 77824) (q : Fin 1024) :
    keep T0 T1 (ix3 e r q) = 1#1 ↔ T1 (rowTile r) ≠ 0#32 ∧ e = expertOf T0 (rowTile r) := by
  have h8 := (hr (rowTile r)).1
  have hw : T0 (rowTile r) = BitVec.ofNat 32 e.val ↔ e = expertOf T0 (rowTile r) := by
    have he := e.isLt
    constructor
    · intro h
      apply Fin.ext
      show e.val = (T0 (rowTile r)).toNat % 8
      rw [h, BitVec.toNat_ofNat]
      omega
    · intro h
      have h' : e.val = (T0 (rowTile r)).toNat % 8 := congrArg Fin.val h
      apply BitVec.eq_of_toNat_eq
      rw [BitVec.toNat_ofNat]
      omega
  rw [keep_apply, ← hw]
  generalize T0 (rowTile r) = a
  generalize T1 (rowTile r) = b
  generalize BitVec.ofNat 32 e.val = d
  show BitVec.ofBool (a == d) &&& BitVec.ofBool (b != 0#32) = 1#1 ↔ b ≠ 0#32 ∧ a = d
  by_cases h1 : a = d
  · subst h1
    by_cases h2 : b = 0#32
    · subst h2; simp
    · rw [bne_iff_ne.mpr h2]; simp [h2]
  · rw [beq_eq_false_iff_ne.mpr h1]; simp [h1]

/-- With the tables in range the reference's result is the kernel's. -/
theorem result_eq (hr : InRange T0 T1) : result T0 T1 x wg wu wd = moeOut T0 T1 x wg wu wd := by
  have key : ∀ (r : Fin 77824) (q : Fin 1024), result T0 T1 x wg wu wd (ix2 r q) = moeOut T0 T1 x wg wu wd (ix2 r q) := fun r q => by
    rw [result_apply]
    show _ = if T1 (rowTile r) = 0#32 then (0 : EReal) else expertRow x wg wu wd (expertOf T0 (rowTile r)) r q
    by_cases hz : T1 (rowTile r) = 0#32
    · rw [if_pos hz]
      exact Finset.sum_eq_zero fun e _ => if_neg fun h => ((keep_iff T0 T1 hr e r q).mp h).1 hz
    · rw [if_neg hz, Finset.sum_eq_single (expertOf T0 (rowTile r))]
      · rw [if_pos ((keep_iff T0 T1 hr _ r q).mpr ⟨hz, rfl⟩), everyExpert_apply]
      · exact fun e _ hne => if_neg fun h => hne ((keep_iff T0 T1 hr e r q).mp h).2
      · exact fun h => absurd (Finset.mem_univ _) h
  refine funext fun (i : S77824x1024.Idx) => ?_
  obtain ⟨r, q, rfl⟩ : ∃ (r : Fin 77824) (q : Fin 1024), i = ix2 r q := ⟨i 0, i 1, by
    funext a
    match a with
    | ⟨0, _⟩ => rfl
    | ⟨1, _⟩ => rfl⟩
  exact key r q

end Cert.ReferenceIdeal.Moe

end
-- ==== Proof.Ffn.Points.lean ====
/- What the result's block and the carried buffers hold after each point of the output projection and feed-forward kernel, as
   the body's own payloads over the point's blocks. -/
module

public import proofs.«01_k».proof.Proof.Gen.Kernel2Ideal.Frame
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ)

/-- The blocks of point `t`, at their shapes. -/
def bLru (c : Dev nD) (t : Fin cfg0.N) : Vec F S1x512x512 .bf16 := iblk m c 0 t
def bAtt (c : Dev nD) (t : Fin cfg0.N) : Vec F S1x512x512 .bf16 := iblk m c 1 t
def bX (c : Dev nD) (t : Fin cfg0.N) : Vec F S1x512x1024 .f32 := iblk m c 2 t
def bGate1 (c : Dev nD) (t : Fin cfg0.N) : Vec F S1x1x1x1024 .f32 := iblk m c 3 t
def bScale (c : Dev nD) (t : Fin cfg0.N) : Vec F S1x1x1x1024 .f32 := iblk m c 4 t
def bShift (c : Dev nD) (t : Fin cfg0.N) : Vec F S1x1x1x1024 .f32 := iblk m c 5 t
def bNorm (c : Dev nD) (t : Fin cfg0.N) : Vec F S1x1024 .f32 := iblk m c 6 t
def bOut (c : Dev nD) (t : Fin cfg0.N) : Vec F S1024x1024 .bf16 := iblk m c 7 t
def bGate (c : Dev nD) (t : Fin cfg0.N) : Vec F S1024x1536 .bf16 := iblk m c 8 t
def bUp (c : Dev nD) (t : Fin cfg0.N) : Vec F S1024x1536 .bf16 := iblk m c 9 t
def bDown (c : Dev nD) (t : Fin cfg0.N) : Vec F S1536x1024 .bf16 := iblk m c 10 t
def bGate2 (c : Dev nD) (t : Fin cfg0.N) : Vec F S1x1x1x1024 .f32 := iblk m c 11 t

/-- The first and the last 512 rows of the output projection. -/
def topRows (w : Vec F S1024x1024 .bf16) : Vec F S512x1024 .bf16 := View.ld w (Rect.unit (s := S1024x1024) ![0, 0] S512x1024.size inb_S1024x1024_S512x1024_0_0)
def lowRows (w : Vec F S1024x1024 .bf16) : Vec F S512x1024 .bf16 := View.ld w (Rect.unit (s := S1024x1024) ![512, 0] S512x1024.size inb_S1024x1024_S512x1024_512_0)

/-- The residual of point `t`'s rows. -/
def resid (c : Dev nD) (t : Fin cfg0.N) : Vec F S512x1024 .f32 :=
  k0_pay6 (bLru m c t) (topRows (bOut m c t)) (bAtt m c t) (lowRows (bOut m c t)) (bX m c t) (bGate1 m c t)

/-- The same normalized and modulated. -/
def modul (c : Dev nD) (t : Fin cfg0.N) : Vec F S512x1024 .bf16 :=
  k0_pay1 (k0_pay7 (bLru m c t) (topRows (bOut m c t)) (bAtt m c t) (lowRows (bOut m c t)) (bX m c t) (bGate1 m c t) (bNorm m c t)) (bScale m c t) (bShift m c t)

theorem first_resid (c : Dev nD) (t : Fin cfg0.N) (h : t.val % 2 = 0) : (outsAt0 m c t.val t.isLt).2.1 = resid m c t := by
  rw [outsAt0_A m c t h (by omega)]
  frame_out
  rfl

theorem first_modul (c : Dev nD) (t : Fin cfg0.N) (h : t.val % 2 = 0) : (outsAt0 m c t.val t.isLt).2.2.1 = modul m c t := by
  rw [outsAt0_A m c t h (by omega)]
  frame_out
  rfl

theorem first_acc (c : Dev nD) (t : Fin cfg0.N) (h : t.val % 2 = 0) :
    (outsAt0 m c t.val t.isLt).2.2.2 = k0_pay3 (modul m c t) (bGate m c t) (bUp m c t) (k0_pay2 (F := F)) (bDown m c t) := by
  rw [outsAt0_A m c t h (by omega)]
  frame_out
  rfl

/-- The point before. -/
def before (t : Fin cfg0.N) : Fin cfg0.N := ⟨t.val - 1, Nat.lt_of_le_of_lt (Nat.sub_le _ _) t.isLt⟩

theorem second_out (c : Dev nD) (t : Fin cfg0.N) (h : t.val % 2 = 1) :
    (outsAt0 m c t.val t.isLt).1
      = k0_pay4 (resid m c (before t)) (bGate2 m c t)
          (k0_pay3 (modul m c (before t)) (bGate m c t) (bUp m c t)
            (k0_pay3 (modul m c (before t)) (bGate m c (before t)) (bUp m c (before t)) (k0_pay2 (F := F)) (bDown m c (before t)))
            (bDown m c t)) := by
  have hb : (before t).val % 2 = 0 := by show (t.val - 1) % 2 = 0; omega
  rw [← first_resid m c (before t) hb, ← first_modul m c (before t) hb]
  have hacc := first_acc m c (before t) hb
  rw [← first_modul m c (before t) hb] at hacc
  rw [← hacc, outsAt0_B m c t (by omega) h]
  frame_out
  have e : ∀ (x x' a a' : Vec F S512x1024 .f32) (y y' : Vec F S512x1024 .bf16), x = x' → y = y' → a = a' →
      k0_pay4 x (bGate2 m c t) (k0_pay3 y (bGate m c t) (bUp m c t) a (bDown m c t))
        = k0_pay4 x' (bGate2 m c t) (k0_pay3 y' (bGate m c t) (bUp m c t) a' (bDown m c t)) := by
    rintro x _ a _ y _ rfl rfl rfl
    rfl
  exact e _ _ _ _ _ _ ((Memref.isWhole_whole cc0_scratch0).read_unread _) ((Memref.isWhole_whole cc0_scratch1).read_unread _)
    ((Memref.isWhole_whole cc0_scratch2).read_unread _)

end Cert.Kernel2Ideal.Ffn

end
-- ==== Proof.Ffn.Result.lean ====
/- What the result array of the output projection and feed-forward kernel holds after the run, entry by entry, with the floats
   read as extended reals. -/
module

public import proofs.«01_k».proof.Proof.Ffn.Points
public import proofs.«01_k».proof.Proof.Ffn.Payload
public import Idealize.ShloMosaic.Lib.Pipeline.Value

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

/-! ## The function -/

/-- The arguments. -/
structure Args where
  lru : S4x8192x512.Idx → EReal
  att : S4x8192x512.Idx → EReal
  x : S4x8192x1024.Idx → EReal
  modl : S4x6x1x1024.Idx → EReal
  norm : S1024.Idx → EReal
  wout : S1024x1024.Idx → EReal
  wg : S1024x3072.Idx → EReal
  wu : S1024x3072.Idx → EReal
  wd : S3072x1024.Idx → EReal

/-- Row `512 + d` of the output projection. -/
def low (d : Fin 512) : Fin 1024 := ⟨512 + d.val, by have := d.isLt; omega⟩

/-- Row `d` of the output projection. -/
def top (d : Fin 512) : Fin 1024 := ⟨d.val, by have := d.isLt; omega⟩

/-- The residual after the output projection. -/
def Args.res (a : Args) (b : Fin 4) (s : Fin 8192) (q : Fin 1024) : EReal :=
  a.x (ix3 b s q) + a.modl (ix4 b 2 0 q)
    * ((∑ d : Fin 512, a.lru (ix3 b s d) * a.wout (ix2 (top d) q)) + ∑ d : Fin 512, a.att (ix3 b s d) * a.wout (ix2 (low d) q))

/-- The residual normalized and modulated. -/
def Args.hid (a : Args) (b : Fin 4) (s : Fin 8192) (q : Fin 1024) : EReal :=
  a.res b s q * rowScale (a.res b s) * a.norm (ix1 q) * (Ideal.ofBits .f32 0x3F800000#32 + a.modl (ix4 b 4 0 q)) + a.modl (ix4 b 3 0 q)

/-- What hidden feature `k` adds to entry `q`. -/
def Args.term (a : Args) (b : Fin 4) (s : Fin 8192) (q : Fin 1024) (k : Fin 3072) : EReal :=
  gated (∑ d : Fin 1024, a.hid b s d * a.wg (ix2 d k)) (∑ d : Fin 1024, a.hid b s d * a.wu (ix2 d k)) * a.wd (ix2 k q)

/-- The result. -/
def Args.out (a : Args) (i : S4x8192x1024.Idx) : EReal :=
  a.res (i 0) (i 1) (i 2) + a.modl (ix4 (i 0) 5 0 (i 2)) * ∑ k : Fin 3072, a.term (i 0) (i 1) (i 2) k

/-! ## The blocks -/

variable (m : (ℓ : Loc nD τ sig) → Buf (Elt Ideal) ℓ) (ρ : Dev nD → PrngReg)

/-- The arguments a memory holds. -/
def args (c : Dev nD) : Args where
  lru := m ((c : Thread nD τ).loc main_arg0)
  att := m ((c : Thread nD τ).loc main_arg1)
  x := m ((c : Thread nD τ).loc main_arg2)
  modl := m ((c : Thread nD τ).loc main_arg3)
  norm := m ((c : Thread nD τ).loc main_arg4)
  wout := m ((c : Thread nD τ).loc main_arg5)
  wg := m ((c : Thread nD τ).loc main_arg6)
  wu := m ((c : Thread nD τ).loc main_arg7)
  wd := m ((c : Thread nD τ).loc main_arg8)

theorem point_lt (t : Fin cfg0.N) : t.val < 128 := Nat.lt_of_lt_of_eq t.isLt N_0

theorem coord_0 (t : Fin cfg0.N) : (grid0.coords t 0).val = t.val / 32 := by
  have ht := point_lt t
  have e : (grid0.coords t 0).val = t.val / 32 % 4 := Pipeline.Grid.coords_val t 0 (by decide) rfl
  omega

theorem coord_1 (t : Fin cfg0.N) : (grid0.coords t 1).val = t.val / 2 % 16 := Pipeline.Grid.coords_val t 1 (by decide) rfl

theorem coord_2 (t : Fin cfg0.N) : (grid0.coords t 2).val = t.val % 2 := by
  have e : (grid0.coords t 2).val = t.val / 1 % 2 := Pipeline.Grid.coords_val t 2 (by decide) rfl
  omega

/-- The coordinates as the words the index maps read. -/
theorem word_0 (t : Fin cfg0.N) : (BitVec.ofNat 32 (grid0.coords t 0).val).toNat = t.val / 32 := by
  have ht := point_lt t
  rw [coord_0, BitVec.toNat_ofNat, Nat.mod_eq_of_lt (by omega)]

theorem word_1 (t : Fin cfg0.N) : (BitVec.ofNat 32 (grid0.coords t 1).val).toNat = t.val / 2 % 16 := by
  rw [coord_1, BitVec.toNat_ofNat, Nat.mod_eq_of_lt (by omega)]

theorem word_2 (t : Fin cfg0.N) : (BitVec.ofNat 32 (grid0.coords t 2).val).toNat = t.val % 2 := by
  rw [coord_2, BitVec.toNat_ofNat, Nat.mod_eq_of_lt (by omega)]

/-- Point `t`'s batch, row `r` of its rows, and hidden feature `k` of its half. -/
def batchAt (t : Fin cfg0.N) : Fin 4 := ⟨t.val / 32, by have := point_lt t; omega⟩
def rowAt (t : Fin cfg0.N) (r : Fin 512) : Fin 8192 := ⟨t.val / 2 % 16 * 512 + r.val, by have := r.isLt; omega⟩
def hidAt (t : Fin cfg0.N) (k : Fin 1536) : Fin 3072 := ⟨t.val % 2 * 1536 + k.val, by have := k.isLt; omega⟩

theorem blk_lru (c : Dev nD) (t : Fin cfg0.N) (r d : Fin 512) : bLru m c t (ix3 0 r d) = (args m c).lru (ix3 (batchAt t) (rowAt t r) d) := by
  refine (View.read_apply (v := ((cfg0.win 0).blk t).view) (Val := Elt Ideal) (V m c (Pipeline.arrRef spec0 0)) _).trans ?_
  show V m c main_arg0 _ = _
  rw [V_main_arg0]
  show m ((c : Thread nD τ).loc main_arg0) _ = m ((c : Thread nD τ).loc main_arg0) _
  congr 1
  funext a
  apply Fin.ext
  match a with
  | ⟨0, _⟩ => show (BitVec.ofNat 32 (grid0.coords t 0).val).toNat * 1 + 1 * 0 = t.val / 32; rw [word_0]; omega
  | ⟨1, _⟩ => show (BitVec.ofNat 32 (grid0.coords t 1).val).toNat * 512 + 1 * r.val = t.val / 2 % 16 * 512 + r.val; rw [word_1]; omega
  | ⟨2, _⟩ => show 0 * 512 + 1 * d.val = d.val; omega

theorem blk_att (c : Dev nD) (t : Fin cfg0.N) (r d : Fin 512) : bAtt m c t (ix3 0 r d) = (args m c).att (ix3 (batchAt t) (rowAt t r) d) := by
  refine (View.read_apply (v := ((cfg0.win 1).blk t).view) (Val := Elt Ideal) (V m c (Pipeline.arrRef spec0 1)) _).trans ?_
  show V m c main_arg1 _ = _
  rw [V_main_arg1]
  show m ((c : Thread nD τ).loc main_arg1) _ = m ((c : Thread nD τ).loc main_arg1) _
  congr 1
  funext a
  apply Fin.ext
  match a with
  | ⟨0, _⟩ => show (BitVec.ofNat 32 (grid0.coords t 0).val).toNat * 1 + 1 * 0 = t.val / 32; rw [word_0]; omega
  | ⟨1, _⟩ => show (BitVec.ofNat 32 (grid0.coords t 1).val).toNat * 512 + 1 * r.val = t.val / 2 % 16 * 512 + r.val; rw [word_1]; omega
  | ⟨2, _⟩ => show 0 * 512 + 1 * d.val = d.val; omega

theorem blk_x (c : Dev nD) (t : Fin cfg0.N) (r : Fin 512) (q : Fin 1024) : bX m c t (ix3 0 r q) = (args m c).x (ix3 (batchAt t) (rowAt t r) q) := by
  refine (View.read_apply (v := ((cfg0.win 2).blk t).view) (Val := Elt Ideal) (V m c (Pipeline.arrRef spec0 2)) _).trans ?_
  show V m c main_arg2 _ = _
  rw [V_main_arg2]
  show m ((c : Thread nD τ).loc main_arg2) _ = m ((c : Thread nD τ).loc main_arg2) _
  congr 1
  funext a
  apply Fin.ext
  match a with
  | ⟨0, _⟩ => show (BitVec.ofNat 32 (grid0.coords t 0).val).toNat * 1 + 1 * 0 = t.val / 32; rw [word_0]; omega
  | ⟨1, _⟩ => show (BitVec.ofNat 32 (grid0.coords t 1).val).toNat * 512 + 1 * r.val = t.val / 2 % 16 * 512 + r.val; rw [word_1]; omega
  | ⟨2, _⟩ => show 0 * 1024 + 1 * q.val = q.val; omega

theorem blk_gate1 (c : Dev nD) (t : Fin cfg0.N) (q : Fin 1024) : bGate1 m c t (ix4 0 0 0 q) = (args m c).modl (ix4 (batchAt t) 2 0 q) := by
  refine (View.read_apply (v := ((cfg0.win 3).blk t).view) (Val := Elt Ideal) (V m c (Pipeline.arrRef spec0 3)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show (BitVec.ofNat 32 (grid0.coords t 0).val).toNat * 1 + 1 * 0 = t.val / 32; rw [word_0]; omega
  | ⟨1, _⟩ => rfl
  | ⟨2, _⟩ => rfl
  | ⟨3, _⟩ => show 0 * 1024 + 1 * q.val = q.val; omega

theorem blk_scale (c : Dev nD) (t : Fin cfg0.N) (q : Fin 1024) : bScale m c t (ix4 0 0 0 q) = (args m c).modl (ix4 (batchAt t) 4 0 q) := by
  refine (View.read_apply (v := ((cfg0.win 4).blk t).view) (Val := Elt Ideal) (V m c (Pipeline.arrRef spec0 4)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show (BitVec.ofNat 32 (grid0.coords t 0).val).toNat * 1 + 1 * 0 = t.val / 32; rw [word_0]; omega
  | ⟨1, _⟩ => rfl
  | ⟨2, _⟩ => rfl
  | ⟨3, _⟩ => show 0 * 1024 + 1 * q.val = q.val; omega

theorem blk_shift (c : Dev nD) (t : Fin cfg0.N) (q : Fin 1024) : bShift m c t (ix4 0 0 0 q) = (args m c).modl (ix4 (batchAt t) 3 0 q) := by
  refine (View.read_apply (v := ((cfg0.win 5).blk t).view) (Val := Elt Ideal) (V m c (Pipeline.arrRef spec0 5)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show (BitVec.ofNat 32 (grid0.coords t 0).val).toNat * 1 + 1 * 0 = t.val / 32; rw [word_0]; omega
  | ⟨1, _⟩ => rfl
  | ⟨2, _⟩ => rfl
  | ⟨3, _⟩ => show 0 * 1024 + 1 * q.val = q.val; omega

theorem blk_gate2 (c : Dev nD) (t : Fin cfg0.N) (q : Fin 1024) : bGate2 m c t (ix4 0 0 0 q) = (args m c).modl (ix4 (batchAt t) 5 0 q) := by
  refine (View.read_apply (v := ((cfg0.win 11).blk t).view) (Val := Elt Ideal) (V m c (Pipeline.arrRef spec0 11)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show (BitVec.ofNat 32 (grid0.coords t 0).val).toNat * 1 + 1 * 0 = t.val / 32; rw [word_0]; omega
  | ⟨1, _⟩ => rfl
  | ⟨2, _⟩ => rfl
  | ⟨3, _⟩ => show 0 * 1024 + 1 * q.val = q.val; omega

/-- The norm's weights as the kernel is given them: a row of one. -/
theorem entry_norm (c : Dev nD) : (V m c main_v0 : S1x1024.Idx → EReal) = shapeCast S1x1024 (args m c).norm shapeCasts_S1024_S1x1024 := by
  show StableHlo.after hostOps0 (fun b => m (c, b)) (Proc.devRef .tc main_v0) = _
  after_results
  rfl

theorem blk_norm (c : Dev nD) (t : Fin cfg0.N) (q : Fin 1024) : bNorm m c t (ix2 0 q) = (args m c).norm (ix1 q) := by
  refine (View.read_apply (v := ((cfg0.win 6).blk t).view) (Val := Elt Ideal) (V m c (Pipeline.arrRef spec0 6)) _).trans ?_
  refine Eq.trans (?_ : _ = (V m c main_v0 : S1x1024.Idx → EReal) (ix2 0 q)) ?_
  · show V m c main_v0 _ = V m c main_v0 _
    congr 1
    funext a
    apply Fin.ext
    match a with
    | ⟨0, _⟩ => rfl
    | ⟨1, _⟩ => show 0 * 1024 + 1 * q.val = q.val; omega
  · rw [entry_norm]
    generalize (args m c).norm = n
    pointwise

theorem blk_out (c : Dev nD) (t : Fin cfg0.N) (d q : Fin 1024) : bOut m c t (ix2 d q) = (args m c).wout (ix2 d q) := by
  refine (View.read_apply (v := ((cfg0.win 7).blk t).view) (Val := Elt Ideal) (V m c (Pipeline.arrRef spec0 7)) _).trans ?_
  show V m c main_arg5 _ = _
  rw [V_main_arg5]
  show m ((c : Thread nD τ).loc main_arg5) _ = m ((c : Thread nD τ).loc main_arg5) _
  congr 1
  funext a
  apply Fin.ext
  match a with
  | ⟨0, _⟩ => show 0 * 1024 + 1 * d.val = d.val; omega
  | ⟨1, _⟩ => show 0 * 1024 + 1 * q.val = q.val; omega

theorem blk_top (c : Dev nD) (t : Fin cfg0.N) (d : Fin 512) (q : Fin 1024) : topRows (bOut m c t) (ix2 d q) = (args m c).wout (ix2 (top d) q) := by
  rw [← blk_out m c t]
  show bOut m c t _ = bOut m c t _
  congr 1
  funext a
  apply Fin.ext
  match a with
  | ⟨0, _⟩ => show 0 + 1 * d.val = d.val; omega
  | ⟨1, _⟩ => show 0 + 1 * q.val = q.val; omega

theorem blk_low (c : Dev nD) (t : Fin cfg0.N) (d : Fin 512) (q : Fin 1024) : lowRows (bOut m c t) (ix2 d q) = (args m c).wout (ix2 (low d) q) := by
  rw [← blk_out m c t]
  show bOut m c t _ = bOut m c t _
  congr 1
  funext a
  apply Fin.ext
  match a with
  | ⟨0, _⟩ => show 512 + 1 * d.val = 512 + d.val; omega
  | ⟨1, _⟩ => show 0 + 1 * q.val = q.val; omega

theorem blk_gate (c : Dev nD) (t : Fin cfg0.N) (d : Fin 1024) (k : Fin 1536) : bGate m c t (ix2 d k) = (args m c).wg (ix2 d (hidAt t k)) := by
  refine (View.read_apply (v := ((cfg0.win 8).blk t).view) (Val := Elt Ideal) (V m c (Pipeline.arrRef spec0 8)) _).trans ?_
  show V m c main_arg6 _ = _
  rw [V_main_arg6]
  show m ((c : Thread nD τ).loc main_arg6) _ = m ((c : Thread nD τ).loc main_arg6) _
  congr 1
  funext a
  apply Fin.ext
  match a with
  | ⟨0, _⟩ => show 0 * 1024 + 1 * d.val = d.val; omega
  | ⟨1, _⟩ => show (BitVec.ofNat 32 (grid0.coords t 2).val).toNat * 1536 + 1 * k.val = t.val % 2 * 1536 + k.val; rw [word_2]; omega

theorem blk_up (c : Dev nD) (t : Fin cfg0.N) (d : Fin 1024) (k : Fin 1536) : bUp m c t (ix2 d k) = (args m c).wu (ix2 d (hidAt t k)) := by
  refine (View.read_apply (v := ((cfg0.win 9).blk t).view) (Val := Elt Ideal) (V m c (Pipeline.arrRef spec0 9)) _).trans ?_
  show V m c main_arg7 _ = _
  rw [V_main_arg7]
  show m ((c : Thread nD τ).loc main_arg7) _ = m ((c : Thread nD τ).loc main_arg7) _
  congr 1
  funext a
  apply Fin.ext
  match a with
  | ⟨0, _⟩ => show 0 * 1024 + 1 * d.val = d.val; omega
  | ⟨1, _⟩ => show (BitVec.ofNat 32 (grid0.coords t 2).val).toNat * 1536 + 1 * k.val = t.val % 2 * 1536 + k.val; rw [word_2]; omega

theorem blk_down (c : Dev nD) (t : Fin cfg0.N) (k : Fin 1536) (q : Fin 1024) : bDown m c t (ix2 k q) = (args m c).wd (ix2 (hidAt t k) q) := by
  refine (View.read_apply (v := ((cfg0.win 10).blk t).view) (Val := Elt Ideal) (V m c (Pipeline.arrRef spec0 10)) _).trans ?_
  show V m c main_arg8 _ = _
  rw [V_main_arg8]
  show m ((c : Thread nD τ).loc main_arg8) _ = m ((c : Thread nD τ).loc main_arg8) _
  congr 1
  funext a
  apply Fin.ext
  match a with
  | ⟨0, _⟩ => show (BitVec.ofNat 32 (grid0.coords t 2).val).toNat * 1536 + 1 * k.val = t.val % 2 * 1536 + k.val; rw [word_2]; omega
  | ⟨1, _⟩ => show 0 * 1024 + 1 * q.val = q.val; omega

/-! ## The result's blocks -/

theorem proj_eq (c : Dev nD) (t : Fin cfg0.N) (r : Fin 512) (q : Fin 1024) :
    k0_pay5 (bLru m c t) (topRows (bOut m c t)) (bAtt m c t) (lowRows (bOut m c t)) (bX m c t) (bGate1 m c t) (ix2 r q)
      = (args m c).res (batchAt t) (rowAt t r) q := by
  rw [pay5_apply]
  simp only [blk_lru, blk_att, blk_x, blk_gate1, blk_top, blk_low]
  rfl

theorem resid_apply (c : Dev nD) (t : Fin cfg0.N) (r : Fin 512) (q : Fin 1024) :
    resid m c t (ix2 r q) = (args m c).res (batchAt t) (rowAt t r) q := by
  unfold resid
  rw [pay6_apply]
  exact proj_eq m c t r q

theorem modul_apply (c : Dev nD) (t : Fin cfg0.N) (r : Fin 512) (q : Fin 1024) :
    modul m c t (ix2 r q) = (args m c).hid (batchAt t) (rowAt t r) q := by
  unfold modul
  rw [pay1_apply, pay7_apply]
  simp only [proj_eq, blk_scale, blk_shift, blk_norm]
  rfl

/-- What a half adds to a row, over the arrays. -/
theorem half_apply (c : Dev nD) (s t : Fin cfg0.N) (a : Vec Ideal S512x1024 .f32) (r : Fin 512) (q : Fin 1024) (A : EReal) (ha : a (ix2 r q) = A) :
    k0_pay3 (modul m c s) (bGate m c t) (bUp m c t) a (bDown m c t) (ix2 r q)
      = (A + ∑ k : Fin 1536, (args m c).term (batchAt s) (rowAt s r) q (hidAt t k) : EReal) := by
  rw [pay3_apply, ha]
  simp only [modul_apply, blk_gate, blk_up, blk_down]
  rfl

/-- The block written back after a second point is the result's. -/
theorem out_apply (c : Dev nD) (t : Fin cfg0.N) (ht : t.val % 2 = 1) (r : Fin 512) (q : Fin 1024) :
    (outsAt0 m c t.val t.isLt).1 (ix3 0 r q) = (args m c).out (ix3 (batchAt t) (rowAt t r) q) := by
  have hb : batchAt (before t) = batchAt t := Fin.ext (by show (t.val - 1) / 32 = t.val / 32; omega)
  have hr : rowAt (before t) r = rowAt t r :=
    Fin.ext (by show (t.val - 1) / 2 % 16 * 512 + r.val = t.val / 2 % 16 * 512 + r.val; omega)
  have h1 := half_apply m c (before t) (before t) (k0_pay2 (F := Ideal)) r q 0 (pay2_apply r q)
  rw [zero_add] at h1
  have h2 := half_apply m c (before t) t _ r q _ h1
  rw [hb, hr] at h2
  have e0 : ∀ k : Fin 1536, (⟨k.val, by have := k.isLt; omega⟩ : Fin 3072) = hidAt (before t) k := fun k =>
    Fin.ext (by show k.val = (t.val - 1) % 2 * 1536 + k.val
                have : (t.val - 1) % 2 = 0 := by omega
                rw [this]; omega)
  have e1 : ∀ k : Fin 1536, (⟨1536 + k.val, by have := k.isLt; omega⟩ : Fin 3072) = hidAt t k := fun k =>
    Fin.ext (by show 1536 + k.val = t.val % 2 * 1536 + k.val; rw [ht])
  have h3 := Fin.sum_univ_two_halves 1536 1536 rfl ((args m c).term (batchAt t) (rowAt t r) q)
  simp only [e0, e1] at h3
  rw [second_out m c t ht, pay4_apply, resid_apply, hb, hr, blk_gate2, h2, ← h3]
  rfl

/-- So the array ends holding the result. -/
theorem final (c : Dev nD) : (dats m 0 c).arrAt 12 cfg0.N = (args m c).out := by
  refine (dats m 0 c).arrAt_eq_of_cover 12 _ (fun t hf => ?_) (fun i => ?_)
  · have ht : t.val % 2 = 1 := (flush0_12 t).mp hf
    show (cfg0.win 12).cut (grid0.coords t) ((dats m 0 c).after 12 t) = _
    rw [after0_12]
    refine funext fun (y : S1x512x1024.Idx) => ?_
    obtain ⟨r, q, rfl⟩ : ∃ (r : Fin 512) (q : Fin 1024), y = ix3 0 r q := ⟨y 1, y 2, by
      funext a
      match a with
      | ⟨0, _⟩ => exact Subsingleton.elim (α := Fin 1) _ _
      | ⟨1, _⟩ => rfl
      | ⟨2, _⟩ => rfl⟩
    refine Eq.trans ?_ (View.read_apply (v := ((cfg0.win 12).blk t).view) (Val := Elt Ideal) ((args m c).out) (ix3 0 r q)).symm
    refine Eq.trans (?_ : _ = (outsAt0 m c t.val t.isLt).1 (ix3 0 r q)) ((out_apply m c t ht r q).trans ?_)
    · show (outsAt0 m c t.val t.isLt).1 _ = _
      congr 1
    · show (args m c).out _ = (args m c).out _
      congr 1
      funext a
      apply Fin.ext
      match a with
      | ⟨0, _⟩ => show t.val / 32 = (BitVec.ofNat 32 (grid0.coords t 0).val).toNat * 1 + 1 * 0; rw [word_0]; omega
      | ⟨1, _⟩ => show t.val / 2 % 16 * 512 + r.val = (BitVec.ofNat 32 (grid0.coords t 1).val).toNat * 512 + 1 * r.val; rw [word_1]; omega
      | ⟨2, _⟩ => show q.val = 0 * 1024 + 1 * q.val; omega
  · have h0 : (i 0 : ℕ) < 4 := (i 0).isLt
    have h1 : (i 1 : ℕ) < 8192 := (i 1).isLt
    have h2 : (i 2 : ℕ) < 1024 := (i 2).isLt
    let t : Fin cfg0.N := ⟨32 * (i 0 : ℕ) + 2 * ((i 1 : ℕ) / 512) + 1, Nat.lt_of_lt_of_eq (by omega) N_0.symm⟩
    have w0 := word_0 t
    have w1 := word_1 t
    have hv : t.val = 32 * (i 0 : ℕ) + 2 * ((i 1 : ℕ) / 512) + 1 := rfl
    refine ⟨t, (flush0_12 t).mpr (by omega), ?_⟩
    show i ∈ ((View.whole main_v1).slice ((cfg0.win 12).rect t)).set
    rw [View.set_slice_whole, Rect.mem_set_unit]
    intro a
    match a with
    | ⟨0, _⟩ =>
      show (BitVec.ofNat 32 (grid0.coords t 0).val).toNat * 1 ≤ (i 0 : ℕ) ∧ (i 0 : ℕ) < (BitVec.ofNat 32 (grid0.coords t 0).val).toNat * 1 + 1
      rw [w0]; omega
    | ⟨1, _⟩ =>
      show (BitVec.ofNat 32 (grid0.coords t 1).val).toNat * 512 ≤ (i 1 : ℕ) ∧ (i 1 : ℕ) < (BitVec.ofNat 32 (grid0.coords t 1).val).toNat * 512 + 512
      rw [w1]; omega
    | ⟨2, _⟩ =>
      show 0 * 1024 ≤ (i 2 : ℕ) ∧ (i 2 : ℕ) < 0 * 1024 + 1024
      omega

end Cert.Kernel2Ideal.Ffn

end
-- ==== Proof.Ffn.Reference.lean ====
/- What the reference of the output projection and feed-forward computes, entry by entry, with the floats read as extended
   reals: the kernel's function. -/
module

public import proofs.«01_k».proof.Proof.Ffn.Result
public import proofs.«01_k».proof.Proof.Gen.Reference2Ideal.Run

@[expose] public section

set_option maxRecDepth 16384

noncomputable section

namespace Cert.Reference2Ideal.Ffn

open Cert.Reference2Ideal Cert.Reference2Ideal.Gen
open Idealize.ShloMosaic Idealize.ShloMosaic.TcCoe Idealize.SL.Sem
open Cert.Kernel2Ideal.Ffn (gated rowScale Args top low)

variable (l t : FVec Ideal S4x8192x512 .bf16) (x : FVec Ideal S4x8192x1024 .f32) (md : FVec Ideal S4x6x1x1024 .f32) (n : FVec Ideal S1024 .f32)
  (wo : FVec Ideal S1024x1024 .bf16) (wg wu : FVec Ideal S1024x3072 .bf16) (wd : FVec Ideal S3072x1024 .bf16)

/-- The two mixers' outputs side by side. -/
def mix : FVec Ideal S4x8192x1024 .bf16 :=
  concatenate S4x8192x1024 2 [⟨S4x8192x512, l⟩, ⟨S4x8192x512, t⟩] concatenates_S4x8192x512_S4x8192x512_S4x8192x1024_d2

/-- The output projection. -/
def proj : FVec Ideal S4x8192x1024 .f32 :=
  Host.dotGeneral dot_S4x8192x1024_S1024x1024_S4x8192x1024_2_0_01_1_n_n none (extf .f32 (mix l t) bitsLt_bf16_f32) (extf .f32 wo bitsLt_bf16_f32)

/-- The four modulations, each a row per batch. -/
def mod2 : FVec Ideal S4x1x1024 .f32 := shapeCast _ (extractStridedSlice S4x1x1x1024 ![0, 2, 0, 0] md slices_S4x6x1x1024_S4x1x1x1024_0_2_0_0) shapeCasts_S4x1x1x1024_S4x1x1024
def mod3 : FVec Ideal S4x1x1024 .f32 := shapeCast _ (extractStridedSlice S4x1x1x1024 ![0, 3, 0, 0] md slices_S4x6x1x1024_S4x1x1x1024_0_3_0_0) shapeCasts_S4x1x1x1024_S4x1x1024
def mod4 : FVec Ideal S4x1x1024 .f32 := shapeCast _ (extractStridedSlice S4x1x1x1024 ![0, 4, 0, 0] md slices_S4x6x1x1024_S4x1x1x1024_0_4_0_0) shapeCasts_S4x1x1x1024_S4x1x1024
def mod5 : FVec Ideal S4x1x1024 .f32 := shapeCast _ (extractStridedSlice S4x1x1x1024 ![0, 5, 0, 0] md slices_S4x6x1x1024_S4x1x1x1024_0_5_0_0) shapeCasts_S4x1x1x1024_S4x1x1024

/-- The residual. -/
def resid : FVec Ideal S4x8192x1024 .f32 :=
  addf x (mulf (broadcastInDim S4x8192x1024 ![0, 1, 2] bcast_S4x1x1024_S4x8192x1024_0_1_2 (mod2 md)) (proj l t wo))

/-- A residual normalized and modulated. -/
def modul (y : FVec Ideal S4x8192x1024 .f32) : FVec Ideal S4x8192x1024 .f32 :=
  addf (mulf (mulf (mulf y (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf y y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 n))) (broadcastInDim S4x8192x1024 ![0, 1, 2] bcast_S4x1x1024_S4x8192x1024_0_1_2 (addf (broadcastInDim S4x1x1024 ![] bcast_S_S4x1x1024 (constant S_ .f32 0x3F800000#32)) (mod4 md)))) (broadcastInDim S4x8192x1024 ![0, 1, 2] bcast_S4x1x1024_S4x8192x1024_0_1_2 (mod3 md))

/-- A projection to the hidden features. -/
def features (h : FVec Ideal S4x8192x1024 .f32) (w : FVec Ideal S1024x3072 .bf16) : FVec Ideal S4x8192x3072 .f32 :=
  Host.dotGeneral dot_S4x8192x1024_S1024x3072_S4x8192x3072_2_0_01_1_n_n none h (extf .f32 w bitsLt_bf16_f32)

/-- The gated hidden features. -/
def hidden (g u : FVec Ideal S4x8192x3072 .f32) : FVec Ideal S4x8192x3072 .f32 :=
  mulf (mulf g (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf g))))) u

/-- The down projection. -/
def down (f : FVec Ideal S4x8192x3072 .f32) : FVec Ideal S4x8192x1024 .f32 :=
  Host.dotGeneral dot_S4x8192x3072_S3072x1024_S4x8192x1024_2_0_01_1_n_n none f (extf .f32 wd bitsLt_bf16_f32)

/-- The result. -/
def result : FVec Ideal S4x8192x1024 .f32 :=
  addf (resid l t x md wo) (mulf (broadcastInDim S4x8192x1024 ![0, 1, 2] bcast_S4x1x1024_S4x8192x1024_0_1_2 (mod5 md))
    (down wd (hidden (features (modul md n (resid l t x md wo)) wg) (features (modul md n (resid l t x md wo)) wu))))

theorem run_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- The arguments together. -/
def args : Args where
  lru := l
  att := t
  x := x
  modl := md
  norm := n
  wout := wo
  wg := wg
  wu := wu
  wd := wd

theorem mix_top (b : Fin 4) (s : Fin 8192) (d : Fin 512) : mix l t (ix3 b s (top d)) = l (ix3 b s d) := by
  refine concatenate_pair_apply_left (t := S4x8192x1024) (s₁ := S4x8192x512) (s₂ := S4x8192x512) 2 l t _ (ix3 b s (top d)) rfl (ix3 b s d) fun a => ?_
  match a with
  | ⟨0, _⟩ => rfl
  | ⟨1, _⟩ => rfl
  | ⟨2, _⟩ => rfl

theorem mix_low (b : Fin 4) (s : Fin 8192) (d : Fin 512) : mix l t (ix3 b s (low d)) = t (ix3 b s d) := by
  refine concatenate_pair_apply_right (t := S4x8192x1024) (s₁ := S4x8192x512) (s₂ := S4x8192x512) 2 l t _ (ix3 b s (low d)) rfl rfl (ix3 b s d)
    (fun a ha => ?_) (by show d.val + 512 = 512 + d.val; omega)
  match a with
  | ⟨0, _⟩ => rfl
  | ⟨1, _⟩ => rfl
  | ⟨2, _⟩ => exact absurd rfl ha

theorem proj_apply (b : Fin 4) (s : Fin 8192) (q : Fin 1024) :
    proj l t wo (ix3 b s q) = ((∑ d : Fin 512, l (ix3 b s d) * wo (ix2 (top d) q)) + ∑ d : Fin 512, t (ix3 b s d) * wo (ix2 (low d) q) : EReal) := by
  have h0 := mix_top l t b s
  have h1 := mix_low l t b s
  unfold proj
  generalize mix l t = y at h0 h1
  have h : Host.dotGeneral dot_S4x8192x1024_S1024x1024_S4x8192x1024_2_0_01_1_n_n none (extf .f32 y bitsLt_bf16_f32) (extf .f32 wo bitsLt_bf16_f32) (ix3 b s q)
      = (∑ d : Fin 1024, y (ix3 b s d) * wo (ix2 d q) : EReal) := by pointwise
  rw [h]
  refine (Fin.sum_univ_two_halves 512 512 rfl fun d => (y (ix3 b s d) * wo (ix2 d q) : EReal)).trans ?_
  simp only [← h0, ← h1]
  rfl

theorem mod2_apply (b : Fin 4) (q : Fin 1024) : mod2 md (ix3 b 0 q) = md (ix4 b 2 0 q) := by pointwise [mod2]
theorem mod3_apply (b : Fin 4) (q : Fin 1024) : mod3 md (ix3 b 0 q) = md (ix4 b 3 0 q) := by pointwise [mod3]
theorem mod4_apply (b : Fin 4) (q : Fin 1024) : mod4 md (ix3 b 0 q) = md (ix4 b 4 0 q) := by pointwise [mod4]
theorem mod5_apply (b : Fin 4) (q : Fin 1024) : mod5 md (ix3 b 0 q) = md (ix4 b 5 0 q) := by pointwise [mod5]

theorem resid_apply (b : Fin 4) (s : Fin 8192) (q : Fin 1024) :
    resid l t x md wo (ix3 b s q) = (args l t x md n wo wg wu wd).res b s q := by
  have hp := proj_apply l t wo b s q
  have h2 := mod2_apply md b q
  unfold resid
  generalize proj l t wo = p at hp
  generalize mod2 md = g at h2
  refine Eq.trans (?_ : _ = (x (ix3 b s q) + g (ix3 b 0 q) * p (ix3 b s q) : EReal)) ?_
  · pointwise
  · rw [hp, h2]; rfl

theorem modul_apply (y : FVec Ideal S4x8192x1024 .f32) (b : Fin 4) (s : Fin 8192) (q : Fin 1024) :
    modul md n y (ix3 b s q) = (y (ix3 b s q) * rowScale (fun d => y (ix3 b s d)) * n (ix1 q)
      * (Ideal.ofBits .f32 0x3F800000#32 + md (ix4 b 4 0 q)) + md (ix4 b 3 0 q) : EReal) := by
  have h3 := mod3_apply md b q
  have h4 := mod4_apply md b q
  unfold modul
  generalize mod3 md = u at h3
  generalize mod4 md = v at h4
  rw [← h3, ← h4]
  pointwise [rowScale]

theorem features_apply (h : FVec Ideal S4x8192x1024 .f32) (w : FVec Ideal S1024x3072 .bf16) (b : Fin 4) (s : Fin 8192) (k : Fin 3072) :
    features h w (ix3 b s k) = (∑ d : Fin 1024, h (ix3 b s d) * w (ix2 d k) : EReal) := by pointwise [features]

theorem hidden_apply (g u : FVec Ideal S4x8192x3072 .f32) (b : Fin 4) (s : Fin 8192) (k : Fin 3072) :
    hidden g u (ix3 b s k) = gated (g (ix3 b s k)) (u (ix3 b s k)) := by
  pointwise [hidden, gated, Ideal.logistic]

theorem down_apply (f : FVec Ideal S4x8192x3072 .f32) (b : Fin 4) (s : Fin 8192) (q : Fin 1024) :
    down wd f (ix3 b s q) = (∑ k : Fin 3072, f (ix3 b s k) * wd (ix2 k q) : EReal) := by pointwise [down]

/-- The reference's result is the kernel's. -/
theorem result_eq : result l t x md n wo wg wu wd = (args l t x md n wo wg wu wd).out := by
  have key : ∀ (b : Fin 4) (s : Fin 8192) (q : Fin 1024), result l t x md n wo wg wu wd (ix3 b s q) = (args l t x md n wo wg wu wd).out (ix3 b s q) := fun b s q => by
    have hr := fun d => resid_apply l t x md n wo wg wu wd b s d
    have h5 := mod5_apply md b q
    unfold result
    generalize resid l t x md wo = y at hr
    generalize mod5 md = g at h5
    have hm := fun d => modul_apply md n y b s d
    generalize modul md n y = h at hm
    have hd := down_apply wd (hidden (features h wg) (features h wu)) b s q
    simp only [hidden_apply, features_apply, hm, hr] at hd
    generalize down wd (hidden (features h wg) (features h wu)) = z at hd
    refine Eq.trans (?_ : _ = (y (ix3 b s q) + g (ix3 b 0 q) * z (ix3 b s q) : EReal)) ?_
    · pointwise
    · rw [hr, h5, hd]; rfl
  refine funext fun (i : S4x8192x1024.Idx) => ?_
  obtain ⟨b, s, q, rfl⟩ : ∃ (b : Fin 4) (s : Fin 8192) (q : Fin 1024), i = ix3 b s q := ⟨i 0, i 1, i 2, by
    funext a
    match a with
    | ⟨0, _⟩ => rfl
    | ⟨1, _⟩ => rfl
    | ⟨2, _⟩ => rfl⟩
  exact key b s q

end Cert.Reference2Ideal.Ffn

end
-- ==== Proof.Router.Payload.lean ====
/- What one point of the output projection and router kernel computes for its first two results, entry by entry, with the
   floats read as extended reals: the residual of a row, and the row normalized and modulated. -/
module

public import proofs.«01_k».proof.Proof.Ffn.Payload
public import proofs.«01_k».proof.Proof.Gen.Kernel3Ideal.Skeleton
public import Idealize.ShloMosaic.Lib.Pointwise
public import Idealize.ShloMosaic.Lib.IdealHost

@[expose] public section

set_option maxRecDepth 16384

noncomputable section

namespace Cert.Kernel3Ideal.Router

open Cert.Kernel3Ideal Cert.Kernel3Ideal.Gen
open Idealize.ShloMosaic Idealize.ShloMosaic.TcCoe
open Cert.Kernel2Ideal.Ffn (rowScale)

/-- The residual: the input and the output projection's share of it. -/
theorem pay2_apply (l : Vec Ideal S1x512x512 .bf16) (wl : Vec Ideal S512x1024 .bf16) (t : Vec Ideal S1x512x512 .bf16) (wt : Vec Ideal S512x1024 .bf16)
    (x : Vec Ideal S1x512x1024 .f32) (g : Vec Ideal S1x1x1x1024 .f32) (r : Fin 512) (q : Fin 1024) :
    k0_pay2 l wl t wt x g (ix2 r q)
      = (x (ix3 0 r q) + g (ix4 0 0 0 q) * ((∑ d : Fin 512, l (ix3 0 r d) * wl (ix2 d q)) + ∑ d : Fin 512, t (ix3 0 r d) * wt (ix2 d q)) : EReal) := by
  pointwise [k0_pay2]

/-- The residual as it is stored. -/
theorem pay3_apply (l : Vec Ideal S1x512x512 .bf16) (wl : Vec Ideal S512x1024 .bf16) (t : Vec Ideal S1x512x512 .bf16) (wt : Vec Ideal S512x1024 .bf16)
    (x : Vec Ideal S1x512x1024 .f32) (g : Vec Ideal S1x1x1x1024 .f32) (r : Fin 512) (q : Fin 1024) :
    k0_pay3 l wl t wt x g (ix3 0 r q) = k0_pay2 l wl t wt x g (ix2 r q) := by
  unfold k0_pay3
  generalize k0_pay2 l wl t wt x g = y
  pointwise

/-- The factor each row is scaled by. -/
theorem pay5_apply (l : Vec Ideal S1x512x512 .bf16) (wl : Vec Ideal S512x1024 .bf16) (t : Vec Ideal S1x512x512 .bf16) (wt : Vec Ideal S512x1024 .bf16)
    (x : Vec Ideal S1x512x1024 .f32) (g : Vec Ideal S1x1x1x1024 .f32) (r : Fin 512) (q : Fin 1024) :
    k0_pay5 l wl t wt x g (ix2 r q) = rowScale (fun d => k0_pay2 l wl t wt x g (ix2 r d)) := by
  unfold k0_pay5
  generalize k0_pay2 l wl t wt x g = y
  pointwise [rowScale]

/-- A row scaled, weighted, modulated and stored. -/
theorem pay7_apply (y : FVec Ideal S512x1024 .f32) (n : Vec Ideal S1x1024 .f32) (f : FVec Ideal S512x1024 .f32) (s b : Vec Ideal S1x1x1x1024 .f32)
    (r : Fin 512) (q : Fin 1024) :
    k0_pay7 y (k0_pay4 n) f s b (ix3 0 r q)
      = (y (ix2 r q) * f (ix2 r q) * n (ix2 0 q) * (Ideal.ofBits .f32 0x3F800000#32 + s (ix4 0 0 0 q)) + b (ix4 0 0 0 q) : EReal) := by
  pointwise [k0_pay7, k0_pay6, k0_pay4]

end Cert.Kernel3Ideal.Router

end
-- ==== Proof.Router.Result.lean ====
/- What the first two result arrays of the output projection and router kernel hold after the run, entry by entry, with the
   floats read as extended reals. -/
module

public import proofs.«01_k».proof.Proof.Ffn.Result
public import proofs.«01_k».proof.Proof.Router.Payload
public import proofs.«01_k».proof.Proof.Gen.Kernel3Ideal.Frame
public import Idealize.ShloMosaic.Lib.Pipeline.ValueKit
public import Idealize.ShloMosaic.Lib.Pipeline.Value

@[expose] public section

set_option maxRecDepth 16384

noncomputable section

namespace Cert.Kernel3Ideal.Router

open Cert.Kernel3Ideal Cert.Kernel3Ideal.Gen
open Idealize.ShloMosaic Idealize.ShloMosaic.TcCoe Idealize.SL.Sem
open Idealize.ShloMosaic.Pipeline (Dat)
open Cert.Kernel2Ideal.Ffn (rowScale Args top low)

variable (m : (ℓ : Loc nD τ sig) → Buf (Elt Ideal) ℓ) (ρ : Dev nD → PrngReg)

/-- The arguments a memory holds. No feed-forward weights are among them. -/
def args (c : Dev nD) : Args where
  lru := m ((c : Thread nD τ).loc main_arg0)
  att := m ((c : Thread nD τ).loc main_arg1)
  x := m ((c : Thread nD τ).loc main_arg2)
  modl := m ((c : Thread nD τ).loc main_arg3)
  norm := m ((c : Thread nD τ).loc main_arg4)
  wout := m ((c : Thread nD τ).loc main_arg5)
  wg := fun _ => 0
  wu := fun _ => 0
  wd := fun _ => 0

/-! ## The blocks -/

/-- The blocks of point `t`, at their shapes. -/
def bLru (c : Dev nD) (t : Fin cfg0.N) : Vec Ideal S1x512x512 .bf16 := iblk m c 0 t
def bAtt (c : Dev nD) (t : Fin cfg0.N) : Vec Ideal S1x512x512 .bf16 := iblk m c 1 t
def bX (c : Dev nD) (t : Fin cfg0.N) : Vec Ideal S1x512x1024 .f32 := iblk m c 2 t
def bGate (c : Dev nD) (t : Fin cfg0.N) : Vec Ideal S1x1x1x1024 .f32 := iblk m c 3 t
def bScale (c : Dev nD) (t : Fin cfg0.N) : Vec Ideal S1x1x1x1024 .f32 := iblk m c 4 t
def bShift (c : Dev nD) (t : Fin cfg0.N) : Vec Ideal S1x1x1x1024 .f32 := iblk m c 5 t
def bNorm (c : Dev nD) (t : Fin cfg0.N) : Vec Ideal S1x1024 .f32 := iblk m c 6 t
def bOut (c : Dev nD) (t : Fin cfg0.N) : Vec Ideal S1024x1024 .bf16 := iblk m c 7 t

/-- The first and the last 512 rows of the output projection. -/
def topRows (w : Vec Ideal S1024x1024 .bf16) : Vec Ideal S512x1024 .bf16 := View.ld w r0_1
def lowRows (w : Vec Ideal S1024x1024 .bf16) : Vec Ideal S512x1024 .bf16 := View.ld w r0_2

theorem point_lt (t : Fin cfg0.N) : t.val < 64 := Nat.lt_of_lt_of_eq t.isLt N_0

/-- The coordinates as the words the index maps read. -/
theorem word_0 (t : Fin cfg0.N) : (BitVec.ofNat 32 (grid0.coords t 0).val).toNat = t.val / 16 := by
  have ht := point_lt t
  have e : (grid0.coords t 0).val = t.val / 16 % 4 := Pipeline.Grid.coords_val t 0 (by decide) rfl
  rw [e, BitVec.toNat_ofNat, Nat.mod_eq_of_lt (by omega)]
  omega

theorem word_1 (t : Fin cfg0.N) : (BitVec.ofNat 32 (grid0.coords t 1).val).toNat = t.val % 16 := by
  have e : (grid0.coords t 1).val = t.val / 1 % 16 := Pipeline.Grid.coords_val t 1 (by decide) rfl
  rw [e, BitVec.toNat_ofNat, Nat.mod_eq_of_lt (by omega)]
  omega

/-- Point `t`'s batch, and row `r` of its rows. -/
def batchAt (t : Fin cfg0.N) : Fin 4 := ⟨t.val / 16, by have := point_lt t; omega⟩
def rowAt (t : Fin cfg0.N) (r : Fin 512) : Fin 8192 := ⟨t.val % 16 * 512 + r.val, by have := r.isLt; omega⟩

theorem blk_lru (c : Dev nD) (t : Fin cfg0.N) (r : Fin 512) (d : Fin 512) : bLru m c t (ix3 0 r d) = (args m c).lru (ix3 (batchAt t) (rowAt t r) d) := by
  refine (View.read_apply (v := ((cfg0.win 0).blk t).view) (Val := Elt Ideal) (V m c (Pipeline.arrRef spec0 0)) _).trans ?_
  show V m c main_arg0 _ = _
  rw [V_main_arg0]
  show m ((c : Thread nD τ).loc main_arg0) _ = m ((c : Thread nD τ).loc main_arg0) _
  congr 1
  funext a
  apply Fin.ext
  match a with
  | ⟨0, _⟩ => show (BitVec.ofNat 32 (grid0.coords t 0).val).toNat * 1 + 1 * 0 = t.val / 16; rw [word_0]; omega
  | ⟨1, _⟩ => show (BitVec.ofNat 32 (grid0.coords t 1).val).toNat * 512 + 1 * r.val = t.val % 16 * 512 + r.val; rw [word_1]; omega
  | ⟨2, _⟩ => show 0 * 512 + 1 * d.val = d.val; omega

theorem blk_att (c : Dev nD) (t : Fin cfg0.N) (r : Fin 512) (d : Fin 512) : bAtt m c t (ix3 0 r d) = (args m c).att (ix3 (batchAt t) (rowAt t r) d) := by
  refine (View.read_apply (v := ((cfg0.win 1).blk t).view) (Val := Elt Ideal) (V m c (Pipeline.arrRef spec0 1)) _).trans ?_
  show V m c main_arg1 _ = _
  rw [V_main_arg1]
  show m ((c : Thread nD τ).loc main_arg1) _ = m ((c : Thread nD τ).loc main_arg1) _
  congr 1
  funext a
  apply Fin.ext
  match a with
  | ⟨0, _⟩ => show (BitVec.ofNat 32 (grid0.coords t 0).val).toNat * 1 + 1 * 0 = t.val / 16; rw [word_0]; omega
  | ⟨1, _⟩ => show (BitVec.ofNat 32 (grid0.coords t 1).val).toNat * 512 + 1 * r.val = t.val % 16 * 512 + r.val; rw [word_1]; omega
  | ⟨2, _⟩ => show 0 * 512 + 1 * d.val = d.val; omega

theorem blk_x (c : Dev nD) (t : Fin cfg0.N) (r : Fin 512) (q : Fin 1024) : bX m c t (ix3 0 r q) = (args m c).x (ix3 (batchAt t) (rowAt t r) q) := by
  refine (View.read_apply (v := ((cfg0.win 2).blk t).view) (Val := Elt Ideal) (V m c (Pipeline.arrRef spec0 2)) _).trans ?_
  show V m c main_arg2 _ = _
  rw [V_main_arg2]
  show m ((c : Thread nD τ).loc main_arg2) _ = m ((c : Thread nD τ).loc main_arg2) _
  congr 1
  funext a
  apply Fin.ext
  match a with
  | ⟨0, _⟩ => show (BitVec.ofNat 32 (grid0.coords t 0).val).toNat * 1 + 1 * 0 = t.val / 16; rw [word_0]; omega
  | ⟨1, _⟩ => show (BitVec.ofNat 32 (grid0.coords t 1).val).toNat * 512 + 1 * r.val = t.val % 16 * 512 + r.val; rw [word_1]; omega
  | ⟨2, _⟩ => show 0 * 1024 + 1 * q.val = q.val; omega

theorem blk_gate (c : Dev nD) (t : Fin cfg0.N) (q : Fin 1024) : bGate m c t (ix4 0 0 0 q) = (args m c).modl (ix4 (batchAt t) 2 0 q) := by
  refine (View.read_apply (v := ((cfg0.win 3).blk t).view) (Val := Elt Ideal) (V m c (Pipeline.arrRef spec0 3)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show (BitVec.ofNat 32 (grid0.coords t 0).val).toNat * 1 + 1 * 0 = t.val / 16; rw [word_0]; omega
  | ⟨1, _⟩ => rfl
  | ⟨2, _⟩ => rfl
  | ⟨3, _⟩ => show 0 * 1024 + 1 * q.val = q.val; omega

theorem blk_scale (c : Dev nD) (t : Fin cfg0.N) (q : Fin 1024) : bScale m c t (ix4 0 0 0 q) = (args m c).modl (ix4 (batchAt t) 4 0 q) := by
  refine (View.read_apply (v := ((cfg0.win 4).blk t).view) (Val := Elt Ideal) (V m c (Pipeline.arrRef spec0 4)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show (BitVec.ofNat 32 (grid0.coords t 0).val).toNat * 1 + 1 * 0 = t.val / 16; rw [word_0]; omega
  | ⟨1, _⟩ => rfl
  | ⟨2, _⟩ => rfl
  | ⟨3, _⟩ => show 0 * 1024 + 1 * q.val = q.val; omega

theorem blk_shift (c : Dev nD) (t : Fin cfg0.N) (q : Fin 1024) : bShift m c t (ix4 0 0 0 q) = (args m c).modl (ix4 (batchAt t) 3 0 q) := by
  refine (View.read_apply (v := ((cfg0.win 5).blk t).view) (Val := Elt Ideal) (V m c (Pipeline.arrRef spec0 5)) _).trans ?_
  show V m c main_arg3 _ = _
  rw [V_main_arg3]
  show m ((c : Thread nD τ).loc main_arg3) _ = m ((c : Thread nD τ).loc main_arg3) _
  congr 1
  funext a
  apply Fin.ext
  match a with
  | ⟨0, _⟩ => show (BitVec.ofNat 32 (grid0.coords t 0).val).toNat * 1 + 1 * 0 = t.val / 16; rw [word_0]; omega
  | ⟨1, _⟩ => rfl
  | ⟨2, _⟩ => rfl
  | ⟨3, _⟩ => show 0 * 1024 + 1 * q.val = q.val; omega

/-- The norm's weights as the kernel is given them: a row of one. -/
theorem entry_norm (c : Dev nD) : (V m c main_v4 : S1x1024.Idx → EReal) = shapeCast S1x1024 (args m c).norm shapeCasts_S1024_S1x1024 := by
  show StableHlo.after hostOps0 (fun b => m (c, b)) (Proc.devRef .tc main_v4) = _
  after_results
  rfl

theorem blk_norm (c : Dev nD) (t : Fin cfg0.N) (q : Fin 1024) : bNorm m c t (ix2 0 q) = (args m c).norm (ix1 q) := by
  refine (View.read_apply (v := ((cfg0.win 6).blk t).view) (Val := Elt Ideal) (V m c (Pipeline.arrRef spec0 6)) _).trans ?_
  refine Eq.trans (?_ : _ = (V m c main_v4 : S1x1024.Idx → EReal) (ix2 0 q)) ?_
  · show V m c main_v4 _ = V m c main_v4 _
    congr 1
    funext a
    apply Fin.ext
    match a with
    | ⟨0, _⟩ => rfl
    | ⟨1, _⟩ => show 0 * 1024 + 1 * q.val = q.val; omega
  · rw [entry_norm]
    generalize (args m c).norm = n
    pointwise

theorem blk_out (c : Dev nD) (t : Fin cfg0.N) (d q : Fin 1024) : bOut m c t (ix2 d q) = (args m c).wout (ix2 d q) := by
  refine (View.read_apply (v := ((cfg0.win 7).blk t).view) (Val := Elt Ideal) (V m c (Pipeline.arrRef spec0 7)) _).trans ?_
  show V m c main_arg5 _ = _
  rw [V_main_arg5]
  show m ((c : Thread nD τ).loc main_arg5) _ = m ((c : Thread nD τ).loc main_arg5) _
  congr 1
  funext a
  apply Fin.ext
  match a with
  | ⟨0, _⟩ => show 0 * 1024 + 1 * d.val = d.val; omega
  | ⟨1, _⟩ => show 0 * 1024 + 1 * q.val = q.val; omega

theorem blk_top (c : Dev nD) (t : Fin cfg0.N) (d : Fin 512) (q : Fin 1024) : topRows (bOut m c t) (ix2 d q) = (args m c).wout (ix2 (top d) q) := by
  rw [← blk_out m c t]
  show bOut m c t _ = bOut m c t _
  congr 1
  funext a
  apply Fin.ext
  match a with
  | ⟨0, _⟩ => show 0 + 1 * d.val = d.val; omega
  | ⟨1, _⟩ => show 0 + 1 * q.val = q.val; omega

theorem blk_low (c : Dev nD) (t : Fin cfg0.N) (d : Fin 512) (q : Fin 1024) : lowRows (bOut m c t) (ix2 d q) = (args m c).wout (ix2 (low d) q) := by
  rw [← blk_out m c t]
  show bOut m c t _ = bOut m c t _
  congr 1
  funext a
  apply Fin.ext
  match a with
  | ⟨0, _⟩ => show 512 + 1 * d.val = 512 + d.val; omega
  | ⟨1, _⟩ => show 0 + 1 * q.val = q.val; omega

/-- A whole block read is the block. -/
theorem ld_rows (x : Vec Ideal S1x512x512 .bf16) : View.ld x r0_0 = x :=
  funext fun y => congrArg x (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem ld_wide (x : Vec Ideal S1x512x1024 .f32) : View.ld x r0_3 = x :=
  funext fun y => congrArg x (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem ld_mod (x : Vec Ideal S1x1x1x1024 .f32) : View.ld x r0_4 = x :=
  funext fun y => congrArg x (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega))

theorem ld_norm (x : Vec Ideal S1x1024 .f32) : View.ld x r0_5 = x :=
  funext fun y => congrArg x (funext fun a => Fin.ext (by
    match a with
    | ⟨0, _⟩ => show 0 + 1 * (y 0).val = (y 0).val; omega
    | ⟨1, _⟩ => show 0 + 1 * (y 1).val = (y 1).val; omega))

/-- Where an entry of a whole block lies in it. -/
theorem emb_wide (r : Fin 512) (q : Fin 1024) : (r0_3.emb (ix3 0 r q) : S1x512x1024.Idx) = ix3 0 r q :=
  funext fun a => Fin.ext (by
    match a with
    | ⟨0, _⟩ => rfl
    | ⟨1, _⟩ => show 0 + 1 * r.val = r.val; omega
    | ⟨2, _⟩ => show 0 + 1 * q.val = q.val; omega)

/-! ## The results' blocks -/

theorem proj_eq (c : Dev nD) (t : Fin cfg0.N) (r : Fin 512) (q : Fin 1024) :
    k0_pay2 (bLru m c t) (topRows (bOut m c t)) (bAtt m c t) (lowRows (bOut m c t)) (bX m c t) (bGate m c t) (ix2 r q)
      = (args m c).res (batchAt t) (rowAt t r) q := by
  rw [pay2_apply]
  simp only [blk_lru, blk_att, blk_x, blk_gate, blk_top, blk_low]
  rfl

/-- The block of the residual that point `t` writes. -/
theorem after_res (c : Dev nD) (t : Fin cfg0.N) (r : Fin 512) (q : Fin 1024) :
    ((dats m 0 c).after 9 t : S1x512x1024.Idx → EReal) (ix3 0 r q) = (args m c).res (batchAt t) (rowAt t r) q := by
  rw [after0_9]
  have e := View.canon_cons_emb (Val := Elt Ideal) (e := .f32) r0_3 (k0_pay3 (F := Ideal) (View.ld (bLru m c t) r0_0) (topRows (bOut m c t)) (View.ld (bAtt m c t) r0_0)
    (lowRows (bOut m c t)) (View.ld (bX m c t) r0_3) (View.ld (bGate m c t) r0_4)) [] (ix3 0 r q)
  rw [emb_wide] at e
  refine Eq.trans e ?_
  rw [ld_rows, ld_rows, ld_wide, ld_mod]
  exact (pay3_apply _ _ _ _ _ _ r q).trans (proj_eq m c t r q)

/-- The block of the normalized and modulated residual that point `t` writes. -/
theorem after_hid (c : Dev nD) (t : Fin cfg0.N) (r : Fin 512) (q : Fin 1024) :
    ((dats m 0 c).after 10 t : S1x512x1024.Idx → EReal) (ix3 0 r q) = (args m c).hid (batchAt t) (rowAt t r) q := by
  rw [after0_10]
  have e := View.canon_cons_emb (Val := Elt Ideal) (e := .bf16) r0_3 (k0_pay7 (F := Ideal)
    (k0_pay2 (View.ld (bLru m c t) r0_0) (topRows (bOut m c t)) (View.ld (bAtt m c t) r0_0) (lowRows (bOut m c t)) (View.ld (bX m c t) r0_3) (View.ld (bGate m c t) r0_4))
    (k0_pay4 (View.ld (bNorm m c t) r0_5))
    (k0_pay5 (View.ld (bLru m c t) r0_0) (topRows (bOut m c t)) (View.ld (bAtt m c t) r0_0) (lowRows (bOut m c t)) (View.ld (bX m c t) r0_3) (View.ld (bGate m c t) r0_4))
    (View.ld (bScale m c t) r0_4) (View.ld (bShift m c t) r0_4)) [] (ix3 0 r q)
  rw [emb_wide] at e
  refine Eq.trans e ?_
  rw [ld_rows, ld_rows, ld_wide, ld_mod, ld_mod, ld_mod, ld_norm]
  refine (pay7_apply _ _ _ _ _ r q).trans ?_
  rw [pay5_apply]
  simp only [proj_eq, blk_scale, blk_shift, blk_norm]
  rfl

/-! ## The results -/

/-- The residual, and the residual normalized and modulated, as arrays. -/
def resArr (a : Args) (i : S4x8192x1024.Idx) : EReal := a.res (i 0) (i 1) (i 2)
def hidArr (a : Args) (i : S4x8192x1024.Idx) : EReal := a.hid (i 0) (i 1) (i 2)

/-- The first array ends holding the residual. -/
theorem final_res (c : Dev nD) : (dats m 0 c).arrAt 9 cfg0.N = resArr (args m c) := by
  refine (dats m 0 c).arrAt_eq_of_cover 9 _ (fun t hf => ?_) (fun i => ?_)
  · show (cfg0.win 9).cut (grid0.coords t) ((dats m 0 c).after 9 t) = _
    refine funext fun (y : S1x512x1024.Idx) => ?_
    obtain ⟨r, q, rfl⟩ : ∃ (r : Fin 512) (q : Fin 1024), y = ix3 0 r q := ⟨y 1, y 2, by
      funext a
      match a with
      | ⟨0, _⟩ => exact Subsingleton.elim (α := Fin 1) _ _
      | ⟨1, _⟩ => rfl
      | ⟨2, _⟩ => rfl⟩
    refine Eq.trans ?_ (View.read_apply (v := ((cfg0.win 9).blk t).view) (Val := Elt Ideal) (resArr (args m c)) (ix3 0 r q)).symm
    refine Eq.trans (?_ : _ = ((dats m 0 c).after 9 t : S1x512x1024.Idx → EReal) (ix3 0 r q)) ((after_res m c t r q).trans ?_)
    · show ((dats m 0 c).after 9 t : S1x512x1024.Idx → EReal) _ = _
      congr 1
    · show resArr (args m c) (ix3 (batchAt t) (rowAt t r) q) = resArr (args m c) _
      congr 1
      funext a
      apply Fin.ext
      match a with
      | ⟨0, _⟩ => show t.val / 16 = (BitVec.ofNat 32 (grid0.coords t 0).val).toNat * 1 + 1 * 0; rw [word_0]; omega
      | ⟨1, _⟩ => show t.val % 16 * 512 + r.val = (BitVec.ofNat 32 (grid0.coords t 1).val).toNat * 512 + 1 * r.val; rw [word_1]; omega
      | ⟨2, _⟩ => show q.val = 0 * 1024 + 1 * q.val; omega
  · have h0 : (i 0 : ℕ) < 4 := (i 0).isLt
    have h1 : (i 1 : ℕ) < 8192 := (i 1).isLt
    have h2 : (i 2 : ℕ) < 1024 := (i 2).isLt
    let t : Fin cfg0.N := ⟨16 * (i 0 : ℕ) + (i 1 : ℕ) / 512, Nat.lt_of_lt_of_eq (by omega) N_0.symm⟩
    have w0 := word_0 t
    have w1 := word_1 t
    have hv : t.val = 16 * (i 0 : ℕ) + (i 1 : ℕ) / 512 := rfl
    refine ⟨t, flush0_9 t, ?_⟩
    show i ∈ ((View.whole main_v5_0).slice ((cfg0.win 9).rect t)).set
    rw [View.set_slice_whole, Rect.mem_set_unit]
    intro a
    match a with
    | ⟨0, _⟩ =>
      show (BitVec.ofNat 32 (grid0.coords t 0).val).toNat * 1 ≤ (i 0 : ℕ) ∧ (i 0 : ℕ) < (BitVec.ofNat 32 (grid0.coords t 0).val).toNat * 1 + 1
      rw [w0]; omega
    | ⟨1, _⟩ =>
      show (BitVec.ofNat 32 (grid0.coords t 1).val).toNat * 512 ≤ (i 1 : ℕ) ∧ (i 1 : ℕ) < (BitVec.ofNat 32 (grid0.coords t 1).val).toNat * 512 + 512
      rw [w1]; omega
    | ⟨2, _⟩ =>
      show 0 * 1024 ≤ (i 2 : ℕ) ∧ (i 2 : ℕ) < 0 * 1024 + 1024
      omega

/-- The second ends holding it normalized and modulated. -/
theorem final_hid (c : Dev nD) : (dats m 0 c).arrAt 10 cfg0.N = hidArr (args m c) := by
  refine (dats m 0 c).arrAt_eq_of_cover 10 _ (fun t hf => ?_) (fun i => ?_)
  · show (cfg0.win 10).cut (grid0.coords t) ((dats m 0 c).after 10 t) = _
    refine funext fun (y : S1x512x1024.Idx) => ?_
    obtain ⟨r, q, rfl⟩ : ∃ (r : Fin 512) (q : Fin 1024), y = ix3 0 r q := ⟨y 1, y 2, by
      funext a
      match a with
      | ⟨0, _⟩ => exact Subsingleton.elim (α := Fin 1) _ _
      | ⟨1, _⟩ => rfl
      | ⟨2, _⟩ => rfl⟩
    refine Eq.trans ?_ (View.read_apply (v := ((cfg0.win 10).blk t).view) (Val := Elt Ideal) (hidArr (args m c)) (ix3 0 r q)).symm
    refine Eq.trans (?_ : _ = ((dats m 0 c).after 10 t : S1x512x1024.Idx → EReal) (ix3 0 r q)) ((after_hid m c t r q).trans ?_)
    · show ((dats m 0 c).after 10 t : S1x512x1024.Idx → EReal) _ = _
      congr 1
    · show hidArr (args m c) (ix3 (batchAt t) (rowAt t r) q) = hidArr (args m c) _
      congr 1
      funext a
      apply Fin.ext
      match a with
      | ⟨0, _⟩ => show t.val / 16 = (BitVec.ofNat 32 (grid0.coords t 0).val).toNat * 1 + 1 * 0; rw [word_0]; omega
      | ⟨1, _⟩ => show t.val % 16 * 512 + r.val = (BitVec.ofNat 32 (grid0.coords t 1).val).toNat * 512 + 1 * r.val; rw [word_1]; omega
      | ⟨2, _⟩ => show q.val = 0 * 1024 + 1 * q.val; omega
  · have h0 : (i 0 : ℕ) < 4 := (i 0).isLt
    have h1 : (i 1 : ℕ) < 8192 := (i 1).isLt
    have h2 : (i 2 : ℕ) < 1024 := (i 2).isLt
    let t : Fin cfg0.N := ⟨16 * (i 0 : ℕ) + (i 1 : ℕ) / 512, Nat.lt_of_lt_of_eq (by omega) N_0.symm⟩
    have w0 := word_0 t
    have w1 := word_1 t
    have hv : t.val = 16 * (i 0 : ℕ) + (i 1 : ℕ) / 512 := rfl
    refine ⟨t, flush0_10 t, ?_⟩
    show i ∈ ((View.whole main_v5_1).slice ((cfg0.win 10).rect t)).set
    rw [View.set_slice_whole, Rect.mem_set_unit]
    intro a
    match a with
    | ⟨0, _⟩ =>
      show (BitVec.ofNat 32 (grid0.coords t 0).val).toNat * 1 ≤ (i 0 : ℕ) ∧ (i 0 : ℕ) < (BitVec.ofNat 32 (grid0.coords t 0).val).toNat * 1 + 1
      rw [w0]; omega
    | ⟨1, _⟩ =>
      show (BitVec.ofNat 32 (grid0.coords t 1).val).toNat * 512 ≤ (i 1 : ℕ) ∧ (i 1 : ℕ) < (BitVec.ofNat 32 (grid0.coords t 1).val).toNat * 512 + 512
      rw [w1]; omega
    | ⟨2, _⟩ =>
      show 0 * 1024 ≤ (i 2 : ℕ) ∧ (i 2 : ℕ) < 0 * 1024 + 1024
      omega

end Cert.Kernel3Ideal.Router

end
-- ==== Proof.Router.Reference.lean ====
/- What the reference of the output projection and router computes, entry by entry, with the floats read as extended reals: the
   kernel's first two results. -/
module

public import proofs.«01_k».proof.Proof.Router.Result
public import proofs.«01_k».proof.Proof.Ffn.Reference
public import proofs.«01_k».proof.Proof.Gen.Reference3Ideal.Run

@[expose] public section

set_option maxRecDepth 16384

noncomputable section

namespace Cert.Reference3Ideal.Router

open Cert.Reference3Ideal Cert.Reference3Ideal.Gen
open Idealize.ShloMosaic Idealize.ShloMosaic.TcCoe Idealize.SL.Sem
open Cert.Kernel2Ideal.Ffn (Args)
open Cert.Kernel3Ideal.Router (resArr hidArr)
open Cert.Reference2Ideal.Ffn (resid modul resid_apply modul_apply)

variable (l t : FVec Ideal S4x8192x512 .bf16) (x : FVec Ideal S4x8192x1024 .f32) (md : FVec Ideal S4x6x1x1024 .f32) (n : FVec Ideal S1024 .f32)
  (wo : FVec Ideal S1024x1024 .bf16)

/-- The arguments together. -/
def args : Args := Cert.Reference2Ideal.Ffn.args l t x md n wo (fun _ => (0 : EReal)) (fun _ => (0 : EReal)) (fun _ => (0 : EReal))

/-- An index of a result is its three coordinates. -/
theorem idx_eq (i : S4x8192x1024.Idx) : ∃ (b : Fin 4) (s : Fin 8192) (q : Fin 1024), i = ix3 b s q := ⟨i 0, i 1, i 2, by
  funext a
  match a with
  | ⟨0, _⟩ => rfl
  | ⟨1, _⟩ => rfl
  | ⟨2, _⟩ => rfl⟩

theorem resid_eq : resid l t x md wo = resArr (args l t x md n wo) := by
  refine funext fun (i : S4x8192x1024.Idx) => ?_
  obtain ⟨b, s, q, rfl⟩ := idx_eq i
  exact resid_apply l t x md n wo _ _ _ b s q

theorem modul_eq : modul md n (resid l t x md wo) = hidArr (args l t x md n wo) := by
  refine funext fun (i : S4x8192x1024.Idx) => ?_
  obtain ⟨b, s, q, rfl⟩ := idx_eq i
  refine (modul_apply md n (resid l t x md wo) b s q).trans ?_
  rw [resid_eq l t x md n wo]
  rfl

end Cert.Reference3Ideal.Router

end
-- ==== Proof.lean ====
/- The claim, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_tables_in_range
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Inproj.RecurCarry
public import proofs.«01_k».proof.Proof.Inproj.ReferenceRun
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Moe.Ends
public import proofs.«01_k».proof.Proof.MoeBits.Ends
public import proofs.«01_k».proof.Proof.Moe.Reference
public import proofs.«01_k».proof.Proof.Ffn.Result
public import proofs.«01_k».proof.Proof.Ffn.Reference
public import proofs.«01_k».proof.Proof.Router.Result
public import proofs.«01_k».proof.Proof.Router.Reference
public import Idealize.ShloMosaic.Adequacy
public import Idealize.ShloMosaic.Init

@[expose] public section

noncomputable section

namespace Cert.Proof

open Idealize.ShloMosaic Idealize.SL.Sem

/-! ## The experts -/

/-- The expert kernel runs and leaves its arguments as they were, at its own words. -/
theorem moe_frame_bits : Cert.quiescent_Kernel (hKernel := Cert.Kernel.Gen.facts) (hPre_tables_in_range := Cert.Pre_tables_in_range.Gen.facts) := fun m g hp =>
  Cert.Kernel.Moe.frame m g (Cert.Kernel.Moe.ok_of_tables m (Cert.Kernel.Moe.inRange_of_pre _ _ _ _ _ _ (hp 0)))

/-- The tables the precondition allows are in range. -/
theorem moe_tables (m : (ℓ : Loc Cert.KernelIdeal.nD Cert.KernelIdeal.τ Cert.KernelIdeal.sig) → Buf (Elt Ideal) ℓ)
    (hp : Cert.Pre_KernelIdeal (hPre_tables_in_range := Cert.Pre_tables_in_range.Gen.facts) m) :
    Cert.KernelIdeal.Moe.InRange (Cert.KernelIdeal.Moe.tabE m) (Cert.KernelIdeal.Moe.tabM m) :=
  Cert.KernelIdeal.Moe.inRange_of_pre _ _ _ _ _ _ (hp 0)

/-- It runs and leaves its arguments as they were, at the extended reals. -/
theorem moe_frame : Cert.quiescent_KernelIdeal (hKernelIdeal := Cert.KernelIdeal.Gen.facts) (hPre_tables_in_range := Cert.Pre_tables_in_range.Gen.facts) := fun m g hp =>
  Cert.KernelIdeal.Moe.frame m g (Cert.KernelIdeal.Moe.ok_of_tables m (moe_tables m hp))

/-- So does its reference. -/
theorem moe_reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- And the two results are equal. -/
theorem moe_value : Cert.algebraic_KernelIdeal_ReferenceIdeal (hKernelIdeal := Cert.KernelIdeal.Gen.facts)
    (hReferenceIdeal := Cert.ReferenceIdeal.Gen.facts) (hPre_tables_in_range := Cert.Pre_tables_in_range.Gen.facts) := by
  intro m g m' g' hp hargs
  have hr := moe_tables m hp
  have hO := Cert.KernelIdeal.Moe.ok_of_tables m hr
  refine ⟨fun c => Cert.KernelIdeal.Moe.moeOut (Cert.KernelIdeal.Moe.tabE m) (Cert.KernelIdeal.Moe.tabM m) (Cert.KernelIdeal.Moe.xArr m c)
      (Cert.KernelIdeal.Moe.wgArr m c) (Cert.KernelIdeal.Moe.wuArr m c) (Cert.KernelIdeal.Moe.wdArr m c), ?_, ?_⟩
  · exact (θ_run (Cert.KernelIdeal.defs (F := Ideal)) _ _).mono (fun r h c =>
      ⟨((h.1 c).1 (4 : Fin 5)).trans (Cert.KernelIdeal.Moe.final m hO hr c), Cert.KernelIdeal.Moe.kept m hO r h.1 c⟩)
      (Cert.KernelIdeal.Moe.run m g hO)
  · refine (θ_run (Cert.ReferenceIdeal.defs (F := Ideal)) _ _).mono (fun r h c => ⟨(h c).1.trans ?_, (h c).2⟩)
      (Cert.ReferenceIdeal.Value.run (F := Ideal) m' g')
    obtain rfl : c = 0 := Subsingleton.elim _ _
    obtain ⟨h0, h1, h2, h3, h4, h5⟩ := hargs 0
    rw [h0, h1, h2, h3, h4, h5]
    exact Cert.ReferenceIdeal.Moe.result_eq _ _ _ _ _ _ hr

/-! ## The output projection and the dense feed-forward -/

/-- The kernel runs and leaves its arguments as they were, at its own words. -/
theorem ffn_frame_bits : Cert.quiescent_Kernel2 (hKernel2 := Cert.Kernel2.Gen.facts) := fun m g _ => Cert.Kernel2.Gen.frame m g

/-- It runs and leaves its arguments as they were, at the extended reals. -/
theorem ffn_frame : Cert.quiescent_Kernel2Ideal (hKernel2Ideal := Cert.Kernel2Ideal.Gen.facts) := fun m g _ => Cert.Kernel2Ideal.Gen.frame m g

/-- So does its reference. -/
theorem ffn_reference_frame : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- And the two results are equal. -/
theorem ffn_value : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Ffn.args m c).out, ?_, ?_⟩
  · exact (θ_run (Cert.Kernel2Ideal.defs (F := Ideal)) _ _).mono (fun r h c => ⟨(h c).1.trans (Cert.Kernel2Ideal.Ffn.final m c), (h c).2⟩)
      (Cert.Kernel2Ideal.Value.run_blocks (F := Ideal) m g)
  · refine (θ_run (Cert.Reference2Ideal.defs (F := Ideal)) _ _).mono (fun r h c => ⟨(h c).1.trans ?_, (h c).2⟩)
      (Cert.Reference2Ideal.Value.run (F := Ideal) m' g')
    obtain rfl : c = 0 := Subsingleton.elim _ _
    obtain ⟨h0, h1, h2, h3, h4, h5, h6, h7, h8⟩ := hargs 0
    refine (Cert.Reference2Ideal.Ffn.run_eq m' 0).trans ?_
    rw [h0, h1, h2, h3, h4, h5, h6, h7, h8]
    exact Cert.Reference2Ideal.Ffn.result_eq _ _ _ _ _ _ _ _ _

/-! ## The output projection and the router's input -/

/-- The kernel runs and leaves its arguments as they were, at its own words. -/
theorem router_frame_bits : Cert.quiescent_Kernel3 (hKernel3 := Cert.Kernel3.Gen.facts) := fun m g _ => Cert.Kernel3.Gen.frame m g

/-- It runs and leaves its arguments as they were, at the extended reals. -/
theorem router_frame : Cert.quiescent_Kernel3Ideal (hKernel3Ideal := Cert.Kernel3Ideal.Gen.facts) := fun m g _ => Cert.Kernel3Ideal.Gen.frame m g

/-- So does its reference. -/
theorem router_reference_frame : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run (F := Ideal) m g)

/-- And the first two results are equal. -/
theorem router_value : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Router.resArr (Cert.Kernel3Ideal.Router.args m c),
    fun c => Cert.Kernel3Ideal.Router.hidArr (Cert.Kernel3Ideal.Router.args m c), ?_, ?_⟩
  · exact (θ_run (Cert.Kernel3Ideal.defs (F := Ideal)) _ _).mono (fun r h c =>
      ⟨(h c).1.trans (Cert.Kernel3Ideal.Router.final_res m c), (h c).2.1.trans (Cert.Kernel3Ideal.Router.final_hid m c), (h c).2.2.2.2⟩)
      (Cert.Kernel3Ideal.Value.run_blocks (F := Ideal) m g)
  · refine (θ_run (Cert.Reference3Ideal.defs (F := Ideal)) _ _).mono (fun r h c =>
      ⟨(h c).1.trans (?_ : Cert.Reference2Ideal.Ffn.resid _ _ _ _ _ = _),
        (h c).2.1.trans (?_ : Cert.Reference2Ideal.Ffn.modul _ _ (Cert.Reference2Ideal.Ffn.resid _ _ _ _ _) = _), (h c).2.2⟩)
      (Cert.Reference3Ideal.Value.run (F := Ideal) m' g')
    all_goals
      obtain rfl : c = 0 := Subsingleton.elim _ _
      obtain ⟨h0, h1, h2, h3, h4, h5, h6⟩ := hargs 0
      rw [h0, h1, h2, h3, h5]
    · exact Cert.Reference3Ideal.Router.resid_eq _ _ _ _ (m ((0 : Dev Cert.Kernel3Ideal.nD).tc.loc Cert.Kernel3Ideal.main_arg4)) _
    · rw [h4]
      exact Cert.Reference3Ideal.Router.modul_eq _ _ _ _ _ _

/-! ## The input projection: the recurrence and the attention's operands -/

/-- The kernel runs and leaves its arguments as they were, at its own words. -/
theorem inproj_frame_bits : Cert.quiescent_Kernel4 (hKernel4 := Cert.Kernel4.Gen.facts) := fun m g _ => Cert.Kernel4.Gen.frame m g

/-- It runs and leaves its arguments as they were, at the extended reals. -/
theorem inproj_frame : Cert.quiescent_Kernel4Ideal (hKernel4Ideal := Cert.Kernel4Ideal.Gen.facts) := fun m g _ => Cert.Kernel4Ideal.Gen.frame m g

/-- So does its reference. -/
theorem inproj_reference_frame : Cert.quiescent_Reference4Ideal (hReference4Ideal := Cert.Reference4Ideal.Gen.facts) := fun m g _ =>
  (θ_run Cert.Reference4Ideal.defs _ _).mono (fun r h => ⟨fun c => (h c).2.2.2.2, sem_eq_zero_of_no_sems (by decide) r.2⟩)
    (Cert.Reference4Ideal.Inproj.run m g)

/-- And the recurrence's result, the queries, the keys and the values are equal. -/
theorem inproj_value : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Inproj.lruArr (Cert.Kernel4Ideal.Inproj.args m c) (Cert.Kernel4Ideal.Inproj.recArgs m c),
    fun c => Cert.Kernel4Ideal.Inproj.qArr (Cert.Kernel4Ideal.Inproj.args m c),
    fun c => Cert.Kernel4Ideal.Inproj.kArr (Cert.Kernel4Ideal.Inproj.args m c),
    fun c => Cert.Kernel4Ideal.Inproj.vArr (Cert.Kernel4Ideal.Inproj.args m c), ?_, ?_⟩
  · exact (θ_run (Cert.Kernel4Ideal.defs (F := Ideal)) _ _).mono (fun r h c =>
      ⟨(h c).1.trans (Cert.Kernel4Ideal.Inproj.final_lru m c), (h c).2.1.trans (Cert.Kernel4Ideal.Inproj.final_q m c),
        (h c).2.2.1.trans (Cert.Kernel4Ideal.Inproj.final_k m c), (h c).2.2.2.1.trans (Cert.Kernel4Ideal.Inproj.final_v m c), (h c).2.2.2.2⟩)
      (Cert.Kernel4Ideal.Value.run_blocks (F := Ideal) m g)
  · refine (θ_run (Cert.Reference4Ideal.defs (F := Ideal)) _ _).mono (fun r h c =>
      ⟨(h c).1.trans ?_, (h c).2.1.trans ?_, (h c).2.2.1.trans ?_, (h c).2.2.2.1.trans ?_, (h c).2.2.2.2⟩)
      (Cert.Reference4Ideal.Inproj.run m' g')
    all_goals
      obtain rfl : c = 0 := Subsingleton.elim _ _
      obtain ⟨h0, h1, h2, h3, h4, h5, h6, h7, h8, h9, h10, h11, h12⟩ := hargs 0
      have e : Cert.Reference4Ideal.Inproj.argsAt m' 0 = Cert.Kernel4Ideal.Inproj.args m 0 := by
        unfold Cert.Reference4Ideal.Inproj.argsAt
        rw [h0, h1, h2, h3, h4, h5]
        rfl
      rw [e]
    have e' : Cert.Reference4Ideal.Inproj.recAt m' 0 = Cert.Kernel4Ideal.Inproj.recArgs m 0 := by
      unfold Cert.Reference4Ideal.Inproj.recAt
      rw [h6, h7, h8, h9, h10, h11, h12]
      rfl
    rw [e']

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_tables_in_range.Gen.facts,
  moe_frame_bits, moe_frame, moe_reference_frame, fun m g _ => moe_reference_frame m g trivial, ffn_frame_bits, ffn_frame, ffn_reference_frame,
  router_frame_bits, router_frame, router_reference_frame,
  inproj_frame_bits, inproj_frame, inproj_reference_frame,
  trivial, moe_value, trivial, ffn_value, trivial, router_value, trivial, inproj_value⟩

end Cert.Proof

end
